-- ==== Defs.lean ====
def Pre_Sample [hPre_in_range : Cert.Pre_in_range.Facts] (m : (ℓ : Loc Cert.Sample.nD Cert.Sample.τ Cert.Sample.sig) → Buf (Elt Bits) ℓ) : Prop :=
  ∀ c : Dev Cert.Sample.nD,
    (Cert.Pre_in_range.fn (F := Bits) (m ((c.tc : Thread Cert.Sample.nD Cert.Sample.τ).loc Cert.Sample.main_arg0)) (m ((c.tc : Thread Cert.Sample.nD Cert.Sample.τ).loc Cert.Sample.main_arg1)) (m ((c.tc : Thread Cert.Sample.nD Cert.Sample.τ).loc Cert.Sample.main_arg2)) (m ((c.tc : Thread Cert.Sample.nD Cert.Sample.τ).loc Cert.Sample.main_arg3)) (m ((c.tc : Thread Cert.Sample.nD Cert.Sample.τ).loc Cert.Sample.main_arg4)) (m ((c.tc : Thread Cert.Sample.nD Cert.Sample.τ).loc Cert.Sample.main_arg5))).1 = (fun _ => 1#1)
    ∧ (Cert.Pre_in_range.fn (F := Bits) (m ((c.tc : Thread Cert.Sample.nD Cert.Sample.τ).loc Cert.Sample.main_arg0)) (m ((c.tc : Thread Cert.Sample.nD Cert.Sample.τ).loc Cert.Sample.main_arg1)) (m ((c.tc : Thread Cert.Sample.nD Cert.Sample.τ).loc Cert.Sample.main_arg2)) (m ((c.tc : Thread Cert.Sample.nD Cert.Sample.τ).loc Cert.Sample.main_arg3)) (m ((c.tc : Thread Cert.Sample.nD Cert.Sample.τ).loc Cert.Sample.main_arg4)) (m ((c.tc : Thread Cert.Sample.nD Cert.Sample.τ).loc Cert.Sample.main_arg5))).2 = (fun _ => 1#1)

def Pre_SampleIdeal [hPre_in_range : Cert.Pre_in_range.Facts] (m : (ℓ : Loc Cert.SampleIdeal.nD Cert.SampleIdeal.τ Cert.SampleIdeal.sig) → Buf (Elt Ideal) ℓ) : Prop :=
  ∀ c : Dev Cert.SampleIdeal.nD,
    (Cert.Pre_in_range.fn (F := Ideal) (m ((c.tc : Thread Cert.SampleIdeal.nD Cert.SampleIdeal.τ).loc Cert.SampleIdeal.main_arg0)) (m ((c.tc : Thread Cert.SampleIdeal.nD Cert.SampleIdeal.τ).loc Cert.SampleIdeal.main_arg1)) (m ((c.tc : Thread Cert.SampleIdeal.nD Cert.SampleIdeal.τ).loc Cert.SampleIdeal.main_arg2)) (m ((c.tc : Thread Cert.SampleIdeal.nD Cert.SampleIdeal.τ).loc Cert.SampleIdeal.main_arg3)) (m ((c.tc : Thread Cert.SampleIdeal.nD Cert.SampleIdeal.τ).loc Cert.SampleIdeal.main_arg4)) (m ((c.tc : Thread Cert.SampleIdeal.nD Cert.SampleIdeal.τ).loc Cert.SampleIdeal.main_arg5))).1 = (fun _ => 1#1)
    ∧ (Cert.Pre_in_range.fn (F := Ideal) (m ((c.tc : Thread Cert.SampleIdeal.nD Cert.SampleIdeal.τ).loc Cert.SampleIdeal.main_arg0)) (m ((c.tc : Thread Cert.SampleIdeal.nD Cert.SampleIdeal.τ).loc Cert.SampleIdeal.main_arg1)) (m ((c.tc : Thread Cert.SampleIdeal.nD Cert.SampleIdeal.τ).loc Cert.SampleIdeal.main_arg2)) (m ((c.tc : Thread Cert.SampleIdeal.nD Cert.SampleIdeal.τ).loc Cert.SampleIdeal.main_arg3)) (m ((c.tc : Thread Cert.SampleIdeal.nD Cert.SampleIdeal.τ).loc Cert.SampleIdeal.main_arg4)) (m ((c.tc : Thread Cert.SampleIdeal.nD Cert.SampleIdeal.τ).loc Cert.SampleIdeal.main_arg5))).2 = (fun _ => 1#1)

def Pre_SampleRefIdeal [hPre_in_range : Cert.Pre_in_range.Facts] (m : (ℓ : Loc Cert.SampleRefIdeal.nD Cert.SampleRefIdeal.τ Cert.SampleRefIdeal.sig) → Buf (Elt Ideal) ℓ) : Prop :=
  ∀ c : Dev Cert.SampleRefIdeal.nD,
    (Cert.Pre_in_range.fn (F := Ideal) (m ((c.tc : Thread Cert.SampleRefIdeal.nD Cert.SampleRefIdeal.τ).loc Cert.SampleRefIdeal.main_arg0)) (m ((c.tc : Thread Cert.SampleRefIdeal.nD Cert.SampleRefIdeal.τ).loc Cert.SampleRefIdeal.main_arg1)) (m ((c.tc : Thread Cert.SampleRefIdeal.nD Cert.SampleRefIdeal.τ).loc Cert.SampleRefIdeal.main_arg2)) (m ((c.tc : Thread Cert.SampleRefIdeal.nD Cert.SampleRefIdeal.τ).loc Cert.SampleRefIdeal.main_arg3)) (m ((c.tc : Thread Cert.SampleRefIdeal.nD Cert.SampleRefIdeal.τ).loc Cert.SampleRefIdeal.main_arg4)) (m ((c.tc : Thread Cert.SampleRefIdeal.nD Cert.SampleRefIdeal.τ).loc Cert.SampleRefIdeal.main_arg5))).1 = (fun _ => 1#1)
    ∧ (Cert.Pre_in_range.fn (F := Ideal) (m ((c.tc : Thread Cert.SampleRefIdeal.nD Cert.SampleRefIdeal.τ).loc Cert.SampleRefIdeal.main_arg0)) (m ((c.tc : Thread Cert.SampleRefIdeal.nD Cert.SampleRefIdeal.τ).loc Cert.SampleRefIdeal.main_arg1)) (m ((c.tc : Thread Cert.SampleRefIdeal.nD Cert.SampleRefIdeal.τ).loc Cert.SampleRefIdeal.main_arg2)) (m ((c.tc : Thread Cert.SampleRefIdeal.nD Cert.SampleRefIdeal.τ).loc Cert.SampleRefIdeal.main_arg3)) (m ((c.tc : Thread Cert.SampleRefIdeal.nD Cert.SampleRefIdeal.τ).loc Cert.SampleRefIdeal.main_arg4)) (m ((c.tc : Thread Cert.SampleRefIdeal.nD Cert.SampleRefIdeal.τ).loc Cert.SampleRefIdeal.main_arg5))).2 = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjIdeal_finite [hPre_finite : Cert.Pre_finite.Facts] (m : (ℓ : Loc Cert.ProjIdeal.nD Cert.ProjIdeal.τ Cert.ProjIdeal.sig) → Buf (Elt Ideal) ℓ) : Prop :=
  ∀ c : Dev Cert.ProjIdeal.nD,
    (Cert.Pre_finite.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4))).1 = (fun _ => 1#1)
    ∧ (Cert.Pre_finite.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4))).2 = (fun _ => 1#1)

def Pre_ProjRefIdeal (m : (ℓ : Loc Cert.ProjRefIdeal.nD Cert.ProjRefIdeal.τ Cert.ProjRefIdeal.sig) → Buf (Elt Ideal) ℓ) : Prop :=
  True

def Pre_ProjRefIdeal_finite [hPre_finite : Cert.Pre_finite.Facts] (m : (ℓ : Loc Cert.ProjRefIdeal.nD Cert.ProjRefIdeal.τ Cert.ProjRefIdeal.sig) → Buf (Elt Ideal) ℓ) : Prop :=
  ∀ c : Dev Cert.ProjRefIdeal.nD,
    (Cert.Pre_finite.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4))).1 = (fun _ => 1#1)
    ∧ (Cert.Pre_finite.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4))).2 = (fun _ => 1#1)

def quiescent_Sample [hSample : Cert.Sample.Facts] [hPre_in_range : Cert.Pre_in_range.Facts] : Prop :=
  ∀ (m : (ℓ : Loc Cert.Sample.nD Cert.Sample.τ Cert.Sample.sig) → Buf (Elt Bits) ℓ) (g : Dev Cert.Sample.nD → PrngReg), Pre_Sample m →
    θ_run (Cert.Sample.defs (F := Bits)) (onTc (τ := Cert.Sample.τ) (Cert.Sample.main (F := Bits))) ⟨m, fun _ => 0, g⟩ (fun r => (∀ c : Dev Cert.Sample.nD,
      r.2.mem ((c.tc : Thread Cert.Sample.nD Cert.Sample.τ).loc Cert.Sample.main_arg0) = m ((c.tc : Thread Cert.Sample.nD Cert.Sample.τ).loc Cert.Sample.main_arg0)
      ∧ r.2.mem ((c.tc : Thread Cert.Sample.nD Cert.Sample.τ).loc Cert.Sample.main_arg1) = m ((c.tc : Thread Cert.Sample.nD Cert.Sample.τ).loc Cert.Sample.main_arg1)
      ∧ r.2.mem ((c.tc : Thread Cert.Sample.nD Cert.Sample.τ).loc Cert.Sample.main_arg2) = m ((c.tc : Thread Cert.Sample.nD Cert.Sample.τ).loc Cert.Sample.main_arg2)
      ∧ r.2.mem ((c.tc : Thread Cert.Sample.nD Cert.Sample.τ).loc Cert.Sample.main_arg3) = m ((c.tc : Thread Cert.Sample.nD Cert.Sample.τ).loc Cert.Sample.main_arg3)
      ∧ r.2.mem ((c.tc : Thread Cert.Sample.nD Cert.Sample.τ).loc Cert.Sample.main_arg4) = m ((c.tc : Thread Cert.Sample.nD Cert.Sample.τ).loc Cert.Sample.main_arg4)
      ∧ r.2.mem ((c.tc : Thread Cert.Sample.nD Cert.Sample.τ).loc Cert.Sample.main_arg5) = m ((c.tc : Thread Cert.Sample.nD Cert.Sample.τ).loc Cert.Sample.main_arg5))
      ∧ r.2.sem = fun _ => 0)

def quiescent_SampleIdeal [hSampleIdeal : Cert.SampleIdeal.Facts] [hPre_in_range : Cert.Pre_in_range.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
      ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
      ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
      ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4)
      ∧ r.2.mem ((c.tc : Thread Cert.SampleIdeal.nD Cert.SampleIdeal.τ).loc Cert.SampleIdeal.main_arg5) = m ((c.tc : Thread Cert.SampleIdeal.nD Cert.SampleIdeal.τ).loc Cert.SampleIdeal.main_arg5))
      ∧ r.2.sem = fun _ => 0)

def quiescent_SampleRefIdeal [hSampleRefIdeal : Cert.SampleRefIdeal.Facts] [hPre_in_range : Cert.Pre_in_range.Facts] : Prop :=
  ∀ (m : (ℓ : Loc Cert.SampleRefIdeal.nD Cert.SampleRefIdeal.τ Cert.SampleRefIdeal.sig) → Buf (Elt Ideal) ℓ) (g : Dev Cert.SampleRefIdeal.nD → PrngReg), Pre_SampleRefIdeal m →
    θ_run (Cert.SampleRefIdeal.defs (F := Ideal)) (onTc (τ := Cert.SampleRefIdeal.τ) (Cert.SampleRefIdeal.main (F := Ideal))) ⟨m, fun _ => 0, g⟩ (fun r => (∀ c : Dev Cert.SampleRefIdeal.nD,
      r.2.mem ((c.tc : Thread Cert.SampleRefIdeal.nD Cert.SampleRefIdeal.τ).loc Cert.SampleRefIdeal.main_arg0) = m ((c.tc : Thread Cert.SampleRefIdeal.nD Cert.SampleRefIdeal.τ).loc Cert.SampleRefIdeal.main_arg0)
      ∧ r.2.mem ((c.tc : Thread Cert.SampleRefIdeal.nD Cert.SampleRefIdeal.τ).loc Cert.SampleRefIdeal.main_arg1) = m ((c.tc : Thread Cert.SampleRefIdeal.nD Cert.SampleRefIdeal.τ).loc Cert.SampleRefIdeal.main_arg1)
      ∧ r.2.mem ((c.tc : Thread Cert.SampleRefIdeal.nD Cert.SampleRefIdeal.τ).loc Cert.SampleRefIdeal.main_arg2) = m ((c.tc : Thread Cert.SampleRefIdeal.nD Cert.SampleRefIdeal.τ).loc Cert.SampleRefIdeal.main_arg2)
      ∧ r.2.mem ((c.tc : Thread Cert.SampleRefIdeal.nD Cert.SampleRefIdeal.τ).loc Cert.SampleRefIdeal.main_arg3) = m ((c.tc : Thread Cert.SampleRefIdeal.nD Cert.SampleRefIdeal.τ).loc Cert.SampleRefIdeal.main_arg3)
      ∧ r.2.mem ((c.tc : Thread Cert.SampleRefIdeal.nD Cert.SampleRefIdeal.τ).loc Cert.SampleRefIdeal.main_arg4) = m ((c.tc : Thread Cert.SampleRefIdeal.nD Cert.SampleRefIdeal.τ).loc Cert.SampleRefIdeal.main_arg4)
      ∧ r.2.mem ((c.tc : Thread Cert.SampleRefIdeal.nD Cert.SampleRefIdeal.τ).loc Cert.SampleRefIdeal.main_arg5) = m ((c.tc : Thread Cert.SampleRefIdeal.nD Cert.SampleRefIdeal.τ).loc Cert.SampleRefIdeal.main_arg5))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjIdeal_pre_finite [hProjIdeal : Cert.ProjIdeal.Facts] [hPre_finite : Cert.Pre_finite.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal_finite m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4))
      ∧ r.2.sem = fun _ => 0)

def quiescent_ProjRefIdeal_pre_finite [hProjRefIdeal : Cert.ProjRefIdeal.Facts] [hPre_finite : Cert.Pre_finite.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal_finite m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4))
      ∧ r.2.sem = fun _ => 0)

def preserves_Sample_SampleIdeal : Prop :=
  True

def algebraic_SampleIdeal_SampleRefIdeal [hSampleIdeal : Cert.SampleIdeal.Facts] [hSampleRefIdeal : Cert.SampleRefIdeal.Facts] [hPre_in_range : Cert.Pre_in_range.Facts] : Prop :=
  ∀ (m : (ℓ : Loc Cert.SampleIdeal.nD Cert.SampleIdeal.τ Cert.SampleIdeal.sig) → Buf (Elt Ideal) ℓ) (g : Dev Cert.SampleIdeal.nD → PrngReg)
    (m' : (ℓ : Loc Cert.SampleRefIdeal.nD Cert.SampleRefIdeal.τ Cert.SampleRefIdeal.sig) → Buf (Elt Ideal) ℓ) (g' : Dev Cert.SampleRefIdeal.nD → PrngReg), Pre_SampleIdeal m →
    (∀ c : Dev Cert.SampleIdeal.nD,
      m' ((c.tc : Thread Cert.SampleRefIdeal.nD Cert.SampleRefIdeal.τ).loc Cert.SampleRefIdeal.main_arg0) = m ((c.tc : Thread Cert.SampleIdeal.nD Cert.SampleIdeal.τ).loc Cert.SampleIdeal.main_arg0)
      ∧ m' ((c.tc : Thread Cert.SampleRefIdeal.nD Cert.SampleRefIdeal.τ).loc Cert.SampleRefIdeal.main_arg1) = m ((c.tc : Thread Cert.SampleIdeal.nD Cert.SampleIdeal.τ).loc Cert.SampleIdeal.main_arg1)
      ∧ m' ((c.tc : Thread Cert.SampleRefIdeal.nD Cert.SampleRefIdeal.τ).loc Cert.SampleRefIdeal.main_arg2) = m ((c.tc : Thread Cert.SampleIdeal.nD Cert.SampleIdeal.τ).loc Cert.SampleIdeal.main_arg2)
      ∧ m' ((c.tc : Thread Cert.SampleRefIdeal.nD Cert.SampleRefIdeal.τ).loc Cert.SampleRefIdeal.main_arg3) = m ((c.tc : Thread Cert.SampleIdeal.nD Cert.SampleIdeal.τ).loc Cert.SampleIdeal.main_arg3)
      ∧ m' ((c.tc : Thread Cert.SampleRefIdeal.nD Cert.SampleRefIdeal.τ).loc Cert.SampleRefIdeal.main_arg4) = m ((c.tc : Thread Cert.SampleIdeal.nD Cert.SampleIdeal.τ).loc Cert.SampleIdeal.main_arg4)
      ∧ m' ((c.tc : Thread Cert.SampleRefIdeal.nD Cert.SampleRefIdeal.τ).loc Cert.SampleRefIdeal.main_arg5) = m ((c.tc : Thread Cert.SampleIdeal.nD Cert.SampleIdeal.τ).loc Cert.SampleIdeal.main_arg5)) →
    ∃ (v0 : (c : Dev Cert.SampleIdeal.nD) → Buf (Elt Ideal) ((c.tc : Thread Cert.SampleIdeal.nD Cert.SampleIdeal.τ).loc Cert.SampleIdeal.main_v26)),
      θ_run (Cert.SampleIdeal.defs (F := Ideal)) (onTc (τ := Cert.SampleIdeal.τ) (Cert.SampleIdeal.main (F := Ideal))) ⟨m, fun _ => 0, g⟩ (fun r => ∀ c : Dev Cert.SampleIdeal.nD,
          r.2.mem ((c.tc : Thread Cert.SampleIdeal.nD Cert.SampleIdeal.τ).loc Cert.SampleIdeal.main_v26) = v0 c
          ∧ r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
          ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
          ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
          ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
          ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4)
          ∧ r.2.mem ((c.tc : Thread Cert.SampleIdeal.nD Cert.SampleIdeal.τ).loc Cert.SampleIdeal.main_arg5) = m ((c.tc : Thread Cert.SampleIdeal.nD Cert.SampleIdeal.τ).loc Cert.SampleIdeal.main_arg5))
      ∧ θ_run (Cert.SampleRefIdeal.defs (F := Ideal)) (onTc (τ := Cert.SampleRefIdeal.τ) (Cert.SampleRefIdeal.main (F := Ideal))) ⟨m', fun _ => 0, g'⟩ (fun r => ∀ c : Dev Cert.SampleRefIdeal.nD,
          r.2.mem ((c.tc : Thread Cert.SampleRefIdeal.nD Cert.SampleRefIdeal.τ).loc Cert.SampleRefIdeal.main_v167) = v0 c
          ∧ r.2.mem ((c.tc : Thread Cert.SampleRefIdeal.nD Cert.SampleRefIdeal.τ).loc Cert.SampleRefIdeal.main_arg0) = m' ((c.tc : Thread Cert.SampleRefIdeal.nD Cert.SampleRefIdeal.τ).loc Cert.SampleRefIdeal.main_arg0)
          ∧ r.2.mem ((c.tc : Thread Cert.SampleRefIdeal.nD Cert.SampleRefIdeal.τ).loc Cert.SampleRefIdeal.main_arg1) = m' ((c.tc : Thread Cert.SampleRefIdeal.nD Cert.SampleRefIdeal.τ).loc Cert.SampleRefIdeal.main_arg1)
          ∧ r.2.mem ((c.tc : Thread Cert.SampleRefIdeal.nD Cert.SampleRefIdeal.τ).loc Cert.SampleRefIdeal.main_arg2) = m' ((c.tc : Thread Cert.SampleRefIdeal.nD Cert.SampleRefIdeal.τ).loc Cert.SampleRefIdeal.main_arg2)
          ∧ r.2.mem ((c.tc : Thread Cert.SampleRefIdeal.nD Cert.SampleRefIdeal.τ).loc Cert.SampleRefIdeal.main_arg3) = m' ((c.tc : Thread Cert.SampleRefIdeal.nD Cert.SampleRefIdeal.τ).loc Cert.SampleRefIdeal.main_arg3)
          ∧ r.2.mem ((c.tc : Thread Cert.SampleRefIdeal.nD Cert.SampleRefIdeal.τ).loc Cert.SampleRefIdeal.main_arg4) = m' ((c.tc : Thread Cert.SampleRefIdeal.nD Cert.SampleRefIdeal.τ).loc Cert.SampleRefIdeal.main_arg4)
          ∧ r.2.mem ((c.tc : Thread Cert.SampleRefIdeal.nD Cert.SampleRefIdeal.τ).loc Cert.SampleRefIdeal.main_arg5) = m' ((c.tc : Thread Cert.SampleRefIdeal.nD Cert.SampleRefIdeal.τ).loc Cert.SampleRefIdeal.main_arg5))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)) →
    ∃ (v0 : (c : Dev Cert.MlpIdeal.nD) → Buf (Elt Ideal) ((c.tc : Thread Cert.MlpIdeal.nD Cert.MlpIdeal.τ).loc Cert.MlpIdeal.main_v5)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v5) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v19) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5))

def preserves_Proj_ProjIdeal : Prop :=
  True

def algebraic_ProjIdeal_ProjRefIdeal_pre_finite [hProjIdeal : Cert.ProjIdeal.Facts] [hProjRefIdeal : Cert.ProjRefIdeal.Facts] [hPre_finite : Cert.Pre_finite.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal_finite m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)) →
    ∃ (v0 : (c : Dev Cert.ProjIdeal.nD) → Buf (Elt Ideal) ((c.tc : Thread Cert.ProjIdeal.nD Cert.ProjIdeal.τ).loc Cert.ProjIdeal.main_v47_0)) (v1 : (c : Dev Cert.ProjIdeal.nD) → Buf (Elt Ideal) ((c.tc : Thread Cert.ProjIdeal.nD Cert.ProjIdeal.τ).loc Cert.ProjIdeal.main_v47_1)) (v2 : (c : Dev Cert.ProjIdeal.nD) → Buf (Elt Ideal) ((c.tc : Thread Cert.ProjIdeal.nD Cert.ProjIdeal.τ).loc Cert.ProjIdeal.main_v47_2)) (v3 : (c : Dev Cert.ProjIdeal.nD) → Buf (Elt Ideal) ((c.tc : Thread Cert.ProjIdeal.nD Cert.ProjIdeal.τ).loc Cert.ProjIdeal.main_v47_3)) (v4 : (c : Dev Cert.ProjIdeal.nD) → Buf (Elt Ideal) ((c.tc : Thread Cert.ProjIdeal.nD Cert.ProjIdeal.τ).loc Cert.ProjIdeal.main_v47_4)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v47_0) = v0 c
          ∧ r.2.mem ((c.tc : Thread Cert.ProjIdeal.nD Cert.ProjIdeal.τ).loc Cert.ProjIdeal.main_v47_1) = v1 c
          ∧ r.2.mem ((c.tc : Thread Cert.ProjIdeal.nD Cert.ProjIdeal.τ).loc Cert.ProjIdeal.main_v47_2) = v2 c
          ∧ r.2.mem ((c.tc : Thread Cert.ProjIdeal.nD Cert.ProjIdeal.τ).loc Cert.ProjIdeal.main_v47_3) = v3 c
          ∧ r.2.mem ((c.tc : Thread Cert.ProjIdeal.nD Cert.ProjIdeal.τ).loc Cert.ProjIdeal.main_v47_4) = v4 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v52) = v0 c
          ∧ r.2.mem ((c.tc : Thread Cert.ProjRefIdeal.nD Cert.ProjRefIdeal.τ).loc Cert.ProjRefIdeal.main_v58) = v1 c
          ∧ r.2.mem ((c.tc : Thread Cert.ProjRefIdeal.nD Cert.ProjRefIdeal.τ).loc Cert.ProjRefIdeal.main_v60) = v2 c
          ∧ r.2.mem ((c.tc : Thread Cert.ProjRefIdeal.nD Cert.ProjRefIdeal.τ).loc Cert.ProjRefIdeal.main_v57) = v3 c
          ∧ r.2.mem ((c.tc : Thread Cert.ProjRefIdeal.nD Cert.ProjRefIdeal.τ).loc Cert.ProjRefIdeal.main_v61) = v4 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4))

def Claim : Prop :=
  ∃ (hSample : Cert.Sample.Facts) (hSampleIdeal : Cert.SampleIdeal.Facts) (hSampleRefIdeal : Cert.SampleRefIdeal.Facts) (hMlp : Cert.Mlp.Facts) (hMlpIdeal : Cert.MlpIdeal.Facts) (hMlpRefIdeal : Cert.MlpRefIdeal.Facts) (hProj : Cert.Proj.Facts) (hProjIdeal : Cert.ProjIdeal.Facts) (hProjRefIdeal : Cert.ProjRefIdeal.Facts) (hPre_in_range : Cert.Pre_in_range.Facts) (hPre_finite : Cert.Pre_finite.Facts),
    quiescent_Sample (hSample := hSample) (hPre_in_range := hPre_in_range)
    ∧ quiescent_SampleIdeal (hSampleIdeal := hSampleIdeal) (hPre_in_range := hPre_in_range)
    ∧ quiescent_SampleRefIdeal (hSampleRefIdeal := hSampleRefIdeal) (hPre_in_range := hPre_in_range)
    ∧ quiescent_Mlp (hMlp := hMlp)
    ∧ quiescent_MlpIdeal (hMlpIdeal := hMlpIdeal)
    ∧ quiescent_MlpRefIdeal (hMlpRefIdeal := hMlpRefIdeal)
    ∧ quiescent_Proj (hProj := hProj)
    ∧ quiescent_ProjIdeal (hProjIdeal := hProjIdeal)
    ∧ quiescent_ProjIdeal_pre_finite (hProjIdeal := hProjIdeal) (hPre_finite := hPre_finite)
    ∧ quiescent_ProjRefIdeal (hProjRefIdeal := hProjRefIdeal)
    ∧ quiescent_ProjRefIdeal_pre_finite (hProjRefIdeal := hProjRefIdeal) (hPre_finite := hPre_finite)
    ∧ preserves_Sample_SampleIdeal
    ∧ algebraic_SampleIdeal_SampleRefIdeal (hSampleIdeal := hSampleIdeal) (hSampleRefIdeal := hSampleRefIdeal) (hPre_in_range := hPre_in_range)
    ∧ preserves_Mlp_MlpIdeal
    ∧ algebraic_MlpIdeal_MlpRefIdeal (hMlpIdeal := hMlpIdeal) (hMlpRefIdeal := hMlpRefIdeal)
    ∧ preserves_Proj_ProjIdeal
    ∧ algebraic_ProjIdeal_ProjRefIdeal_pre_finite (hProjIdeal := hProjIdeal) (hProjRefIdeal := hProjRefIdeal) (hPre_finite := hPre_finite)
-- ==== Pre_finite.lean ====
abbrev S4x4096x1024 : Shape := ⟨3, ![4, 4096, 1024]⟩
abbrev S1024 : Shape := ⟨1, ![1024]⟩
abbrev S1024x3072 : Shape := ⟨2, ![1024, 3072]⟩
abbrev S64 : Shape := ⟨1, ![64]⟩
abbrev S_ : Shape := ⟨0, ![]⟩

class Facts : Prop where
  bcast_S_S1024 : S_.BroadcastsInDim S1024 (![] : Fin 0 → Fin S1024.rank)
  bcast_S_S1024x3072 : S_.BroadcastsInDim S1024x3072 (![] : Fin 0 → Fin S1024x3072.rank)

variable [Facts]

def fn {F : FTy → Type} [FloatOps F] (main_arg0 : FVec F S4x4096x1024 .f32) (main_arg1 : FVec F S1024 .f32) (main_arg2 : FVec F S1024x3072 .f32) (main_arg3 : FVec F S64 .f32) (main_arg4 : FVec F S64 .f32) : IVec S1024 1 × IVec S1024x3072 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024x3072 .f32 := Host.absf main_arg2
  let main_cst_0 : FVec F S_ .f32 := constant S_ .f32 0x7F800000#32
  let main_v4 : FVec F S1024x3072 .f32 := broadcastInDim S1024x3072 ![] bcast_S_S1024x3072 main_cst_0
  let main_v5 : IVec S1024x3072 1 := cmpf .olt main_v3 main_v4
  (main_v2, main_v5)
-- ==== Pre_in_range.lean ====
abbrev S2560x128x16x2x64 : Shape := ⟨5, ![2560, 128, 16, 2, 64]⟩
abbrev S32x64 : Shape := ⟨2, ![32, 64]⟩
abbrev S32x16x3 : Shape := ⟨3, ![32, 16, 3]⟩
abbrev S32x1024 : Shape := ⟨2, ![32, 1024]⟩
abbrev S32x2048 : Shape := ⟨2, ![32, 2048]⟩
abbrev S32x16 : Shape := ⟨2, ![32, 16]⟩
abbrev S_ : Shape := ⟨0, ![]⟩

class Facts : Prop where
  bcast_S_S32x64 : S_.BroadcastsInDim S32x64 (![] : Fin 0 → Fin S32x64.rank)
  bcast_S_S32x16x3 : S_.BroadcastsInDim S32x16x3 (![] : Fin 0 → Fin S32x16x3.rank)

variable [Facts]

def fn {F : FTy → Type} [FloatOps F] (main_arg0 : FVec F S2560x128x16x2x64 .f32) (main_arg1 : IVec S32x64 32) (main_arg2 : IVec S32x16x3 32) (main_arg3 : FVec F S32x1024 .f32) (main_arg4 : FVec F S32x2048 .f32) (main_arg5 : FVec F S32x16 .f32) : IVec S32x64 1 × IVec S32x16x3 1 :=
  let main_c : IVec S_ 32 := constantI S_ 32 0#32
  let main_v0 : IVec S32x64 32 := broadcastInDim S32x64 ![] bcast_S_S32x64 main_c
  let main_v1 : IVec S32x64 1 := cmpi .sge main_arg1 main_v0
  let main_c_0 : IVec S_ 32 := constantI S_ 32 2560#32
  let main_v2 : IVec S32x64 32 := broadcastInDim S32x64 ![] bcast_S_S32x64 main_c_0
  let main_v3 : IVec S32x64 1 := cmpi .slt main_arg1 main_v2
  let main_v4 : IVec S32x64 1 := andi main_v1 main_v3
  let main_c_1 : IVec S_ 32 := constantI S_ 32 0#32
  let main_v5 : IVec S32x16x3 32 := broadcastInDim S32x16x3 ![] bcast_S_S32x16x3 main_c_1
  let main_v6 : IVec S32x16x3 1 := cmpi .sge main_arg2 main_v5
  let main_c_2 : IVec S_ 32 := constantI S_ 32 32#32
  let main_v7 : IVec S32x16x3 32 := broadcastInDim S32x16x3 ![] bcast_S_S32x16x3 main_c_2
  let main_v8 : IVec S32x16x3 1 := cmpi .slt main_arg2 main_v7
  let main_v9 : IVec S32x16x3 1 := andi main_v6 main_v8
  (main_v4, main_v9)
-- ==== Sample.lean ====
abbrev S2560x128x16x2x64 : Shape := ⟨5, ![2560, 128, 16, 2, 64]⟩
abbrev S32x64 : Shape := ⟨2, ![32, 64]⟩
abbrev S32x16x3 : Shape := ⟨3, ![32, 16, 3]⟩
abbrev S32x1024 : Shape := ⟨2, ![32, 1024]⟩
abbrev S32x2048 : Shape := ⟨2, ![32, 2048]⟩
abbrev S32x16 : Shape := ⟨2, ![32, 16]⟩
abbrev S3x128 : Shape := ⟨2, ![3, 128]⟩
abbrev S16x32 : Shape := ⟨2, ![16, 32]⟩
abbrev S_ : Shape := ⟨0, ![]⟩
abbrev S3x128x1 : Shape := ⟨3, ![3, 128, 1]⟩
abbrev S16x3x128 : Shape := ⟨3, ![16, 3, 128]⟩
abbrev S2560x16x2x64x128 : Shape := ⟨5, ![2560, 16, 2, 64, 128]⟩
abbrev S2560x16x128x128 : Shape := ⟨4, ![2560, 16, 128, 128]⟩
abbrev S32x16x3x1 : Shape := ⟨4, ![32, 16, 3, 1]⟩
abbrev S2 : Shape := ⟨1, ![2]⟩
abbrev S1x1x1x2 : Shape := ⟨4, ![1, 1, 1, 2]⟩
abbrev S32x16x3x2 : Shape := ⟨4, ![32, 16, 3, 2]⟩
abbrev S32x96 : Shape := ⟨2, ![32, 96]⟩
abbrev S32x96x1 : Shape := ⟨3, ![32, 96, 1]⟩
abbrev S32x16x1x64 : Shape := ⟨4, ![32, 16, 1, 64]⟩
abbrev S32x16x8x64 : Shape := ⟨4, ![32, 16, 8, 64]⟩
abbrev S3072 : Shape := ⟨1, ![3072]⟩
abbrev S1536 : Shape := ⟨1, ![1536]⟩
abbrev S32x16x1x128 : Shape := ⟨4, ![32, 16, 1, 128]⟩
abbrev S1x4x8x64 : Shape := ⟨4, ![1, 4, 8, 64]⟩
abbrev S1x4x1x128 : Shape := ⟨4, ![1, 4, 1, 128]⟩
abbrev S1x1x128x128 : Shape := ⟨4, ![1, 1, 128, 128]⟩
abbrev S1 : Shape := ⟨1, ![1]⟩
abbrev S4x3x128 : Shape := ⟨3, ![4, 3, 128]⟩
abbrev S1x1x8x64 : Shape := ⟨4, ![1, 1, 8, 64]⟩
abbrev S8x64 : Shape := ⟨2, ![8, 64]⟩
abbrev S1x1x1x128 : Shape := ⟨4, ![1, 1, 1, 128]⟩
abbrev S1x128 : Shape := ⟨2, ![1, 128]⟩
abbrev S1x64 : Shape := ⟨2, ![1, 64]⟩
abbrev S128x128 : Shape := ⟨2, ![128, 128]⟩
abbrev S64x128 : Shape := ⟨2, ![64, 128]⟩
abbrev S8x128 : Shape := ⟨2, ![8, 128]⟩
abbrev S1x1x128 : Shape := ⟨3, ![1, 1, 128]⟩
abbrev S8x768 : Shape := ⟨2, ![8, 768]⟩
abbrev S8 : Shape := ⟨1, ![8]⟩
abbrev S8x1 : Shape := ⟨2, ![8, 1]⟩
abbrev S1x1x1 : Shape := ⟨3, ![1, 1, 1]⟩
abbrev S1x1 : Shape := ⟨2, ![1, 1]⟩
abbrev S32x16x64 : Shape := ⟨3, ![32, 16, 64]⟩

abbrev nBuf : Space → Nat
  | .hbm => 45
  | .vmem => 56
  | .smem => 2
  | _ => 0

abbrev bufTy : (tb : Table) → Fin (tcTables nBuf tb) → BufTy
  | .hbm, ⟨0, _⟩ => ⟨S2560x128x16x2x64, .f32⟩
  | .hbm, ⟨1, _⟩ => ⟨S32x64, .i32⟩
  | .hbm, ⟨2, _⟩ => ⟨S32x16x3, .i32⟩
  | .hbm, ⟨3, _⟩ => ⟨S32x1024, .f32⟩
  | .hbm, ⟨4, _⟩ => ⟨S32x2048, .f32⟩
  | .hbm, ⟨5, _⟩ => ⟨S32x16, .f32⟩
  | .hbm, ⟨6, _⟩ => ⟨S3x128, .i32⟩
  | .hbm, ⟨7, _⟩ => ⟨S3x128, .i1⟩
  | .hbm, ⟨8, _⟩ => ⟨S16x32, .f32⟩
  | .hbm, ⟨9, _⟩ => ⟨S_, .i32⟩
  | .hbm, ⟨10, _⟩ => ⟨S3x128, .i32⟩
  | .hbm, ⟨11, _⟩ => ⟨S3x128, .i32⟩
  | .hbm, ⟨12, _⟩ => ⟨S3x128, .i32⟩
  | .hbm, ⟨13, _⟩ => ⟨S3x128x1, .i32⟩
  | .hbm, ⟨14, _⟩ => ⟨S16x3x128, .f32⟩
  | .hbm, ⟨15, _⟩ => ⟨S2560x16x2x64x128, .f32⟩
  | .hbm, ⟨16, _⟩ => ⟨S2560x16x128x128, .f32⟩
  | .hbm, ⟨17, _⟩ => ⟨S32x16x3x1, .i32⟩
  | .hbm, ⟨18, _⟩ => ⟨S_, .i32⟩
  | .hbm, ⟨19, _⟩ => ⟨S32x16x3x1, .i32⟩
  | .hbm, ⟨20, _⟩ => ⟨S32x16x3x1, .i32⟩
  | .hbm, ⟨21, _⟩ => ⟨S2, .i32⟩
  | .hbm, ⟨22, _⟩ => ⟨S1x1x1x2, .i32⟩
  | .hbm, ⟨23, _⟩ => ⟨S32x16x3x2, .i32⟩
  | .hbm, ⟨24, _⟩ => ⟨S32x16x3x2, .i32⟩
  | .hbm, ⟨25, _⟩ => ⟨S32x16x3x2, .i32⟩
  | .hbm, ⟨26, _⟩ => ⟨S32x96, .i32⟩
  | .hbm, ⟨27, _⟩ => ⟨S_, .i32⟩
  | .hbm, ⟨28, _⟩ => ⟨S32x96, .i32⟩
  | .hbm, ⟨29, _⟩ => ⟨S32x96, .i1⟩
  | .hbm, ⟨30, _⟩ => ⟨S_, .i32⟩
  | .hbm, ⟨31, _⟩ => ⟨S32x96, .i32⟩
  | .hbm, ⟨32, _⟩ => ⟨S32x96, .i32⟩
  | .hbm, ⟨33, _⟩ => ⟨S32x96, .i32⟩
  | .hbm, ⟨34, _⟩ => ⟨S32x96x1, .i32⟩
  | .hbm, ⟨35, _⟩ => ⟨S32x96, .i32⟩
  | .hbm, ⟨36, _⟩ => ⟨S32x16x1x64, .f32⟩
  | .hbm, ⟨37, _⟩ => ⟨S_, .i32⟩
  | .hbm, ⟨38, _⟩ => ⟨S_, .f32⟩
  | .hbm, ⟨39, _⟩ => ⟨S32x16x8x64, .f32⟩
  | .hbm, ⟨40, _⟩ => ⟨S32x16x1x128, .f32⟩
  | .hbm, ⟨41, _⟩ => ⟨S32x16x8x64, .f32⟩
  | .hbm, ⟨42, _⟩ => ⟨S32x16x1x64, .f32⟩
  | .hbm, ⟨43, _⟩ => ⟨S32x16x64, .f32⟩
  | .hbm, ⟨44, _⟩ => ⟨S32x1024, .f32⟩
  | .local _ .vmem, ⟨0, _⟩ => ⟨S1x4x8x64, .f32⟩
  | .local _ .vmem, ⟨1, _⟩ => ⟨S1x4x8x64, .f32⟩
  | .local _ .vmem, ⟨2, _⟩ => ⟨S1x4x1x128, .f32⟩
  | .local _ .vmem, ⟨3, _⟩ => ⟨S1x4x1x128, .f32⟩
  | .local _ .vmem, ⟨4, _⟩ => ⟨S1x1x128x128, .f32⟩
  | .local _ .vmem, ⟨5, _⟩ => ⟨S1x1x128x128, .f32⟩
  | .local _ .vmem, ⟨6, _⟩ => ⟨S1x1x128x128, .f32⟩
  | .local _ .vmem, ⟨7, _⟩ => ⟨S1x1x128x128, .f32⟩
  | .local _ .vmem, ⟨8, _⟩ => ⟨S1x1x128x128, .f32⟩
  | .local _ .vmem, ⟨9, _⟩ => ⟨S1x1x128x128, .f32⟩
  | .local _ .vmem, ⟨10, _⟩ => ⟨S1x1x128x128, .f32⟩
  | .local _ .vmem, ⟨11, _⟩ => ⟨S1x1x128x128, .f32⟩
  | .local _ .vmem, ⟨12, _⟩ => ⟨S1x1x128x128, .f32⟩
  | .local _ .vmem, ⟨13, _⟩ => ⟨S1x1x128x128, .f32⟩
  | .local _ .vmem, ⟨14, _⟩ => ⟨S1x1x128x128, .f32⟩
  | .local _ .vmem, ⟨15, _⟩ => ⟨S1x1x128x128, .f32⟩
  | .local _ .vmem, ⟨16, _⟩ => ⟨S1x1x128x128, .f32⟩
  | .local _ .vmem, ⟨17, _⟩ => ⟨S1x1x128x128, .f32⟩
  | .local _ .vmem, ⟨18, _⟩ => ⟨S1x1x128x128, .f32⟩
  | .local _ .vmem, ⟨19, _⟩ => ⟨S1x1x128x128, .f32⟩
  | .local _ .vmem, ⟨20, _⟩ => ⟨S1x1x128x128, .f32⟩
  | .local _ .vmem, ⟨21, _⟩ => ⟨S1x1x128x128, .f32⟩
  | .local _ .vmem, ⟨22, _⟩ => ⟨S1x1x128x128, .f32⟩
  | .local _ .vmem, ⟨23, _⟩ => ⟨S1x1x128x128, .f32⟩
  | .local _ .vmem, ⟨24, _⟩ => ⟨S1x1x128x128, .f32⟩
  | .local _ .vmem, ⟨25, _⟩ => ⟨S1x1x128x128, .f32⟩
  | .local _ .vmem, ⟨26, _⟩ => ⟨S1x1x128x128, .f32⟩
  | .local _ .vmem, ⟨27, _⟩ => ⟨S1x1x128x128, .f32⟩
  | .local _ .vmem, ⟨28, _⟩ => ⟨S1x1x128x128, .f32⟩
  | .local _ .vmem, ⟨29, _⟩ => ⟨S1x1x128x128, .f32⟩
  | .local _ .vmem, ⟨30, _⟩ => ⟨S1x1x128x128, .f32⟩
  | .local _ .vmem, ⟨31, _⟩ => ⟨S1x1x128x128, .f32⟩
  | .local _ .vmem, ⟨32, _⟩ => ⟨S1x1x128x128, .f32⟩
  | .local _ .vmem, ⟨33, _⟩ => ⟨S1x1x128x128, .f32⟩
  | .local _ .vmem, ⟨34, _⟩ => ⟨S1x1x128x128, .f32⟩
  | .local _ .vmem, ⟨35, _⟩ => ⟨S1x1x128x128, .f32⟩
  | .local _ .vmem, ⟨36, _⟩ => ⟨S1x1x128x128, .f32⟩
  | .local _ .vmem, ⟨37, _⟩ => ⟨S1x1x128x128, .f32⟩
  | .local _ .vmem, ⟨38, _⟩ => ⟨S1x1x128x128, .f32⟩
  | .local _ .vmem, ⟨39, _⟩ => ⟨S1x1x128x128, .f32⟩
  | .local _ .vmem, ⟨40, _⟩ => ⟨S1x1x128x128, .f32⟩
  | .local _ .vmem, ⟨41, _⟩ => ⟨S1x1x128x128, .f32⟩
  | .local _ .vmem, ⟨42, _⟩ => ⟨S1x1x128x128, .f32⟩
  | .local _ .vmem, ⟨43, _⟩ => ⟨S1x1x128x128, .f32⟩
  | .local _ .vmem, ⟨44, _⟩ => ⟨S1x1x128x128, .f32⟩
  | .local _ .vmem, ⟨45, _⟩ => ⟨S1x1x128x128, .f32⟩
  | .local _ .vmem, ⟨46, _⟩ => ⟨S1x1x128x128, .f32⟩
  | .local _ .vmem, ⟨47, _⟩ => ⟨S1x1x128x128, .f32⟩
  | .local _ .vmem, ⟨48, _⟩ => ⟨S1x1x128x128, .f32⟩
  | .local _ .vmem, ⟨49, _⟩ => ⟨S1x1x128x128, .f32⟩
  | .local _ .vmem, ⟨50, _⟩ => ⟨S1x1x128x128, .f32⟩
  | .local _ .vmem, ⟨51, _⟩ => ⟨S1x1x128x128, .f32⟩
  | .local _ .vmem, ⟨52, _⟩ => ⟨S4x3x128, .f32⟩
  | .local _ .vmem, ⟨53, _⟩ => ⟨S4x3x128, .f32⟩
  | .local _ .vmem, ⟨54, _⟩ => ⟨S1x4x8x64, .f32⟩
  | .local _ .vmem, ⟨55, _⟩ => ⟨S1x4x8x64, .f32⟩
  | .local _ .smem, ⟨0, _⟩ => ⟨S3072, .i32⟩
  | .local _ .smem, ⟨1, _⟩ => ⟨S1536, .i32⟩
  | _, _ => ⟨S2560x128x16x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_v0 : Ref sig .tc := ⟨.hbm, 8, rfl⟩
abbrev main_c_1 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_c : Ref sig .tc := ⟨.hbm, 27, rfl⟩
abbrev main_call0_v0 : Ref sig .tc := ⟨.hbm, 28, rfl⟩
abbrev main_call0_v1 : Ref sig .tc := ⟨.hbm, 29, rfl⟩
abbrev main_call0_c_0 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_v17 : Ref sig .tc := ⟨.hbm, 35, rfl⟩
abbrev main_v18 : Ref sig .tc := ⟨.hbm, 36, rfl⟩
abbrev main_c_3 : Ref sig .tc := ⟨.hbm, 37, rfl⟩
abbrev main_call1_v0 : Ref sig .tc := ⟨.hbm, 38, rfl⟩
abbrev main_v19 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v20 : Ref sig .tc := ⟨.smem, 0, rfl⟩
abbrev main_v21 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_stg23_0 : Ref sig .tc := ⟨.vmem, 46, rfl⟩
abbrev cc0_stg23_1 : Ref sig .tc := ⟨.vmem, 47, rfl⟩
abbrev cc0_stg24_0 : Ref sig .tc := ⟨.vmem, 48, rfl⟩
abbrev cc0_stg24_1 : Ref sig .tc := ⟨.vmem, 49, rfl⟩
abbrev cc0_stg25_0 : Ref sig .tc := ⟨.vmem, 50, rfl⟩
abbrev cc0_stg25_1 : Ref sig .tc := ⟨.vmem, 51, rfl⟩
abbrev cc0_stg26_0 : Ref sig .tc := ⟨.vmem, 52, rfl⟩
abbrev cc0_stg26_1 : Ref sig .tc := ⟨.vmem, 53, rfl⟩
abbrev cc0_stg27_0 : Ref sig .tc := ⟨.vmem, 54, rfl⟩
abbrev cc0_stg27_1 : Ref sig .tc := ⟨.vmem, 55, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45
abbrev cc0_sem23_0 : DmaSem sig := 46
abbrev cc0_sem23_1 : DmaSem sig := 47
abbrev cc0_sem24_0 : DmaSem sig := 48
abbrev cc0_sem24_1 : DmaSem sig := 49
abbrev cc0_sem25_0 : DmaSem sig := 50
abbrev cc0_sem25_1 : DmaSem sig := 51
abbrev cc0_sem26_0 : DmaSem sig := 52
abbrev cc0_sem26_1 : DmaSem sig := 53
abbrev cc0_sem27_0 : DmaSem sig := 54
abbrev cc0_sem27_1 : DmaSem sig := 55

abbrev nD : Nat := 1
abbrev τ : Topo := Topo.v7x

variable {F : FTy → Type} [FloatOps F]

abbrev grid0 : Pipeline.Grid := ⟨2, ![32, 4], ![false, false]⟩

abbrev pre0 : Pipeline.Prefetch sig := ⟨2, ![main_v20.idx, main_v21.idx], fun | 0 => main_v20.names | 1 => main_v21.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) (c0_i32 : BitVec 32) (c0_i32_0 : BitVec 32) : Fin 1 → Nat :=
  let arg0 : BitVec 32 := BitVec.ofNat 32 (i 0).val
  let c16_i32 : BitVec 32 := 16#32
  let v2 : BitVec 32 := Scalar.muli arg0 c16_i32
  let arg1 : BitVec 32 := BitVec.ofNat 32 (i 1).val
  let c4_i32 : BitVec 32 := 4#32
  let v0 : BitVec 32 := Scalar.muli arg1 c4_i32
  let v1 : BitVec 32 := Scalar.addi v0 c0_i32
  let v3 : BitVec 32 := Scalar.addi v2 v1
  let c6_i32 : BitVec 32 := 6#32
  let v4 : BitVec 32 := Scalar.muli v3 c6_i32
  let v5 : BitVec 32 := Scalar.addi v4 c0_i32_0
  let v6 : Index := Scalar.indexCast v5
  ![v6.toNat]
def k0_off2 (i : grid0.Coords) (c0_i32 : BitVec 32) (c0_i32_7 : BitVec 32) : Fin 1 → Nat :=
  let arg0 : BitVec 32 := BitVec.ofNat 32 (i 0).val
  let c16_i32 : BitVec 32 := 16#32
  let v11 : BitVec 32 := Scalar.muli arg0 c16_i32
  let arg1 : BitVec 32 := BitVec.ofNat 32 (i 1).val
  let c4_i32 : BitVec 32 := 4#32
  let v0 : BitVec 32 := Scalar.muli arg1 c4_i32
  let v1 : BitVec 32 := Scalar.addi v0 c0_i32
  let v12 : BitVec 32 := Scalar.addi v11 v1
  let c3_i32 : BitVec 32 := 3#32
  let v13 : BitVec 32 := Scalar.muli v12 c3_i32
  let v14 : BitVec 32 := Scalar.addi v13 c0_i32_7
  let v15 : Index := Scalar.indexCast v14
  ![v15.toNat]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (k0_off1_inb : ∀ i : grid0.Coords, ∀ (r₁ : Fin 4) (r₂ : Fin 6), ∀ a, (k0_off1 i (BitVec.ofNat 32 r₁.val) (BitVec.ofNat 32 r₂.val)) a + S1.size a ≤ S3072.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c0_i32 : BitVec 32 := 0#32
  let v1 : BitVec 32 := Scalar.addi v0 c0_i32
  let c16_i32 : BitVec 32 := 16#32
  let v2 : BitVec 32 := Scalar.muli arg0 c16_i32
  let v3 : BitVec 32 := Scalar.addi v2 v1
  let c6_i32 : BitVec 32 := 6#32
  let v4 : BitVec 32 := Scalar.muli v3 c6_i32
  let c0_i32_0 : BitVec 32 := 0#32
  let v5 : BitVec 32 := Scalar.addi v4 c0_i32_0
  let v6 : Index := Scalar.indexCast v5
  let v7 : BitVec 32 := pf.at 0 (Rect.unit (s := S3072) ![v6.toNat] S1.size (k0_off1_inb i 0 0)) numel1_S1
  let c0_i32_1 : BitVec 32 := 0#32
  let c0_i32_2 : BitVec 32 := 0#32
  let c0_i32_3 : BitVec 32 := 0#32
  ![v7.toNat, v1.toNat, c0_i32_1.toNat, c0_i32_2.toNat]

def cc0_transform_3 (k0_off1_inb : ∀ i : grid0.Coords, ∀ (r₁ : Fin 4) (r₂ : Fin 6), ∀ a, (k0_off1 i (BitVec.ofNat 32 r₁.val) (BitVec.ofNat 32 r₂.val)) a + S1.size a ≤ S3072.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c0_i32 : BitVec 32 := 0#32
  let v1 : BitVec 32 := Scalar.addi v0 c0_i32
  let c16_i32 : BitVec 32 := 16#32
  let v2 : BitVec 32 := Scalar.muli arg0 c16_i32
  let v3 : BitVec 32 := Scalar.addi v2 v1
  let c6_i32 : BitVec 32 := 6#32
  let v4 : BitVec 32 := Scalar.muli v3 c6_i32
  let c1_i32 : BitVec 32 := 1#32
  let v5 : BitVec 32 := Scalar.addi v4 c1_i32
  let v6 : Index := Scalar.indexCast v5
  let v7 : BitVec 32 := pf.at 0 (Rect.unit (s := S3072) ![v6.toNat] S1.size (k0_off1_inb i 0 1)) numel1_S1
  let c0_i32_0 : BitVec 32 := 0#32
  let c0_i32_1 : BitVec 32 := 0#32
  let c0_i32_2 : BitVec 32 := 0#32
  ![v7.toNat, v1.toNat, c0_i32_0.toNat, c0_i32_1.toNat]

def cc0_transform_4 (k0_off1_inb : ∀ i : grid0.Coords, ∀ (r₁ : Fin 4) (r₂ : Fin 6), ∀ a, (k0_off1 i (BitVec.ofNat 32 r₁.val) (BitVec.ofNat 32 r₂.val)) a + S1.size a ≤ S3072.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c0_i32 : BitVec 32 := 0#32
  let v1 : BitVec 32 := Scalar.addi v0 c0_i32
  let c16_i32 : BitVec 32 := 16#32
  let v2 : BitVec 32 := Scalar.muli arg0 c16_i32
  let v3 : BitVec 32 := Scalar.addi v2 v1
  let c6_i32 : BitVec 32 := 6#32
  let v4 : BitVec 32 := Scalar.muli v3 c6_i32
  let c2_i32 : BitVec 32 := 2#32
  let v5 : BitVec 32 := Scalar.addi v4 c2_i32
  let v6 : Index := Scalar.indexCast v5
  let v7 : BitVec 32 := pf.at 0 (Rect.unit (s := S3072) ![v6.toNat] S1.size (k0_off1_inb i 0 2)) numel1_S1
  let c0_i32_0 : BitVec 32 := 0#32
  let c0_i32_1 : BitVec 32 := 0#32
  let c0_i32_2 : BitVec 32 := 0#32
  ![v7.toNat, v1.toNat, c0_i32_0.toNat, c0_i32_1.toNat]

def cc0_transform_5 (k0_off1_inb : ∀ i : grid0.Coords, ∀ (r₁ : Fin 4) (r₂ : Fin 6), ∀ a, (k0_off1 i (BitVec.ofNat 32 r₁.val) (BitVec.ofNat 32 r₂.val)) a + S1.size a ≤ S3072.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c0_i32 : BitVec 32 := 0#32
  let v1 : BitVec 32 := Scalar.addi v0 c0_i32
  let c16_i32 : BitVec 32 := 16#32
  let v2 : BitVec 32 := Scalar.muli arg0 c16_i32
  let v3 : BitVec 32 := Scalar.addi v2 v1
  let c6_i32 : BitVec 32 := 6#32
  let v4 : BitVec 32 := Scalar.muli v3 c6_i32
  let c3_i32 : BitVec 32 := 3#32
  let v5 : BitVec 32 := Scalar.addi v4 c3_i32
  let v6 : Index := Scalar.indexCast v5
  let v7 : BitVec 32 := pf.at 0 (Rect.unit (s := S3072) ![v6.toNat] S1.size (k0_off1_inb i 0 3)) numel1_S1
  let c0_i32_0 : BitVec 32 := 0#32
  let c0_i32_1 : BitVec 32 := 0#32
  let c0_i32_2 : BitVec 32 := 0#32
  ![v7.toNat, v1.toNat, c0_i32_0.toNat, c0_i32_1.toNat]

def cc0_transform_6 (k0_off1_inb : ∀ i : grid0.Coords, ∀ (r₁ : Fin 4) (r₂ : Fin 6), ∀ a, (k0_off1 i (BitVec.ofNat 32 r₁.val) (BitVec.ofNat 32 r₂.val)) a + S1.size a ≤ S3072.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c0_i32 : BitVec 32 := 0#32
  let v1 : BitVec 32 := Scalar.addi v0 c0_i32
  let c16_i32 : BitVec 32 := 16#32
  let v2 : BitVec 32 := Scalar.muli arg0 c16_i32
  let v3 : BitVec 32 := Scalar.addi v2 v1
  let c6_i32 : BitVec 32 := 6#32
  let v4 : BitVec 32 := Scalar.muli v3 c6_i32
  let c4_i32_0 : BitVec 32 := 4#32
  let v5 : BitVec 32 := Scalar.addi v4 c4_i32_0
  let v6 : Index := Scalar.indexCast v5
  let v7 : BitVec 32 := pf.at 0 (Rect.unit (s := S3072) ![v6.toNat] S1.size (k0_off1_inb i 0 4)) numel1_S1
  let c0_i32_1 : BitVec 32 := 0#32
  let c0_i32_2 : BitVec 32 := 0#32
  let c0_i32_3 : BitVec 32 := 0#32
  ![v7.toNat, v1.toNat, c0_i32_1.toNat, c0_i32_2.toNat]

def cc0_transform_7 (k0_off1_inb : ∀ i : grid0.Coords, ∀ (r₁ : Fin 4) (r₂ : Fin 6), ∀ a, (k0_off1 i (BitVec.ofNat 32 r₁.val) (BitVec.ofNat 32 r₂.val)) a + S1.size a ≤ S3072.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c0_i32 : BitVec 32 := 0#32
  let v1 : BitVec 32 := Scalar.addi v0 c0_i32
  let c16_i32 : BitVec 32 := 16#32
  let v2 : BitVec 32 := Scalar.muli arg0 c16_i32
  let v3 : BitVec 32 := Scalar.addi v2 v1
  let c6_i32 : BitVec 32 := 6#32
  let v4 : BitVec 32 := Scalar.muli v3 c6_i32
  let c5_i32 : BitVec 32 := 5#32
  let v5 : BitVec 32 := Scalar.addi v4 c5_i32
  let v6 : Index := Scalar.indexCast v5
  let v7 : BitVec 32 := pf.at 0 (Rect.unit (s := S3072) ![v6.toNat] S1.size (k0_off1_inb i 0 5)) numel1_S1
  let c0_i32_0 : BitVec 32 := 0#32
  let c0_i32_1 : BitVec 32 := 0#32
  let c0_i32_2 : BitVec 32 := 0#32
  ![v7.toNat, v1.toNat, c0_i32_0.toNat, c0_i32_1.toNat]

def cc0_transform_8 (k0_off1_inb : ∀ i : grid0.Coords, ∀ (r₁ : Fin 4) (r₂ : Fin 6), ∀ a, (k0_off1 i (BitVec.ofNat 32 r₁.val) (BitVec.ofNat 32 r₂.val)) a + S1.size a ≤ S3072.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.addi v0 c1_i32
  let c16_i32 : BitVec 32 := 16#32
  let v2 : BitVec 32 := Scalar.muli arg0 c16_i32
  let v3 : BitVec 32 := Scalar.addi v2 v1
  let c6_i32 : BitVec 32 := 6#32
  let v4 : BitVec 32 := Scalar.muli v3 c6_i32
  let c0_i32 : BitVec 32 := 0#32
  let v5 : BitVec 32 := Scalar.addi v4 c0_i32
  let v6 : Index := Scalar.indexCast v5
  let v7 : BitVec 32 := pf.at 0 (Rect.unit (s := S3072) ![v6.toNat] S1.size (k0_off1_inb i 1 0)) numel1_S1
  let c0_i32_0 : BitVec 32 := 0#32
  let c0_i32_1 : BitVec 32 := 0#32
  let c0_i32_2 : BitVec 32 := 0#32
  ![v7.toNat, v1.toNat, c0_i32_0.toNat, c0_i32_1.toNat]

def cc0_transform_9 (k0_off1_inb : ∀ i : grid0.Coords, ∀ (r₁ : Fin 4) (r₂ : Fin 6), ∀ a, (k0_off1 i (BitVec.ofNat 32 r₁.val) (BitVec.ofNat 32 r₂.val)) a + S1.size a ≤ S3072.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.addi v0 c1_i32
  let c16_i32 : BitVec 32 := 16#32
  let v2 : BitVec 32 := Scalar.muli arg0 c16_i32
  let v3 : BitVec 32 := Scalar.addi v2 v1
  let c6_i32 : BitVec 32 := 6#32
  let v4 : BitVec 32 := Scalar.muli v3 c6_i32
  let c1_i32_0 : BitVec 32 := 1#32
  let v5 : BitVec 32 := Scalar.addi v4 c1_i32_0
  let v6 : Index := Scalar.indexCast v5
  let v7 : BitVec 32 := pf.at 0 (Rect.unit (s := S3072) ![v6.toNat] S1.size (k0_off1_inb i 1 1)) numel1_S1
  let c0_i32 : BitVec 32 := 0#32
  let c0_i32_1 : BitVec 32 := 0#32
  let c0_i32_2 : BitVec 32 := 0#32
  ![v7.toNat, v1.toNat, c0_i32.toNat, c0_i32_1.toNat]

def cc0_transform_10 (k0_off1_inb : ∀ i : grid0.Coords, ∀ (r₁ : Fin 4) (r₂ : Fin 6), ∀ a, (k0_off1 i (BitVec.ofNat 32 r₁.val) (BitVec.ofNat 32 r₂.val)) a + S1.size a ≤ S3072.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.addi v0 c1_i32
  let c16_i32 : BitVec 32 := 16#32
  let v2 : BitVec 32 := Scalar.muli arg0 c16_i32
  let v3 : BitVec 32 := Scalar.addi v2 v1
  let c6_i32 : BitVec 32 := 6#32
  let v4 : BitVec 32 := Scalar.muli v3 c6_i32
  let c2_i32 : BitVec 32 := 2#32
  let v5 : BitVec 32 := Scalar.addi v4 c2_i32
  let v6 : Index := Scalar.indexCast v5
  let v7 : BitVec 32 := pf.at 0 (Rect.unit (s := S3072) ![v6.toNat] S1.size (k0_off1_inb i 1 2)) numel1_S1
  let c0_i32 : BitVec 32 := 0#32
  let c0_i32_0 : BitVec 32 := 0#32
  let c0_i32_1 : BitVec 32 := 0#32
  ![v7.toNat, v1.toNat, c0_i32.toNat, c0_i32_0.toNat]

def cc0_transform_11 (k0_off1_inb : ∀ i : grid0.Coords, ∀ (r₁ : Fin 4) (r₂ : Fin 6), ∀ a, (k0_off1 i (BitVec.ofNat 32 r₁.val) (BitVec.ofNat 32 r₂.val)) a + S1.size a ≤ S3072.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.addi v0 c1_i32
  let c16_i32 : BitVec 32 := 16#32
  let v2 : BitVec 32 := Scalar.muli arg0 c16_i32
  let v3 : BitVec 32 := Scalar.addi v2 v1
  let c6_i32 : BitVec 32 := 6#32
  let v4 : BitVec 32 := Scalar.muli v3 c6_i32
  let c3_i32 : BitVec 32 := 3#32
  let v5 : BitVec 32 := Scalar.addi v4 c3_i32
  let v6 : Index := Scalar.indexCast v5
  let v7 : BitVec 32 := pf.at 0 (Rect.unit (s := S3072) ![v6.toNat] S1.size (k0_off1_inb i 1 3)) numel1_S1
  let c0_i32 : BitVec 32 := 0#32
  let c0_i32_0 : BitVec 32 := 0#32
  let c0_i32_1 : BitVec 32 := 0#32
  ![v7.toNat, v1.toNat, c0_i32.toNat, c0_i32_0.toNat]

def cc0_transform_12 (k0_off1_inb : ∀ i : grid0.Coords, ∀ (r₁ : Fin 4) (r₂ : Fin 6), ∀ a, (k0_off1 i (BitVec.ofNat 32 r₁.val) (BitVec.ofNat 32 r₂.val)) a + S1.size a ≤ S3072.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.addi v0 c1_i32
  let c16_i32 : BitVec 32 := 16#32
  let v2 : BitVec 32 := Scalar.muli arg0 c16_i32
  let v3 : BitVec 32 := Scalar.addi v2 v1
  let c6_i32 : BitVec 32 := 6#32
  let v4 : BitVec 32 := Scalar.muli v3 c6_i32
  let c4_i32_0 : BitVec 32 := 4#32
  let v5 : BitVec 32 := Scalar.addi v4 c4_i32_0
  let v6 : Index := Scalar.indexCast v5
  let v7 : BitVec 32 := pf.at 0 (Rect.unit (s := S3072) ![v6.toNat] S1.size (k0_off1_inb i 1 4)) numel1_S1
  let c0_i32 : BitVec 32 := 0#32
  let c0_i32_1 : BitVec 32 := 0#32
  let c0_i32_2 : BitVec 32 := 0#32
  ![v7.toNat, v1.toNat, c0_i32.toNat, c0_i32_1.toNat]

def cc0_transform_13 (k0_off1_inb : ∀ i : grid0.Coords, ∀ (r₁ : Fin 4) (r₂ : Fin 6), ∀ a, (k0_off1 i (BitVec.ofNat 32 r₁.val) (BitVec.ofNat 32 r₂.val)) a + S1.size a ≤ S3072.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.addi v0 c1_i32
  let c16_i32 : BitVec 32 := 16#32
  let v2 : BitVec 32 := Scalar.muli arg0 c16_i32
  let v3 : BitVec 32 := Scalar.addi v2 v1
  let c6_i32 : BitVec 32 := 6#32
  let v4 : BitVec 32 := Scalar.muli v3 c6_i32
  let c5_i32 : BitVec 32 := 5#32
  let v5 : BitVec 32 := Scalar.addi v4 c5_i32
  let v6 : Index := Scalar.indexCast v5
  let v7 : BitVec 32 := pf.at 0 (Rect.unit (s := S3072) ![v6.toNat] S1.size (k0_off1_inb i 1 5)) numel1_S1
  let c0_i32 : BitVec 32 := 0#32
  let c0_i32_0 : BitVec 32 := 0#32
  let c0_i32_1 : BitVec 32 := 0#32
  ![v7.toNat, v1.toNat, c0_i32.toNat, c0_i32_0.toNat]

def cc0_transform_14 (k0_off1_inb : ∀ i : grid0.Coords, ∀ (r₁ : Fin 4) (r₂ : Fin 6), ∀ a, (k0_off1 i (BitVec.ofNat 32 r₁.val) (BitVec.ofNat 32 r₂.val)) a + S1.size a ≤ S3072.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c2_i32 : BitVec 32 := 2#32
  let v1 : BitVec 32 := Scalar.addi v0 c2_i32
  let c16_i32 : BitVec 32 := 16#32
  let v2 : BitVec 32 := Scalar.muli arg0 c16_i32
  let v3 : BitVec 32 := Scalar.addi v2 v1
  let c6_i32 : BitVec 32 := 6#32
  let v4 : BitVec 32 := Scalar.muli v3 c6_i32
  let c0_i32 : BitVec 32 := 0#32
  let v5 : BitVec 32 := Scalar.addi v4 c0_i32
  let v6 : Index := Scalar.indexCast v5
  let v7 : BitVec 32 := pf.at 0 (Rect.unit (s := S3072) ![v6.toNat] S1.size (k0_off1_inb i 2 0)) numel1_S1
  let c0_i32_0 : BitVec 32 := 0#32
  let c0_i32_1 : BitVec 32 := 0#32
  let c0_i32_2 : BitVec 32 := 0#32
  ![v7.toNat, v1.toNat, c0_i32_0.toNat, c0_i32_1.toNat]

def cc0_transform_15 (k0_off1_inb : ∀ i : grid0.Coords, ∀ (r₁ : Fin 4) (r₂ : Fin 6), ∀ a, (k0_off1 i (BitVec.ofNat 32 r₁.val) (BitVec.ofNat 32 r₂.val)) a + S1.size a ≤ S3072.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c2_i32 : BitVec 32 := 2#32
  let v1 : BitVec 32 := Scalar.addi v0 c2_i32
  let c16_i32 : BitVec 32 := 16#32
  let v2 : BitVec 32 := Scalar.muli arg0 c16_i32
  let v3 : BitVec 32 := Scalar.addi v2 v1
  let c6_i32 : BitVec 32 := 6#32
  let v4 : BitVec 32 := Scalar.muli v3 c6_i32
  let c1_i32 : BitVec 32 := 1#32
  let v5 : BitVec 32 := Scalar.addi v4 c1_i32
  let v6 : Index := Scalar.indexCast v5
  let v7 : BitVec 32 := pf.at 0 (Rect.unit (s := S3072) ![v6.toNat] S1.size (k0_off1_inb i 2 1)) numel1_S1
  let c0_i32 : BitVec 32 := 0#32
  let c0_i32_0 : BitVec 32 := 0#32
  let c0_i32_1 : BitVec 32 := 0#32
  ![v7.toNat, v1.toNat, c0_i32.toNat, c0_i32_0.toNat]

def cc0_transform_16 (k0_off1_inb : ∀ i : grid0.Coords, ∀ (r₁ : Fin 4) (r₂ : Fin 6), ∀ a, (k0_off1 i (BitVec.ofNat 32 r₁.val) (BitVec.ofNat 32 r₂.val)) a + S1.size a ≤ S3072.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c2_i32 : BitVec 32 := 2#32
  let v1 : BitVec 32 := Scalar.addi v0 c2_i32
  let c16_i32 : BitVec 32 := 16#32
  let v2 : BitVec 32 := Scalar.muli arg0 c16_i32
  let v3 : BitVec 32 := Scalar.addi v2 v1
  let c6_i32 : BitVec 32 := 6#32
  let v4 : BitVec 32 := Scalar.muli v3 c6_i32
  let c2_i32_0 : BitVec 32 := 2#32
  let v5 : BitVec 32 := Scalar.addi v4 c2_i32_0
  let v6 : Index := Scalar.indexCast v5
  let v7 : BitVec 32 := pf.at 0 (Rect.unit (s := S3072) ![v6.toNat] S1.size (k0_off1_inb i 2 2)) numel1_S1
  let c0_i32 : BitVec 32 := 0#32
  let c0_i32_1 : BitVec 32 := 0#32
  let c0_i32_2 : BitVec 32 := 0#32
  ![v7.toNat, v1.toNat, c0_i32.toNat, c0_i32_1.toNat]

def cc0_transform_17 (k0_off1_inb : ∀ i : grid0.Coords, ∀ (r₁ : Fin 4) (r₂ : Fin 6), ∀ a, (k0_off1 i (BitVec.ofNat 32 r₁.val) (BitVec.ofNat 32 r₂.val)) a + S1.size a ≤ S3072.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c2_i32 : BitVec 32 := 2#32
  let v1 : BitVec 32 := Scalar.addi v0 c2_i32
  let c16_i32 : BitVec 32 := 16#32
  let v2 : BitVec 32 := Scalar.muli arg0 c16_i32
  let v3 : BitVec 32 := Scalar.addi v2 v1
  let c6_i32 : BitVec 32 := 6#32
  let v4 : BitVec 32 := Scalar.muli v3 c6_i32
  let c3_i32 : BitVec 32 := 3#32
  let v5 : BitVec 32 := Scalar.addi v4 c3_i32
  let v6 : Index := Scalar.indexCast v5
  let v7 : BitVec 32 := pf.at 0 (Rect.unit (s := S3072) ![v6.toNat] S1.size (k0_off1_inb i 2 3)) numel1_S1
  let c0_i32 : BitVec 32 := 0#32
  let c0_i32_0 : BitVec 32 := 0#32
  let c0_i32_1 : BitVec 32 := 0#32
  ![v7.toNat, v1.toNat, c0_i32.toNat, c0_i32_0.toNat]

def cc0_transform_18 (k0_off1_inb : ∀ i : grid0.Coords, ∀ (r₁ : Fin 4) (r₂ : Fin 6), ∀ a, (k0_off1 i (BitVec.ofNat 32 r₁.val) (BitVec.ofNat 32 r₂.val)) a + S1.size a ≤ S3072.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c2_i32 : BitVec 32 := 2#32
  let v1 : BitVec 32 := Scalar.addi v0 c2_i32
  let c16_i32 : BitVec 32 := 16#32
  let v2 : BitVec 32 := Scalar.muli arg0 c16_i32
  let v3 : BitVec 32 := Scalar.addi v2 v1
  let c6_i32 : BitVec 32 := 6#32
  let v4 : BitVec 32 := Scalar.muli v3 c6_i32
  let c4_i32_0 : BitVec 32 := 4#32
  let v5 : BitVec 32 := Scalar.addi v4 c4_i32_0
  let v6 : Index := Scalar.indexCast v5
  let v7 : BitVec 32 := pf.at 0 (Rect.unit (s := S3072) ![v6.toNat] S1.size (k0_off1_inb i 2 4)) numel1_S1
  let c0_i32 : BitVec 32 := 0#32
  let c0_i32_1 : BitVec 32 := 0#32
  let c0_i32_2 : BitVec 32 := 0#32
  ![v7.toNat, v1.toNat, c0_i32.toNat, c0_i32_1.toNat]

def cc0_transform_19 (k0_off1_inb : ∀ i : grid0.Coords, ∀ (r₁ : Fin 4) (r₂ : Fin 6), ∀ a, (k0_off1 i (BitVec.ofNat 32 r₁.val) (BitVec.ofNat 32 r₂.val)) a + S1.size a ≤ S3072.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c2_i32 : BitVec 32 := 2#32
  let v1 : BitVec 32 := Scalar.addi v0 c2_i32
  let c16_i32 : BitVec 32 := 16#32
  let v2 : BitVec 32 := Scalar.muli arg0 c16_i32
  let v3 : BitVec 32 := Scalar.addi v2 v1
  let c6_i32 : BitVec 32 := 6#32
  let v4 : BitVec 32 := Scalar.muli v3 c6_i32
  let c5_i32 : BitVec 32 := 5#32
  let v5 : BitVec 32 := Scalar.addi v4 c5_i32
  let v6 : Index := Scalar.indexCast v5
  let v7 : BitVec 32 := pf.at 0 (Rect.unit (s := S3072) ![v6.toNat] S1.size (k0_off1_inb i 2 5)) numel1_S1
  let c0_i32 : BitVec 32 := 0#32
  let c0_i32_0 : BitVec 32 := 0#32
  let c0_i32_1 : BitVec 32 := 0#32
  ![v7.toNat, v1.toNat, c0_i32.toNat, c0_i32_0.toNat]

def cc0_transform_20 (k0_off1_inb : ∀ i : grid0.Coords, ∀ (r₁ : Fin 4) (r₂ : Fin 6), ∀ a, (k0_off1 i (BitVec.ofNat 32 r₁.val) (BitVec.ofNat 32 r₂.val)) a + S1.size a ≤ S3072.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c3_i32 : BitVec 32 := 3#32
  let v1 : BitVec 32 := Scalar.addi v0 c3_i32
  let c16_i32 : BitVec 32 := 16#32
  let v2 : BitVec 32 := Scalar.muli arg0 c16_i32
  let v3 : BitVec 32 := Scalar.addi v2 v1
  let c6_i32 : BitVec 32 := 6#32
  let v4 : BitVec 32 := Scalar.muli v3 c6_i32
  let c0_i32 : BitVec 32 := 0#32
  let v5 : BitVec 32 := Scalar.addi v4 c0_i32
  let v6 : Index := Scalar.indexCast v5
  let v7 : BitVec 32 := pf.at 0 (Rect.unit (s := S3072) ![v6.toNat] S1.size (k0_off1_inb i 3 0)) numel1_S1
  let c0_i32_0 : BitVec 32 := 0#32
  let c0_i32_1 : BitVec 32 := 0#32
  let c0_i32_2 : BitVec 32 := 0#32
  ![v7.toNat, v1.toNat, c0_i32_0.toNat, c0_i32_1.toNat]

def cc0_transform_21 (k0_off1_inb : ∀ i : grid0.Coords, ∀ (r₁ : Fin 4) (r₂ : Fin 6), ∀ a, (k0_off1 i (BitVec.ofNat 32 r₁.val) (BitVec.ofNat 32 r₂.val)) a + S1.size a ≤ S3072.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c3_i32 : BitVec 32 := 3#32
  let v1 : BitVec 32 := Scalar.addi v0 c3_i32
  let c16_i32 : BitVec 32 := 16#32
  let v2 : BitVec 32 := Scalar.muli arg0 c16_i32
  let v3 : BitVec 32 := Scalar.addi v2 v1
  let c6_i32 : BitVec 32 := 6#32
  let v4 : BitVec 32 := Scalar.muli v3 c6_i32
  let c1_i32 : BitVec 32 := 1#32
  let v5 : BitVec 32 := Scalar.addi v4 c1_i32
  let v6 : Index := Scalar.indexCast v5
  let v7 : BitVec 32 := pf.at 0 (Rect.unit (s := S3072) ![v6.toNat] S1.size (k0_off1_inb i 3 1)) numel1_S1
  let c0_i32 : BitVec 32 := 0#32
  let c0_i32_0 : BitVec 32 := 0#32
  let c0_i32_1 : BitVec 32 := 0#32
  ![v7.toNat, v1.toNat, c0_i32.toNat, c0_i32_0.toNat]

def cc0_transform_22 (k0_off1_inb : ∀ i : grid0.Coords, ∀ (r₁ : Fin 4) (r₂ : Fin 6), ∀ a, (k0_off1 i (BitVec.ofNat 32 r₁.val) (BitVec.ofNat 32 r₂.val)) a + S1.size a ≤ S3072.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c3_i32 : BitVec 32 := 3#32
  let v1 : BitVec 32 := Scalar.addi v0 c3_i32
  let c16_i32 : BitVec 32 := 16#32
  let v2 : BitVec 32 := Scalar.muli arg0 c16_i32
  let v3 : BitVec 32 := Scalar.addi v2 v1
  let c6_i32 : BitVec 32 := 6#32
  let v4 : BitVec 32 := Scalar.muli v3 c6_i32
  let c2_i32 : BitVec 32 := 2#32
  let v5 : BitVec 32 := Scalar.addi v4 c2_i32
  let v6 : Index := Scalar.indexCast v5
  let v7 : BitVec 32 := pf.at 0 (Rect.unit (s := S3072) ![v6.toNat] S1.size (k0_off1_inb i 3 2)) numel1_S1
  let c0_i32 : BitVec 32 := 0#32
  let c0_i32_0 : BitVec 32 := 0#32
  let c0_i32_1 : BitVec 32 := 0#32
  ![v7.toNat, v1.toNat, c0_i32.toNat, c0_i32_0.toNat]

def cc0_transform_23 (k0_off1_inb : ∀ i : grid0.Coords, ∀ (r₁ : Fin 4) (r₂ : Fin 6), ∀ a, (k0_off1 i (BitVec.ofNat 32 r₁.val) (BitVec.ofNat 32 r₂.val)) a + S1.size a ≤ S3072.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c3_i32 : BitVec 32 := 3#32
  let v1 : BitVec 32 := Scalar.addi v0 c3_i32
  let c16_i32 : BitVec 32 := 16#32
  let v2 : BitVec 32 := Scalar.muli arg0 c16_i32
  let v3 : BitVec 32 := Scalar.addi v2 v1
  let c6_i32 : BitVec 32 := 6#32
  let v4 : BitVec 32 := Scalar.muli v3 c6_i32
  let c3_i32_0 : BitVec 32 := 3#32
  let v5 : BitVec 32 := Scalar.addi v4 c3_i32_0
  let v6 : Index := Scalar.indexCast v5
  let v7 : BitVec 32 := pf.at 0 (Rect.unit (s := S3072) ![v6.toNat] S1.size (k0_off1_inb i 3 3)) numel1_S1
  let c0_i32 : BitVec 32 := 0#32
  let c0_i32_1 : BitVec 32 := 0#32
  let c0_i32_2 : BitVec 32 := 0#32
  ![v7.toNat, v1.toNat, c0_i32.toNat, c0_i32_1.toNat]

def cc0_transform_24 (k0_off1_inb : ∀ i : grid0.Coords, ∀ (r₁ : Fin 4) (r₂ : Fin 6), ∀ a, (k0_off1 i (BitVec.ofNat 32 r₁.val) (BitVec.ofNat 32 r₂.val)) a + S1.size a ≤ S3072.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c3_i32 : BitVec 32 := 3#32
  let v1 : BitVec 32 := Scalar.addi v0 c3_i32
  let c16_i32 : BitVec 32 := 16#32
  let v2 : BitVec 32 := Scalar.muli arg0 c16_i32
  let v3 : BitVec 32 := Scalar.addi v2 v1
  let c6_i32 : BitVec 32 := 6#32
  let v4 : BitVec 32 := Scalar.muli v3 c6_i32
  let c4_i32_0 : BitVec 32 := 4#32
  let v5 : BitVec 32 := Scalar.addi v4 c4_i32_0
  let v6 : Index := Scalar.indexCast v5
  let v7 : BitVec 32 := pf.at 0 (Rect.unit (s := S3072) ![v6.toNat] S1.size (k0_off1_inb i 3 4)) numel1_S1
  let c0_i32 : BitVec 32 := 0#32
  let c0_i32_1 : BitVec 32 := 0#32
  let c0_i32_2 : BitVec 32 := 0#32
  ![v7.toNat, v1.toNat, c0_i32.toNat, c0_i32_1.toNat]

def cc0_transform_25 (k0_off1_inb : ∀ i : grid0.Coords, ∀ (r₁ : Fin 4) (r₂ : Fin 6), ∀ a, (k0_off1 i (BitVec.ofNat 32 r₁.val) (BitVec.ofNat 32 r₂.val)) a + S1.size a ≤ S3072.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c3_i32 : BitVec 32 := 3#32
  let v1 : BitVec 32 := Scalar.addi v0 c3_i32
  let c16_i32 : BitVec 32 := 16#32
  let v2 : BitVec 32 := Scalar.muli arg0 c16_i32
  let v3 : BitVec 32 := Scalar.addi v2 v1
  let c6_i32 : BitVec 32 := 6#32
  let v4 : BitVec 32 := Scalar.muli v3 c6_i32
  let c5_i32 : BitVec 32 := 5#32
  let v5 : BitVec 32 := Scalar.addi v4 c5_i32
  let v6 : Index := Scalar.indexCast v5
  let v7 : BitVec 32 := pf.at 0 (Rect.unit (s := S3072) ![v6.toNat] S1.size (k0_off1_inb i 3 5)) numel1_S1
  let c0_i32 : BitVec 32 := 0#32
  let c0_i32_0 : BitVec 32 := 0#32
  let c0_i32_1 : BitVec 32 := 0#32
  ![v7.toNat, v1.toNat, c0_i32.toNat, c0_i32_0.toNat]

def cc0_transform_26 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_27 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x4x8x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1x128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1x128x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1x128x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1x128x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x1x128x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x1x128x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x1x128x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x1x128x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x1x128x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x1x128x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x1x128x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x1x128x128 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 2 → Memref sig .tc .vmem S1x1x128x128 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]

abbrev stage0_26 : Fin 2 → Memref sig .tc .vmem S4x3x128 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![false, true]

abbrev stage0_27 : Fin 2 → Memref sig .tc .vmem S1x4x8x64 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true, true]
-- ==== SampleRefIdeal.lean ====
abbrev S2560x128x16x2x64 : Shape := ⟨5, ![2560, 128, 16, 2, 64]⟩
abbrev S32x64 : Shape := ⟨2, ![32, 64]⟩
abbrev S32x16x3 : Shape := ⟨3, ![32, 16, 3]⟩
abbrev S32x1024 : Shape := ⟨2, ![32, 1024]⟩
abbrev S32x2048 : Shape := ⟨2, ![32, 2048]⟩
abbrev S32x16 : Shape := ⟨2, ![32, 16]⟩
abbrev S_ : Shape := ⟨0, ![]⟩
abbrev S32x64x1 : Shape := ⟨3, ![32, 64, 1]⟩
abbrev S32x64x128x16x2x64 : Shape := ⟨6, ![32, 64, 128, 16, 2, 64]⟩
abbrev S32x8192x16x2x64 : Shape := ⟨5, ![32, 8192, 16, 2, 64]⟩
abbrev S32x1x16x2x64 : Shape := ⟨5, ![32, 1, 16, 2, 64]⟩
abbrev S32x256x16x2x64 : Shape := ⟨5, ![32, 256, 16, 2, 64]⟩
abbrev S32x8449x16x2x64 : Shape := ⟨5, ![32, 8449, 16, 2, 64]⟩
abbrev S32x257x16x2x64 : Shape := ⟨5, ![32, 257, 16, 2, 64]⟩
abbrev S257 : Shape := ⟨1, ![257]⟩
abbrev S32x16x64 : Shape := ⟨3, ![32, 16, 64]⟩
abbrev S32 : Shape := ⟨1, ![32]⟩
abbrev S32x1x1x1 : Shape := ⟨4, ![32, 1, 1, 1]⟩
abbrev S16 : Shape := ⟨1, ![16]⟩
abbrev S1x16x1x1 : Shape := ⟨4, ![1, 16, 1, 1]⟩
abbrev S32x16x3x1 : Shape := ⟨4, ![32, 16, 3, 1]⟩
abbrev S256 : Shape := ⟨1, ![256]⟩
abbrev S1x1x1x256 : Shape := ⟨4, ![1, 1, 1, 256]⟩
abbrev S32x16x3x256 : Shape := ⟨4, ![32, 16, 3, 256]⟩
abbrev S32x16x3x256x1 : Shape := ⟨5, ![32, 16, 3, 256, 1]⟩
abbrev S32x16x3x256x3 : Shape := ⟨5, ![32, 16, 3, 256, 3]⟩
abbrev S32x16x3x256x2x64 : Shape := ⟨6, ![32, 16, 3, 256, 2, 64]⟩
abbrev S32x16x3x256x1x64 : Shape := ⟨6, ![32, 16, 3, 256, 1, 64]⟩
abbrev S32x16x3x256x64 : Shape := ⟨5, ![32, 16, 3, 256, 64]⟩
abbrev S16x32 : Shape := ⟨2, ![16, 32]⟩
abbrev S32x16x3x256x2 : Shape := ⟨5, ![32, 16, 3, 256, 2]⟩
abbrev S32x257x16x1x64 : Shape := ⟨5, ![32, 257, 16, 1, 64]⟩
abbrev S32x257x16x64 : Shape := ⟨4, ![32, 257, 16, 64]⟩
abbrev S32x16x257 : Shape := ⟨3, ![32, 16, 257]⟩
abbrev S257x1 : Shape := ⟨2, ![257, 1]⟩
abbrev S257x16 : Shape := ⟨2, ![257, 16]⟩
abbrev S16x257 : Shape := ⟨2, ![16, 257]⟩
abbrev S1x16x257 : Shape := ⟨3, ![1, 16, 257]⟩
abbrev S32x16x768 : Shape := ⟨3, ![32, 16, 768]⟩
abbrev S1x1x257 : Shape := ⟨3, ![1, 1, 257]⟩
abbrev S32x16x1025 : Shape := ⟨3, ![32, 16, 1025]⟩
abbrev S32x16x1 : Shape := ⟨3, ![32, 16, 1]⟩
abbrev S32x16x768x64 : Shape := ⟨4, ![32, 16, 768, 64]⟩

abbrev nBuf : Space → Nat
  | .hbm => 241
  | .vmem => 0
  | .smem => 0
  | _ => 0

abbrev hbmTy0_0 (i : Nat) : BufTy := match i % 128 with
  | 0 => ⟨S2560x128x16x2x64, .f32⟩
  | 1 => ⟨S32x64, .i32⟩
  | 2 => ⟨S32x16x3, .i32⟩
  | 3 => ⟨S32x1024, .f32⟩
  | 4 => ⟨S32x2048, .f32⟩
  | 5 => ⟨S32x16, .f32⟩
  | 6 => ⟨S_, .i32⟩
  | 7 => ⟨S32x64, .i32⟩
  | 8 => ⟨S32x64, .i1⟩
  | 9 => ⟨S_, .i32⟩
  | 10 => ⟨S32x64, .i32⟩
  | 11 => ⟨S32x64, .i32⟩
  | 12 => ⟨S32x64, .i32⟩
  | 13 => ⟨S32x64x1, .i32⟩
  | 14 => ⟨S32x64x128x16x2x64, .f32⟩
  | 15 => ⟨S32x8192x16x2x64, .f32⟩
  | 16 => ⟨S32x1x16x2x64, .f32⟩
  | 17 => ⟨S_, .f32⟩
  | 18 => ⟨S32x256x16x2x64, .f32⟩
  | 19 => ⟨S32x8449x16x2x64, .f32⟩
  | 20 => ⟨S32x257x16x2x64, .f32⟩
  | 21 => ⟨S257, .i32⟩
  | 22 => ⟨S_, .i32⟩
  | 23 => ⟨S257, .i32⟩
  | 24 => ⟨S257, .i32⟩
  | 25 => ⟨S32x16x64, .f32⟩
  | 26 => ⟨S32, .i32⟩
  | 27 => ⟨S32x1x1x1, .i32⟩
  | 28 => ⟨S16, .i32⟩
  | 29 => ⟨S1x16x1x1, .i32⟩
  | 30 => ⟨S32x16x3x1, .i32⟩
  | 31 => ⟨S_, .i32⟩
  | 32 => ⟨S32x16x3x1, .i32⟩
  | 33 => ⟨S32x16x3x1, .i32⟩
  | 34 => ⟨S256, .i32⟩
  | 35 => ⟨S1x1x1x256, .i32⟩
  | 36 => ⟨S32x16x3x256, .i32⟩
  | 37 => ⟨S32x16x3x256, .i32⟩
  | 38 => ⟨S32x16x3x256, .i32⟩
  | 39 => ⟨S_, .i32⟩
  | 40 => ⟨S32x1x1x1, .i32⟩
  | 41 => ⟨S32x1x1x1, .i1⟩
  | 42 => ⟨S_, .i32⟩
  | 43 => ⟨S32x1x1x1, .i32⟩
  | 44 => ⟨S32x1x1x1, .i32⟩
  | 45 => ⟨S32x1x1x1, .i32⟩
  | 46 => ⟨S_, .i32⟩
  | 47 => ⟨S32x16x3x256, .i32⟩
  | 48 => ⟨S32x16x3x256, .i1⟩
  | 49 => ⟨S_, .i32⟩
  | 50 => ⟨S32x16x3x256, .i32⟩
  | 51 => ⟨S32x16x3x256, .i32⟩
  | 52 => ⟨S32x16x3x256, .i32⟩
  | 53 => ⟨S_, .i32⟩
  | 54 => ⟨S1x16x1x1, .i32⟩
  | 55 => ⟨S1x16x1x1, .i1⟩
  | 56 => ⟨S_, .i32⟩
  | 57 => ⟨S1x16x1x1, .i32⟩
  | 58 => ⟨S1x16x1x1, .i32⟩
  | 59 => ⟨S1x16x1x1, .i32⟩
  | 60 => ⟨S32x16x3x256, .i32⟩
  | 61 => ⟨S32x16x3x256, .i32⟩
  | 62 => ⟨S32x16x3x256x1, .i32⟩
  | 63 => ⟨S32x16x3x256x1, .i32⟩
  | 64 => ⟨S32x16x3x256x1, .i32⟩
  | 65 => ⟨S32x16x3x256x3, .i32⟩
  | 66 => ⟨S32x16x3x256x2x64, .f32⟩
  | 67 => ⟨S32x16x3x256x1x64, .f32⟩
  | 68 => ⟨S32x16x3x256x64, .f32⟩
  | 69 => ⟨S32x16x3x256, .f32⟩
  | 70 => ⟨S_, .f32⟩
  | 71 => ⟨S32x16x3x256, .f32⟩
  | 72 => ⟨S32x16x3x256, .f32⟩
  | 73 => ⟨S16x32, .f32⟩
  | 74 => ⟨S_, .i32⟩
  | 75 => ⟨S32x16x3x256, .i32⟩
  | 76 => ⟨S32x16x3x256, .i32⟩
  | 77 => ⟨S_, .i32⟩
  | 78 => ⟨S32x16x3x256, .i32⟩
  | 79 => ⟨S32x16x3x256, .i32⟩
  | 80 => ⟨S_, .i32⟩
  | 81 => ⟨S32x16x3x256, .i32⟩
  | 82 => ⟨S32x16x3x256, .i32⟩
  | 83 => ⟨S32x16x3x256, .f32⟩
  | 84 => ⟨S_, .f32⟩
  | 85 => ⟨S32x16x3x256, .f32⟩
  | 86 => ⟨S32x16x3x256, .f32⟩
  | 87 => ⟨S32x16x3x256, .f32⟩
  | 88 => ⟨S_, .f32⟩
  | 89 => ⟨S32x16x3x256, .f32⟩
  | 90 => ⟨S32x16x3x256, .f32⟩
  | 91 => ⟨S_, .f32⟩
  | 92 => ⟨S32x16x3x256, .f32⟩
  | 93 => ⟨S32x16x3x256, .f32⟩
  | 94 => ⟨S32x16x3x256, .i32⟩
  | 95 => ⟨S_, .i32⟩
  | 96 => ⟨S32x16x3x256, .i32⟩
  | 97 => ⟨S32x16x3x256, .i32⟩
  | 98 => ⟨S_, .i32⟩
  | 99 => ⟨S32x16x3x256, .i32⟩
  | 100 => ⟨S32x16x3x256, .i32⟩
  | 101 => ⟨S_, .i32⟩
  | 102 => ⟨S32x16x3x256, .i32⟩
  | 103 => ⟨S32x16x3x256, .i1⟩
  | 104 => ⟨S32x16x3x256, .i32⟩
  | 105 => ⟨S_, .i32⟩
  | 106 => ⟨S1x16x1x1, .i32⟩
  | 107 => ⟨S1x16x1x1, .i1⟩
  | 108 => ⟨S_, .i32⟩
  | 109 => ⟨S1x16x1x1, .i32⟩
  | 110 => ⟨S1x16x1x1, .i32⟩
  | 111 => ⟨S1x16x1x1, .i32⟩
  | 112 => ⟨S_, .i32⟩
  | 113 => ⟨S32x16x3x256, .i32⟩
  | 114 => ⟨S32x16x3x256, .i1⟩
  | 115 => ⟨S_, .i32⟩
  | 116 => ⟨S32x16x3x256, .i32⟩
  | 117 => ⟨S32x16x3x256, .i32⟩
  | 118 => ⟨S32x16x3x256, .i32⟩
  | 119 => ⟨S32x16x3x256, .i32⟩
  | 120 => ⟨S32x16x3x256x1, .i32⟩
  | 121 => ⟨S32x16x3x256x1, .i32⟩
  | 122 => ⟨S32x16x3x256x2, .i32⟩
  | 123 => ⟨S32x16x3x256, .f32⟩
  | 124 => ⟨S32x16x3x256, .f32⟩
  | 125 => ⟨S32x257x16x1x64, .f32⟩
  | 126 => ⟨S32x257x16x64, .f32⟩
  | 127 => ⟨S32x16x257, .f32⟩
  | _ => ⟨S2560x128x16x2x64, .f32⟩

abbrev hbmTy0_1 (i : Nat) : BufTy := match i % 128 with
  | 0 => ⟨S_, .f32⟩
  | 1 => ⟨S32x16x257, .f32⟩
  | 2 => ⟨S32x16x257, .f32⟩
  | 3 => ⟨S_, .i32⟩
  | 4 => ⟨S257, .i32⟩
  | 5 => ⟨S257, .i32⟩
  | 6 => ⟨S_, .i32⟩
  | 7 => ⟨S257, .i32⟩
  | 8 => ⟨S257, .i32⟩
  | 9 => ⟨S_, .i32⟩
  | 10 => ⟨S257, .i32⟩
  | 11 => ⟨S257, .i32⟩
  | 12 => ⟨S257, .f32⟩
  | 13 => ⟨S_, .f32⟩
  | 14 => ⟨S257, .f32⟩
  | 15 => ⟨S257, .f32⟩
  | 16 => ⟨S257, .f32⟩
  | 17 => ⟨S_, .f32⟩
  | 18 => ⟨S257, .f32⟩
  | 19 => ⟨S257, .f32⟩
  | 20 => ⟨S_, .f32⟩
  | 21 => ⟨S257, .f32⟩
  | 22 => ⟨S257, .f32⟩
  | 23 => ⟨S257, .i32⟩
  | 24 => ⟨S_, .i32⟩
  | 25 => ⟨S257, .i32⟩
  | 26 => ⟨S257, .i32⟩
  | 27 => ⟨S_, .i32⟩
  | 28 => ⟨S257, .i32⟩
  | 29 => ⟨S257, .i32⟩
  | 30 => ⟨S_, .i32⟩
  | 31 => ⟨S257, .i32⟩
  | 32 => ⟨S257, .i1⟩
  | 33 => ⟨S257, .i32⟩
  | 34 => ⟨S_, .i32⟩
  | 35 => ⟨S257, .i32⟩
  | 36 => ⟨S257, .i1⟩
  | 37 => ⟨S_, .i32⟩
  | 38 => ⟨S257, .i32⟩
  | 39 => ⟨S257, .i32⟩
  | 40 => ⟨S257, .i32⟩
  | 41 => ⟨S257x1, .i32⟩
  | 42 => ⟨S257x16, .f32⟩
  | 43 => ⟨S16x257, .f32⟩
  | 44 => ⟨S1x16x257, .f32⟩
  | 45 => ⟨S32x16x257, .f32⟩
  | 46 => ⟨S32x16x257, .f32⟩
  | 47 => ⟨S_, .i32⟩
  | 48 => ⟨S_, .i32⟩
  | 49 => ⟨S257, .i32⟩
  | 50 => ⟨S257, .i32⟩
  | 51 => ⟨S257, .i32⟩
  | 52 => ⟨S_, .i32⟩
  | 53 => ⟨S257, .i32⟩
  | 54 => ⟨S257, .i1⟩
  | 55 => ⟨S257, .i32⟩
  | 56 => ⟨S257, .i32⟩
  | 57 => ⟨S_, .i32⟩
  | 58 => ⟨S257, .i32⟩
  | 59 => ⟨S257, .i1⟩
  | 60 => ⟨S257, .i1⟩
  | 61 => ⟨S_, .i32⟩
  | 62 => ⟨S257, .i32⟩
  | 63 => ⟨S257, .i32⟩
  | 64 => ⟨S257, .i32⟩
  | 65 => ⟨S_, .i32⟩
  | 66 => ⟨S257, .i32⟩
  | 67 => ⟨S257, .i1⟩
  | 68 => ⟨S_, .i32⟩
  | 69 => ⟨S257, .i32⟩
  | 70 => ⟨S257, .i1⟩
  | 71 => ⟨S257, .i1⟩
  | 72 => ⟨S32x16x768, .f32⟩
  | 73 => ⟨S1x1x257, .i1⟩
  | 74 => ⟨S_, .f32⟩
  | 75 => ⟨S_, .f32⟩
  | 76 => ⟨S32x16x257, .i1⟩
  | 77 => ⟨S32x16x257, .f32⟩
  | 78 => ⟨S32x16x257, .f32⟩
  | 79 => ⟨S32x16x1025, .f32⟩
  | 80 => ⟨S_, .f32⟩
  | 81 => ⟨S32x16, .f32⟩
  | 82 => ⟨S32x16x1, .f32⟩
  | 83 => ⟨S32x16x1, .f32⟩
  | 84 => ⟨S_, .f32⟩
  | 85 => ⟨S32x16x1, .f32⟩
  | 86 => ⟨S32x16x1, .i1⟩
  | 87 => ⟨S_, .f32⟩
  | 88 => ⟨S_, .f32⟩
  | 89 => ⟨S32x16x1, .f32⟩
  | 90 => ⟨S32x16x1, .f32⟩
  | 91 => ⟨S32x16x1025, .f32⟩
  | 92 => ⟨S32x16x1025, .f32⟩
  | 93 => ⟨S32x16x1025, .f32⟩
  | 94 => ⟨S_, .f32⟩
  | 95 => ⟨S32x16, .f32⟩
  | 96 => ⟨S32x16x1, .f32⟩
  | 97 => ⟨S_, .f32⟩
  | 98 => ⟨S32x16x1, .f32⟩
  | 99 => ⟨S32x16x1, .f32⟩
  | 100 => ⟨S32x16x1025, .f32⟩
  | 101 => ⟨S32x16x1025, .f32⟩
  | 102 => ⟨S32x16x768, .f32⟩
  | 103 => ⟨S32x16x3x256x1x64, .f32⟩
  | 104 => ⟨S32x16x3x256x64, .f32⟩
  | 105 => ⟨S32x16x768x64, .f32⟩
  | 106 => ⟨S32x16x64, .f32⟩
  | 107 => ⟨S32x16x257, .f32⟩
  | 108 => ⟨S32x257x16x1x64, .f32⟩
  | 109 => ⟨S32x257x16x64, .f32⟩
  | 110 => ⟨S32x16x64, .f32⟩
  | 111 => ⟨S32x16x64, .f32⟩
  | 112 => ⟨S32x1024, .f32⟩
  | _ => ⟨S2560x128x16x2x64, .f32⟩

abbrev hbmTy (i : Nat) : BufTy := match i / 128 with
  | 0 => hbmTy0_0 i
  | 1 => hbmTy0_1 i
  | _ => ⟨S2560x128x16x2x64, .f32⟩

abbrev bufTy : (tb : Table) → Fin (tcTables nBuf tb) → BufTy
  | .hbm, ⟨i, _⟩ => hbmTy i
  | _, _ => ⟨S2560x128x16x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_3 : Ref sig .tc := ⟨.hbm, 39, rfl⟩
abbrev main_v28 : Ref sig .tc := ⟨.hbm, 40, rfl⟩
abbrev main_v29 : Ref sig .tc := ⟨.hbm, 41, rfl⟩
abbrev main_c_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c_5 : Ref sig .tc := ⟨.hbm, 46, rfl⟩
abbrev main_v33 : Ref sig .tc := ⟨.hbm, 47, rfl⟩
abbrev main_v34 : Ref sig .tc := ⟨.hbm, 48, rfl⟩
abbrev main_c_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_c_7 : Ref sig .tc := ⟨.hbm, 53, rfl⟩
abbrev main_v38 : Ref sig .tc := ⟨.hbm, 54, rfl⟩
abbrev main_v39 : Ref sig .tc := ⟨.hbm, 55, rfl⟩
abbrev main_c_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_9 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_c_10 : Ref sig .tc := ⟨.hbm, 74, rfl⟩
abbrev main_v56 : Ref sig .tc := ⟨.hbm, 75, rfl⟩
abbrev main_v57 : Ref sig .tc := ⟨.hbm, 76, rfl⟩
abbrev main_c_11 : Ref sig .tc := ⟨.hbm, 77, rfl⟩
abbrev main_v58 : Ref sig .tc := ⟨.hbm, 78, rfl⟩
abbrev main_v59 : Ref sig .tc := ⟨.hbm, 79, rfl⟩
abbrev main_c_12 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_13 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_14 : Ref sig .tc := ⟨.hbm, 88, rfl⟩
abbrev main_v66 : Ref sig .tc := ⟨.hbm, 89, rfl⟩
abbrev main_v67 : Ref sig .tc := ⟨.hbm, 90, rfl⟩
abbrev main_cst_15 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_c_16 : Ref sig .tc := ⟨.hbm, 95, rfl⟩
abbrev main_v71 : Ref sig .tc := ⟨.hbm, 96, rfl⟩
abbrev main_v72 : Ref sig .tc := ⟨.hbm, 97, rfl⟩
abbrev main_c_17 : Ref sig .tc := ⟨.hbm, 98, rfl⟩
abbrev main_v73 : Ref sig .tc := ⟨.hbm, 99, rfl⟩
abbrev main_v74 : Ref sig .tc := ⟨.hbm, 100, rfl⟩
abbrev main_c_18 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_c_19 : Ref sig .tc := ⟨.hbm, 105, rfl⟩
abbrev main_v78 : Ref sig .tc := ⟨.hbm, 106, rfl⟩
abbrev main_v79 : Ref sig .tc := ⟨.hbm, 107, rfl⟩
abbrev main_c_20 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_c_21 : Ref sig .tc := ⟨.hbm, 112, rfl⟩
abbrev main_v83 : Ref sig .tc := ⟨.hbm, 113, rfl⟩
abbrev main_v84 : Ref sig .tc := ⟨.hbm, 114, rfl⟩
abbrev main_c_22 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_cst_23 : Ref sig .tc := ⟨.hbm, 128, rfl⟩
abbrev main_v97 : Ref sig .tc := ⟨.hbm, 129, rfl⟩
abbrev main_v98 : Ref sig .tc := ⟨.hbm, 130, rfl⟩
abbrev main_c_24 : Ref sig .tc := ⟨.hbm, 131, rfl⟩
abbrev main_v99 : Ref sig .tc := ⟨.hbm, 132, rfl⟩
abbrev main_v100 : Ref sig .tc := ⟨.hbm, 133, rfl⟩
abbrev main_c_25 : Ref sig .tc := ⟨.hbm, 134, rfl⟩
abbrev main_v101 : Ref sig .tc := ⟨.hbm, 135, rfl⟩
abbrev main_v102 : Ref sig .tc := ⟨.hbm, 136, rfl⟩
abbrev main_c_26 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_cst_27 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_cst_28 : Ref sig .tc := ⟨.hbm, 145, rfl⟩
abbrev main_v109 : Ref sig .tc := ⟨.hbm, 146, rfl⟩
abbrev main_v110 : Ref sig .tc := ⟨.hbm, 147, rfl⟩
abbrev main_cst_29 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_c_30 : Ref sig .tc := ⟨.hbm, 152, rfl⟩
abbrev main_v114 : Ref sig .tc := ⟨.hbm, 153, rfl⟩
abbrev main_v115 : Ref sig .tc := ⟨.hbm, 154, rfl⟩
abbrev main_c_31 : Ref sig .tc := ⟨.hbm, 155, rfl⟩
abbrev main_v116 : Ref sig .tc := ⟨.hbm, 156, rfl⟩
abbrev main_v117 : Ref sig .tc := ⟨.hbm, 157, rfl⟩
abbrev main_c_32 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_c_33 : Ref sig .tc := ⟨.hbm, 162, rfl⟩
abbrev main_v121 : Ref sig .tc := ⟨.hbm, 163, rfl⟩
abbrev main_v122 : Ref sig .tc := ⟨.hbm, 164, rfl⟩
abbrev main_c_34 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_c_35 : Ref sig .tc := ⟨.hbm, 175, rfl⟩
abbrev main_call2_v0 : Ref sig .tc := ⟨.hbm, 176, rfl⟩
abbrev main_call2_v1 : Ref sig .tc := ⟨.hbm, 177, rfl⟩
abbrev main_call2_v2 : Ref sig .tc := ⟨.hbm, 178, rfl⟩
abbrev main_call2_v3 : Ref sig .tc := ⟨.hbm, 179, rfl⟩
abbrev main_call2_v4 : Ref sig .tc := ⟨.hbm, 180, rfl⟩
abbrev main_call2_v5 : Ref sig .tc := ⟨.hbm, 181, rfl⟩
abbrev main_call2_v6 : Ref sig .tc := ⟨.hbm, 182, rfl⟩
abbrev main_call2_v7 : Ref sig .tc := ⟨.hbm, 183, rfl⟩
abbrev main_call2_v8 : Ref sig .tc := ⟨.hbm, 184, rfl⟩
abbrev main_call2_c : Ref sig .tc := ⟨.hbm, 185, rfl⟩
abbrev main_call2_v9 : Ref sig .tc := ⟨.hbm, 186, rfl⟩
abbrev main_call2_v10 : Ref sig .tc := ⟨.hbm, 187, rfl⟩
abbrev main_call2_v11 : Ref sig .tc := ⟨.hbm, 188, rfl⟩
abbrev main_call2_c_0 : Ref sig .tc := ⟨.hbm, 189, rfl⟩
abbrev main_call2_v12 : Ref sig .tc := ⟨.hbm, 190, rfl⟩
abbrev main_call2_v13 : Ref sig .tc := ⟨.hbm, 191, rfl⟩
abbrev main_v132 : Ref sig .tc := ⟨.hbm, 192, rfl⟩
abbrev main_c_36 : Ref sig .tc := ⟨.hbm, 193, rfl⟩
abbrev main_v133 : Ref sig .tc := ⟨.hbm, 194, rfl⟩
abbrev main_v134 : Ref sig .tc := ⟨.hbm, 195, rfl⟩
abbrev main_c_37 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_cst_38 : Ref sig .tc := ⟨.hbm, 202, rfl⟩
abbrev main_call3_v0 : Ref sig .tc := ⟨.hbm, 203, rfl⟩
abbrev main_call3_v1 : Ref sig .tc := ⟨.hbm, 204, rfl⟩
abbrev main_call3_v2 : Ref sig .tc := ⟨.hbm, 205, rfl⟩
abbrev main_v140 : Ref sig .tc := ⟨.hbm, 206, rfl⟩
abbrev main_v141 : Ref sig .tc := ⟨.hbm, 207, rfl⟩
abbrev main_cst_39 : Ref sig .tc := ⟨.hbm, 208, rfl⟩
abbrev main_v142 : Ref sig .tc := ⟨.hbm, 209, rfl⟩
abbrev main_v143 : Ref sig .tc := ⟨.hbm, 210, rfl⟩
abbrev main_v144 : Ref sig .tc := ⟨.hbm, 211, rfl⟩
abbrev main_cst_40 : Ref sig .tc := ⟨.hbm, 212, rfl⟩
abbrev main_v145 : Ref sig .tc := ⟨.hbm, 213, rfl⟩
abbrev main_v146 : Ref sig .tc := ⟨.hbm, 214, rfl⟩
abbrev main_cst_41 : Ref sig .tc := ⟨.hbm, 215, rfl⟩
abbrev main_call4_v0 : Ref sig .tc := ⟨.hbm, 216, rfl⟩
abbrev main_call4_v1 : Ref sig .tc := ⟨.hbm, 217, rfl⟩
abbrev main_v147 : Ref sig .tc := ⟨.hbm, 218, rfl⟩
abbrev main_v148 : Ref sig .tc := ⟨.hbm, 219, rfl⟩
abbrev main_v149 : Ref sig .tc := ⟨.hbm, 220, rfl⟩
abbrev main_v150 : Ref sig .tc := ⟨.hbm, 221, rfl⟩
abbrev main_cst_42 : Ref sig .tc := ⟨.hbm, 222, rfl⟩
abbrev main_v151 : Ref sig .tc := ⟨.hbm, 223, rfl⟩
abbrev main_v152 : Ref sig .tc := ⟨.hbm, 224, rfl⟩
abbrev main_cst_43 : Ref sig .tc := ⟨.hbm, 225, rfl⟩
abbrev main_v153 : Ref sig .tc := ⟨.hbm, 226, rfl⟩
abbrev main_v154 : Ref sig .tc := ⟨.hbm, 227, rfl⟩
abbrev main_v155 : Ref sig .tc := ⟨.hbm, 228, rfl⟩
abbrev main_v156 : Ref sig .tc := ⟨.hbm, 229, rfl⟩
abbrev main_v157 : Ref sig .tc := ⟨.hbm, 230, rfl⟩
abbrev main_v158 : Ref sig .tc := ⟨.hbm, 231, rfl⟩
abbrev main_v159 : Ref sig .tc := ⟨.hbm, 232, rfl⟩
abbrev main_v160 : Ref sig .tc := ⟨.hbm, 233, rfl⟩
abbrev main_v161 : Ref sig .tc := ⟨.hbm, 234, rfl⟩
abbrev main_v162 : Ref sig .tc := ⟨.hbm, 235, rfl⟩
abbrev main_v163 : Ref sig .tc := ⟨.hbm, 236, rfl⟩
abbrev main_v164 : Ref sig .tc := ⟨.hbm, 237, rfl⟩
abbrev main_v165 : Ref sig .tc := ⟨.hbm, 238, rfl⟩
abbrev main_v166 : Ref sig .tc := ⟨.hbm, 239, rfl⟩
abbrev main_v167 : Ref sig .tc := ⟨.hbm, 240, rfl⟩

abbrev nD : Nat := 1
abbrev τ : Topo := Topo.v7x

variable {F : FTy → Type} [FloatOps F]
-- ==== Mlp.lean ====
abbrev S16384x1024 : Shape := ⟨2, ![16384, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S1024x1 : Shape := ⟨2, ![1024, 1]⟩

abbrev nBuf : Space → Nat
  | .hbm => 12
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S16384x1024, .bf16⟩
  | .hbm, ⟨7, _⟩ => ⟨S1024x1024, .bf16⟩
  | .hbm, ⟨8, _⟩ => ⟨S1x1024, .f32⟩
  | .hbm, ⟨9, _⟩ => ⟨S1024x4096, .bf16⟩
  | .hbm, ⟨10, _⟩ => ⟨S4096x1024, .bf16⟩
  | .hbm, ⟨11, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== MlpRefIdeal.lean ====
abbrev S16384x1024 : Shape := ⟨2, ![16384, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4096 : Shape := ⟨2, ![16384, 4096]⟩

abbrev nBuf : Space → Nat
  | .hbm => 31
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S1x1024, .f32⟩
  | .hbm, ⟨22, _⟩ => ⟨S16384x1024, .f32⟩
  | .hbm, ⟨23, _⟩ => ⟨S16384x1024, .f32⟩
  | .hbm, ⟨24, _⟩ => ⟨S16384x4096, .f32⟩
  | .hbm, ⟨25, _⟩ => ⟨S_, .f32⟩
  | .hbm, ⟨26, _⟩ => ⟨S16384x4096, .f32⟩
  | .hbm, ⟨27, _⟩ => ⟨S16384x4096, .f32⟩
  | .hbm, ⟨28, _⟩ => ⟨S16384x4096, .f32⟩
  | .hbm, ⟨29, _⟩ => ⟨S16384x1024, .f32⟩
  | .hbm, ⟨30, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_cst : Ref sig .tc := ⟨.hbm, 25, rfl⟩
abbrev main_call0_v0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== Proj.lean ====
abbrev S4x4096x1024 : Shape := ⟨3, ![4, 4096, 1024]⟩
abbrev S1024 : Shape := ⟨1, ![1024]⟩
abbrev S1024x3072 : Shape := ⟨2, ![1024, 3072]⟩
abbrev S64 : Shape := ⟨1, ![64]⟩
abbrev S16384x1024 : Shape := ⟨2, ![16384, 1024]⟩
abbrev S256x256 : Shape := ⟨2, ![256, 256]⟩
abbrev S_ : Shape := ⟨0, ![]⟩
abbrev S1024x3x16x64 : Shape := ⟨4, ![1024, 3, 16, 64]⟩
abbrev S1024x1x16x64 : Shape := ⟨4, ![1024, 1, 16, 64]⟩
abbrev S1024x16x64 : Shape := ⟨3, ![1024, 16, 64]⟩
abbrev S1024x16x1x64 : Shape := ⟨4, ![1024, 16, 1, 64]⟩
abbrev S1024x16x2x64 : Shape := ⟨4, ![1024, 16, 2, 64]⟩
abbrev S1024x2048 : Shape := ⟨2, ![1024, 2048]⟩
abbrev S1024x1024 : Shape := ⟨2, ![1024, 1024]⟩
abbrev S1x64 : Shape := ⟨2, ![1, 64]⟩
abbrev S16x64 : Shape := ⟨2, ![16, 64]⟩
abbrev S1x1024 : Shape := ⟨2, ![1, 1024]⟩
abbrev S128 : Shape := ⟨1, ![128]⟩
abbrev S1x128 : Shape := ⟨2, ![1, 128]⟩
abbrev S16x128 : Shape := ⟨2, ![16, 128]⟩
abbrev S2048 : Shape := ⟨1, ![2048]⟩
abbrev S1x2048 : Shape := ⟨2, ![1, 2048]⟩
abbrev S4x1024x4096 : Shape := ⟨3, ![4, 1024, 4096]⟩
abbrev S4x2048x4096 : Shape := ⟨3, ![4, 2048, 4096]⟩
abbrev S16384x2048 : Shape := ⟨2, ![16384, 2048]⟩
abbrev S32x2x2048 : Shape := ⟨3, ![32, 2, 2048]⟩
abbrev S512x1024 : Shape := ⟨2, ![512, 1024]⟩
abbrev S1x1024x512 : Shape := ⟨3, ![1, 1024, 512]⟩
abbrev S1x2048x512 : Shape := ⟨3, ![1, 2048, 512]⟩
abbrev S512x2048 : Shape := ⟨2, ![512, 2048]⟩
abbrev S1x2x2048 : Shape := ⟨3, ![1, 2, 2048]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S1x256 : Shape := ⟨2, ![1, 256]⟩
abbrev S256x512 : Shape := ⟨2, ![256, 512]⟩
abbrev S1x256x512 : Shape := ⟨3, ![1, 256, 512]⟩
abbrev S256 : Shape := ⟨1, ![256]⟩
abbrev S1x1x256 : Shape := ⟨3, ![1, 1, 256]⟩

abbrev nBuf : Space → Nat
  | .hbm => 72
  | .vmem => 19
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x3072, .f32⟩
  | .hbm, ⟨3, _⟩ => ⟨S64, .f32⟩
  | .hbm, ⟨4, _⟩ => ⟨S64, .f32⟩
  | .hbm, ⟨5, _⟩ => ⟨S16384x1024, .f32⟩
  | .hbm, ⟨6, _⟩ => ⟨S256x256, .i32⟩
  | .hbm, ⟨7, _⟩ => ⟨S256x256, .i32⟩
  | .hbm, ⟨8, _⟩ => ⟨S_, .i32⟩
  | .hbm, ⟨9, _⟩ => ⟨S256x256, .i32⟩
  | .hbm, ⟨10, _⟩ => ⟨S256x256, .i32⟩
  | .hbm, ⟨11, _⟩ => ⟨S_, .i32⟩
  | .hbm, ⟨12, _⟩ => ⟨S256x256, .i32⟩
  | .hbm, ⟨13, _⟩ => ⟨S256x256, .i32⟩
  | .hbm, ⟨14, _⟩ => ⟨S256x256, .i1⟩
  | .hbm, ⟨15, _⟩ => ⟨S_, .i32⟩
  | .hbm, ⟨16, _⟩ => ⟨S256x256, .i32⟩
  | .hbm, ⟨17, _⟩ => ⟨S256x256, .i32⟩
  | .hbm, ⟨18, _⟩ => ⟨S_, .i32⟩
  | .hbm, ⟨19, _⟩ => ⟨S256x256, .i32⟩
  | .hbm, ⟨20, _⟩ => ⟨S256x256, .i32⟩
  | .hbm, ⟨21, _⟩ => ⟨S256x256, .i1⟩
  | .hbm, ⟨22, _⟩ => ⟨S_, .i32⟩
  | .hbm, ⟨23, _⟩ => ⟨S256x256, .i32⟩
  | .hbm, ⟨24, _⟩ => ⟨S256x256, .i32⟩
  | .hbm, ⟨25, _⟩ => ⟨S_, .i32⟩
  | .hbm, ⟨26, _⟩ => ⟨S256x256, .i32⟩
  | .hbm, ⟨27, _⟩ => ⟨S256x256, .i1⟩
  | .hbm, ⟨28, _⟩ => ⟨S256x256, .i1⟩
  | .hbm, ⟨29, _⟩ => ⟨S_, .f32⟩
  | .hbm, ⟨30, _⟩ => ⟨S_, .f32⟩
  | .hbm, ⟨31, _⟩ => ⟨S256x256, .f32⟩
  | .hbm, ⟨32, _⟩ => ⟨S256x256, .f32⟩
  | .hbm, ⟨33, _⟩ => ⟨S256x256, .f32⟩
  | .hbm, ⟨34, _⟩ => ⟨S256x256, .bf16⟩
  | .hbm, ⟨35, _⟩ => ⟨S_, .f32⟩
  | .hbm, ⟨36, _⟩ => ⟨S_, .f32⟩
  | .hbm, ⟨37, _⟩ => ⟨S256x256, .f32⟩
  | .hbm, ⟨38, _⟩ => ⟨S256x256, .f32⟩
  | .hbm, ⟨39, _⟩ => ⟨S256x256, .f32⟩
  | .hbm, ⟨40, _⟩ => ⟨S256x256, .bf16⟩
  | .hbm, ⟨41, _⟩ => ⟨S1024x3x16x64, .f32⟩
  | .hbm, ⟨42, _⟩ => ⟨S1024x1x16x64, .f32⟩
  | .hbm, ⟨43, _⟩ => ⟨S1024x16x64, .f32⟩
  | .hbm, ⟨44, _⟩ => ⟨S1024x1x16x64, .f32⟩
  | .hbm, ⟨45, _⟩ => ⟨S1024x16x64, .f32⟩
  | .hbm, ⟨46, _⟩ => ⟨S1024x16x1x64, .f32⟩
  | .hbm, ⟨47, _⟩ => ⟨S1024x16x1x64, .f32⟩
  | .hbm, ⟨48, _⟩ => ⟨S1024x16x2x64, .f32⟩
  | .hbm, ⟨49, _⟩ => ⟨S1024x2048, .f32⟩
  | .hbm, ⟨50, _⟩ => ⟨S1024x2048, .bf16⟩
  | .hbm, ⟨51, _⟩ => ⟨S1024x1x16x64, .f32⟩
  | .hbm, ⟨52, _⟩ => ⟨S1024x16x64, .f32⟩
  | .hbm, ⟨53, _⟩ => ⟨S1024x1024, .f32⟩
  | .hbm, ⟨54, _⟩ => ⟨S1024x1024, .bf16⟩
  | .hbm, ⟨55, _⟩ => ⟨S1x64, .f32⟩
  | .hbm, ⟨56, _⟩ => ⟨S16x64, .f32⟩
  | .hbm, ⟨57, _⟩ => ⟨S1024, .f32⟩
  | .hbm, ⟨58, _⟩ => ⟨S1x1024, .f32⟩
  | .hbm, ⟨59, _⟩ => ⟨S_, .f32⟩
  | .hbm, ⟨60, _⟩ => ⟨S64, .f32⟩
  | .hbm, ⟨61, _⟩ => ⟨S128, .f32⟩
  | .hbm, ⟨62, _⟩ => ⟨S1x128, .f32⟩
  | .hbm, ⟨63, _⟩ => ⟨S16x128, .f32⟩
  | .hbm, ⟨64, _⟩ => ⟨S2048, .f32⟩
  | .hbm, ⟨65, _⟩ => ⟨S1x2048, .f32⟩
  | .hbm, ⟨66, _⟩ => ⟨S1x1024, .f32⟩
  | .hbm, ⟨67, _⟩ => ⟨S4x1024x4096, .bf16⟩
  | .hbm, ⟨68, _⟩ => ⟨S4x2048x4096, .f32⟩
  | .hbm, ⟨69, _⟩ => ⟨S16384x2048, .bf16⟩
  | .hbm, ⟨70, _⟩ => ⟨S32x2x2048, .f32⟩
  | .hbm, ⟨71, _⟩ => ⟨S4x2048x4096, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S1024x2048, .bf16⟩
  | .local _ .vmem, ⟨5, _⟩ => ⟨S1x1024, .f32⟩
  | .local _ .vmem, ⟨6, _⟩ => ⟨S1x2048, .f32⟩
  | .local _ .vmem, ⟨7, _⟩ => ⟨S256x256, .bf16⟩
  | .local _ .vmem, ⟨8, _⟩ => ⟨S256x256, .bf16⟩
  | .local _ .vmem, ⟨9, _⟩ => ⟨S1x1024x512, .bf16⟩
  | .local _ .vmem, ⟨10, _⟩ => ⟨S1x1024x512, .bf16⟩
  | .local _ .vmem, ⟨11, _⟩ => ⟨S1x2048x512, .f32⟩
  | .local _ .vmem, ⟨12, _⟩ => ⟨S1x2048x512, .f32⟩
  | .local _ .vmem, ⟨13, _⟩ => ⟨S512x2048, .bf16⟩
  | .local _ .vmem, ⟨14, _⟩ => ⟨S512x2048, .bf16⟩
  | .local _ .vmem, ⟨15, _⟩ => ⟨S1x2x2048, .f32⟩
  | .local _ .vmem, ⟨16, _⟩ => ⟨S1x2x2048, .f32⟩
  | .local _ .vmem, ⟨17, _⟩ => ⟨S1x2048x512, .bf16⟩
  | .local _ .vmem, ⟨18, _⟩ => ⟨S1x2048x512, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_3 : Ref sig .tc := ⟨.hbm, 22, rfl⟩
abbrev main_v13 : Ref sig .tc := ⟨.hbm, 23, rfl⟩
abbrev main_v14 : Ref sig .tc := ⟨.hbm, 24, rfl⟩
abbrev main_c_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst : Ref sig .tc := ⟨.hbm, 29, rfl⟩
abbrev main_cst_5 : Ref sig .tc := ⟨.hbm, 30, rfl⟩
abbrev main_call0_v0 : Ref sig .tc := ⟨.hbm, 31, rfl⟩
abbrev main_call0_v1 : Ref sig .tc := ⟨.hbm, 32, rfl⟩
abbrev main_v18 : Ref sig .tc := ⟨.hbm, 33, rfl⟩
abbrev main_v19 : Ref sig .tc := ⟨.hbm, 34, rfl⟩
abbrev main_cst_6 : Ref sig .tc := ⟨.hbm, 35, rfl⟩
abbrev main_cst_7 : Ref sig .tc := ⟨.hbm, 36, rfl⟩
abbrev main_call1_v0 : Ref sig .tc := ⟨.hbm, 37, rfl⟩
abbrev main_call1_v1 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47_0 : Ref sig .tc := ⟨.hbm, 67, rfl⟩
abbrev main_v47_1 : Ref sig .tc := ⟨.hbm, 68, rfl⟩
abbrev main_v47_2 : Ref sig .tc := ⟨.hbm, 69, rfl⟩
abbrev main_v47_3 : Ref sig .tc := ⟨.hbm, 70, rfl⟩
abbrev main_v47_4 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_9 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x2048x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x2x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x2048x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ProjRefIdeal.lean ====
abbrev S4x4096x1024 : Shape := ⟨3, ![4, 4096, 1024]⟩
abbrev S1024 : Shape := ⟨1, ![1024]⟩
abbrev S1024x3072 : Shape := ⟨2, ![1024, 3072]⟩
abbrev S64 : Shape := ⟨1, ![64]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x3072 : Shape := ⟨3, ![4, 4096, 3072]⟩
abbrev S4x4096x3x16x64 : Shape := ⟨5, ![4, 4096, 3, 16, 64]⟩
abbrev S4x4096x1x16x64 : Shape := ⟨5, ![4, 4096, 1, 16, 64]⟩
abbrev S4x4096x16x64 : Shape := ⟨4, ![4, 4096, 16, 64]⟩
abbrev S4x4096x16 : Shape := ⟨3, ![4, 4096, 16]⟩
abbrev S4x4096x16x1 : Shape := ⟨4, ![4, 4096, 16, 1]⟩
abbrev S1x1x1x64 : Shape := ⟨4, ![1, 1, 1, 64]⟩
abbrev S4x4096x16x1x64 : Shape := ⟨5, ![4, 4096, 16, 1, 64]⟩
abbrev S4x4096x16x2x64 : Shape := ⟨5, ![4, 4096, 16, 2, 64]⟩
abbrev S4x1024x4096 : Shape := ⟨3, ![4, 1024, 4096]⟩
abbrev S4x4096x2048 : Shape := ⟨3, ![4, 4096, 2048]⟩
abbrev S32x2x256x2048 : Shape := ⟨4, ![32, 2, 256, 2048]⟩
abbrev S32x2x2048 : Shape := ⟨3, ![32, 2, 2048]⟩
abbrev S4x2048x4096 : Shape := ⟨3, ![4, 2048, 4096]⟩
abbrev S16384x2048 : Shape := ⟨2, ![16384, 2048]⟩

abbrev nBuf : Space → Nat
  | .hbm => 78
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x3072, .f32⟩
  | .hbm, ⟨3, _⟩ => ⟨S64, .f32⟩
  | .hbm, ⟨4, _⟩ => ⟨S64, .f32⟩
  | .hbm, ⟨5, _⟩ => ⟨S4x4096x1024, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x1024, .f32⟩
  | .hbm, ⟨17, _⟩ => ⟨S4x4096x1024, .f32⟩
  | .hbm, ⟨18, _⟩ => ⟨S1x1x1024, .f32⟩
  | .hbm, ⟨19, _⟩ => ⟨S4x4096x1024, .f32⟩
  | .hbm, ⟨20, _⟩ => ⟨S4x4096x1024, .f32⟩
  | .hbm, ⟨21, _⟩ => ⟨S4x4096x3072, .f32⟩
  | .hbm, ⟨22, _⟩ => ⟨S4x4096x3x16x64, .f32⟩
  | .hbm, ⟨23, _⟩ => ⟨S4x4096x1x16x64, .f32⟩
  | .hbm, ⟨24, _⟩ => ⟨S4x4096x16x64, .f32⟩
  | .hbm, ⟨25, _⟩ => ⟨S4x4096x16x64, .f32⟩
  | .hbm, ⟨26, _⟩ => ⟨S_, .f32⟩
  | .hbm, ⟨27, _⟩ => ⟨S4x4096x16, .f32⟩
  | .hbm, ⟨28, _⟩ => ⟨S4x4096x16x1, .f32⟩
  | .hbm, ⟨29, _⟩ => ⟨S_, .f32⟩
  | .hbm, ⟨30, _⟩ => ⟨S4x4096x16x1, .f32⟩
  | .hbm, ⟨31, _⟩ => ⟨S4x4096x16x1, .f32⟩
  | .hbm, ⟨32, _⟩ => ⟨S_, .f32⟩
  | .hbm, ⟨33, _⟩ => ⟨S4x4096x16x1, .f32⟩
  | .hbm, ⟨34, _⟩ => ⟨S4x4096x16x1, .f32⟩
  | .hbm, ⟨35, _⟩ => ⟨S4x4096x16x1, .f32⟩
  | .hbm, ⟨36, _⟩ => ⟨S4x4096x16x64, .f32⟩
  | .hbm, ⟨37, _⟩ => ⟨S4x4096x16x64, .f32⟩
  | .hbm, ⟨38, _⟩ => ⟨S1x1x1x64, .f32⟩
  | .hbm, ⟨39, _⟩ => ⟨S4x4096x16x64, .f32⟩
  | .hbm, ⟨40, _⟩ => ⟨S4x4096x16x64, .f32⟩
  | .hbm, ⟨41, _⟩ => ⟨S4x4096x1x16x64, .f32⟩
  | .hbm, ⟨42, _⟩ => ⟨S4x4096x16x64, .f32⟩
  | .hbm, ⟨43, _⟩ => ⟨S4x4096x16x64, .f32⟩
  | .hbm, ⟨44, _⟩ => ⟨S_, .f32⟩
  | .hbm, ⟨45, _⟩ => ⟨S4x4096x16, .f32⟩
  | .hbm, ⟨46, _⟩ => ⟨S4x4096x16x1, .f32⟩
  | .hbm, ⟨47, _⟩ => ⟨S_, .f32⟩
  | .hbm, ⟨48, _⟩ => ⟨S4x4096x16x1, .f32⟩
  | .hbm, ⟨49, _⟩ => ⟨S4x4096x16x1, .f32⟩
  | .hbm, ⟨50, _⟩ => ⟨S_, .f32⟩
  | .hbm, ⟨51, _⟩ => ⟨S4x4096x16x1, .f32⟩
  | .hbm, ⟨52, _⟩ => ⟨S4x4096x16x1, .f32⟩
  | .hbm, ⟨53, _⟩ => ⟨S4x4096x16x1, .f32⟩
  | .hbm, ⟨54, _⟩ => ⟨S4x4096x16x64, .f32⟩
  | .hbm, ⟨55, _⟩ => ⟨S4x4096x16x64, .f32⟩
  | .hbm, ⟨56, _⟩ => ⟨S1x1x1x64, .f32⟩
  | .hbm, ⟨57, _⟩ => ⟨S4x4096x16x64, .f32⟩
  | .hbm, ⟨58, _⟩ => ⟨S4x4096x16x64, .f32⟩
  | .hbm, ⟨59, _⟩ => ⟨S4x4096x1x16x64, .f32⟩
  | .hbm, ⟨60, _⟩ => ⟨S4x4096x16x64, .f32⟩
  | .hbm, ⟨61, _⟩ => ⟨S4x4096x16x1x64, .f32⟩
  | .hbm, ⟨62, _⟩ => ⟨S4x4096x16x1x64, .f32⟩
  | .hbm, ⟨63, _⟩ => ⟨S4x4096x16x2x64, .f32⟩
  | .hbm, ⟨64, _⟩ => ⟨S4x4096x1024, .f32⟩
  | .hbm, ⟨65, _⟩ => ⟨S4x1024x4096, .f32⟩
  | .hbm, ⟨66, _⟩ => ⟨S4x1024x4096, .bf16⟩
  | .hbm, ⟨67, _⟩ => ⟨S4x4096x2048, .f32⟩
  | .hbm, ⟨68, _⟩ => ⟨S32x2x256x2048, .f32⟩
  | .hbm, ⟨69, _⟩ => ⟨S_, .f32⟩
  | .hbm, ⟨70, _⟩ => ⟨S32x2x2048, .f32⟩
  | .hbm, ⟨71, _⟩ => ⟨S_, .f32⟩
  | .hbm, ⟨72, _⟩ => ⟨S32x2x2048, .f32⟩
  | .hbm, ⟨73, _⟩ => ⟨S32x2x2048, .f32⟩
  | .hbm, ⟨74, _⟩ => ⟨S4x2048x4096, .f32⟩
  | .hbm, ⟨75, _⟩ => ⟨S16384x2048, .f32⟩
  | .hbm, ⟨76, _⟩ => ⟨S16384x2048, .bf16⟩
  | .hbm, ⟨77, _⟩ => ⟨S4x2048x4096, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_8 : Ref sig .tc := ⟨.hbm, 69, rfl⟩
abbrev main_v55 : Ref sig .tc := ⟨.hbm, 70, rfl⟩
abbrev main_cst_9 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩

abbrev nD : Nat := 1
abbrev τ : Topo := Topo.v7x

variable {F : FTy → Type} [FloatOps F]
-- ==== Proof.InRange.lean ====
/-
  The precondition of the sample attention, decoded at each word: every page of the page table is below 2560, every
  selected block below 32.
-/
module

public import proofs.«01_k».proof.Defs
public import proofs.«01_k».proof.Proof.Gen.Pre_in_range

@[expose] public section

namespace Cert.InRange

open Idealize.ShloMosaic

theorem andi_ofBool (p q : Bool) : IntOp.andi (BitVec.ofBool p) (BitVec.ofBool q) = BitVec.ofBool (p && q) := by
  cases p <;> cases q <;> decide

theorem ofBool_eq_one (p : Bool) : (BitVec.ofBool p = 1#1) ↔ p = true := by cases p <;> decide

variable {F : FTy → Type} [FloatOps F] (x0 : FVec F Pre_in_range.S2560x128x16x2x64 .f32) (x1 : IVec Pre_in_range.S32x64 32)
  (x2 : IVec Pre_in_range.S32x16x3 32) (x3 : FVec F Pre_in_range.S32x1024 .f32) (x4 : FVec F Pre_in_range.S32x2048 .f32)
  (x5 : FVec F Pre_in_range.S32x16 .f32)

theorem page_lt [Pre_in_range.Facts] (h : (Pre_in_range.fn (F := F) x0 x1 x2 x3 x4 x5).1 = fun _ => 1#1) (y) : (x1 y).toNat < 2560 := by
  have e := congrFun h y
  simp only [Pre_in_range.fn, andi, cmpi, broadcastInDim, constantI, IntOp.cmpi, andi_ofBool, ofBool_eq_one,
    Bool.and_eq_true] at e
  obtain ⟨hge, hlt⟩ := e
  simp only [BitVec.sle, BitVec.slt, decide_eq_true_eq, BitVec.toInt, BitVec.toNat_ofNat] at hge hlt
  omega

theorem id_lt [Pre_in_range.Facts] (h : (Pre_in_range.fn (F := F) x0 x1 x2 x3 x4 x5).2 = fun _ => 1#1) (y) : (x2 y).toNat < 32 := by
  have e := congrFun h y
  simp only [Pre_in_range.fn, andi, cmpi, broadcastInDim, constantI, IntOp.cmpi, andi_ofBool, ofBool_eq_one,
    Bool.and_eq_true] at e
  obtain ⟨hge, hlt⟩ := e
  simp only [BitVec.sle, BitVec.slt, decide_eq_true_eq, BitVec.toInt, BitVec.toNat_ofNat] at hge hlt
  omega

end Cert.InRange
-- ==== Proof.Owns.lean ====
/-
  A whole buffer owned at what it reads is the buffer held at the one contents that read so.
-/
module

public import Idealize.ShloMosaic.Lib.Pipeline.Frame

@[expose] public section

noncomputable section

namespace Cert.Owns

open Idealize.ShloMosaic Idealize.SL Idealize.SL.RA Idealize.SL.BI
open scoped Idealize.SL.BI
open Idealize.SL.BI.BIBase Idealize.SL.BI.Laws Idealize.SL.ProofMode

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

theorem owns_eq (c : Thread nD τ) {sp : Space} {sh : Shape} {e : EltTy} {m : Memref sig c.2.kind sp sh e} (h : m.IsWhole)
    (q : PosShare TreeShare) (X : sh.Idx → Val e) :
    (owns c m q X : sProp 𝕄) = (m.view.loc c ↦[m.view.set]{q} h.unread X : sProp 𝕄) := by
  have e₁ : (owns c m q X : sProp 𝕄) ⊢ (m.view.loc c ↦[m.view.set]{q} h.unread X : sProp 𝕄) := by
    unfold owns
    iintro ⟨%f, %hf, H⟩
    obtain rfl := h.eq_unread hf
    iexact H
  have e₂ := owns_intro (Ix := Ix) (Name := Name) (U := U) (Lvl := Lvl) c m q (h.unread X)
  rw [h.read_unread] at e₂
  exact Entails.antisymm e₁ e₂

end Cert.Owns

end
-- ==== Proof.SampleIdealTables.lean ====
/-
  The table of physical pages that the host prepares for the sample attention: every word of it is a word of the page
  table, so a page table of pages below 2560 keeps every tile of the cache that the attention reads inside the cache.
-/
module

public import proofs.«01_k».proof.Proof.Gen.SampleIdeal.Frame.Runs
public import Idealize.ShloMosaic.Lib.Pointwise
public import Idealize.ShloMosaic.Lib.Claim

@[expose] public section

noncomputable section

namespace Cert.SampleIdeal.Tables

open Cert.SampleIdeal Cert.SampleIdeal.Gen Idealize.ShloMosaic Idealize.ShloMosaic.TcCoe Idealize.SL.Sem
open Idealize.ShloMosaic.Tactic

variable {F : FTy → Type} [FloatOps F] (m : (ℓ : Loc nD τ sig) → Buf (Elt F) ℓ) (c : Dev nD)

/-- The columns of the page table that the host looks up: twice the selected block, plus the page within the block. -/
def cols (ids : IVec S32x16x3 32) : IVec S32x96 32 :=
  shapeCast S32x96
    (addi
      (broadcastInDim S32x16x3x2 ![0, 1, 2, 3] bcast_S32x16x3x1_S32x16x3x2_0_1_2_3
        (muli (broadcastInDim S32x16x3x1 ![0, 1, 2] bcast_S32x16x3_S32x16x3x1_0_1_2 ids)
          (broadcastInDim S32x16x3x1 ![] bcast_S_S32x16x3x1 (constantI S_ 32 2#32))))
      (broadcastInDim S32x16x3x2 ![0, 1, 2, 3] bcast_S1x1x1x2_S32x16x3x2_0_1_2_3
        (broadcastInDim S1x1x1x2 ![3] bcast_S2_S1x1x1x2_3 (iotaInDim S2 32 0))))
    shapeCasts_S32x16x3x2_S32x96

/-- The same columns with a negative one counted from the row's end, as the lookup takes them. -/
def wrapped (ids : IVec S32x16x3 32) : IVec S32x96x1 32 :=
  shapeCast S32x96x1
    (select (cmpi CmpIPredicate.slt (cols ids) (broadcastInDim S32x96 ![] bcast_S_S32x96 (constantI S_ 32 0#32)))
      (addi (cols ids) (broadcastInDim S32x96 ![] bcast_S_S32x96 (constantI S_ 32 64#32))) (cols ids))
    shapeCasts_S32x96_S32x96x1

theorem V_v20 : V m c main_v20
    = shapeCast S3072 (Host.gather gather_S32x64_S32x96x1_S32x96_n_1_0_0_1_2_11
        (m ((c : Thread nD τ).loc main_arg1)) (wrapped (m ((c : Thread nD τ).loc main_arg2)))) shapeCasts_S32x96_S3072 := by
  unfold_abbrev_sides
  simp only [hostOps0, hostOps0_1, hostOps0_2, hostOps0_3, hostOps0_4, List.flatten_cons, List.flatten_nil, List.append_nil, List.cons_append, List.nil_append]
  after_results
  rfl

/-- Every word of the prepared table is a word of the page table. -/
theorem page_mem (y : S3072.Idx) : ∃ z, V m c main_v20 y = m ((c : Thread nD τ).loc main_arg1) z := by
  rw [V_v20]
  exact ⟨_, rfl⟩

/-- The head a grid point's index map names is one of the sixteen. -/
theorem head_lt : ∀ (g r : Fin 4), (Scalar.addi (Scalar.muli (BitVec.ofNat 32 g.val) 4#32) (BitVec.ofNat 32 r.val)).toNat < 16 := by
  decide

/-- A tile of one page and one head is inside the cache. -/
theorem inb {n h z₁ z₂ : ℕ} (hn : n < 2560) (hh : h < 16) (h₁ : z₁ = 0) (h₂ : z₂ = 0) :
    ∀ a, ((![n, h, z₁, z₂] : Fin 4 → ℕ) a + 1) * S1x1x128x128.size a ≤ S2560x16x128x128.size a := by
  subst h₁ h₂
  intro a
  match a with
  | ⟨0, _⟩ => show (n + 1) * 1 ≤ 2560; omega
  | ⟨1, _⟩ => show (h + 1) * 1 ≤ 16; omega
  | ⟨2, _⟩ => show (0 + 1) * 128 ≤ 128; omega
  | ⟨3, _⟩ => show (0 + 1) * 128 ≤ 128; omega

/-- The frame's condition on the prefetched tables, from the page table's range. -/
theorem ok_of_lt (h : ∀ y, (m (((0 : Dev nD) : Thread nD τ).loc main_arg1) y).toNat < 2560) : Ok m := by
  have hp : ∀ y : S3072.Idx, ((tbl m 0 : IVec S3072 32) y).toNat < 2560 := fun y => by
    obtain ⟨z, hz⟩ := page_mem m 0 y
    exact lt_of_eq_of_lt (congrArg BitVec.toNat hz) (h z)
  unfold Ok ok0
  refine ⟨?_, ?_, ?_, ?_, ?_, ?_, ?_, ?_, ?_, ?_, ?_, ?_, ?_, ?_, ?_, ?_, ?_, ?_, ?_, ?_, ?_, ?_, ?_, ?_⟩
  · exact fun i => ⟨inb (hp _) (head_lt (i 1) 0) rfl rfl, Or.inl rfl⟩
  · exact fun i => ⟨inb (hp _) (head_lt (i 1) 0) rfl rfl, Or.inl rfl⟩
  · exact fun i => ⟨inb (hp _) (head_lt (i 1) 0) rfl rfl, Or.inl rfl⟩
  · exact fun i => ⟨inb (hp _) (head_lt (i 1) 0) rfl rfl, Or.inl rfl⟩
  · exact fun i => ⟨inb (hp _) (head_lt (i 1) 0) rfl rfl, Or.inl rfl⟩
  · exact fun i => ⟨inb (hp _) (head_lt (i 1) 0) rfl rfl, Or.inl rfl⟩
  · exact fun i => ⟨inb (hp _) (head_lt (i 1) 1) rfl rfl, Or.inl rfl⟩
  · exact fun i => ⟨inb (hp _) (head_lt (i 1) 1) rfl rfl, Or.inl rfl⟩
  · exact fun i => ⟨inb (hp _) (head_lt (i 1) 1) rfl rfl, Or.inl rfl⟩
  · exact fun i => ⟨inb (hp _) (head_lt (i 1) 1) rfl rfl, Or.inl rfl⟩
  · exact fun i => ⟨inb (hp _) (head_lt (i 1) 1) rfl rfl, Or.inl rfl⟩
  · exact fun i => ⟨inb (hp _) (head_lt (i 1) 1) rfl rfl, Or.inl rfl⟩
  · exact fun i => ⟨inb (hp _) (head_lt (i 1) 2) rfl rfl, Or.inl rfl⟩
  · exact fun i => ⟨inb (hp _) (head_lt (i 1) 2) rfl rfl, Or.inl rfl⟩
  · exact fun i => ⟨inb (hp _) (head_lt (i 1) 2) rfl rfl, Or.inl rfl⟩
  · exact fun i => ⟨inb (hp _) (head_lt (i 1) 2) rfl rfl, Or.inl rfl⟩
  · exact fun i => ⟨inb (hp _) (head_lt (i 1) 2) rfl rfl, Or.inl rfl⟩
  · exact fun i => ⟨inb (hp _) (head_lt (i 1) 2) rfl rfl, Or.inl rfl⟩
  · exact fun i => ⟨inb (hp _) (head_lt (i 1) 3) rfl rfl, Or.inl rfl⟩
  · exact fun i => ⟨inb (hp _) (head_lt (i 1) 3) rfl rfl, Or.inl rfl⟩
  · exact fun i => ⟨inb (hp _) (head_lt (i 1) 3) rfl rfl, Or.inl rfl⟩
  · exact fun i => ⟨inb (hp _) (head_lt (i 1) 3) rfl rfl, Or.inl rfl⟩
  · exact fun i => ⟨inb (hp _) (head_lt (i 1) 3) rfl rfl, Or.inl rfl⟩
  · exact fun i => ⟨inb (hp _) (head_lt (i 1) 3) rfl rfl, Or.inl rfl⟩

end Cert.SampleIdeal.Tables

end
-- ==== Proof.SampleIdealRun.lean ====
/-
  One run of the sample-attention kernel's body (`SampleIdeal`) on whole buffers: the pieces it leaves in the result's block, with the proof
  that the body runs and leaves every other buffer as it was.
-/
module

public import proofs.«01_k».proof.Proof.Gen.SampleIdeal.Frame.Runs
public import proofs.«01_k».proof.Proof.Owns

@[expose] public section

-- membership in a rectangle of production extents (`View.cover_of_tiled`): the elaborator's structural look
-- recurses once per coordinate of the long axes
set_option maxRecDepth 16384

noncomputable section

namespace Cert.SampleIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg4 : Memref sig .tc .vmem S1x4x8x64 .f32) (harg4 : arg4.IsWhole) (arg5 : Memref sig .tc .vmem S1x4x1x128 .f32) (harg5 : arg5.IsWhole) (arg6 : Memref sig .tc .vmem S1x1x128x128 .f32) (harg6 : arg6.IsWhole) (arg7 : Memref sig .tc .vmem S1x1x128x128 .f32) (harg7 : arg7.IsWhole) (arg8 : Memref sig .tc .vmem S1x1x128x128 .f32) (harg8 : arg8.IsWhole) (arg9 : Memref sig .tc .vmem S1x1x128x128 .f32) (harg9 : arg9.IsWhole) (arg10 : Memref sig .tc .vmem S1x1x128x128 .f32) (harg10 : arg10.IsWhole) (arg11 : Memref sig .tc .vmem S1x1x128x128 .f32) (harg11 : arg11.IsWhole) (arg12 : Memref sig .tc .vmem S1x1x128x128 .f32) (harg12 : arg12.IsWhole) (arg13 : Memref sig .tc .vmem S1x1x128x128 .f32) (harg13 : arg13.IsWhole) (arg14 : Memref sig .tc .vmem S1x1x128x128 .f32) (harg14 : arg14.IsWhole) (arg15 : Memref sig .tc .vmem S1x1x128x128 .f32) (harg15 : arg15.IsWhole) (arg16 : Memref sig .tc .vmem S1x1x128x128 .f32) (harg16 : arg16.IsWhole) (arg17 : Memref sig .tc .vmem S1x1x128x128 .f32) (harg17 : arg17.IsWhole) (arg18 : Memref sig .tc .vmem S1x1x128x128 .f32) (harg18 : arg18.IsWhole) (arg19 : Memref sig .tc .vmem S1x1x128x128 .f32) (harg19 : arg19.IsWhole) (arg20 : Memref sig .tc .vmem S1x1x128x128 .f32) (harg20 : arg20.IsWhole) (arg21 : Memref sig .tc .vmem S1x1x128x128 .f32) (harg21 : arg21.IsWhole) (arg22 : Memref sig .tc .vmem S1x1x128x128 .f32) (harg22 : arg22.IsWhole) (arg23 : Memref sig .tc .vmem S1x1x128x128 .f32) (harg23 : arg23.IsWhole) (arg24 : Memref sig .tc .vmem S1x1x128x128 .f32) (harg24 : arg24.IsWhole) (arg25 : Memref sig .tc .vmem S1x1x128x128 .f32) (harg25 : arg25.IsWhole) (arg26 : Memref sig .tc .vmem S1x1x128x128 .f32) (harg26 : arg26.IsWhole) (arg27 : Memref sig .tc .vmem S1x1x128x128 .f32) (harg27 : arg27.IsWhole) (arg28 : Memref sig .tc .vmem S1x1x128x128 .f32) (harg28 : arg28.IsWhole) (arg29 : Memref sig .tc .vmem S1x1x128x128 .f32) (harg29 : arg29.IsWhole) (arg30 : Memref sig .tc .vmem S4x3x128 .f32) (harg30 : arg30.IsWhole) (arg31 : Memref sig .tc .vmem S1x4x8x64 .f32) (harg31 : arg31.IsWhole)
    (x0 : Vec F S1x4x8x64 .f32) (x1 : Vec F S1x4x1x128 .f32) (x2 : Vec F S1x1x128x128 .f32) (x3 : Vec F S1x1x128x128 .f32) (x4 : Vec F S1x1x128x128 .f32) (x5 : Vec F S1x1x128x128 .f32) (x6 : Vec F S1x1x128x128 .f32) (x7 : Vec F S1x1x128x128 .f32) (x8 : Vec F S1x1x128x128 .f32) (x9 : Vec F S1x1x128x128 .f32) (x10 : Vec F S1x1x128x128 .f32) (x11 : Vec F S1x1x128x128 .f32) (x12 : Vec F S1x1x128x128 .f32) (x13 : Vec F S1x1x128x128 .f32) (x14 : Vec F S1x1x128x128 .f32) (x15 : Vec F S1x1x128x128 .f32) (x16 : Vec F S1x1x128x128 .f32) (x17 : Vec F S1x1x128x128 .f32) (x18 : Vec F S1x1x128x128 .f32) (x19 : Vec F S1x1x128x128 .f32) (x20 : Vec F S1x1x128x128 .f32) (x21 : Vec F S1x1x128x128 .f32) (x22 : Vec F S1x1x128x128 .f32) (x23 : Vec F S1x1x128x128 .f32) (x24 : Vec F S1x1x128x128 .f32) (x25 : Vec F S1x1x128x128 .f32) (x26 : Vec F S4x3x128 .f32) (xt0 : TbBuf0 (F := F) c tbM0_0) (xt1 : TbBuf0 (F := F) c tbM0_1) :
    { L27 : List (View.Piece (Elt F) S1x4x8x64 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare x8 ∗ owns (c : Thread nD τ) arg13 fullShare x9 ∗ owns (c : Thread nD τ) arg14 fullShare x10 ∗ owns (c : Thread nD τ) arg15 fullShare x11 ∗ owns (c : Thread nD τ) arg16 fullShare x12 ∗ owns (c : Thread nD τ) arg17 fullShare x13 ∗ owns (c : Thread nD τ) arg18 fullShare x14 ∗ owns (c : Thread nD τ) arg19 fullShare x15 ∗ owns (c : Thread nD τ) arg20 fullShare x16 ∗ owns (c : Thread nD τ) arg21 fullShare x17 ∗ owns (c : Thread nD τ) arg22 fullShare x18 ∗ owns (c : Thread nD τ) arg23 fullShare x19 ∗ owns (c : Thread nD τ) arg24 fullShare x20 ∗ owns (c : Thread nD τ) arg25 fullShare x21 ∗ owns (c : Thread nD τ) arg26 fullShare x22 ∗ owns (c : Thread nD τ) arg27 fullShare x23 ∗ owns (c : Thread nD τ) arg28 fullShare x24 ∗ owns (c : Thread nD τ) arg29 fullShare x25 ∗ owns (c : Thread nD τ) arg30 fullShare x26 ∗ (∃ d, owns (c : Thread nD τ) arg31 fullShare d) ∗ tbPt0 c tbM0_0 xt0 ∗ tbPt0 c tbM0_1 xt1
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare x8 ∗ owns (c : Thread nD τ) arg13 fullShare x9 ∗ owns (c : Thread nD τ) arg14 fullShare x10 ∗ owns (c : Thread nD τ) arg15 fullShare x11 ∗ owns (c : Thread nD τ) arg16 fullShare x12 ∗ owns (c : Thread nD τ) arg17 fullShare x13 ∗ owns (c : Thread nD τ) arg18 fullShare x14 ∗ owns (c : Thread nD τ) arg19 fullShare x15 ∗ owns (c : Thread nD τ) arg20 fullShare x16 ∗ owns (c : Thread nD τ) arg21 fullShare x17 ∗ owns (c : Thread nD τ) arg22 fullShare x18 ∗ owns (c : Thread nD τ) arg23 fullShare x19 ∗ owns (c : Thread nD τ) arg24 fullShare x20 ∗ owns (c : Thread nD τ) arg25 fullShare x21 ∗ owns (c : Thread nD τ) arg26 fullShare x22 ∗ owns (c : Thread nD τ) arg27 fullShare x23 ∗ owns (c : Thread nD τ) arg28 fullShare x24 ∗ owns (c : Thread nD τ) arg29 fullShare x25 ∗ owns (c : Thread nD τ) arg30 fullShare x26 ∗ (∃ f, arg31.view.loc (c : Thread nD τ) ↦[arg31.view.set]{fullShare} arg31.view.writes (Elt F) f L27) ∗ tbPt0 c tbM0_0 xt0 ∗ tbPt0 c tbM0_1 xt1) -∗ K ⟨⟩))
          ⊢ wp frame (wpE (defs₀ (F := F)) Variants.none c none) E (cc0_moba_sample i tbM0_0 htbM0_0 tbM0_1 htbM0_1 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31) K } := by
  refine ⟨?_, fun E K => ?run⟩
  case run =>
    simp only [Cert.Owns.owns_eq (c : Thread nD τ) harg4, Cert.Owns.owns_eq (c : Thread nD τ) harg5, Cert.Owns.owns_eq (c : Thread nD τ) harg6, Cert.Owns.owns_eq (c : Thread nD τ) harg7, Cert.Owns.owns_eq (c : Thread nD τ) harg8, Cert.Owns.owns_eq (c : Thread nD τ) harg9, Cert.Owns.owns_eq (c : Thread nD τ) harg10, Cert.Owns.owns_eq (c : Thread nD τ) harg11, Cert.Owns.owns_eq (c : Thread nD τ) harg12, Cert.Owns.owns_eq (c : Thread nD τ) harg13, Cert.Owns.owns_eq (c : Thread nD τ) harg14, Cert.Owns.owns_eq (c : Thread nD τ) harg15, Cert.Owns.owns_eq (c : Thread nD τ) harg16, Cert.Owns.owns_eq (c : Thread nD τ) harg17, Cert.Owns.owns_eq (c : Thread nD τ) harg18, Cert.Owns.owns_eq (c : Thread nD τ) harg19, Cert.Owns.owns_eq (c : Thread nD τ) harg20, Cert.Owns.owns_eq (c : Thread nD τ) harg21, Cert.Owns.owns_eq (c : Thread nD τ) harg22, Cert.Owns.owns_eq (c : Thread nD τ) harg23, Cert.Owns.owns_eq (c : Thread nD τ) harg24, Cert.Owns.owns_eq (c : Thread nD τ) harg25, Cert.Owns.owns_eq (c : Thread nD τ) harg26, Cert.Owns.owns_eq (c : Thread nD τ) harg27, Cert.Owns.owns_eq (c : Thread nD τ) harg28, Cert.Owns.owns_eq (c : Thread nD τ) harg29, Cert.Owns.owns_eq (c : Thread nD τ) harg30]
    unfold owns
    iintro ⟨H0, H1, H2, H3, H4, H5, H6, H7, H8, H9, H10, H11, H12, H13, H14, H15, H16, H17, H18, H19, H20, H21, H22, H23, H24, H25, H26, ⟨%d27, %f27, -, H27⟩, HT0, HT1, Hk⟩
    simp only [cc0_moba_sample_eq_skeleton]; unfold cc0_moba_sample_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    sl_exec
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexists _; iexact H27
    isplitl [HT0]; · iexact HT0
    iexact HT1

end Cert.SampleIdeal.Gen

end
-- ==== Proof.SampleIdealFrame.lean ====
/-
  The frame of `SampleIdeal`: what each grid point leaves in the result's block, the launch, and the arguments unchanged.
-/
module

public import proofs.«01_k».proof.Proof.SampleIdealRun
public import Idealize.ShloMosaic.Lib.Claim

@[expose] public section

-- membership in a rectangle of production extents (`View.cover_of_tiled`): the elaborator's structural look
-- recurses once per coordinate of the long axes
set_option maxRecDepth 16384

noncomputable section

namespace Cert.SampleIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 27 tile its block (4 stores of `S1x1x8x64`, checked by the kernel's evaluation: Lib/Ring.lean `Piece.tiledL`, linear in the pieces, through a loop's `@[irreducible]` trip theorem too), so they cover it. -/
theorem cover0_A_27 (c : Dev nD) (i : grid0.Coords) (arg4 : Memref sig .tc .vmem S1x4x8x64 .f32) (harg4 : arg4.IsWhole) (arg5 : Memref sig .tc .vmem S1x4x1x128 .f32) (harg5 : arg5.IsWhole) (arg6 : Memref sig .tc .vmem S1x1x128x128 .f32) (harg6 : arg6.IsWhole) (arg7 : Memref sig .tc .vmem S1x1x128x128 .f32) (harg7 : arg7.IsWhole) (arg8 : Memref sig .tc .vmem S1x1x128x128 .f32) (harg8 : arg8.IsWhole) (arg9 : Memref sig .tc .vmem S1x1x128x128 .f32) (harg9 : arg9.IsWhole) (arg10 : Memref sig .tc .vmem S1x1x128x128 .f32) (harg10 : arg10.IsWhole) (arg11 : Memref sig .tc .vmem S1x1x128x128 .f32) (harg11 : arg11.IsWhole) (arg12 : Memref sig .tc .vmem S1x1x128x128 .f32) (harg12 : arg12.IsWhole) (arg13 : Memref sig .tc .vmem S1x1x128x128 .f32) (harg13 : arg13.IsWhole) (arg14 : Memref sig .tc .vmem S1x1x128x128 .f32) (harg14 : arg14.IsWhole) (arg15 : Memref sig .tc .vmem S1x1x128x128 .f32) (harg15 : arg15.IsWhole) (arg16 : Memref sig .tc .vmem S1x1x128x128 .f32) (harg16 : arg16.IsWhole) (arg17 : Memref sig .tc .vmem S1x1x128x128 .f32) (harg17 : arg17.IsWhole) (arg18 : Memref sig .tc .vmem S1x1x128x128 .f32) (harg18 : arg18.IsWhole) (arg19 : Memref sig .tc .vmem S1x1x128x128 .f32) (harg19 : arg19.IsWhole) (arg20 : Memref sig .tc .vmem S1x1x128x128 .f32) (harg20 : arg20.IsWhole) (arg21 : Memref sig .tc .vmem S1x1x128x128 .f32) (harg21 : arg21.IsWhole) (arg22 : Memref sig .tc .vmem S1x1x128x128 .f32) (harg22 : arg22.IsWhole) (arg23 : Memref sig .tc .vmem S1x1x128x128 .f32) (harg23 : arg23.IsWhole) (arg24 : Memref sig .tc .vmem S1x1x128x128 .f32) (harg24 : arg24.IsWhole) (arg25 : Memref sig .tc .vmem S1x1x128x128 .f32) (harg25 : arg25.IsWhole) (arg26 : Memref sig .tc .vmem S1x1x128x128 .f32) (harg26 : arg26.IsWhole) (arg27 : Memref sig .tc .vmem S1x1x128x128 .f32) (harg27 : arg27.IsWhole) (arg28 : Memref sig .tc .vmem S1x1x128x128 .f32) (harg28 : arg28.IsWhole) (arg29 : Memref sig .tc .vmem S1x1x128x128 .f32) (harg29 : arg29.IsWhole) (arg30 : Memref sig .tc .vmem S4x3x128 .f32) (harg30 : arg30.IsWhole) (arg31 : Memref sig .tc .vmem S1x4x8x64 .f32) (harg31 : arg31.IsWhole)
    (x0 : Vec F S1x4x8x64 .f32) (x1 : Vec F S1x4x1x128 .f32) (x2 : Vec F S1x1x128x128 .f32) (x3 : Vec F S1x1x128x128 .f32) (x4 : Vec F S1x1x128x128 .f32) (x5 : Vec F S1x1x128x128 .f32) (x6 : Vec F S1x1x128x128 .f32) (x7 : Vec F S1x1x128x128 .f32) (x8 : Vec F S1x1x128x128 .f32) (x9 : Vec F S1x1x128x128 .f32) (x10 : Vec F S1x1x128x128 .f32) (x11 : Vec F S1x1x128x128 .f32) (x12 : Vec F S1x1x128x128 .f32) (x13 : Vec F S1x1x128x128 .f32) (x14 : Vec F S1x1x128x128 .f32) (x15 : Vec F S1x1x128x128 .f32) (x16 : Vec F S1x1x128x128 .f32) (x17 : Vec F S1x1x128x128 .f32) (x18 : Vec F S1x1x128x128 .f32) (x19 : Vec F S1x1x128x128 .f32) (x20 : Vec F S1x1x128x128 .f32) (x21 : Vec F S1x1x128x128 .f32) (x22 : Vec F S1x1x128x128 .f32) (x23 : Vec F S1x1x128x128 .f32) (x24 : Vec F S1x1x128x128 .f32) (x25 : Vec F S1x1x128x128 .f32) (x26 : Vec F S4x3x128 .f32) (xt0 : TbBuf0 (F := F) c tbM0_0) (xt1 : TbBuf0 (F := F) c tbM0_1) (y : S1x4x8x64.Idx) :
    ∃ pc ∈ (kernelRun0_A c i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 x0 x1 x2 x3 x4 x5 x6 x7 x8 x9 x10 x11 x12 x13 x14 x15 x16 x17 x18 x19 x20 x21 x22 x23 x24 x25 x26 xt0 xt1).1, y ∈ pc.1.set :=
  View.cover_of_tiledL (kernelRun0_A c i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 x0 x1 x2 x3 x4 x5 x6 x7 x8 x9 x10 x11 x12 x13 x14 x15 x16 x17 x18 x19 x20 x21 x22 x23 x24 x25 x26 xt0 xt1).1 S1x1x8x64.size (by sl_kernel_rfl) y

/-- What the run leaves in output 27's staging buffer: its pieces read back over junk. -/
def out0_A_27 (c : Dev nD) (i : grid0.Coords) (arg4 : Memref sig .tc .vmem S1x4x8x64 .f32) (harg4 : arg4.IsWhole) (arg5 : Memref sig .tc .vmem S1x4x1x128 .f32) (harg5 : arg5.IsWhole) (arg6 : Memref sig .tc .vmem S1x1x128x128 .f32) (harg6 : arg6.IsWhole) (arg7 : Memref sig .tc .vmem S1x1x128x128 .f32) (harg7 : arg7.IsWhole) (arg8 : Memref sig .tc .vmem S1x1x128x128 .f32) (harg8 : arg8.IsWhole) (arg9 : Memref sig .tc .vmem S1x1x128x128 .f32) (harg9 : arg9.IsWhole) (arg10 : Memref sig .tc .vmem S1x1x128x128 .f32) (harg10 : arg10.IsWhole) (arg11 : Memref sig .tc .vmem S1x1x128x128 .f32) (harg11 : arg11.IsWhole) (arg12 : Memref sig .tc .vmem S1x1x128x128 .f32) (harg12 : arg12.IsWhole) (arg13 : Memref sig .tc .vmem S1x1x128x128 .f32) (harg13 : arg13.IsWhole) (arg14 : Memref sig .tc .vmem S1x1x128x128 .f32) (harg14 : arg14.IsWhole) (arg15 : Memref sig .tc .vmem S1x1x128x128 .f32) (harg15 : arg15.IsWhole) (arg16 : Memref sig .tc .vmem S1x1x128x128 .f32) (harg16 : arg16.IsWhole) (arg17 : Memref sig .tc .vmem S1x1x128x128 .f32) (harg17 : arg17.IsWhole) (arg18 : Memref sig .tc .vmem S1x1x128x128 .f32) (harg18 : arg18.IsWhole) (arg19 : Memref sig .tc .vmem S1x1x128x128 .f32) (harg19 : arg19.IsWhole) (arg20 : Memref sig .tc .vmem S1x1x128x128 .f32) (harg20 : arg20.IsWhole) (arg21 : Memref sig .tc .vmem S1x1x128x128 .f32) (harg21 : arg21.IsWhole) (arg22 : Memref sig .tc .vmem S1x1x128x128 .f32) (harg22 : arg22.IsWhole) (arg23 : Memref sig .tc .vmem S1x1x128x128 .f32) (harg23 : arg23.IsWhole) (arg24 : Memref sig .tc .vmem S1x1x128x128 .f32) (harg24 : arg24.IsWhole) (arg25 : Memref sig .tc .vmem S1x1x128x128 .f32) (harg25 : arg25.IsWhole) (arg26 : Memref sig .tc .vmem S1x1x128x128 .f32) (harg26 : arg26.IsWhole) (arg27 : Memref sig .tc .vmem S1x1x128x128 .f32) (harg27 : arg27.IsWhole) (arg28 : Memref sig .tc .vmem S1x1x128x128 .f32) (harg28 : arg28.IsWhole) (arg29 : Memref sig .tc .vmem S1x1x128x128 .f32) (harg29 : arg29.IsWhole) (arg30 : Memref sig .tc .vmem S4x3x128 .f32) (harg30 : arg30.IsWhole) (arg31 : Memref sig .tc .vmem S1x4x8x64 .f32) (harg31 : arg31.IsWhole)
    (x0 : Vec F S1x4x8x64 .f32) (x1 : Vec F S1x4x1x128 .f32) (x2 : Vec F S1x1x128x128 .f32) (x3 : Vec F S1x1x128x128 .f32) (x4 : Vec F S1x1x128x128 .f32) (x5 : Vec F S1x1x128x128 .f32) (x6 : Vec F S1x1x128x128 .f32) (x7 : Vec F S1x1x128x128 .f32) (x8 : Vec F S1x1x128x128 .f32) (x9 : Vec F S1x1x128x128 .f32) (x10 : Vec F S1x1x128x128 .f32) (x11 : Vec F S1x1x128x128 .f32) (x12 : Vec F S1x1x128x128 .f32) (x13 : Vec F S1x1x128x128 .f32) (x14 : Vec F S1x1x128x128 .f32) (x15 : Vec F S1x1x128x128 .f32) (x16 : Vec F S1x1x128x128 .f32) (x17 : Vec F S1x1x128x128 .f32) (x18 : Vec F S1x1x128x128 .f32) (x19 : Vec F S1x1x128x128 .f32) (x20 : Vec F S1x1x128x128 .f32) (x21 : Vec F S1x1x128x128 .f32) (x22 : Vec F S1x1x128x128 .f32) (x23 : Vec F S1x1x128x128 .f32) (x24 : Vec F S1x1x128x128 .f32) (x25 : Vec F S1x1x128x128 .f32) (x26 : Vec F S4x3x128 .f32) (xt0 : TbBuf0 (F := F) c tbM0_0) (xt1 : TbBuf0 (F := F) c tbM0_1) : Vec F S1x4x8x64 .f32 :=
  VO0_27.read (Elt F) (VO0_27.writes (Elt F) VO0_27.junk (kernelRun0_A c i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 x0 x1 x2 x3 x4 x5 x6 x7 x8 x9 x10 x11 x12 x13 x14 x15 x16 x17 x18 x19 x20 x21 x22 x23 x24 x25 x26 xt0 xt1).1)

/-! ## What the outputs hold after each point -/

/-- What the outputs' staging buffers hold after the body at point `t`: the run's contents at
    the point's memrefs and input blocks. -/
def outsAt0 (hO : Ok m) (c : Dev nD) (t : Fin (cfgM m hO).N) : Vec F S1x4x8x64 .f32 :=
  out0_A_27 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) (ms0_22 m hO t) (hs0_22 m hO t) (ms0_23 m hO t) (hs0_23 m hO t) (ms0_24 m hO t) (hs0_24 m hO t) (ms0_25 m hO t) (hs0_25 m hO t) (ms0_26 m hO t) (hs0_26 m hO t) (ms0_27 m hO t) (hs0_27 m hO t) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (iblk m hO c 21 t) (iblk m hO c 22 t) (iblk m hO c 23 t) (iblk m hO c 24 t) (iblk m hO c 25 t) (iblk m hO c 26 t) (tbl m 0) (tbl m 1)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    each input's share of its array
    (`Pipeline.shareOf`: the full share of an array several windows stage, dealt among them). -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, _⟩ => iblk m hO c 11 t
    | ⟨12, _⟩ => iblk m hO c 12 t
    | ⟨13, _⟩ => iblk m hO c 13 t
    | ⟨14, _⟩ => iblk m hO c 14 t
    | ⟨15, _⟩ => iblk m hO c 15 t
    | ⟨16, _⟩ => iblk m hO c 16 t
    | ⟨17, _⟩ => iblk m hO c 17 t
    | ⟨18, _⟩ => iblk m hO c 18 t
    | ⟨19, _⟩ => iblk m hO c 19 t
    | ⟨20, _⟩ => iblk m hO c 20 t
    | ⟨21, _⟩ => iblk m hO c 21 t
    | ⟨22, _⟩ => iblk m hO c 22 t
    | ⟨23, _⟩ => iblk m hO c 23 t
    | ⟨24, _⟩ => iblk m hO c 24 t
    | ⟨25, _⟩ => iblk m hO c 25 t
    | ⟨26, _⟩ => iblk m hO c 26 t
    | ⟨27, _⟩ => (outsAt0 m hO c t)
    | ⟨_ + 28, h⟩ => absurd h (Nat.not_lt.2 (Nat.le_add_left _ _))
  Φ _ := iprop(Pipeline.ΦA spec0 c ∗ Pipeline.ΦT pre0 (tbl m) c)
  q w := Pipeline.shareOf spec0 w
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = iblk m hO c 8 t := by dsimp only [dats]; try rfl
theorem after0_9 (hO : Ok m) (c : Dev nD) (t : Fin (cfgM m hO).N) : (dats m hO 0 c).after 9 t = iblk m hO c 9 t := by dsimp only [dats]; try rfl
theorem after0_10 (hO : Ok m) (c : Dev nD) (t : Fin (cfgM m hO).N) : (dats m hO 0 c).after 10 t = iblk m hO c 10 t := by dsimp only [dats]; try rfl
theorem after0_11 (hO : Ok m) (c : Dev nD) (t : Fin (cfgM m hO).N) : (dats m hO 0 c).after 11 t = iblk m hO c 11 t := by dsimp only [dats]; try rfl
theorem after0_12 (hO : Ok m) (c : Dev nD) (t : Fin (cfgM m hO).N) : (dats m hO 0 c).after 12 t = iblk m hO c 12 t := by dsimp only [dats]; try rfl
theorem after0_13 (hO : Ok m) (c : Dev nD) (t : Fin (cfgM m hO).N) : (dats m hO 0 c).after 13 t = iblk m hO c 13 t := by dsimp only [dats]; try rfl
theorem after0_14 (hO : Ok m) (c : Dev nD) (t : Fin (cfgM m hO).N) : (dats m hO 0 c).after 14 t = iblk m hO c 14 t := by dsimp only [dats]; try rfl
theorem after0_15 (hO : Ok m) (c : Dev nD) (t : Fin (cfgM m hO).N) : (dats m hO 0 c).after 15 t = iblk m hO c 15 t := by dsimp only [dats]; try rfl
theorem after0_16 (hO : Ok m) (c : Dev nD) (t : Fin (cfgM m hO).N) : (dats m hO 0 c).after 16 t = iblk m hO c 16 t := by dsimp only [dats]; try rfl
theorem after0_17 (hO : Ok m) (c : Dev nD) (t : Fin (cfgM m hO).N) : (dats m hO 0 c).after 17 t = iblk m hO c 17 t := by dsimp only [dats]; try rfl
theorem after0_18 (hO : Ok m) (c : Dev nD) (t : Fin (cfgM m hO).N) : (dats m hO 0 c).after 18 t = iblk m hO c 18 t := by dsimp only [dats]; try rfl
theorem after0_19 (hO : Ok m) (c : Dev nD) (t : Fin (cfgM m hO).N) : (dats m hO 0 c).after 19 t = iblk m hO c 19 t := by dsimp only [dats]; try rfl
theorem after0_20 (hO : Ok m) (c : Dev nD) (t : Fin (cfgM m hO).N) : (dats m hO 0 c).after 20 t = iblk m hO c 20 t := by dsimp only [dats]; try rfl
theorem after0_21 (hO : Ok m) (c : Dev nD) (t : Fin (cfgM m hO).N) : (dats m hO 0 c).after 21 t = iblk m hO c 21 t := by dsimp only [dats]; try rfl
theorem after0_22 (hO : Ok m) (c : Dev nD) (t : Fin (cfgM m hO).N) : (dats m hO 0 c).after 22 t = iblk m hO c 22 t := by dsimp only [dats]; try rfl
theorem after0_23 (hO : Ok m) (c : Dev nD) (t : Fin (cfgM m hO).N) : (dats m hO 0 c).after 23 t = iblk m hO c 23 t := by dsimp only [dats]; try rfl
theorem after0_24 (hO : Ok m) (c : Dev nD) (t : Fin (cfgM m hO).N) : (dats m hO 0 c).after 24 t = iblk m hO c 24 t := by dsimp only [dats]; try rfl
theorem after0_25 (hO : Ok m) (c : Dev nD) (t : Fin (cfgM m hO).N) : (dats m hO 0 c).after 25 t = iblk m hO c 25 t := by dsimp only [dats]; try rfl
theorem after0_26 (hO : Ok m) (c : Dev nD) (t : Fin (cfgM m hO).N) : (dats m hO 0 c).after 26 t = iblk m hO c 26 t := by dsimp only [dats]; try rfl
theorem after0_27 (hO : Ok m) (c : Dev nD) (t : Fin (cfgM m hO).N) : (dats m hO 0 c).after 27 t = (outsAt0 m hO c t) := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
theorem before0_8 (hO : Ok m) (c : Dev nD) (t : Fin (cfgM m hO).N) (d) : (dats m hO 0 c).before 8 t d = iblk m hO c 8 t :=
  before0_8_of m hO (dats m hO 0 c) (A_eq m hO c 8) (after0_8 m hO c) t d
theorem before0_9 (hO : Ok m) (c : Dev nD) (t : Fin (cfgM m hO).N) (d) : (dats m hO 0 c).before 9 t d = iblk m hO c 9 t :=
  before0_9_of m hO (dats m hO 0 c) (A_eq m hO c 9) (after0_9 m hO c) t d
theorem before0_10 (hO : Ok m) (c : Dev nD) (t : Fin (cfgM m hO).N) (d) : (dats m hO 0 c).before 10 t d = iblk m hO c 10 t :=
  before0_10_of m hO (dats m hO 0 c) (A_eq m hO c 10) (after0_10 m hO c) t d
theorem before0_11 (hO : Ok m) (c : Dev nD) (t : Fin (cfgM m hO).N) (d) : (dats m hO 0 c).before 11 t d = iblk m hO c 11 t :=
  before0_11_of m hO (dats m hO 0 c) (A_eq m hO c 11) (after0_11 m hO c) t d
theorem before0_12 (hO : Ok m) (c : Dev nD) (t : Fin (cfgM m hO).N) (d) : (dats m hO 0 c).before 12 t d = iblk m hO c 12 t :=
  before0_12_of m hO (dats m hO 0 c) (A_eq m hO c 12) (after0_12 m hO c) t d
theorem before0_13 (hO : Ok m) (c : Dev nD) (t : Fin (cfgM m hO).N) (d) : (dats m hO 0 c).before 13 t d = iblk m hO c 13 t :=
  before0_13_of m hO (dats m hO 0 c) (A_eq m hO c 13) (after0_13 m hO c) t d
theorem before0_14 (hO : Ok m) (c : Dev nD) (t : Fin (cfgM m hO).N) (d) : (dats m hO 0 c).before 14 t d = iblk m hO c 14 t :=
  before0_14_of m hO (dats m hO 0 c) (A_eq m hO c 14) (after0_14 m hO c) t d
theorem before0_15 (hO : Ok m) (c : Dev nD) (t : Fin (cfgM m hO).N) (d) : (dats m hO 0 c).before 15 t d = iblk m hO c 15 t :=
  before0_15_of m hO (dats m hO 0 c) (A_eq m hO c 15) (after0_15 m hO c) t d
theorem before0_16 (hO : Ok m) (c : Dev nD) (t : Fin (cfgM m hO).N) (d) : (dats m hO 0 c).before 16 t d = iblk m hO c 16 t :=
  before0_16_of m hO (dats m hO 0 c) (A_eq m hO c 16) (after0_16 m hO c) t d
theorem before0_17 (hO : Ok m) (c : Dev nD) (t : Fin (cfgM m hO).N) (d) : (dats m hO 0 c).before 17 t d = iblk m hO c 17 t :=
  before0_17_of m hO (dats m hO 0 c) (A_eq m hO c 17) (after0_17 m hO c) t d
theorem before0_18 (hO : Ok m) (c : Dev nD) (t : Fin (cfgM m hO).N) (d) : (dats m hO 0 c).before 18 t d = iblk m hO c 18 t :=
  before0_18_of m hO (dats m hO 0 c) (A_eq m hO c 18) (after0_18 m hO c) t d
theorem before0_19 (hO : Ok m) (c : Dev nD) (t : Fin (cfgM m hO).N) (d) : (dats m hO 0 c).before 19 t d = iblk m hO c 19 t :=
  before0_19_of m hO (dats m hO 0 c) (A_eq m hO c 19) (after0_19 m hO c) t d
theorem before0_20 (hO : Ok m) (c : Dev nD) (t : Fin (cfgM m hO).N) (d) : (dats m hO 0 c).before 20 t d = iblk m hO c 20 t :=
  before0_20_of m hO (dats m hO 0 c) (A_eq m hO c 20) (after0_20 m hO c) t d
theorem before0_21 (hO : Ok m) (c : Dev nD) (t : Fin (cfgM m hO).N) (d) : (dats m hO 0 c).before 21 t d = iblk m hO c 21 t :=
  before0_21_of m hO (dats m hO 0 c) (A_eq m hO c 21) (after0_21 m hO c) t d
theorem before0_22 (hO : Ok m) (c : Dev nD) (t : Fin (cfgM m hO).N) (d) : (dats m hO 0 c).before 22 t d = iblk m hO c 22 t :=
  before0_22_of m hO (dats m hO 0 c) (A_eq m hO c 22) (after0_22 m hO c) t d
theorem before0_23 (hO : Ok m) (c : Dev nD) (t : Fin (cfgM m hO).N) (d) : (dats m hO 0 c).before 23 t d = iblk m hO c 23 t :=
  before0_23_of m hO (dats m hO 0 c) (A_eq m hO c 23) (after0_23 m hO c) t d
theorem before0_24 (hO : Ok m) (c : Dev nD) (t : Fin (cfgM m hO).N) (d) : (dats m hO 0 c).before 24 t d = iblk m hO c 24 t :=
  before0_24_of m hO (dats m hO 0 c) (A_eq m hO c 24) (after0_24 m hO c) t d
theorem before0_25 (hO : Ok m) (c : Dev nD) (t : Fin (cfgM m hO).N) (d) : (dats m hO 0 c).before 25 t d = iblk m hO c 25 t :=
  before0_25_of m hO (dats m hO 0 c) (A_eq m hO c 25) (after0_25 m hO c) t d
theorem before0_26 (hO : Ok m) (c : Dev nD) (t : Fin (cfgM m hO).N) (d) : (dats m hO 0 c).before 26 t d = iblk m hO c 26 t :=
  before0_26_of m hO (dats m hO 0 c) (A_eq m hO c 26) (after0_26 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d))
    ∗ (∃ d, owns (c : Thread nD τ) (ms0_11 m hO t) fullShare ((dats m hO 0 c).before 11 t d))
    ∗ (∃ d, owns (c : Thread nD τ) (ms0_12 m hO t) fullShare ((dats m hO 0 c).before 12 t d))
    ∗ (∃ d, owns (c : Thread nD τ) (ms0_13 m hO t) fullShare ((dats m hO 0 c).before 13 t d))
    ∗ (∃ d, owns (c : Thread nD τ) (ms0_14 m hO t) fullShare ((dats m hO 0 c).before 14 t d))
    ∗ (∃ d, owns (c : Thread nD τ) (ms0_15 m hO t) fullShare ((dats m hO 0 c).before 15 t d))
    ∗ (∃ d, owns (c : Thread nD τ) (ms0_16 m hO t) fullShare ((dats m hO 0 c).before 16 t d))
    ∗ (∃ d, owns (c : Thread nD τ) (ms0_17 m hO t) fullShare ((dats m hO 0 c).before 17 t d))
    ∗ (∃ d, owns (c : Thread nD τ) (ms0_18 m hO t) fullShare ((dats m hO 0 c).before 18 t d))
    ∗ (∃ d, owns (c : Thread nD τ) (ms0_19 m hO t) fullShare ((dats m hO 0 c).before 19 t d))
    ∗ (∃ d, owns (c : Thread nD τ) (ms0_20 m hO t) fullShare ((dats m hO 0 c).before 20 t d))
    ∗ (∃ d, owns (c : Thread nD τ) (ms0_21 m hO t) fullShare ((dats m hO 0 c).before 21 t d))
    ∗ (∃ d, owns (c : Thread nD τ) (ms0_22 m hO t) fullShare ((dats m hO 0 c).before 22 t d))
    ∗ (∃ d, owns (c : Thread nD τ) (ms0_23 m hO t) fullShare ((dats m hO 0 c).before 23 t d))
    ∗ (∃ d, owns (c : Thread nD τ) (ms0_24 m hO t) fullShare ((dats m hO 0 c).before 24 t d))
    ∗ (∃ d, owns (c : Thread nD τ) (ms0_25 m hO t) fullShare ((dats m hO 0 c).before 25 t d))
    ∗ (∃ d, owns (c : Thread nD τ) (ms0_26 m hO t) fullShare ((dats m hO 0 c).before 26 t d))
    ∗ (∃ d, owns (c : Thread nD τ) (ms0_27 m hO t) fullShare ((dats m hO 0 c).before 27 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t)
    ∗ owns (c : Thread nD τ) (ms0_9 m hO t) fullShare ((dats m hO 0 c).after 9 t)
    ∗ owns (c : Thread nD τ) (ms0_10 m hO t) fullShare ((dats m hO 0 c).after 10 t)
    ∗ owns (c : Thread nD τ) (ms0_11 m hO t) fullShare ((dats m hO 0 c).after 11 t)
    ∗ owns (c : Thread nD τ) (ms0_12 m hO t) fullShare ((dats m hO 0 c).after 12 t)
    ∗ owns (c : Thread nD τ) (ms0_13 m hO t) fullShare ((dats m hO 0 c).after 13 t)
    ∗ owns (c : Thread nD τ) (ms0_14 m hO t) fullShare ((dats m hO 0 c).after 14 t)
    ∗ owns (c : Thread nD τ) (ms0_15 m hO t) fullShare ((dats m hO 0 c).after 15 t)
    ∗ owns (c : Thread nD τ) (ms0_16 m hO t) fullShare ((dats m hO 0 c).after 16 t)
    ∗ owns (c : Thread nD τ) (ms0_17 m hO t) fullShare ((dats m hO 0 c).after 17 t)
    ∗ owns (c : Thread nD τ) (ms0_18 m hO t) fullShare ((dats m hO 0 c).after 18 t)
    ∗ owns (c : Thread nD τ) (ms0_19 m hO t) fullShare ((dats m hO 0 c).after 19 t)
    ∗ owns (c : Thread nD τ) (ms0_20 m hO t) fullShare ((dats m hO 0 c).after 20 t)
    ∗ owns (c : Thread nD τ) (ms0_21 m hO t) fullShare ((dats m hO 0 c).after 21 t)
    ∗ owns (c : Thread nD τ) (ms0_22 m hO t) fullShare ((dats m hO 0 c).after 22 t)
    ∗ owns (c : Thread nD τ) (ms0_23 m hO t) fullShare ((dats m hO 0 c).after 23 t)
    ∗ owns (c : Thread nD τ) (ms0_24 m hO t) fullShare ((dats m hO 0 c).after 24 t)
    ∗ owns (c : Thread nD τ) (ms0_25 m hO t) fullShare ((dats m hO 0 c).after 25 t)
    ∗ owns (c : Thread nD τ) (ms0_26 m hO t) fullShare ((dats m hO 0 c).after 26 t)
    ∗ owns (c : Thread nD τ) (ms0_27 m hO t) fullShare ((dats m hO 0 c).after 27 t))

set_option maxHeartbeats 2800000 in
/-- The body at any point: the inputs' memrefs hold their blocks (`before0_W`); so the
    run applies; the invariant passes through unread; the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27]
  rw [show (dats m hO 0 c).Φ t.castSucc = iprop(Pipeline.ΦA spec0 c ∗ Pipeline.ΦT pre0 (tbl m) c) from rfl, PhiT0_eq]
  unfold outsAt0
  unfold out0_A_27
  iintro ⟨⟨HΦ, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (iblk m hO c 21 t) (iblk m hO c 22 t) (iblk m hO c 23 t) (iblk m hO c 24 t) (iblk m hO c 25 t) (iblk m hO c 26 t) (tbl m 0) (tbl m 1)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexists _; iexact H27
  isplitl [HT0]; · iexact HT0
  isplitl [HT1]; · iexact HT1
  iintro ⟨H0, H1, H2, H3, H4, H5, H6, H7, H8, H9, H10, H11, H12, H13, H14, H15, H16, H17, H18, H19, H20, H21, H22, H23, H24, H25, H26, ⟨%e27, H27⟩, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  unfold owns; iexists _; isplitr
  swap; · iexact H27
  ipureintro; exact View.read_writes_of_cover _ _ _ _ _ (cover0_A_27 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

set_option maxHeartbeats 4000000 in
/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-! ## The run and the frame -/

-- `θ_run_frameP_around_shared`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (Pipeline.afterTail pcfgs (fun _ => adm m hO) (dats m hO) 0 (V0 m) [hostOps1])) r ∧ r.2.sem = fun _ => 0) :=
  Pipeline.θ_run_frameP_around_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m hO) (hpf := V_pre m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (Pipeline.afterTail pcfgs (fun _ => adm m hO) (dats m hO) 0 (V0 m) [hostOps1])) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ hO (dats m hO) (A_eq m hO) (run_main m ρ hO)

/-- THE FRAME: `Cert.quiescent_SampleIdeal`'s statement (Defs.lean) at any `F` — Proof.lean cites it at `Bits`:
    `theorem Cert.Proof.claim : Cert.Claim := ⟨Cert.SampleIdeal.Gen.facts, fun m ρ _ => Cert.SampleIdeal.Gen.frame m ρ⟩`; here for every contents of the PREFETCHED TABLES, UNDER `Gen.Ok m` (the pipeline's side condition of
    them), which Proof.lean proves from the precondition: `⟨…, fun m ρ h => Cert.SampleIdeal.Gen.frame m ρ (ok_of_pre m h)⟩`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ hO) ((θ_run defs _ _).mono (fun _ h => h.2) (run_main_quiescent m ρ hO))

end Cert.SampleIdeal.Gen

end
-- ==== Proof.SampleClaims.lean ====
/-
  The frames of the sample attention: the tables it prefetches keep every block inside its array, so it leaves its
  arguments; its reference has no semaphore.
-/
module

public import proofs.«01_k».proof.Defs
public import proofs.«01_k».proof.Proof.InRange
public import proofs.«01_k».proof.Proof.SampleTables
public import proofs.«01_k».proof.Proof.SampleFrame
public import proofs.«01_k».proof.Proof.SampleIdealTables
public import proofs.«01_k».proof.Proof.SampleIdealFrame
public import proofs.«01_k».proof.Proof.Gen.SampleRefIdeal.Run

@[expose] public section

noncomputable section

namespace Cert.Proof.Sample

open Idealize.ShloMosaic Idealize.SL.Sem

/-- The precondition makes the tables admissible, over words. -/
theorem ok_bits (m) (h : Cert.Pre_Sample (hPre_in_range := Cert.Pre_in_range.Gen.facts) m) : Cert.Sample.Gen.Ok (F := Bits) m :=
  letI := Cert.Pre_in_range.Gen.facts
  Cert.Sample.Tables.ok_of_lt m fun y => InRange.page_lt _ _ _ _ _ _ (h 0).1 y

/-- And over the extended reals. -/
theorem ok_ideal (m) (h : Cert.Pre_SampleIdeal (hPre_in_range := Cert.Pre_in_range.Gen.facts) m) : Cert.SampleIdeal.Gen.Ok (F := Ideal) m :=
  letI := Cert.Pre_in_range.Gen.facts
  Cert.SampleIdeal.Tables.ok_of_lt m fun y => InRange.page_lt _ _ _ _ _ _ (h 0).1 y

theorem frame : Cert.quiescent_Sample (hSample := Cert.Sample.Gen.facts) (hPre_in_range := Cert.Pre_in_range.Gen.facts) :=
  fun m g h => Cert.Sample.Gen.frame (F := Bits) m g (ok_bits m h)

theorem frame_ideal : Cert.quiescent_SampleIdeal (hSampleIdeal := Cert.SampleIdeal.Gen.facts) (hPre_in_range := Cert.Pre_in_range.Gen.facts) :=
  fun m g h => Cert.SampleIdeal.Gen.frame (F := Ideal) m g (ok_ideal m h)

theorem frame_ref : Cert.quiescent_SampleRefIdeal (hSampleRefIdeal := Cert.SampleRefIdeal.Gen.facts) (hPre_in_range := Cert.Pre_in_range.Gen.facts) :=
  fun m g _ => (θ_run Cert.SampleRefIdeal.defs _ _).mono (fun r h => ⟨fun c => (h c).2, sem_eq_zero_of_no_sems (by decide) r.2⟩)
    (Cert.SampleRefIdeal.Value.run (F := Ideal) m g)

end Cert.Proof.Sample

end
-- ==== Proof.SamplePay.lean ====
/-
  One head of the sample attention kernel, as the kernel's own arithmetic on the blocks it was handed, and that
  arithmetic read at an entry over the extended reals.
-/
module

public import proofs.«01_k».proof.Proof.Gen.SampleIdeal.Skeleton
public import Idealize.ShloMosaic.Lib.Pointwise

@[expose] public section

noncomputable section

namespace Cert.SampleIdeal.Pay

open Cert.SampleIdeal Cert.SampleIdeal.Gen Idealize.ShloMosaic

section
variable {F : FTy → Type} [FloatOps F]

/-- The head's query rows, scaled. -/
def scaled (w : Vec F S1x1x8x64 .f32) : FVec F S8x64 .f32 :=
  mulf (shapeCast S8x64 w shapeCasts_S1x1x8x64_S8x64) (broadcast S8x64 (Scalar.ofBits .f32 0x3E000000#32))

/-- The scores of one tile of keys: the products with the query plus the tile's row of the bias table. -/
def score (q : FVec F S8x64 .bf16) (b : BitVec 1) (t : Vec F S1x1x128x128 .f32) (b0 b1 : Vec F S1x1x128 .f32) : FVec F S8x128 .f32 :=
  addf (matmul dot_S8x64_S64x128_S8x128_1_0_0_1_n_n none q
      (truncf .bf16 (extractStridedSlice S64x128 ![0, 0] (shapeCast S128x128 t shapeCasts_S1x1x128x128_S128x128) slices_S128x128_o0_0_S64x128) bitsLt_bf16_f32)
      (constant S8x128 .f32 0x00000000#32))
    (broadcastTo S8x128 (Scalar.select b (shapeCast S1x128 b0 shapeCasts_S1x1x128_S1x128) (shapeCast S1x128 b1 shapeCasts_S1x1x128_S1x128)) broadcasts_S1x128_S8x128)

/-- The values of one tile. -/
def vals (t : Vec F S1x1x128x128 .f32) : FVec F S64x128 .bf16 :=
  truncf .bf16 (extractStridedSlice S64x128 ![64, 0] (shapeCast S128x128 t shapeCasts_S1x1x128x128_S128x128) slices_S128x128_o64_0_S64x128) bitsLt_bf16_f32

/-- The six tiles' scores side by side. -/
def cat (x0 x1 x2 x3 x4 x5 : FVec F S8x128 .f32) : FVec F S8x768 .f32 :=
  concatenate S8x768 1 [⟨S8x128, x0⟩, ⟨S8x128, x1⟩, ⟨S8x128, x2⟩, ⟨S8x128, x3⟩, ⟨S8x128, x4⟩, ⟨S8x128, x5⟩] concatenates_S8x128_S8x128_S8x128_S8x128_S8x128_S8x128_S8x768_d1

/-- The score of the new token's own key. -/
def self (q : FVec F S8x64 .f32) (w : Vec F S1x1x1x128 .f32) (b2 : Vec F S1x1x1 .f32) : FVec F S8x1 .f32 :=
  addf (shapeCast S8x1 (multiReduction .add [1] S8 (mulf q (broadcastTo S8x64 (extractStridedSlice S1x64 ![0, 0] (shapeCast S1x128 w shapeCasts_S1x1x1x128_S1x128) slices_S1x128_o0_0_S1x64) broadcasts_S1x64_S8x64)) 0x00000000#32 reduces_S8x64_S8 (.inl rfl) rfl) shapeCasts_S8_S8x1)
    (broadcastTo S8x1 (shapeCast S1x1 b2 shapeCasts_S1x1x1_S1x1) broadcasts_S1x1_S8x1)

/-- The largest score. -/
def top (s : FVec F S8x768 .f32) (s0 : FVec F S8x1 .f32) : FVec F S8x1 .f32 :=
  maximumf (shapeCast S8x1 (multiReduction .maximumf [1] S8 s 0xFF800000#32 reduces_S8x768_S8 (.inl rfl) rfl) shapeCasts_S8_S8x1) s0

/-- The weights of the tiles' keys before they are normalised. -/
def wts (s : FVec F S8x768 .f32) (mx : FVec F S8x1 .f32) : FVec F S8x768 .f32 :=
  exp (subf s (broadcastTo S8x768 mx broadcasts_S8x1_S8x768))

/-- The weighted sum of the values divided by the sum of the weights. -/
def mix (p : FVec F S8x768 .f32) (p0 : FVec F S8x1 .f32) (w : Vec F S1x1x1x128 .f32) (v0 v1 v2 v3 v4 v5 : FVec F S64x128 .bf16) : FVec F S1x1x8x64 .f32 :=
  shapeCast S1x1x8x64 (divf
    (addf (addf (addf (addf (addf (addf
      (mulf (broadcastTo S8x64 p0 broadcasts_S8x1_S8x64) (broadcastTo S8x64 (extractStridedSlice S1x64 ![0, 64] (shapeCast S1x128 w shapeCasts_S1x1x1x128_S1x128) slices_S1x128_o0_64_S1x64) broadcasts_S1x64_S8x64))
      (matmul dot_S8x128_S64x128_S8x64_1_1_0_0_n_n none (truncf .bf16 (extractStridedSlice S8x128 ![0, 0] p slices_S8x768_o0_0_S8x128) bitsLt_bf16_f32) v0 (constant S8x64 .f32 0x00000000#32)))
      (matmul dot_S8x128_S64x128_S8x64_1_1_0_0_n_n none (truncf .bf16 (extractStridedSlice S8x128 ![0, 128] p slices_S8x768_o0_128_S8x128) bitsLt_bf16_f32) v1 (constant S8x64 .f32 0x00000000#32)))
      (matmul dot_S8x128_S64x128_S8x64_1_1_0_0_n_n none (truncf .bf16 (extractStridedSlice S8x128 ![0, 256] p slices_S8x768_o0_256_S8x128) bitsLt_bf16_f32) v2 (constant S8x64 .f32 0x00000000#32)))
      (matmul dot_S8x128_S64x128_S8x64_1_1_0_0_n_n none (truncf .bf16 (extractStridedSlice S8x128 ![0, 384] p slices_S8x768_o0_384_S8x128) bitsLt_bf16_f32) v3 (constant S8x64 .f32 0x00000000#32)))
      (matmul dot_S8x128_S64x128_S8x64_1_1_0_0_n_n none (truncf .bf16 (extractStridedSlice S8x128 ![0, 512] p slices_S8x768_o0_512_S8x128) bitsLt_bf16_f32) v4 (constant S8x64 .f32 0x00000000#32)))
      (matmul dot_S8x128_S64x128_S8x64_1_1_0_0_n_n none (truncf .bf16 (extractStridedSlice S8x128 ![0, 640] p slices_S8x768_o0_640_S8x128) bitsLt_bf16_f32) v5 (constant S8x64 .f32 0x00000000#32)))
    (broadcastTo S8x64 (maximumf (addf (shapeCast S8x1 (multiReduction .add [1] S8 p 0x00000000#32 reduces_S8x768_S8 (.inl rfl) rfl) shapeCasts_S8_S8x1) p0) (broadcast S8x1 (Scalar.ofBits .f32 0x0DA24260#32))) broadcasts_S8x1_S8x64))
    shapeCasts_S8x64_S1x1x8x64

/-- Whether the tile is the second half of the selected block that ends at the token. -/
def isNear (i : BitVec 32) (b : BitVec 1) : BitVec 1 := Scalar.andi (Scalar.cmpi .eq i 31#32) b

/-- The six tiles' scores. -/
def scores (w : Vec F S1x1x8x64 .f32) (t0 t1 t2 t3 t4 t5 : Vec F S1x1x128x128 .f32) (b0 b1 : Vec F S1x1x128 .f32) (i0 i1 i2 : BitVec 32) : FVec F S8x768 .f32 :=
  cat (score (truncf .bf16 (scaled w) bitsLt_bf16_f32) (isNear i0 0#1) t0 b0 b1)
    (score (truncf .bf16 (scaled w) bitsLt_bf16_f32) (isNear i0 1#1) t1 b0 b1)
    (score (truncf .bf16 (scaled w) bitsLt_bf16_f32) (isNear i1 0#1) t2 b0 b1)
    (score (truncf .bf16 (scaled w) bitsLt_bf16_f32) (isNear i1 1#1) t3 b0 b1)
    (score (truncf .bf16 (scaled w) bitsLt_bf16_f32) (isNear i2 0#1) t4 b0 b1)
    (score (truncf .bf16 (scaled w) bitsLt_bf16_f32) (isNear i2 1#1) t5 b0 b1)

/-- One head of the kernel's output. -/
def head (w : Vec F S1x1x8x64 .f32) (n : Vec F S1x1x1x128 .f32) (t0 t1 t2 t3 t4 t5 : Vec F S1x1x128x128 .f32) (b0 b1 : Vec F S1x1x128 .f32) (b2 : Vec F S1x1x1 .f32) (i0 i1 i2 : BitVec 32) : FVec F S1x1x8x64 .f32 :=
  mix (wts (scores w t0 t1 t2 t3 t4 t5 b0 b1 i0 i1 i2) (top (scores w t0 t1 t2 t3 t4 t5 b0 b1 i0 i1 i2) (self (scaled w) n b2)))
    (exp (subf (self (scaled w) n b2) (top (scores w t0 t1 t2 t3 t4 t5 b0 b1 i0 i1 i2) (self (scaled w) n b2))))
    n (vals t0) (vals t1) (vals t2) (vals t3) (vals t4) (vals t5)

/-- The first head of the four the kernel computes at a grid point. -/
theorem head0 (w : Vec F S1x1x8x64 .f32) (n : Vec F S1x1x1x128 .f32) (t0 t1 t2 t3 t4 t5 : Vec F S1x1x128x128 .f32) (b0 b1 : Vec F S1x1x128 .f32) (b2 : Vec F S1x1x1 .f32) (i0 i1 i2 : BitVec 32) :
    k0_pay36 (k0_pay23 t4) (k0_pay26 t5) (k0_pay31 (k0_pay2 w) (k0_pay5 n) (k0_pay11 (k0_pay9 w t0) (k0_pay10 i0 b0 b1)) (k0_pay14 (k0_pay3 w) i0 t1 b0 b1) (k0_pay18 (k0_pay3 w) (isNear i1 0#1) (k0_pay15 t2) b0 b1) (k0_pay21 (k0_pay3 w) i1 t3 b0 b1) (k0_pay24 (k0_pay3 w) i2 t4 b0 b1) (isNear i2 1#1) (k0_pay27 (k0_pay3 w) t5) b0 b1 b2) (k0_pay33 (k0_pay2 w) (k0_pay5 n) (k0_pay11 (k0_pay9 w t0) (k0_pay10 i0 b0 b1)) (k0_pay14 (k0_pay3 w) i0 t1 b0 b1) (k0_pay18 (k0_pay3 w) (isNear i1 0#1) (k0_pay15 t2) b0 b1) (k0_pay21 (k0_pay3 w) i1 t3 b0 b1) (k0_pay24 (k0_pay3 w) i2 t4 b0 b1) (isNear i2 1#1) (k0_pay27 (k0_pay3 w) t5) b0 b1 b2) (k0_pay34 (k0_pay2 w) (k0_pay5 n) (k0_pay6 n) (k0_pay8 t0) (k0_pay11 (k0_pay9 w t0) (k0_pay10 i0 b0 b1)) (k0_pay13 t1) (k0_pay14 (k0_pay3 w) i0 t1 b0 b1) (k0_pay17 (k0_pay16 t2)) (k0_pay18 (k0_pay3 w) (isNear i1 0#1) (k0_pay15 t2) b0 b1) (k0_pay21 (k0_pay3 w) i1 t3 b0 b1) (k0_pay24 (k0_pay3 w) i2 t4 b0 b1) (isNear i2 1#1) (k0_pay27 (k0_pay3 w) t5) b0 b1 b2) (k0_pay35 (k0_pay2 w) (k0_pay5 n) (k0_pay11 (k0_pay9 w t0) (k0_pay10 i0 b0 b1)) (k0_pay14 (k0_pay3 w) i0 t1 b0 b1) (k0_pay18 (k0_pay3 w) (isNear i1 0#1) (k0_pay15 t2) b0 b1) (k0_pay20 t3) (k0_pay21 (k0_pay3 w) i1 t3 b0 b1) (k0_pay24 (k0_pay3 w) i2 t4 b0 b1) (isNear i2 1#1) (k0_pay27 (k0_pay3 w) t5) b0 b1 b2)
      = head w n t0 t1 t2 t3 t4 t5 b0 b1 b2 i0 i1 i2 := by
  rfl

/-- The second head of the four the kernel computes at a grid point. -/
theorem head1 (w : Vec F S1x1x8x64 .f32) (n : Vec F S1x1x1x128 .f32) (t0 t1 t2 t3 t4 t5 : Vec F S1x1x128x128 .f32) (b0 b1 : Vec F S1x1x128 .f32) (b2 : Vec F S1x1x1 .f32) (i0 i1 i2 : BitVec 32) :
    k0_pay68 (k0_pay41 n) (k0_pay43 t0) (k0_pay46 t1) (k0_pay51 t2) (k0_pay55 (k0_pay54 t3)) (k0_pay58 t4) (k0_pay61 t5) (k0_pay65 (k0_pay37 w) (k0_pay38 w) (k0_pay40 n) (k0_pay44 (k0_pay38 w) (isNear i0 0#1) t0 b0 b1) (k0_pay49 (k0_pay47 (k0_pay38 w) t1) (k0_pay48 i0 b0 b1)) (k0_pay52 (k0_pay38 w) i1 t2 b0 b1) (k0_pay56 (k0_pay38 w) (isNear i1 1#1) (k0_pay53 t3) b0 b1) (k0_pay59 (k0_pay38 w) i2 t4 b0 b1) i2 t5 b0 b1 b2) (k0_pay66 (k0_pay37 w) (k0_pay38 w) (k0_pay40 n) (k0_pay44 (k0_pay38 w) (isNear i0 0#1) t0 b0 b1) (k0_pay49 (k0_pay47 (k0_pay38 w) t1) (k0_pay48 i0 b0 b1)) (k0_pay52 (k0_pay38 w) i1 t2 b0 b1) (k0_pay56 (k0_pay38 w) (isNear i1 1#1) (k0_pay53 t3) b0 b1) (k0_pay59 (k0_pay38 w) i2 t4 b0 b1) i2 t5 b0 b1 b2) (k0_pay67 (k0_pay37 w) (k0_pay38 w) (k0_pay40 n) (k0_pay44 (k0_pay38 w) (isNear i0 0#1) t0 b0 b1) (k0_pay49 (k0_pay47 (k0_pay38 w) t1) (k0_pay48 i0 b0 b1)) (k0_pay52 (k0_pay38 w) i1 t2 b0 b1) (k0_pay56 (k0_pay38 w) (isNear i1 1#1) (k0_pay53 t3) b0 b1) (k0_pay59 (k0_pay38 w) i2 t4 b0 b1) i2 t5 b0 b1 b2)
      = head w n t0 t1 t2 t3 t4 t5 b0 b1 b2 i0 i1 i2 := by
  rfl

/-- The third head of the four the kernel computes at a grid point. -/
theorem head2 (w : Vec F S1x1x8x64 .f32) (n : Vec F S1x1x1x128 .f32) (t0 t1 t2 t3 t4 t5 : Vec F S1x1x128x128 .f32) (b0 b1 : Vec F S1x1x128 .f32) (b2 : Vec F S1x1x1 .f32) (i0 i1 i2 : BitVec 32) :
    k0_pay96 (k0_pay95 (k0_pay73 n) (k0_pay75 t0) (k0_pay78 t1) (k0_pay81 t2) (k0_pay86 t3) (k0_pay90 (k0_pay89 t4)) (k0_pay92 t5) (k0_pay93 (k0_pay70 w) (k0_pay76 (k0_pay70 w) i0 t0 b0 b1) (k0_pay79 (k0_pay70 w) (isNear i0 1#1) t1 b0 b1) (k0_pay84 (k0_pay82 (k0_pay70 w) t2) (k0_pay83 i1 b0 b1)) (k0_pay87 (k0_pay70 w) i1 t3 b0 b1) (isNear i2 0#1) (k0_pay88 t4) b0 b1 i2 t5 b0 b1) (k0_pay94 (k0_pay69 w) (k0_pay72 n)) b2)
      = head w n t0 t1 t2 t3 t4 t5 b0 b1 b2 i0 i1 i2 := by
  rfl

/-- The fourth head of the four the kernel computes at a grid point. -/
theorem head3 (w : Vec F S1x1x8x64 .f32) (n : Vec F S1x1x1x128 .f32) (t0 t1 t2 t3 t4 t5 : Vec F S1x1x128x128 .f32) (b0 b1 : Vec F S1x1x128 .f32) (b2 : Vec F S1x1x1 .f32) (i0 i1 i2 : BitVec 32) :
    k0_pay1 (k0_pay111 t2) (k0_pay114 t3) (k0_pay119 t4) (k0_pay123 (k0_pay122 t5)) (k0_pay127 (k0_pay97 w) (k0_pay98 w) (k0_pay100 n) (k0_pay106 (isNear i0 0#1) (k0_pay104 w t0) (k0_pay105 b0) b1) (k0_pay109 (k0_pay98 w) i0 t1 b0 b1) (k0_pay112 (k0_pay98 w) (isNear i1 0#1) t2 b0 b1) (k0_pay117 (k0_pay115 (k0_pay98 w) t3) (k0_pay116 i1 b0 b1)) (k0_pay120 (k0_pay98 w) i2 t4 b0 b1) (isNear i2 1#1) (k0_pay121 t5) b0 b1 b2) (k0_pay129 (k0_pay97 w) (k0_pay98 w) (k0_pay100 n) (k0_pay106 (isNear i0 0#1) (k0_pay104 w t0) (k0_pay105 b0) b1) (k0_pay109 (k0_pay98 w) i0 t1 b0 b1) (k0_pay112 (k0_pay98 w) (isNear i1 0#1) t2 b0 b1) (k0_pay117 (k0_pay115 (k0_pay98 w) t3) (k0_pay116 i1 b0 b1)) (k0_pay120 (k0_pay98 w) i2 t4 b0 b1) (isNear i2 1#1) (k0_pay121 t5) b0 b1 b2) (k0_pay130 (k0_pay97 w) (k0_pay98 w) (k0_pay100 n) (k0_pay101 n) (k0_pay103 t0) (k0_pay106 (isNear i0 0#1) (k0_pay104 w t0) (k0_pay105 b0) b1) (k0_pay108 t1) (k0_pay109 (k0_pay98 w) i0 t1 b0 b1) (k0_pay112 (k0_pay98 w) (isNear i1 0#1) t2 b0 b1) (k0_pay117 (k0_pay115 (k0_pay98 w) t3) (k0_pay116 i1 b0 b1)) (k0_pay120 (k0_pay98 w) i2 t4 b0 b1) (isNear i2 1#1) (k0_pay121 t5) b0 b1 b2) (k0_pay131 (k0_pay97 w) (k0_pay98 w) (k0_pay100 n) (k0_pay106 (isNear i0 0#1) (k0_pay104 w t0) (k0_pay105 b0) b1) (k0_pay109 (k0_pay98 w) i0 t1 b0 b1) (k0_pay112 (k0_pay98 w) (isNear i1 0#1) t2 b0 b1) (k0_pay117 (k0_pay115 (k0_pay98 w) t3) (k0_pay116 i1 b0 b1)) (k0_pay120 (k0_pay98 w) i2 t4 b0 b1) (isNear i2 1#1) (k0_pay121 t5) b0 b1 b2) (constant S8x64 .f32 0x00000000#32)
      = head w n t0 t1 t2 t3 t4 t5 b0 b1 b2 i0 i1 i2 := by
  rfl

end

/-! Read at an entry. -/

theorem scaled_apply (w : Vec Ideal S1x1x8x64 .f32) (r : Fin 8) (d : Fin 64) :
    scaled (F := Ideal) w (ix2 r d) = w (ix4 0 0 r d) * Ideal.ofBits .f32 0x3E000000#32 := by
  pointwise [scaled]

theorem vals_apply (t : Vec Ideal S1x1x128x128 .f32) (d : Fin 64) (k : Fin 128) :
    vals (F := Ideal) t (ix2 d k) = t (ix4 0 0 ⟨64 + d.val, by omega⟩ k) := by
  pointwise [vals]

theorem score_apply (q : FVec Ideal S8x64 .bf16) (b : BitVec 1) (t : Vec Ideal S1x1x128x128 .f32) (b0 b1 : Vec Ideal S1x1x128 .f32) (r : Fin 8) (k : Fin 128) :
    score (F := Ideal) q b t b0 b1 (ix2 r k) = (∑ d : Fin 64, q (ix2 r d) * t (ix4 0 0 ⟨d.val, by omega⟩ k)) + (if b = 1#1 then b0 (ix3 0 0 k) else b1 (ix3 0 0 k)) := by
  pointwise [score]
  rfl

theorem self_apply (q : FVec Ideal S8x64 .f32) (w : Vec Ideal S1x1x1x128 .f32) (b2 : Vec Ideal S1x1x1 .f32) (r : Fin 8) :
    self (F := Ideal) q w b2 (ix2 r 0) = (∑ d : Fin 64, q (ix2 r d) * w (ix4 0 0 0 ⟨d.val, by omega⟩)) + b2 (ix3 0 0 0) := by
  pointwise [self]

theorem top_apply (s : FVec Ideal S8x768 .f32) (s0 : FVec Ideal S8x1 .f32) (r : Fin 8) :
    top (F := Ideal) s s0 (ix2 r 0) = max (Finset.univ.fold max (Ideal.ofBits .f32 0xFF800000#32) fun k : Fin 768 => s (ix2 r k)) (s0 (ix2 r 0)) := by
  pointwise [top]

theorem wts_apply (s : FVec Ideal S8x768 .f32) (mx : FVec Ideal S8x1 .f32) (r : Fin 8) (k : Fin 768) :
    wts (F := Ideal) s mx (ix2 r k) = Ideal.exp (s (ix2 r k) - mx (ix2 r 0)) := by
  pointwise [wts]

theorem mix_apply (p : FVec Ideal S8x768 .f32) (p0 : FVec Ideal S8x1 .f32) (w : Vec Ideal S1x1x1x128 .f32) (v0 v1 v2 v3 v4 v5 : FVec Ideal S64x128 .bf16) (r : Fin 8) (d : Fin 64) :
    mix (F := Ideal) p p0 w v0 v1 v2 v3 v4 v5 (ix4 0 0 r d)
      = Ideal.div (p0 (ix2 r 0) * w (ix4 0 0 0 ⟨64 + d.val, by omega⟩)
          + (∑ k : Fin 128, p (ix2 r ⟨k.val, by omega⟩) * v0 (ix2 d k))
          + (∑ k : Fin 128, p (ix2 r ⟨128 + k.val, by omega⟩) * v1 (ix2 d k))
          + (∑ k : Fin 128, p (ix2 r ⟨256 + k.val, by omega⟩) * v2 (ix2 d k))
          + (∑ k : Fin 128, p (ix2 r ⟨384 + k.val, by omega⟩) * v3 (ix2 d k))
          + (∑ k : Fin 128, p (ix2 r ⟨512 + k.val, by omega⟩) * v4 (ix2 d k))
          + (∑ k : Fin 128, p (ix2 r ⟨640 + k.val, by omega⟩) * v5 (ix2 d k)))
        (max ((∑ k : Fin 768, p (ix2 r k)) + p0 (ix2 r 0)) (Ideal.ofBits .f32 0x0DA24260#32)) := by
  pointwise [mix]

theorem cat_apply (x0 x1 x2 x3 x4 x5 : FVec Ideal S8x128 .f32) (r : Fin 8) (a : Fin 6) (k : Fin 128) :
    cat (F := Ideal) x0 x1 x2 x3 x4 x5 (ix2 r ⟨a.val * 128 + k.val, by omega⟩) = (![x0, x1, x2, x3, x4, x5] a) (ix2 r k) := by
  fin_cases a <;> pointwise [cat]
  · rw [dif_neg (by omega), dif_neg (by omega), dif_pos (by omega)]
    exact congrArg (fun z => x2 (ix2 r z)) (Fin.ext (by show 256 + k.val - 128 - 128 = k.val; omega))
  · rw [dif_neg (by omega), dif_neg (by omega), dif_neg (by omega), dif_pos (by omega)]
    exact congrArg (fun z => x3 (ix2 r z)) (Fin.ext (by show 384 + k.val - 128 - 128 - 128 = k.val; omega))
  · rw [dif_neg (by omega), dif_neg (by omega), dif_neg (by omega), dif_neg (by omega), dif_pos (by omega)]
    exact congrArg (fun z => x4 (ix2 r z)) (Fin.ext (by show 512 + k.val - 128 - 128 - 128 - 128 = k.val; omega))
  · rw [dif_neg (by omega), dif_neg (by omega), dif_neg (by omega), dif_neg (by omega), dif_neg (by omega)]
    exact congrArg (fun z => x5 (ix2 r z)) (Fin.ext (by show 640 + k.val - 128 - 128 - 128 - 128 - 128 = k.val; omega))

end Cert.SampleIdeal.Pay

end
-- ==== Proof.SampleSoft.lean ====
/-
  The normalised weighted sum of the sample attention over the extended reals: dividing the weighted sum once by the sum
  of the weights is dividing each weight, wherever the largest score stands.
-/
module

public import Idealize.ShloMosaic.PureOps.Ideal

@[expose] public section

noncomputable section

namespace Cert.Proof.Sample.Soft

open Idealize.ShloMosaic

variable {ι : Type} [Fintype ι]

/-- The exponential is nowhere negative. -/
theorem exp_nonneg (x : EReal) : 0 ≤ Ideal.exp x := by
  induction x using EReal.rec with
  | bot => simp
  | coe x => rw [Ideal.exp_coe]; exact_mod_cast (Real.exp_pos x).le
  | top => simp

/-- Multiplication by a nonnegative real distributes over a sum. -/
theorem sum_mul (f : ι → EReal) (r : ℝ) (hr : 0 ≤ r) : (∑ i, f i) * (r : EReal) = ∑ i, f i * (r : EReal) := by
  classical
  refine Finset.induction_on (Finset.univ : Finset ι) (by simp) fun i s hi ih => ?_
  rw [Finset.sum_insert hi, Finset.sum_insert hi, EReal.right_distrib_of_nonneg_of_ne_top (by exact_mod_cast hr) (EReal.coe_ne_top r), ih]

/-- A sum of reals is a real. -/
theorem sum_coe (f : ι → ℝ) : (∑ i, ((f i : ℝ) : EReal)) = ((∑ i, f i : ℝ) : EReal) := by
  classical
  refine Finset.induction_on (Finset.univ : Finset ι) (by simp) fun i s hi ih => ?_
  rw [Finset.sum_insert hi, Finset.sum_insert hi, EReal.coe_add, ih]

theorem div_top (x : EReal) : Ideal.div x ⊤ = 0 := by
  simp [Ideal.div]

theorem zero_div (ε : ℝ) (h : ε ≠ 0) : Ideal.div 0 (ε : EReal) = 0 := by
  rw [Ideal.div_coe h, zero_mul]

theorem coe_max (x y : ℝ) : max (x : EReal) (y : EReal) = ((max x y : ℝ) : EReal) :=
  (EReal.coe_strictMono.monotone.map_max).symm

/-- With `M` the largest score and `z` the same where it is a real and zero where it is not, dividing the sum once is
    dividing every weight. -/
theorem core (s v : ι → EReal) (M z : EReal) (ε : ℝ) (hε : 0 < ε) (hle : ∀ i, s i ≤ M) (hex : ∃ i, s i = M)
    (hz : M ≠ ⊤ → M ≠ ⊥ → z = M) (ht : M = ⊤ → z = 0) (hb : M = ⊥ → z = 0) :
    Ideal.div (∑ i, Ideal.exp (s i - M) * v i) (max (∑ i, Ideal.exp (s i - M)) (ε : EReal))
      = ∑ i, Ideal.div (Ideal.exp (s i - z)) (max (∑ j, Ideal.exp (s j - z)) (ε : EReal)) * v i := by
  have hε' : ((ε : ℝ) : EReal) ≠ 0 := by exact_mod_cast hε.ne'
  have hε0 : (0 : EReal) ≤ (ε : EReal) := by exact_mod_cast hε.le
  induction M using EReal.rec with
  | bot =>
    have hs : ∀ i, s i = ⊥ := fun i => le_bot_iff.mp (hle i)
    rw [hb rfl]
    simp only [hs, sub_zero, Ideal.exp_bot, show ((⊥ : EReal) - ⊥) = ⊥ from rfl, zero_mul, Finset.sum_const_zero]
    rw [max_eq_right hε0, zero_div ε hε.ne']
    simp
  | top =>
    obtain ⟨i₀, h₀⟩ := hex
    have h1 : ∀ i, Ideal.exp (s i - ⊤) = 0 := fun i => by
      rw [show s i - ⊤ = ⊥ by rw [sub_eq_add_neg, EReal.neg_top, EReal.add_bot], Ideal.exp_bot]
    have h2 : (∑ j, Ideal.exp (s j - z)) = ⊤ := by
      rw [ht rfl]
      simp only [sub_zero]
      refine top_unique ?_
      calc (⊤ : EReal) = Ideal.exp (s i₀) := by rw [h₀, Ideal.exp_top]
        _ ≤ _ := Finset.single_le_sum (f := fun j => Ideal.exp (s j)) (fun i _ => exp_nonneg (s i)) (Finset.mem_univ i₀)
    rw [h2]
    simp only [h1, zero_mul, Finset.sum_const_zero, max_eq_right hε0, zero_div ε hε.ne']
    rw [max_eq_left le_top]
    simp only [div_top, zero_mul, Finset.sum_const_zero]
  | coe M =>
    rw [hz (EReal.coe_ne_top M) (EReal.coe_ne_bot M)]
    have h1 : ∀ i, ∃ r : ℝ, 0 ≤ r ∧ Ideal.exp (s i - (M : EReal)) = (r : EReal) := fun i => by
      have := hle i
      generalize s i = x at this
      induction x using EReal.rec with
      | bot => exact ⟨0, le_rfl, by rw [show (⊥ : EReal) - (M : EReal) = ⊥ from EReal.bot_sub _]; simp⟩
      | coe x => exact ⟨Real.exp (x - M), (Real.exp_pos _).le, by rw [← EReal.coe_sub, Ideal.exp_coe]⟩
      | top => exact absurd this (by simp)
    choose e he0 he using h1
    simp only [he, sum_coe, coe_max]
    have hd : (max (∑ i, e i) ε) ≠ 0 := (lt_of_lt_of_le hε (le_max_right _ _)).ne'
    have hr : (0 : ℝ) ≤ 1 / max (∑ i, e i) ε := div_nonneg zero_le_one (le_trans hε.le (le_max_right _ _))
    simp only [Ideal.div_coe hd]
    rw [sum_mul _ _ hr]
    exact Finset.sum_congr rfl fun i _ => by rw [mul_right_comm]

/-! The sum over 768 selected keys and the new token's own. -/

/-- The largest score. -/
def most (s : Fin 768 → EReal) (s0 : EReal) : EReal := max (Finset.univ.fold max (Ideal.ofBits .f32 0xFF800000#32) s) s0

/-- Divided once, at the end. -/
def once (s : Fin 768 → EReal) (s0 : EReal) (v : Fin 768 → EReal) (v0 : EReal) : EReal :=
  Ideal.div (Ideal.exp (s0 - most s s0) * v0 + ∑ j, Ideal.exp (s j - most s s0) * v j)
    (max ((∑ j, Ideal.exp (s j - most s s0)) + Ideal.exp (s0 - most s s0)) (Ideal.ofBits .f32 0x0DA24260#32))

/-- Every weight divided, the scores lowered by `z`. -/
def each (z : EReal) (s : Fin 768 → EReal) (s0 : EReal) (v : Fin 768 → EReal) (v0 : EReal) : EReal :=
  (∑ j, Ideal.div (Ideal.exp (s j - z)) (max ((∑ j, Ideal.exp (s j - z)) + Ideal.exp (s0 - z)) (Ideal.ofBits .f32 0x0DA24260#32)) * v j)
    + Ideal.div (Ideal.exp (s0 - z)) (max ((∑ j, Ideal.exp (s j - z)) + Ideal.exp (s0 - z)) (Ideal.ofBits .f32 0x0DA24260#32)) * v0

theorem ofBits_bot : Ideal.ofBits .f32 0xFF800000#32 = ⊥ := by simp [Ideal.ofBits, Ideal.ieee]
theorem ofBits_top : Ideal.ofBits .f32 0x7F800000#32 = ⊤ := by simp [Ideal.ofBits, Ideal.ieee]

theorem ofBits_tiny : ∃ ε : ℝ, 0 < ε ∧ Ideal.ofBits .f32 0x0DA24260#32 = (ε : EReal) := by
  refine ⟨_, ?_, by simp [Ideal.ofBits, Ideal.ieee]; rfl⟩
  positivity

theorem fold_le (s : Fin 768 → EReal) (j : Fin 768) : s j ≤ Finset.univ.fold max ⊥ s :=
  (Finset.le_fold_max _).mpr (Or.inr ⟨j, Finset.mem_univ j, le_rfl⟩)

theorem fold_mem (s : Fin 768 → EReal) : Finset.univ.fold max ⊥ s = ⊥ ∨ ∃ j, s j = Finset.univ.fold max ⊥ s := by
  classical
  refine Finset.induction_on (Finset.univ : Finset (Fin 768)) (Or.inl rfl) fun i t hi ih => ?_
  rw [Finset.fold_insert hi]
  rcases max_choice (s i) (t.fold max ⊥ s) with h | h
  · exact Or.inr ⟨i, h.symm⟩
  · rw [h]; exact ih

theorem once_eq_each (s : Fin 768 → EReal) (s0 : EReal) (v : Fin 768 → EReal) (v0 : EReal) (z : EReal)
    (hz : most s s0 ≠ ⊤ → most s s0 ≠ ⊥ → z = most s s0) (ht : most s s0 = ⊤ → z = 0) (hb : most s s0 = ⊥ → z = 0) :
    once s s0 v v0 = each z s s0 v v0 := by
  obtain ⟨ε, hε, he⟩ := ofBits_tiny
  have h := core (ι := Option (Fin 768)) (fun o => o.elim s0 s) (fun o => o.elim v0 v) (most s s0) z ε hε ?_ ?_ hz ht hb
  · simp only [Fintype.sum_option, Option.elim] at h
    unfold once each
    rw [he, add_comm (∑ j, Ideal.exp (s j - most s s0)), add_comm (∑ j, Ideal.exp (s j - z)), h, add_comm]
  · intro o
    unfold most
    rw [ofBits_bot]
    cases o with
    | none => exact le_max_right _ _
    | some j => exact (fold_le s j).trans (le_max_left _ _)
  · unfold most
    rw [ofBits_bot]
    rcases max_choice (Finset.univ.fold max ⊥ s) s0 with h | h
    · rw [h]
      rcases fold_mem s with h' | ⟨j, hj⟩
      · refine ⟨none, ?_⟩
        rw [h'] at h ⊢
        exact le_bot_iff.mp ((le_max_right _ _).trans h.le)
      · exact ⟨some j, hj⟩
    · exact ⟨none, h.symm⟩

end Cert.Proof.Sample.Soft

end
-- ==== Proof.SampleHead.lean ====
/-
  One head of the sample attention kernel as the normalised weighted sum over its 768 selected keys and the new one.
-/
module

public import proofs.«01_k».proof.Proof.SamplePay
public import proofs.«01_k».proof.Proof.SampleSoft
public import Idealize.ShloMosaic.Lib.Pointwise

@[expose] public section

noncomputable section

namespace Cert.SampleIdeal.Pay

open Cert.SampleIdeal Cert.SampleIdeal.Gen Idealize.ShloMosaic
open Cert.Proof.Sample.Soft

/-- The tile of key `j` and its slot in the tile. -/
def tileOf (j : Fin 768) : Fin 6 := ⟨j.val / 128, by omega⟩
def slotOf (j : Fin 768) : Fin 128 := ⟨j.val % 128, Nat.mod_lt _ (by omega)⟩

/-- Six sums over the tiles' slots are one over the keys. -/
theorem sum_tiles (f : Fin 768 → EReal) : ∑ j, f j = ∑ i : Fin 6, ∑ k : Fin 128, f ⟨i.val * 128 + k.val, by omega⟩ := by
  rw [← Fintype.sum_prod_type' (f := fun (i : Fin 6) (k : Fin 128) => f ⟨i.val * 128 + k.val, by omega⟩)]
  exact ((finProdFinEquiv (m := 6) (n := 128)).sum_comp f).symm.trans (Finset.sum_congr rfl fun x _ =>
    congrArg f (Fin.ext (show x.2.val + 128 * x.1.val = x.1.val * 128 + x.2.val by omega)))

/-- The bias of key `j`: from the table's near row or its far one. -/
def biasOf (B0 B1 : Fin 128 → EReal) (I : Fin 3 → BitVec 32) (j : Fin 768) : EReal :=
  if (I ⟨j.val / 256, by omega⟩).toNat = 31 ∧ j.val / 128 % 2 = 1 then B0 (slotOf j) else B1 (slotOf j)

theorem isNear_iff (i : BitVec 32) (b : BitVec 1) : isNear i b = 1#1 ↔ i.toNat = 31 ∧ b = 1#1 := by
  have hi : i.toNat = 31 ↔ i = 31#32 := ⟨fun h => BitVec.eq_of_toNat_eq (by simpa using h), fun h => by rw [h]; rfl⟩
  rw [hi]
  unfold isNear
  show IntOp.andi (BitVec.ofBool (i == 31#32)) b = 1#1 ↔ _
  by_cases h : i = 31#32
  · subst h; revert b; decide
  · rw [beq_false_of_ne h]
    revert b
    simp only [h, false_and, iff_false]
    decide

section
variable (w : Vec Ideal S1x1x8x64 .f32) (n : Vec Ideal S1x1x1x128 .f32) (T : Fin 6 → Vec Ideal S1x1x128x128 .f32) (b0 b1 : Vec Ideal S1x1x128 .f32) (b2 : Vec Ideal S1x1x1 .f32) (I : Fin 3 → BitVec 32)
variable (q nk nv : Fin 64 → EReal) (K V : Fin 6 → Fin 64 → Fin 128 → EReal) (B0 B1 : Fin 128 → EReal) (B2 : EReal)

theorem scores_apply (hw : ∀ d, w (ix4 0 0 0 d) = q d) (hK : ∀ i (d : Fin 64) k, T i (ix4 0 0 ⟨d.val, by omega⟩ k) = K i d k)
    (h0 : ∀ k, b0 (ix3 0 0 k) = B0 k) (h1 : ∀ k, b1 (ix3 0 0 k) = B1 k) (j : Fin 768) :
    scores (F := Ideal) w (T 0) (T 1) (T 2) (T 3) (T 4) (T 5) b0 b1 (I 0) (I 1) (I 2) (ix2 0 j)
      = (∑ d, q d * Ideal.ofBits .f32 0x3E000000#32 * K (tileOf j) d (slotOf j)) + biasOf B0 B1 I j := by
  obtain ⟨i, k, rfl⟩ : ∃ (i : Fin 6) (k : Fin 128), j = ⟨i.val * 128 + k.val, by omega⟩ :=
    ⟨tileOf j, slotOf j, Fin.ext (by show j.val = j.val / 128 * 128 + j.val % 128; omega)⟩
  have e1 : tileOf ⟨i.val * 128 + k.val, by omega⟩ = i := Fin.ext (by show (i.val * 128 + k.val) / 128 = i.val; omega)
  have e2 : slotOf ⟨i.val * 128 + k.val, by omega⟩ = k := Fin.ext (by show (i.val * 128 + k.val) % 128 = k.val; omega)
  have g : ∀ (b : BitVec 1) (a : Fin 6) (x : Fin 3), (a.val * 128 + k.val) / 256 = x.val → (b = 1#1 ↔ (a.val * 128 + k.val) / 128 % 2 = 1) →
      score (F := Ideal) (truncf .bf16 (scaled w) bitsLt_bf16_f32) (isNear (I x) b) (T a) b0 b1 (ix2 0 k)
        = (∑ d, q d * Ideal.ofBits .f32 0x3E000000#32 * K a d k) + (if (I ⟨(a.val * 128 + k.val) / 256, by omega⟩).toNat = 31 ∧ (a.val * 128 + k.val) / 128 % 2 = 1 then B0 k else B1 k) := by
    intro b a x hx hp
    have hc : isNear (I x) b = 1#1 ↔ (I ⟨(a.val * 128 + k.val) / 256, by omega⟩).toNat = 31 ∧ (a.val * 128 + k.val) / 128 % 2 = 1 := by
      rw [isNear_iff, hp, show (⟨(a.val * 128 + k.val) / 256, by omega⟩ : Fin 3) = x from Fin.ext hx]
    rw [score_apply, if_congr hc (h0 k) (h1 k)]
    refine congrArg (· + _) (Finset.sum_congr rfl fun d _ => ?_)
    rw [hK]
    exact congrArg (· * _) ((scaled_apply w 0 d).trans (congrArg (· * _) (hw d)))
  unfold scores
  rw [cat_apply, e1, biasOf, e2]
  fin_cases i
  · exact g 0#1 0 0 (by show (0 * 128 + k.val) / 256 = 0; omega) (by
      show _ ↔ (0 * 128 + k.val) / 128 % 2 = 1
      exact ⟨fun _ => by contradiction, fun _ => by omega⟩)
  · exact g 1#1 1 0 (by show (1 * 128 + k.val) / 256 = 0; omega) (by
      show _ ↔ (1 * 128 + k.val) / 128 % 2 = 1
      exact ⟨fun _ => by omega, fun _ => by rfl⟩)
  · exact g 0#1 2 1 (by show (2 * 128 + k.val) / 256 = 1; omega) (by
      show _ ↔ (2 * 128 + k.val) / 128 % 2 = 1
      exact ⟨fun _ => by contradiction, fun _ => by omega⟩)
  · exact g 1#1 3 1 (by show (3 * 128 + k.val) / 256 = 1; omega) (by
      show _ ↔ (3 * 128 + k.val) / 128 % 2 = 1
      exact ⟨fun _ => by omega, fun _ => by rfl⟩)
  · exact g 0#1 4 2 (by show (4 * 128 + k.val) / 256 = 2; omega) (by
      show _ ↔ (4 * 128 + k.val) / 128 % 2 = 1
      exact ⟨fun _ => by contradiction, fun _ => by omega⟩)
  · exact g 1#1 5 2 (by show (5 * 128 + k.val) / 256 = 2; omega) (by
      show _ ↔ (5 * 128 + k.val) / 128 % 2 = 1
      exact ⟨fun _ => by omega, fun _ => by rfl⟩)

/-- The kernel's sum, tile by tile, is the sum over the keys. -/
theorem assemble (S : Fin 768 → EReal) (s0 n0 : EReal) (V : Fin 6 → Fin 128 → EReal) :
    Ideal.div (Ideal.exp (s0 - max (Finset.univ.fold max (Ideal.ofBits .f32 0xFF800000#32) S) s0) * n0
          + (∑ k : Fin 128, Ideal.exp (S ⟨k.val, by omega⟩ - max (Finset.univ.fold max (Ideal.ofBits .f32 0xFF800000#32) S) s0) * V 0 k)
          + (∑ k : Fin 128, Ideal.exp (S ⟨128 + k.val, by omega⟩ - max (Finset.univ.fold max (Ideal.ofBits .f32 0xFF800000#32) S) s0) * V 1 k)
          + (∑ k : Fin 128, Ideal.exp (S ⟨256 + k.val, by omega⟩ - max (Finset.univ.fold max (Ideal.ofBits .f32 0xFF800000#32) S) s0) * V 2 k)
          + (∑ k : Fin 128, Ideal.exp (S ⟨384 + k.val, by omega⟩ - max (Finset.univ.fold max (Ideal.ofBits .f32 0xFF800000#32) S) s0) * V 3 k)
          + (∑ k : Fin 128, Ideal.exp (S ⟨512 + k.val, by omega⟩ - max (Finset.univ.fold max (Ideal.ofBits .f32 0xFF800000#32) S) s0) * V 4 k)
          + (∑ k : Fin 128, Ideal.exp (S ⟨640 + k.val, by omega⟩ - max (Finset.univ.fold max (Ideal.ofBits .f32 0xFF800000#32) S) s0) * V 5 k))
        (max ((∑ j, Ideal.exp (S j - max (Finset.univ.fold max (Ideal.ofBits .f32 0xFF800000#32) S) s0))
            + Ideal.exp (s0 - max (Finset.univ.fold max (Ideal.ofBits .f32 0xFF800000#32) S) s0)) (Ideal.ofBits .f32 0x0DA24260#32))
      = once S s0 (fun j => V (tileOf j) (slotOf j)) n0 := by
  have e1 : ∀ (i : Fin 6) (k : Fin 128), tileOf ⟨i.val * 128 + k.val, by omega⟩ = i := fun i k => Fin.ext (by show (i.val * 128 + k.val) / 128 = i.val; omega)
  have e2 : ∀ (i : Fin 6) (k : Fin 128), slotOf ⟨i.val * 128 + k.val, by omega⟩ = k := fun i k => Fin.ext (by show (i.val * 128 + k.val) % 128 = k.val; omega)
  have z : ∀ k : Fin 128, S ⟨(0 : Fin 6).val * 128 + k.val, by omega⟩ = S ⟨k.val, by omega⟩ := fun k => congrArg S (Fin.ext (by show 0 * 128 + k.val = k.val; omega))
  unfold once most
  refine congrArg (fun y => Ideal.div y _) ?_
  rw [sum_tiles (fun j => Ideal.exp (S j - max (Finset.univ.fold max (Ideal.ofBits .f32 0xFF800000#32) S) s0) * V (tileOf j) (slotOf j))]
  simp only [e1, e2]
  rw [Fin.sum_univ_six]
  simp only [z, add_assoc]
  rfl

theorem head_apply (hw : ∀ d, w (ix4 0 0 0 d) = q d) (hK : ∀ i (d : Fin 64) k, T i (ix4 0 0 ⟨d.val, by omega⟩ k) = K i d k)
    (hV : ∀ i (d : Fin 64) k, T i (ix4 0 0 ⟨64 + d.val, by omega⟩ k) = V i d k)
    (hnk : ∀ d : Fin 64, n (ix4 0 0 0 ⟨d.val, by omega⟩) = nk d) (hnv : ∀ d : Fin 64, n (ix4 0 0 0 ⟨64 + d.val, by omega⟩) = nv d)
    (h0 : ∀ k, b0 (ix3 0 0 k) = B0 k) (h1 : ∀ k, b1 (ix3 0 0 k) = B1 k) (h2 : b2 (ix3 0 0 0) = B2) (d : Fin 64) :
    head (F := Ideal) w n (T 0) (T 1) (T 2) (T 3) (T 4) (T 5) b0 b1 b2 (I 0) (I 1) (I 2) (ix4 0 0 0 d)
      = once (fun j => (∑ d, q d * Ideal.ofBits .f32 0x3E000000#32 * K (tileOf j) d (slotOf j)) + biasOf B0 B1 I j)
          ((∑ d, q d * Ideal.ofBits .f32 0x3E000000#32 * nk d) + B2) (fun j => V (tileOf j) d (slotOf j)) (nv d) := by
  have hs := scores_apply w T b0 b1 I q K B0 B1 hw hK h0 h1
  have hself : self (F := Ideal) (scaled w) n b2 (ix2 0 0) = (∑ d, q d * Ideal.ofBits .f32 0x3E000000#32 * nk d) + B2 := by
    rw [self_apply, h2]
    exact congrArg (· + _) (Finset.sum_congr rfl fun d _ => by rw [hnk, scaled_apply, hw])
  unfold head once
  rw [mix_apply, hnv]
  simp only [vals_apply, hV, show ∀ (x y : FVec Ideal S8x1 .f32) z, exp (subf x y) z = Ideal.exp (x z - y z) from fun _ _ _ => rfl, wts_apply, top_apply, hself, hs]
  exact assemble (fun j => (∑ d, q d * Ideal.ofBits .f32 0x3E000000#32 * K (tileOf j) d (slotOf j)) + biasOf B0 B1 I j) _ (nv d) (fun i k => V i d k)
end

end Cert.SampleIdeal.Pay

end
-- ==== Proof.SampleStep.lean ====
/-
  What one grid point of the sample attention kernel leaves in its output block: the four heads' arithmetic on the
  blocks it was handed and the selected blocks' numbers it looked up.
-/
module

public import proofs.«01_k».proof.Proof.SampleIdealFrame
public import proofs.«01_k».proof.Proof.SamplePay
public import Idealize.ShloMosaic.Lib.Pointwise

@[expose] public section

noncomputable section

namespace Cert.SampleIdeal.Step

open Cert.SampleIdeal Cert.SampleIdeal.Gen Idealize.ShloMosaic Idealize.ShloMosaic.TcCoe Idealize.SL.Sem
open Idealize.ShloMosaic.Tactic

variable (m : (ℓ : Loc nD τ sig) → Buf (Elt Ideal) ℓ) (hO : Ok m) (c : Dev nD)

variable (t : Fin (cfgM m hO).N)

/-! The blocks the point is handed: queries, the new token's keys and values, the twenty-four tiles, the bias table. -/

abbrev B0 : Vec Ideal S1x4x8x64 .f32 := iblk m hO c 0 t
abbrev B1 : Vec Ideal S1x4x1x128 .f32 := iblk m hO c 1 t
abbrev B2 : Vec Ideal S1x1x128x128 .f32 := iblk m hO c 2 t
abbrev B3 : Vec Ideal S1x1x128x128 .f32 := iblk m hO c 3 t
abbrev B4 : Vec Ideal S1x1x128x128 .f32 := iblk m hO c 4 t
abbrev B5 : Vec Ideal S1x1x128x128 .f32 := iblk m hO c 5 t
abbrev B6 : Vec Ideal S1x1x128x128 .f32 := iblk m hO c 6 t
abbrev B7 : Vec Ideal S1x1x128x128 .f32 := iblk m hO c 7 t
abbrev B8 : Vec Ideal S1x1x128x128 .f32 := iblk m hO c 8 t
abbrev B9 : Vec Ideal S1x1x128x128 .f32 := iblk m hO c 9 t
abbrev B10 : Vec Ideal S1x1x128x128 .f32 := iblk m hO c 10 t
abbrev B11 : Vec Ideal S1x1x128x128 .f32 := iblk m hO c 11 t
abbrev B12 : Vec Ideal S1x1x128x128 .f32 := iblk m hO c 12 t
abbrev B13 : Vec Ideal S1x1x128x128 .f32 := iblk m hO c 13 t
abbrev B14 : Vec Ideal S1x1x128x128 .f32 := iblk m hO c 14 t
abbrev B15 : Vec Ideal S1x1x128x128 .f32 := iblk m hO c 15 t
abbrev B16 : Vec Ideal S1x1x128x128 .f32 := iblk m hO c 16 t
abbrev B17 : Vec Ideal S1x1x128x128 .f32 := iblk m hO c 17 t
abbrev B18 : Vec Ideal S1x1x128x128 .f32 := iblk m hO c 18 t
abbrev B19 : Vec Ideal S1x1x128x128 .f32 := iblk m hO c 19 t
abbrev B20 : Vec Ideal S1x1x128x128 .f32 := iblk m hO c 20 t
abbrev B21 : Vec Ideal S1x1x128x128 .f32 := iblk m hO c 21 t
abbrev B22 : Vec Ideal S1x1x128x128 .f32 := iblk m hO c 22 t
abbrev B23 : Vec Ideal S1x1x128x128 .f32 := iblk m hO c 23 t
abbrev B24 : Vec Ideal S1x1x128x128 .f32 := iblk m hO c 24 t
abbrev B25 : Vec Ideal S1x1x128x128 .f32 := iblk m hO c 25 t
abbrev B26 : Vec Ideal S4x3x128 .f32 := iblk m hO c 26 t

theorem lt_t : t.val < 128 := lt_of_lt_of_eq t.isLt N_0

theorem coords_eq : ∀ t : Fin grid0.N, ((grid0.coords t) 0).val = t.val / 4 ∧ ((grid0.coords t) 1).val = t.val % 4 := by decide +kernel

theorem ld_block {s : Shape} {e : EltTy} (M : Memref sig .tc .vmem s e) (h : M.IsWhole) (r : Rect s) (X : s.Idx → Elt Ideal e) :
    View.readAt (Elt Ideal) M.view r.toLoadRect (h.unread X) = View.ld X r := by
  rw [View.readAt_eq_ld, h.read_unread]

theorem head_congr {w w' : Vec Ideal S1x1x8x64 .f32} {n n' : Vec Ideal S1x1x1x128 .f32} {t0 t1 t2 t3 t4 t5 t0' t1' t2' t3' t4' t5' : Vec Ideal S1x1x128x128 .f32} {b0 b1 b0' b1' : Vec Ideal S1x1x128 .f32} {b2 b2' : Vec Ideal S1x1x1 .f32} {i0 i1 i2 i0' i1' i2' : BitVec 32} (x : S1x1x8x64.Idx)
    (hw : w = w') (hn : n = n') (ht0 : t0 = t0') (ht1 : t1 = t1') (ht2 : t2 = t2') (ht3 : t3 = t3') (ht4 : t4 = t4') (ht5 : t5 = t5') (hb0 : b0 = b0') (hb1 : b1 = b1') (hb2 : b2 = b2') (hi0 : i0 = i0') (hi1 : i1 = i1') (hi2 : i2 = i2') :
    Pay.head (F := Ideal) w n t0 t1 t2 t3 t4 t5 b0 b1 b2 i0 i1 i2 x = Pay.head (F := Ideal) w' n' t0' t1' t2' t3' t4' t5' b0' b1' b2' i0' i1' i2' x := by
  subst hw hn ht0 ht1 ht2 ht3 ht4 ht5 hb0 hb1 hb2 hi0 hi1 hi2; rfl

/-- The number in the list of selected blocks of selection `k` of head `r` of grid point `t`. -/
def pos (r : Fin 4) (k : Fin 3) : Fin 1536 := ⟨(t.val / 4 * 16 + (t.val % 4 * 4 + r.val)) * 3 + k.val, by have := lt_t m hO t; omega⟩

/-- The block it selects. -/
def sel (r : Fin 4) (k : Fin 3) : BitVec 32 := (tbl m 1 : S1536.Idx → BitVec 32) (ix1 (pos m hO t r k))

theorem readSel (r : Fin 4) (k : Fin 3) (off : Fin 1 → ℕ) (inb) (h) (ho : off 0 = (pos m hO t r k).val) :
    View.readAt (Elt Ideal) tbM0_1.view (Rect.unit (s := S1536) off S1.size inb).toLoadRect (tbl m 1) (Shape.Idx.first h) = sel m hO t r k := by
  show (tbl m 1 : S1536.Idx → BitVec 32) _ = _
  refine congrArg (tbl m 1 : S1536.Idx → BitVec 32) (funext fun a => Fin.ext ?_)
  match a with
  | ⟨0, _⟩ => show off 0 + 1 * 0 = _; rw [ho]; rfl

theorem word (r : Fin 4) (k : Fin 3) (rw' kw : BitVec 32) (hr : rw'.toNat = r.val) (hk : kw.toNat = k.val) :
    (![BitVec.toNat (Scalar.indexCast (Scalar.addi (Scalar.muli (Scalar.addi (Scalar.muli (BitVec.ofNat 32 ((grid0.coords t) 0).val) 16#32) (Scalar.addi (Scalar.muli (BitVec.ofNat 32 ((grid0.coords t) 1).val) 4#32) rw')) 3#32) kw))] : Fin 1 → ℕ) 0 = (pos m hO t r k).val := by
  have h := lt_t m hO t
  have h0 := (coords_eq t).1
  have h1 := (coords_eq t).2
  rw [h0, h1]
  show BitVec.toNat ((((BitVec.ofNat 32 (t.val / 4) * 16#32 + (BitVec.ofNat 32 (t.val % 4) * 4#32 + rw')) * 3#32) + kw)) = (t.val / 4 * 16 + (t.val % 4 * 4 + r.val)) * 3 + k.val
  simp only [BitVec.toNat_add, BitVec.toNat_mul, BitVec.toNat_ofNat, hr, hk]
  omega

/-- No entry of head `r`'s rows lies in another head's. -/
theorem not_mem (r : Fin 4) (d : Fin 64) (off size : Fin 4 → ℕ) (inb) (ho : r.val < off 1) :
    (ix4 0 r 0 d : S1x4x8x64.Idx) ∉ (Rect.unit (s := S1x4x8x64) off size inb).set := by
  intro h
  have h1 : off 1 ≤ r.val := ((Rect.mem_set_unit.mp h) 1).1
  omega

theorem canon_skip {off size : Fin 4 → ℕ} {inb} (w : (Rect.unit (s := S1x4x8x64) off size inb).shape.Idx → Elt Ideal .f32)
    (L : List (View.Piece (Elt Ideal) S1x4x8x64 .f32)) (r : Fin 4) (d : Fin 64) (ho : r.val < off 1) :
    View.canon ((⟨Rect.unit (s := S1x4x8x64) off size inb, w⟩ : View.Piece (Elt Ideal) S1x4x8x64 .f32) :: L) (ix4 0 r 0 d) = View.canon L (ix4 0 r 0 d) :=
  View.canon_cons_of_not_mem _ _ (not_mem r d off size inb ho)

theorem canon_here {off : Fin 4 → ℕ} {inb} (w : S1x1x8x64.Idx → Elt Ideal .f32)
    (L : List (View.Piece (Elt Ideal) S1x4x8x64 .f32)) (r : Fin 4) (d : Fin 64) (h0 : off 0 = 0) (h1 : off 1 = r.val) (h2 : off 2 = 0) (h3 : off 3 = 0) :
    View.canon ((⟨Rect.unit (s := S1x4x8x64) off S1x1x8x64.size inb, w⟩ : View.Piece (Elt Ideal) S1x4x8x64 .f32) :: L) (ix4 0 r 0 d) = w (ix4 0 0 0 d) := by
  have e : (Rect.unit (s := S1x4x8x64) off S1x1x8x64.size inb).emb (ix4 0 0 0 d) = ix4 0 r 0 d := by
    refine funext fun a => Fin.ext ?_
    match a with
    | ⟨0, _⟩ => show off 0 + 1 * 0 = 0; omega
    | ⟨1, _⟩ => show off 1 + 1 * 0 = r.val; omega
    | ⟨2, _⟩ => show off 2 + 1 * 0 = 0; omega
    | ⟨3, _⟩ => show off 3 + 1 * d.val = d.val; omega
  rw [← e]
  exact View.canon_cons_emb _ _ _ _

set_option maxHeartbeats 4000000 in
/-- The first head of a grid point's output block. -/
theorem outs0 (d : Fin 64) : outsAt0 m hO c t (ix4 0 0 0 d)
    = Pay.head (F := Ideal) (View.ld (B0 m hO c t) (Rect.unit ![0, 0, 0, 0] S1x1x8x64.size inb_S1x4x8x64_S1x1x8x64_0_0_0_0))
        (View.ld (B1 m hO c t) (Rect.unit ![0, 0, 0, 0] S1x1x1x128.size inb_S1x4x1x128_S1x1x1x128_0_0_0_0))
        (View.ld (B2 m hO c t) (Rect.unit ![0, 0, 0, 0] S1x1x128x128.size inb_S1x1x128x128_S1x1x128x128_0_0_0_0)) (View.ld (B3 m hO c t) (Rect.unit ![0, 0, 0, 0] S1x1x128x128.size inb_S1x1x128x128_S1x1x128x128_0_0_0_0)) (View.ld (B4 m hO c t) (Rect.unit ![0, 0, 0, 0] S1x1x128x128.size inb_S1x1x128x128_S1x1x128x128_0_0_0_0)) (View.ld (B5 m hO c t) (Rect.unit ![0, 0, 0, 0] S1x1x128x128.size inb_S1x1x128x128_S1x1x128x128_0_0_0_0)) (View.ld (B6 m hO c t) (Rect.unit ![0, 0, 0, 0] S1x1x128x128.size inb_S1x1x128x128_S1x1x128x128_0_0_0_0)) (View.ld (B7 m hO c t) (Rect.unit ![0, 0, 0, 0] S1x1x128x128.size inb_S1x1x128x128_S1x1x128x128_0_0_0_0))
        (View.ld (B26 m hO c t) (Rect.unit ![0, 0, 0] S1x1x128.size inb_S4x3x128_S1x1x128_0_0_0))
        (View.ld (B26 m hO c t) (Rect.unit ![0, 1, 0] S1x1x128.size inb_S4x3x128_S1x1x128_0_1_0))
        (View.ld (B26 m hO c t) (Rect.unit ![0, 2, 0] S1x1x1.size inb_S4x3x128_S1x1x1_0_2_0))
        (sel m hO t 0 0) (sel m hO t 0 1) (sel m hO t 0 2) (ix4 0 0 0 d) := by
  unfold outsAt0 out0_A_27
  refine (congrFun (View.read_writes_eq_canon VO0_27 _ _ (cover0_A_27 (F := Ideal) c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)) _).trans ?_
  unfold kernelRun0_A
  dsimp only
  sl_unfold_words
  refine (canon_skip _ _ 0 d (by decide)).trans ?_
  refine (canon_skip _ _ 0 d (by decide)).trans ?_
  refine (canon_skip _ _ 0 d (by decide)).trans ?_
  refine (canon_here (off := ![0, 0, 0, 0]) _ _ 0 d rfl rfl rfl rfl).trans ?_
  refine (congrFun (Pay.head0 _ _ _ _ _ _ _ _ _ _ _ _ _ _) _).trans ?_
  refine head_congr _ ?_ ?_ ?_ ?_ ?_ ?_ ?_ ?_ ?_ ?_ ?_ ?_ ?_ ?_
  · exact ld_block _ _ _ _
  · exact ld_block _ _ _ _
  · exact ld_block _ _ _ _
  · exact ld_block _ _ _ _
  · exact ld_block _ _ _ _
  · exact ld_block _ _ _ _
  · exact ld_block _ _ _ _
  · exact ld_block _ _ _ _
  · exact ld_block _ _ _ _
  · exact ld_block _ _ _ _
  · exact ld_block _ _ _ _
  · exact readSel m hO t 0 0 _ _ _ (word m hO t 0 0 0#32 0#32 rfl rfl)
  · exact readSel m hO t 0 1 _ _ _ (word m hO t 0 1 0#32 1#32 rfl rfl)
  · exact readSel m hO t 0 2 _ _ _ (word m hO t 0 2 0#32 2#32 rfl rfl)

set_option maxHeartbeats 4000000 in
/-- The second head of a grid point's output block. -/
theorem outs1 (d : Fin 64) : outsAt0 m hO c t (ix4 0 1 0 d)
    = Pay.head (F := Ideal) (View.ld (B0 m hO c t) (Rect.unit ![0, 1, 0, 0] S1x1x8x64.size inb_S1x4x8x64_S1x1x8x64_0_1_0_0))
        (View.ld (B1 m hO c t) (Rect.unit ![0, 1, 0, 0] S1x1x1x128.size inb_S1x4x1x128_S1x1x1x128_0_1_0_0))
        (View.ld (B8 m hO c t) (Rect.unit ![0, 0, 0, 0] S1x1x128x128.size inb_S1x1x128x128_S1x1x128x128_0_0_0_0)) (View.ld (B9 m hO c t) (Rect.unit ![0, 0, 0, 0] S1x1x128x128.size inb_S1x1x128x128_S1x1x128x128_0_0_0_0)) (View.ld (B10 m hO c t) (Rect.unit ![0, 0, 0, 0] S1x1x128x128.size inb_S1x1x128x128_S1x1x128x128_0_0_0_0)) (View.ld (B11 m hO c t) (Rect.unit ![0, 0, 0, 0] S1x1x128x128.size inb_S1x1x128x128_S1x1x128x128_0_0_0_0)) (View.ld (B12 m hO c t) (Rect.unit ![0, 0, 0, 0] S1x1x128x128.size inb_S1x1x128x128_S1x1x128x128_0_0_0_0)) (View.ld (B13 m hO c t) (Rect.unit ![0, 0, 0, 0] S1x1x128x128.size inb_S1x1x128x128_S1x1x128x128_0_0_0_0))
        (View.ld (B26 m hO c t) (Rect.unit ![1, 0, 0] S1x1x128.size inb_S4x3x128_S1x1x128_1_0_0))
        (View.ld (B26 m hO c t) (Rect.unit ![1, 1, 0] S1x1x128.size inb_S4x3x128_S1x1x128_1_1_0))
        (View.ld (B26 m hO c t) (Rect.unit ![1, 2, 0] S1x1x1.size inb_S4x3x128_S1x1x1_1_2_0))
        (sel m hO t 1 0) (sel m hO t 1 1) (sel m hO t 1 2) (ix4 0 0 0 d) := by
  unfold outsAt0 out0_A_27
  refine (congrFun (View.read_writes_eq_canon VO0_27 _ _ (cover0_A_27 (F := Ideal) c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)) _).trans ?_
  unfold kernelRun0_A
  dsimp only
  sl_unfold_words
  refine (canon_skip _ _ 1 d (by decide)).trans ?_
  refine (canon_skip _ _ 1 d (by decide)).trans ?_
  refine (canon_here (off := ![0, 1, 0, 0]) _ _ 1 d rfl rfl rfl rfl).trans ?_
  refine (congrFun (Pay.head1 _ _ _ _ _ _ _ _ _ _ _ _ _ _) _).trans ?_
  refine head_congr _ ?_ ?_ ?_ ?_ ?_ ?_ ?_ ?_ ?_ ?_ ?_ ?_ ?_ ?_
  · exact ld_block _ _ _ _
  · exact ld_block _ _ _ _
  · exact ld_block _ _ _ _
  · exact ld_block _ _ _ _
  · exact ld_block _ _ _ _
  · exact ld_block _ _ _ _
  · exact ld_block _ _ _ _
  · exact ld_block _ _ _ _
  · exact ld_block _ _ _ _
  · exact ld_block _ _ _ _
  · exact ld_block _ _ _ _
  · exact readSel m hO t 1 0 _ _ _ (word m hO t 1 0 1#32 0#32 rfl rfl)
  · exact readSel m hO t 1 1 _ _ _ (word m hO t 1 1 1#32 1#32 rfl rfl)
  · exact readSel m hO t 1 2 _ _ _ (word m hO t 1 2 1#32 2#32 rfl rfl)

set_option maxHeartbeats 4000000 in
/-- The third head of a grid point's output block. -/
theorem outs2 (d : Fin 64) : outsAt0 m hO c t (ix4 0 2 0 d)
    = Pay.head (F := Ideal) (View.ld (B0 m hO c t) (Rect.unit ![0, 2, 0, 0] S1x1x8x64.size inb_S1x4x8x64_S1x1x8x64_0_2_0_0))
        (View.ld (B1 m hO c t) (Rect.unit ![0, 2, 0, 0] S1x1x1x128.size inb_S1x4x1x128_S1x1x1x128_0_2_0_0))
        (View.ld (B14 m hO c t) (Rect.unit ![0, 0, 0, 0] S1x1x128x128.size inb_S1x1x128x128_S1x1x128x128_0_0_0_0)) (View.ld (B15 m hO c t) (Rect.unit ![0, 0, 0, 0] S1x1x128x128.size inb_S1x1x128x128_S1x1x128x128_0_0_0_0)) (View.ld (B16 m hO c t) (Rect.unit ![0, 0, 0, 0] S1x1x128x128.size inb_S1x1x128x128_S1x1x128x128_0_0_0_0)) (View.ld (B17 m hO c t) (Rect.unit ![0, 0, 0, 0] S1x1x128x128.size inb_S1x1x128x128_S1x1x128x128_0_0_0_0)) (View.ld (B18 m hO c t) (Rect.unit ![0, 0, 0, 0] S1x1x128x128.size inb_S1x1x128x128_S1x1x128x128_0_0_0_0)) (View.ld (B19 m hO c t) (Rect.unit ![0, 0, 0, 0] S1x1x128x128.size inb_S1x1x128x128_S1x1x128x128_0_0_0_0))
        (View.ld (B26 m hO c t) (Rect.unit ![2, 0, 0] S1x1x128.size inb_S4x3x128_S1x1x128_2_0_0))
        (View.ld (B26 m hO c t) (Rect.unit ![2, 1, 0] S1x1x128.size inb_S4x3x128_S1x1x128_2_1_0))
        (View.ld (B26 m hO c t) (Rect.unit ![2, 2, 0] S1x1x1.size inb_S4x3x128_S1x1x1_2_2_0))
        (sel m hO t 2 0) (sel m hO t 2 1) (sel m hO t 2 2) (ix4 0 0 0 d) := by
  unfold outsAt0 out0_A_27
  refine (congrFun (View.read_writes_eq_canon VO0_27 _ _ (cover0_A_27 (F := Ideal) c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)) _).trans ?_
  unfold kernelRun0_A
  dsimp only
  sl_unfold_words
  refine (canon_skip _ _ 2 d (by decide)).trans ?_
  refine (canon_here (off := ![0, 2, 0, 0]) _ _ 2 d rfl rfl rfl rfl).trans ?_
  refine (congrFun (Pay.head2 _ _ _ _ _ _ _ _ _ _ _ _ _ _) _).trans ?_
  refine head_congr _ ?_ ?_ ?_ ?_ ?_ ?_ ?_ ?_ ?_ ?_ ?_ ?_ ?_ ?_
  · exact ld_block _ _ _ _
  · exact ld_block _ _ _ _
  · exact ld_block _ _ _ _
  · exact ld_block _ _ _ _
  · exact ld_block _ _ _ _
  · exact ld_block _ _ _ _
  · exact ld_block _ _ _ _
  · exact ld_block _ _ _ _
  · exact ld_block _ _ _ _
  · exact ld_block _ _ _ _
  · exact ld_block _ _ _ _
  · exact readSel m hO t 2 0 _ _ _ (word m hO t 2 0 2#32 0#32 rfl rfl)
  · exact readSel m hO t 2 1 _ _ _ (word m hO t 2 1 2#32 1#32 rfl rfl)
  · exact readSel m hO t 2 2 _ _ _ (word m hO t 2 2 2#32 2#32 rfl rfl)

set_option maxHeartbeats 4000000 in
/-- The fourth head of a grid point's output block. -/
theorem outs3 (d : Fin 64) : outsAt0 m hO c t (ix4 0 3 0 d)
    = Pay.head (F := Ideal) (View.ld (B0 m hO c t) (Rect.unit ![0, 3, 0, 0] S1x1x8x64.size inb_S1x4x8x64_S1x1x8x64_0_3_0_0))
        (View.ld (B1 m hO c t) (Rect.unit ![0, 3, 0, 0] S1x1x1x128.size inb_S1x4x1x128_S1x1x1x128_0_3_0_0))
        (View.ld (B20 m hO c t) (Rect.unit ![0, 0, 0, 0] S1x1x128x128.size inb_S1x1x128x128_S1x1x128x128_0_0_0_0)) (View.ld (B21 m hO c t) (Rect.unit ![0, 0, 0, 0] S1x1x128x128.size inb_S1x1x128x128_S1x1x128x128_0_0_0_0)) (View.ld (B22 m hO c t) (Rect.unit ![0, 0, 0, 0] S1x1x128x128.size inb_S1x1x128x128_S1x1x128x128_0_0_0_0)) (View.ld (B23 m hO c t) (Rect.unit ![0, 0, 0, 0] S1x1x128x128.size inb_S1x1x128x128_S1x1x128x128_0_0_0_0)) (View.ld (B24 m hO c t) (Rect.unit ![0, 0, 0, 0] S1x1x128x128.size inb_S1x1x128x128_S1x1x128x128_0_0_0_0)) (View.ld (B25 m hO c t) (Rect.unit ![0, 0, 0, 0] S1x1x128x128.size inb_S1x1x128x128_S1x1x128x128_0_0_0_0))
        (View.ld (B26 m hO c t) (Rect.unit ![3, 0, 0] S1x1x128.size inb_S4x3x128_S1x1x128_3_0_0))
        (View.ld (B26 m hO c t) (Rect.unit ![3, 1, 0] S1x1x128.size inb_S4x3x128_S1x1x128_3_1_0))
        (View.ld (B26 m hO c t) (Rect.unit ![3, 2, 0] S1x1x1.size inb_S4x3x128_S1x1x1_3_2_0))
        (sel m hO t 3 0) (sel m hO t 3 1) (sel m hO t 3 2) (ix4 0 0 0 d) := by
  unfold outsAt0 out0_A_27
  refine (congrFun (View.read_writes_eq_canon VO0_27 _ _ (cover0_A_27 (F := Ideal) c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)) _).trans ?_
  unfold kernelRun0_A
  dsimp only
  sl_unfold_words
  refine (canon_here (off := ![0, 3, 0, 0]) _ _ 3 d rfl rfl rfl rfl).trans ?_
  refine (congrFun (Pay.head3 _ _ _ _ _ _ _ _ _ _ _ _ _ _) _).trans ?_
  refine head_congr _ ?_ ?_ ?_ ?_ ?_ ?_ ?_ ?_ ?_ ?_ ?_ ?_ ?_ ?_
  · exact ld_block _ _ _ _
  · exact ld_block _ _ _ _
  · exact ld_block _ _ _ _
  · exact ld_block _ _ _ _
  · exact ld_block _ _ _ _
  · exact ld_block _ _ _ _
  · exact ld_block _ _ _ _
  · exact ld_block _ _ _ _
  · exact ld_block _ _ _ _
  · exact ld_block _ _ _ _
  · exact ld_block _ _ _ _
  · exact readSel m hO t 3 0 _ _ _ (word m hO t 3 0 3#32 0#32 rfl rfl)
  · exact readSel m hO t 3 1 _ _ _ (word m hO t 3 1 3#32 1#32 rfl rfl)
  · exact readSel m hO t 3 2 _ _ _ (word m hO t 3 2 3#32 2#32 rfl rfl)

end Cert.SampleIdeal.Step

end
-- ==== Proof.SampleBlocks.lean ====
/-
  The blocks one grid point of the sample attention kernel is handed, as entries of the argument arrays.
-/
module

public import proofs.«01_k».proof.Proof.SampleStep
public import proofs.«01_k».proof.Proof.SampleIdealTables
public import Idealize.ShloMosaic.Lib.Pointwise

@[expose] public section

noncomputable section

namespace Cert.SampleIdeal.Blocks

open Cert.SampleIdeal Cert.SampleIdeal.Gen Idealize.ShloMosaic Idealize.ShloMosaic.TcCoe Idealize.SL.Sem
open Idealize.ShloMosaic.Tactic
open Cert.SampleIdeal.Step Cert.SampleIdeal.Tables

variable (m : (ℓ : Loc nD τ sig) → Buf (Elt Ideal) ℓ) (c : Dev nD)

/-! The arrays the host prepares, read at an entry. -/

/-- The cache with the slots of a page last. -/
theorem V_v7 (p : Fin 2560) (h : Fin 16) (x s : Fin 128) : V (F := Ideal) m c main_v7 (ix4 p h x s)
    = m ((c : Thread nD τ).loc main_arg0) (ix5 p s h ⟨x.val / 64, by omega⟩ ⟨x.val % 64, by omega⟩) := by
  unfold_abbrev_sides
  simp only [hostOps0, hostOps0_1, hostOps0_2, hostOps0_3, hostOps0_4, List.flatten_cons, List.flatten_nil, List.append_nil, List.cons_append, List.nil_append]
  after_results
  pointwise

/-- The queries, one row a head with seven rows of zeros below. -/
theorem V_v19 (b : Fin 32) (h : Fin 16) (d : Fin 64) : V (F := Ideal) m c main_v19 (ix4 b h 0 d)
    = m ((c : Thread nD τ).loc main_arg3) (ix2 b ⟨h.val * 64 + d.val, by omega⟩) := by
  unfold_abbrev_sides
  simp only [hostOps0, hostOps0_1, hostOps0_2, hostOps0_3, hostOps0_4, List.flatten_cons, List.flatten_nil, List.append_nil, List.cons_append, List.nil_append]
  after_results
  show pad (α := EReal) S32x16x8x64 ![0, 0, 0, 0] ![0, 0, 7, 0] ![0, 0, 0, 0]
    (shapeCast S32x16x1x64 (m ((c : Thread nD τ).loc main_arg3) : FVec Ideal S32x1024 .f32) shapeCasts_S32x1024_S32x16x1x64)
    (sitofp (F := Ideal) .f32 (constantI S_ 32 0#32) : FVec Ideal S_ .f32) pads_S32x16x1x64_S32x16x8x64_000_000_070_000 h_S_ (ix4 b h 0 d) = _
  pointwise

/-- The new token's keys and values, head by head. -/
theorem V_v22 (b : Fin 32) (h : Fin 16) (x : Fin 128) : V (F := Ideal) m c main_v22 (ix4 b h 0 x)
    = m ((c : Thread nD τ).loc main_arg4) (ix2 b ⟨h.val * 128 + x.val, by omega⟩) := by
  unfold_abbrev_sides
  simp only [hostOps0, hostOps0_1, hostOps0_2, hostOps0_3, hostOps0_4, List.flatten_cons, List.flatten_nil, List.append_nil, List.cons_append, List.nil_append]
  after_results
  pointwise

/-- The list of selected blocks. -/
theorem V_v21 (b : Fin 32) (h : Fin 16) (k : Fin 3) : V (F := Ideal) m c main_v21 (ix1 ⟨(b.val * 16 + h.val) * 3 + k.val, by omega⟩)
    = m ((c : Thread nD τ).loc main_arg2) (ix3 b h k) := by
  unfold_abbrev_sides
  simp only [hostOps0, hostOps0_1, hostOps0_2, hostOps0_3, hostOps0_4, List.flatten_cons, List.flatten_nil, List.append_nil, List.cons_append, List.nil_append]
  after_results
  pointwise

/-- The lookup of the bias read at an entry: head `h`, at the looked-up bucket clamped to the row. -/
theorem gather_bias (x : FVec Ideal S16x32 .f32) (idx : IVec S3x128x1 32) (h : Fin 16) (y : Fin 3) (s : Fin 128) :
    Host.gather gather_S16x32_S3x128x1_S16x3x128_0_1_n_n_1_2_161 x idx (ix3 h y s)
      = x (ix2 h ⟨min (idx (ix3 y s 0)).toInt.toNat 31, by omega⟩) := by
  unfold Host.gather
  refine congrArg x (funext fun a => Fin.ext ?_)
  match a with
  | ⟨0, h0⟩ =>
    show gather_S16x32_S3x128x1_S16x3x128_0_1_n_n_1_2_161.start (ix3 h y s) idx 0
      + gather_S16x32_S3x128x1_S16x3x128_0_1_n_n_1_2_161.batchCoord (ix3 h y s) 0
      + gather_S16x32_S3x128x1_S16x3x128_0_1_n_n_1_2_161.offCoord (ix3 h y s) 0 = h.val
    rw [GatherDims.batchCoord_eq_zero _ _ _ (fun h => by simp [gather_S16x32_S3x128x1_S16x3x128_0_1_n_n_1_2_161] at h)]
    unfold GatherDims.start
    rw [dif_neg (show ¬ (0 : Fin 2) ∈ gather_S16x32_S3x128x1_S16x3x128_0_1_n_n_1_2_161.startIndexMap from by decide)]
    rw [Nat.zero_add]
    rfl
  | ⟨1, h1⟩ =>
    have hsi : gather_S16x32_S3x128x1_S16x3x128_0_1_n_n_1_2_161.siIdx (ix3 h y s) ⟨0, by decide⟩ = ix3 y s 0 := by
      funext b; refine Fin.ext ?_
      match b with
      | ⟨0, _⟩ => rfl
      | ⟨1, _⟩ => rfl
      | ⟨2, _⟩ => rfl
    show gather_S16x32_S3x128x1_S16x3x128_0_1_n_n_1_2_161.start (ix3 h y s) idx 1
      + gather_S16x32_S3x128x1_S16x3x128_0_1_n_n_1_2_161.batchCoord (ix3 h y s) 1
      + gather_S16x32_S3x128x1_S16x3x128_0_1_n_n_1_2_161.offCoord (ix3 h y s) 1 = _
    rw [GatherDims.batchCoord_eq_zero _ _ _ (fun h => by simp [gather_S16x32_S3x128x1_S16x3x128_0_1_n_n_1_2_161] at h),
      GatherDims.offCoord_eq_zero _ _ _ (fun h => ((GatherDims.mem_sKept _ _).mp h).1 (List.mem_singleton.mpr rfl))]
    unfold GatherDims.start
    rw [dif_pos (show (1 : Fin 2) ∈ gather_S16x32_S3x128x1_S16x3x128_0_1_n_n_1_2_161.startIndexMap from List.mem_singleton.mpr rfl)]
    exact congrArg (fun z => min (idx z).toInt.toNat 31) hsi

/-- The bucket of the distance at entry `s` of row `y` of the kernel's table: row 0 the distances from the last page of
    the past, row 1 any distance further away, row 2 the token itself. -/
def bkt (y : Fin 3) (s : Fin 128) : Fin 32 := ⟨min (lit0 ⟨y.val * 128 + s.val, by omega⟩).toInt.toNat 31, by omega⟩

/-- The heads' bias at the distances of the kernel's table. -/
theorem V_v5 (h : Fin 16) (y : Fin 3) (s : Fin 128) : V (F := Ideal) m c main_v5 (ix3 h y s)
    = m ((c : Thread nD τ).loc main_arg5) (ix2 (bkt y s) h) := by
  unfold_abbrev_sides
  simp only [hostOps0, hostOps0_1, hostOps0_2, hostOps0_3, hostOps0_4, List.flatten_cons, List.flatten_nil, List.append_nil, List.cons_append, List.nil_append]
  after_results
  rw [gather_bias]
  have e : (broadcastInDim S3x128x1 ![0, 1] bcast_S3x128_S3x128x1_0_1
        (select (constantI S3x128 1 0#1)
          (addi (fun i => lit0 (S3x128.rowMajor i)) (broadcastInDim S3x128 ![] bcast_S_S3x128 (constantI S_ 32 32#32)))
          fun i => lit0 (S3x128.rowMajor i))) (ix3 y s 0) = lit0 ⟨y.val * 128 + s.val, by omega⟩ := by
    pointwise
    exact congrArg lit0 (Fin.ext (Shape.rowMajor_val_two _))
  pointwise [bkt]
  exact congrArg (fun z : BitVec 32 => m ((c : Thread nD τ).loc main_arg5) (ix2 ⟨min z.toInt.toNat 31, by omega⟩ h)) e

/-! The blocks of a grid point. -/

variable (hO : Ok m) (t : Fin (cfgM m hO).N)

/-- The batch row of grid point `t`. -/
def row : Fin 32 := ⟨t.val / 4, by have := lt_t m hO t; omega⟩

/-- The head computed `r`-th at grid point `t`. -/
def hd (r : Fin 4) : Fin 16 := ⟨t.val % 4 * 4 + r.val, by omega⟩

theorem sel_eq (r : Fin 4) (k : Fin 3) : sel m hO t r k = m (((0 : Dev nD) : Thread nD τ).loc main_arg2) (ix3 (row m hO t) (hd m hO t r) k) :=
  V_v21 m 0 (row m hO t) (hd m hO t r) k

theorem q_eq (r : Fin 4) (d : Fin 64) : B0 m hO c t (ix4 0 r 0 d)
    = m ((c : Thread nD τ).loc main_arg3) (ix2 (row m hO t) ⟨(hd m hO t r).val * 64 + d.val, by have := (hd m hO t r).isLt; omega⟩) := by
  have h := lt_t m hO t
  have h0 := (coords_eq t).1
  have h1 := (coords_eq t).2
  rw [← V_v19 m c]
  refine congrArg (V (F := Ideal) m c main_v19) (funext fun a => Fin.ext ?_)
  match a with
  | ⟨0, _⟩ => show (BitVec.ofNat 32 ((grid0.coords t) 0).val).toNat * 1 + 1 * 0 = t.val / 4; rw [h0, BitVec.toNat_ofNat]; omega
  | ⟨1, _⟩ => show (BitVec.ofNat 32 ((grid0.coords t) 1).val).toNat * 4 + 1 * r.val = t.val % 4 * 4 + r.val; rw [h1, BitVec.toNat_ofNat]; omega
  | ⟨2, _⟩ => rfl
  | ⟨3, _⟩ => show 0 * 64 + 1 * d.val = d.val; omega

theorem new_eq (r : Fin 4) (x : Fin 128) : B1 m hO c t (ix4 0 r 0 x)
    = m ((c : Thread nD τ).loc main_arg4) (ix2 (row m hO t) ⟨(hd m hO t r).val * 128 + x.val, by have := (hd m hO t r).isLt; omega⟩) := by
  have h := lt_t m hO t
  have h0 := (coords_eq t).1
  have h1 := (coords_eq t).2
  rw [← V_v22 m c]
  refine congrArg (V (F := Ideal) m c main_v22) (funext fun a => Fin.ext ?_)
  match a with
  | ⟨0, _⟩ => show (BitVec.ofNat 32 ((grid0.coords t) 0).val).toNat * 1 + 1 * 0 = t.val / 4; rw [h0, BitVec.toNat_ofNat]; omega
  | ⟨1, _⟩ => show (BitVec.ofNat 32 ((grid0.coords t) 1).val).toNat * 4 + 1 * r.val = t.val % 4 * 4 + r.val; rw [h1, BitVec.toNat_ofNat]; omega
  | ⟨2, _⟩ => rfl
  | ⟨3, _⟩ => show 0 * 128 + 1 * x.val = x.val; omega

theorem tab_eq (r : Fin 4) (y : Fin 3) (s : Fin 128) : B26 m hO c t (ix3 r y s)
    = m ((c : Thread nD τ).loc main_arg5) (ix2 (bkt y s) (hd m hO t r)) := by
  have h := lt_t m hO t
  have h1 := (coords_eq t).2
  rw [← V_v5 m c]
  refine congrArg (V (F := Ideal) m c main_v5) (funext fun a => Fin.ext ?_)
  match a with
  | ⟨0, _⟩ => show (BitVec.ofNat 32 ((grid0.coords t) 1).val).toNat * 4 + 1 * r.val = t.val % 4 * 4 + r.val; rw [h1, BitVec.toNat_ofNat]; omega
  | ⟨1, _⟩ => show 0 * 3 + 1 * y.val = y.val; omega
  | ⟨2, _⟩ => show 0 * 128 + 1 * s.val = s.val; omega

/-- The place in the prepared table of the page of tile `i` of head `r` of grid point `t`. -/
def place (r : Fin 4) (i : Fin 6) : Fin 3072 := ⟨(t.val / 4 * 16 + (t.val % 4 * 4 + r.val)) * 6 + i.val, by have := lt_t m hO t; omega⟩

/-- The page. -/
def page (r : Fin 4) (i : Fin 6) : BitVec 32 := (tbl m 0 : S3072.Idx → BitVec 32) (ix1 (place m hO t r i))

theorem page_at (r : Fin 4) (i : Fin 6) (off : Fin 1 → ℕ) (inb) (ho : off 0 = (place m hO t r i).val) :
    (tbl m).at 0 (Rect.unit (s := S3072) off S1.size inb) numel1_S1 = page m hO t r i := by
  show (tbl m 0 : S3072.Idx → BitVec 32) _ = _
  refine congrArg (tbl m 0 : S3072.Idx → BitVec 32) (funext fun a => Fin.ext ?_)
  match a with
  | ⟨0, _⟩ => show off 0 + 1 * 0 = _; rw [ho]; rfl

theorem place_word (r : Fin 4) (i : Fin 6) (rw' kw : BitVec 32) (hr : rw'.toNat = r.val) (hk : kw.toNat = i.val) :
    (![BitVec.toNat (Scalar.indexCast (Scalar.addi (Scalar.muli (Scalar.addi (Scalar.muli (BitVec.ofNat 32 ((grid0.coords t) 0).val) 16#32) (Scalar.addi (Scalar.muli (BitVec.ofNat 32 ((grid0.coords t) 1).val) 4#32) rw')) 6#32) kw))] : Fin 1 → ℕ) 0 = (place m hO t r i).val := by
  have h := lt_t m hO t
  have h0 := (coords_eq t).1
  have h1 := (coords_eq t).2
  rw [h0, h1]
  show BitVec.toNat ((((BitVec.ofNat 32 (t.val / 4) * 16#32 + (BitVec.ofNat 32 (t.val % 4) * 4#32 + rw')) * 6#32) + kw)) = (t.val / 4 * 16 + (t.val % 4 * 4 + r.val)) * 6 + i.val
  simp only [BitVec.toNat_add, BitVec.toNat_mul, BitVec.toNat_ofNat, hr, hk]
  omega

theorem hd_word (r : Fin 4) (rw' : BitVec 32) (hr : rw'.toNat = r.val) :
    BitVec.toNat (Scalar.addi (Scalar.muli (BitVec.ofNat 32 ((grid0.coords t) 1).val) 4#32) rw') = (hd m hO t r).val := by
  have h1 := (coords_eq t).2
  rw [h1]
  show BitVec.toNat (BitVec.ofNat 32 (t.val % 4) * 4#32 + rw') = t.val % 4 * 4 + r.val
  simp only [BitVec.toNat_add, BitVec.toNat_mul, BitVec.toNat_ofNat, hr]
  omega

variable (hp : ∀ y : S3072.Idx, ((tbl m 0 : IVec S3072 32) y).toNat < 2560)

end Cert.SampleIdeal.Blocks

end
-- ==== Proof.SamplePages.lean ====
/-
  The pages of the sample attention kernel's tiles: the word of the page table at the selected block's place.
-/
module

public import proofs.«01_k».proof.Proof.SampleBlocks

@[expose] public section

noncomputable section

namespace Cert.SampleIdeal.Blocks

open Cert.SampleIdeal Cert.SampleIdeal.Gen Idealize.ShloMosaic Idealize.ShloMosaic.TcCoe Idealize.SL.Sem
open Idealize.ShloMosaic.Tactic
open Cert.SampleIdeal.Step Cert.SampleIdeal.Tables

variable (m : (ℓ : Loc nD τ sig) → Buf (Elt Ideal) ℓ) (c : Dev nD)

/-- The page-table lookup read at an entry: row `b`, at the start index clamped to the row. -/
theorem gather_page (x : IVec S32x64 32) (idx : IVec S32x96x1 32) (b : Fin 32) (j : Fin 96) :
    Host.gather gather_S32x64_S32x96x1_S32x96_n_1_0_0_1_2_11 x idx (ix2 b j)
      = x (ix2 b ⟨min (idx (ix3 b j 0)).toInt.toNat 63, by omega⟩) := by
  unfold Host.gather
  refine congrArg x (funext fun a => Fin.ext ?_)
  match a with
  | ⟨0, h0⟩ =>
    show gather_S32x64_S32x96x1_S32x96_n_1_0_0_1_2_11.start (ix2 b j) idx 0
      + gather_S32x64_S32x96x1_S32x96_n_1_0_0_1_2_11.batchCoord (ix2 b j) 0
      + gather_S32x64_S32x96x1_S32x96_n_1_0_0_1_2_11.offCoord (ix2 b j) 0 = b.val
    rw [GatherDims.start_batching _ _ _ _ (List.mem_singleton.mpr rfl),
      GatherDims.offCoord_eq_zero _ _ _ (fun h => ((GatherDims.mem_sKept _ _).mp h).2 (List.mem_singleton.mpr rfl))]
    unfold GatherDims.batchCoord
    rw [dif_pos (show (0 : Fin 2) ∈ gather_S32x64_S32x96x1_S32x96_n_1_0_0_1_2_11.operandBatchingDims from List.mem_singleton.mpr rfl), Nat.zero_add, Nat.add_zero]
    rfl
  | ⟨1, h1⟩ =>
    have hsi : gather_S32x64_S32x96x1_S32x96_n_1_0_0_1_2_11.siIdx (ix2 b j) ⟨0, by decide⟩ = ix3 b j 0 := by
      funext b; refine Fin.ext ?_
      match b with
      | ⟨0, _⟩ => rfl
      | ⟨1, _⟩ => rfl
      | ⟨2, _⟩ => rfl
    show gather_S32x64_S32x96x1_S32x96_n_1_0_0_1_2_11.start (ix2 b j) idx 1
      + gather_S32x64_S32x96x1_S32x96_n_1_0_0_1_2_11.batchCoord (ix2 b j) 1
      + gather_S32x64_S32x96x1_S32x96_n_1_0_0_1_2_11.offCoord (ix2 b j) 1 = _
    rw [GatherDims.batchCoord_eq_zero _ _ _ (fun h => by simp [gather_S32x64_S32x96x1_S32x96_n_1_0_0_1_2_11] at h),
      GatherDims.offCoord_eq_zero _ _ _ (fun h => ((GatherDims.mem_sKept _ _).mp h).1 (List.mem_singleton.mpr rfl))]
    unfold GatherDims.start
    rw [dif_pos (show (1 : Fin 2) ∈ gather_S32x64_S32x96x1_S32x96_n_1_0_0_1_2_11.startIndexMap from List.mem_singleton.mpr rfl)]
    exact congrArg (fun z => min (idx z).toInt.toNat 63) hsi

/-- The columns looked up, read at an entry. -/
theorem cols_apply (ids : IVec S32x16x3 32) (b : Fin 32) (h : Fin 16) (i : Fin 6) :
    cols ids (ix2 b ⟨h.val * 6 + i.val, by omega⟩) = ids (ix3 b h ⟨i.val / 2, by omega⟩) * 2#32 + BitVec.ofNat 32 (i.val % 2) := by
  pointwise [cols]
  exact congrArg₂ (fun (z : Fin 3) (n : ℕ) => ids (ix3 b h z) * 2#32 + BitVec.ofNat 32 n) (Fin.ext (by show (h.val * 6 + i.val) / 2 % 3 = i.val / 2; omega)) (by omega)

theorem cols_val (ids : IVec S32x16x3 32) (b : Fin 32) (h : Fin 16) (i : Fin 6) (hid : ∀ y, (ids y).toNat < 32) :
    (cols ids (ix2 b ⟨h.val * 6 + i.val, by omega⟩)).toNat = (ids (ix3 b h ⟨i.val / 2, by omega⟩)).toNat * 2 + i.val % 2 := by
  rw [cols_apply, BitVec.toNat_add, BitVec.toNat_mul, BitVec.toNat_ofNat, BitVec.toNat_ofNat]
  have := hid (ix3 b h ⟨i.val / 2, by omega⟩)
  omega

theorem wrapped_apply (ids : IVec S32x16x3 32) (b : Fin 32) (h : Fin 16) (i : Fin 6) (hid : ∀ y, (ids y).toNat < 32) :
    wrapped ids (ix3 b ⟨h.val * 6 + i.val, by omega⟩ 0) = cols ids (ix2 b ⟨h.val * 6 + i.val, by omega⟩) := by
  have hv := cols_val ids b h i hid
  have := hid (ix3 b h ⟨i.val / 2, by omega⟩)
  have e : wrapped ids (ix3 b ⟨h.val * 6 + i.val, by omega⟩ 0)
      = if BitVec.slt (cols ids (ix2 b ⟨h.val * 6 + i.val, by omega⟩)) 0#32 then cols ids (ix2 b ⟨h.val * 6 + i.val, by omega⟩) + 64#32 else cols ids (ix2 b ⟨h.val * 6 + i.val, by omega⟩) := by
    pointwise [wrapped]
    unfold Scalar.select IntOp.cmpi
    cases h : (cols ids (ix2 b ⟨h.val * 6 + i.val, by omega⟩)).slt 0#32 <;> simp [h] <;> rfl
  rw [e, if_neg]
  simp only [BitVec.slt, decide_eq_true_eq, BitVec.toInt, BitVec.toNat_ofNat]
  omega

/-- The page of tile `i` of head `h` of batch row `b`. -/
def pageOf (pages : IVec S32x64 32) (ids : IVec S32x16x3 32) (b : Fin 32) (h : Fin 16) (i : Fin 6) : BitVec 32 :=
  pages (ix2 b ⟨((ids (ix3 b h ⟨i.val / 2, by omega⟩)).toNat * 2 + i.val % 2) % 64, Nat.mod_lt _ (by omega)⟩)

theorem page_eq (hO : Ok m) (t : Fin (cfgM m hO).N) (r : Fin 4) (i : Fin 6)
    (hid : ∀ y, (m (((0 : Dev nD) : Thread nD τ).loc main_arg2) y).toNat < 32) :
    page m hO t r i = pageOf (m (((0 : Dev nD) : Thread nD τ).loc main_arg1)) (m (((0 : Dev nD) : Thread nD τ).loc main_arg2)) (row m hO t) (hd m hO t r) i := by
  have e : ∀ (g : IVec S32x96 32) (b : Fin 32) (h : Fin 16), shapeCast S3072 g shapeCasts_S32x96_S3072 (ix1 ⟨(b.val * 16 + h.val) * 6 + i.val, by omega⟩) = g (ix2 b ⟨h.val * 6 + i.val, by omega⟩) := by
    intro g b h
    pointwise
    exact congrArg (fun z : Fin 96 => g (ix2 b z)) (Fin.ext (by show ((b.val * 16 + h.val) * 6 + i.val) % 96 = h.val * 6 + i.val; omega))
  refine (congrFun (V_v20 m 0) _).trans ((e _ (row m hO t) (hd m hO t r)).trans ((gather_page _ _ _ _).trans ?_))
  refine congrArg (fun z => m (((0 : Dev nD) : Thread nD τ).loc main_arg1) (ix2 (row m hO t) z)) (Fin.ext ?_)
  have hv := cols_val (m (((0 : Dev nD) : Thread nD τ).loc main_arg2)) (row m hO t) (hd m hO t r) i hid
  have h2 := hid (ix3 (row m hO t) (hd m hO t r) ⟨i.val / 2, by omega⟩)
  show min (BitVec.toInt (wrapped (m (((0 : Dev nD) : Thread nD τ).loc main_arg2)) (ix3 (row m hO t) ⟨(hd m hO t r).val * 6 + i.val, _⟩ 0))).toNat 63 = ((m (((0 : Dev nD) : Thread nD τ).loc main_arg2) (ix3 (row m hO t) (hd m hO t r) ⟨i.val / 2, by omega⟩)).toNat * 2 + i.val % 2) % 64
  rw [wrapped_apply _ _ _ _ hid, BitVec.toInt_eq_toNat_of_lt (by omega), Int.toNat_natCast, hv]
  omega

end Cert.SampleIdeal.Blocks

end
-- ==== Proof.SampleTiles.lean ====
/-
  The tiles one grid point of the sample attention kernel is handed: tile `i` of head `r` holds a page's keys (rows 0 to
  63) and values (rows 64 to 127) for that head, slot by slot.
-/
module

public import proofs.«01_k».proof.Proof.SampleBlocks

@[expose] public section

noncomputable section

namespace Cert.SampleIdeal.Blocks

open Cert.SampleIdeal Cert.SampleIdeal.Gen Idealize.ShloMosaic Idealize.ShloMosaic.TcCoe Idealize.SL.Sem
open Idealize.ShloMosaic.Tactic
open Cert.SampleIdeal.Step Cert.SampleIdeal.Tables

variable (m : (ℓ : Loc nD τ sig) → Buf (Elt Ideal) ℓ) (c : Dev nD)
variable (hO : Ok m) (t : Fin (cfgM m hO).N)
variable (hp : ∀ y : S3072.Idx, ((tbl m 0 : IVec S3072 32) y).toNat < 2560)

theorem read2 (a : (pcfg0 (F := Ideal)).Adm) (X : S2560x16x128x128.Idx → EReal) (t : Fin (cfg0 a).N) (x s : Fin 128) (e : S2560x16x128x128.Idx)
    (h0 : cc0_transform_2 (F := Ideal) k0_off1_inb numel1_S1 a.1 (grid0.coords t) 0 = (e 0).val)
    (h1 : cc0_transform_2 (F := Ideal) k0_off1_inb numel1_S1 a.1 (grid0.coords t) 1 = (e 1).val)
    (h2 : x.val = (e 2).val) (h3 : s.val = (e 3).val) :
    (((cfg0 a).win 2).blk t).view.read (Elt Ideal) X (ix4 0 0 x s) = X e := by
  refine congrArg X (funext fun a' => Fin.ext ?_)
  match a' with
  | ⟨0, _⟩ => exact (show cc0_transform_2 (F := Ideal) k0_off1_inb numel1_S1 a.1 (grid0.coords t) 0 * 1 + 1 * 0 = (e 0).val from (Nat.mul_one _).trans h0)
  | ⟨1, _⟩ => exact (show cc0_transform_2 (F := Ideal) k0_off1_inb numel1_S1 a.1 (grid0.coords t) 1 * 1 + 1 * 0 = (e 1).val from (Nat.mul_one _).trans h1)
  | ⟨2, _⟩ => exact (show 0 * 128 + 1 * x.val = (e 2).val by omega)
  | ⟨3, _⟩ => exact (show 0 * 128 + 1 * s.val = (e 3).val by omega)

theorem tile2 (x s : Fin 128) : B2 m hO c t (ix4 0 0 x s)
    = m ((c : Thread nD τ).loc main_arg0) (ix5 ⟨(page m hO t 0 0).toNat, hp _⟩ s (hd m hO t 0) ⟨x.val / 64, by omega⟩ ⟨x.val % 64, by omega⟩) := by
  have h : BitVec.toNat ((tbl m).at 0 (Rect.unit (s := S3072) _ S1.size _) numel1_S1) = BitVec.toNat (page m hO t 0 0) := congrArg BitVec.toNat (page_at m hO t 0 0 _ (k0_off1_inb (grid0.coords t) 0 0) (place_word m hO t 0 0 0#32 0#32 rfl rfl))
  exact (read2 (adm m hO) (V (F := Ideal) m c main_v7) t x s (ix4 ⟨(page m hO t 0 0).toNat, hp _⟩ (hd m hO t 0) x s) h (hd_word m hO t 0 0#32 rfl) rfl rfl).trans (V_v7 m c _ _ x s)

theorem read3 (a : (pcfg0 (F := Ideal)).Adm) (X : S2560x16x128x128.Idx → EReal) (t : Fin (cfg0 a).N) (x s : Fin 128) (e : S2560x16x128x128.Idx)
    (h0 : cc0_transform_3 (F := Ideal) k0_off1_inb numel1_S1 a.1 (grid0.coords t) 0 = (e 0).val)
    (h1 : cc0_transform_3 (F := Ideal) k0_off1_inb numel1_S1 a.1 (grid0.coords t) 1 = (e 1).val)
    (h2 : x.val = (e 2).val) (h3 : s.val = (e 3).val) :
    (((cfg0 a).win 3).blk t).view.read (Elt Ideal) X (ix4 0 0 x s) = X e := by
  refine congrArg X (funext fun a' => Fin.ext ?_)
  match a' with
  | ⟨0, _⟩ => exact (show cc0_transform_3 (F := Ideal) k0_off1_inb numel1_S1 a.1 (grid0.coords t) 0 * 1 + 1 * 0 = (e 0).val from (Nat.mul_one _).trans h0)
  | ⟨1, _⟩ => exact (show cc0_transform_3 (F := Ideal) k0_off1_inb numel1_S1 a.1 (grid0.coords t) 1 * 1 + 1 * 0 = (e 1).val from (Nat.mul_one _).trans h1)
  | ⟨2, _⟩ => exact (show 0 * 128 + 1 * x.val = (e 2).val by omega)
  | ⟨3, _⟩ => exact (show 0 * 128 + 1 * s.val = (e 3).val by omega)

theorem tile3 (x s : Fin 128) : B3 m hO c t (ix4 0 0 x s)
    = m ((c : Thread nD τ).loc main_arg0) (ix5 ⟨(page m hO t 0 1).toNat, hp _⟩ s (hd m hO t 0) ⟨x.val / 64, by omega⟩ ⟨x.val % 64, by omega⟩) := by
  have h : BitVec.toNat ((tbl m).at 0 (Rect.unit (s := S3072) _ S1.size _) numel1_S1) = BitVec.toNat (page m hO t 0 1) := congrArg BitVec.toNat (page_at m hO t 0 1 _ (k0_off1_inb (grid0.coords t) 0 1) (place_word m hO t 0 1 0#32 1#32 rfl rfl))
  exact (read3 (adm m hO) (V (F := Ideal) m c main_v7) t x s (ix4 ⟨(page m hO t 0 1).toNat, hp _⟩ (hd m hO t 0) x s) h (hd_word m hO t 0 0#32 rfl) rfl rfl).trans (V_v7 m c _ _ x s)

theorem read4 (a : (pcfg0 (F := Ideal)).Adm) (X : S2560x16x128x128.Idx → EReal) (t : Fin (cfg0 a).N) (x s : Fin 128) (e : S2560x16x128x128.Idx)
    (h0 : cc0_transform_4 (F := Ideal) k0_off1_inb numel1_S1 a.1 (grid0.coords t) 0 = (e 0).val)
    (h1 : cc0_transform_4 (F := Ideal) k0_off1_inb numel1_S1 a.1 (grid0.coords t) 1 = (e 1).val)
    (h2 : x.val = (e 2).val) (h3 : s.val = (e 3).val) :
    (((cfg0 a).win 4).blk t).view.read (Elt Ideal) X (ix4 0 0 x s) = X e := by
  refine congrArg X (funext fun a' => Fin.ext ?_)
  match a' with
  | ⟨0, _⟩ => exact (show cc0_transform_4 (F := Ideal) k0_off1_inb numel1_S1 a.1 (grid0.coords t) 0 * 1 + 1 * 0 = (e 0).val from (Nat.mul_one _).trans h0)
  | ⟨1, _⟩ => exact (show cc0_transform_4 (F := Ideal) k0_off1_inb numel1_S1 a.1 (grid0.coords t) 1 * 1 + 1 * 0 = (e 1).val from (Nat.mul_one _).trans h1)
  | ⟨2, _⟩ => exact (show 0 * 128 + 1 * x.val = (e 2).val by omega)
  | ⟨3, _⟩ => exact (show 0 * 128 + 1 * s.val = (e 3).val by omega)

theorem tile4 (x s : Fin 128) : B4 m hO c t (ix4 0 0 x s)
    = m ((c : Thread nD τ).loc main_arg0) (ix5 ⟨(page m hO t 0 2).toNat, hp _⟩ s (hd m hO t 0) ⟨x.val / 64, by omega⟩ ⟨x.val % 64, by omega⟩) := by
  have h : BitVec.toNat ((tbl m).at 0 (Rect.unit (s := S3072) _ S1.size _) numel1_S1) = BitVec.toNat (page m hO t 0 2) := congrArg BitVec.toNat (page_at m hO t 0 2 _ (k0_off1_inb (grid0.coords t) 0 2) (place_word m hO t 0 2 0#32 2#32 rfl rfl))
  exact (read4 (adm m hO) (V (F := Ideal) m c main_v7) t x s (ix4 ⟨(page m hO t 0 2).toNat, hp _⟩ (hd m hO t 0) x s) h (hd_word m hO t 0 0#32 rfl) rfl rfl).trans (V_v7 m c _ _ x s)

theorem read5 (a : (pcfg0 (F := Ideal)).Adm) (X : S2560x16x128x128.Idx → EReal) (t : Fin (cfg0 a).N) (x s : Fin 128) (e : S2560x16x128x128.Idx)
    (h0 : cc0_transform_5 (F := Ideal) k0_off1_inb numel1_S1 a.1 (grid0.coords t) 0 = (e 0).val)
    (h1 : cc0_transform_5 (F := Ideal) k0_off1_inb numel1_S1 a.1 (grid0.coords t) 1 = (e 1).val)
    (h2 : x.val = (e 2).val) (h3 : s.val = (e 3).val) :
    (((cfg0 a).win 5).blk t).view.read (Elt Ideal) X (ix4 0 0 x s) = X e := by
  refine congrArg X (funext fun a' => Fin.ext ?_)
  match a' with
  | ⟨0, _⟩ => exact (show cc0_transform_5 (F := Ideal) k0_off1_inb numel1_S1 a.1 (grid0.coords t) 0 * 1 + 1 * 0 = (e 0).val from (Nat.mul_one _).trans h0)
  | ⟨1, _⟩ => exact (show cc0_transform_5 (F := Ideal) k0_off1_inb numel1_S1 a.1 (grid0.coords t) 1 * 1 + 1 * 0 = (e 1).val from (Nat.mul_one _).trans h1)
  | ⟨2, _⟩ => exact (show 0 * 128 + 1 * x.val = (e 2).val by omega)
  | ⟨3, _⟩ => exact (show 0 * 128 + 1 * s.val = (e 3).val by omega)

theorem tile5 (x s : Fin 128) : B5 m hO c t (ix4 0 0 x s)
    = m ((c : Thread nD τ).loc main_arg0) (ix5 ⟨(page m hO t 0 3).toNat, hp _⟩ s (hd m hO t 0) ⟨x.val / 64, by omega⟩ ⟨x.val % 64, by omega⟩) := by
  have h : BitVec.toNat ((tbl m).at 0 (Rect.unit (s := S3072) _ S1.size _) numel1_S1) = BitVec.toNat (page m hO t 0 3) := congrArg BitVec.toNat (page_at m hO t 0 3 _ (k0_off1_inb (grid0.coords t) 0 3) (place_word m hO t 0 3 0#32 3#32 rfl rfl))
  exact (read5 (adm m hO) (V (F := Ideal) m c main_v7) t x s (ix4 ⟨(page m hO t 0 3).toNat, hp _⟩ (hd m hO t 0) x s) h (hd_word m hO t 0 0#32 rfl) rfl rfl).trans (V_v7 m c _ _ x s)

theorem read6 (a : (pcfg0 (F := Ideal)).Adm) (X : S2560x16x128x128.Idx → EReal) (t : Fin (cfg0 a).N) (x s : Fin 128) (e : S2560x16x128x128.Idx)
    (h0 : cc0_transform_6 (F := Ideal) k0_off1_inb numel1_S1 a.1 (grid0.coords t) 0 = (e 0).val)
    (h1 : cc0_transform_6 (F := Ideal) k0_off1_inb numel1_S1 a.1 (grid0.coords t) 1 = (e 1).val)
    (h2 : x.val = (e 2).val) (h3 : s.val = (e 3).val) :
    (((cfg0 a).win 6).blk t).view.read (Elt Ideal) X (ix4 0 0 x s) = X e := by
  refine congrArg X (funext fun a' => Fin.ext ?_)
  match a' with
  | ⟨0, _⟩ => exact (show cc0_transform_6 (F := Ideal) k0_off1_inb numel1_S1 a.1 (grid0.coords t) 0 * 1 + 1 * 0 = (e 0).val from (Nat.mul_one _).trans h0)
  | ⟨1, _⟩ => exact (show cc0_transform_6 (F := Ideal) k0_off1_inb numel1_S1 a.1 (grid0.coords t) 1 * 1 + 1 * 0 = (e 1).val from (Nat.mul_one _).trans h1)
  | ⟨2, _⟩ => exact (show 0 * 128 + 1 * x.val = (e 2).val by omega)
  | ⟨3, _⟩ => exact (show 0 * 128 + 1 * s.val = (e 3).val by omega)

theorem tile6 (x s : Fin 128) : B6 m hO c t (ix4 0 0 x s)
    = m ((c : Thread nD τ).loc main_arg0) (ix5 ⟨(page m hO t 0 4).toNat, hp _⟩ s (hd m hO t 0) ⟨x.val / 64, by omega⟩ ⟨x.val % 64, by omega⟩) := by
  have h : BitVec.toNat ((tbl m).at 0 (Rect.unit (s := S3072) _ S1.size _) numel1_S1) = BitVec.toNat (page m hO t 0 4) := congrArg BitVec.toNat (page_at m hO t 0 4 _ (k0_off1_inb (grid0.coords t) 0 4) (place_word m hO t 0 4 0#32 4#32 rfl rfl))
  exact (read6 (adm m hO) (V (F := Ideal) m c main_v7) t x s (ix4 ⟨(page m hO t 0 4).toNat, hp _⟩ (hd m hO t 0) x s) h (hd_word m hO t 0 0#32 rfl) rfl rfl).trans (V_v7 m c _ _ x s)

theorem read7 (a : (pcfg0 (F := Ideal)).Adm) (X : S2560x16x128x128.Idx → EReal) (t : Fin (cfg0 a).N) (x s : Fin 128) (e : S2560x16x128x128.Idx)
    (h0 : cc0_transform_7 (F := Ideal) k0_off1_inb numel1_S1 a.1 (grid0.coords t) 0 = (e 0).val)
    (h1 : cc0_transform_7 (F := Ideal) k0_off1_inb numel1_S1 a.1 (grid0.coords t) 1 = (e 1).val)
    (h2 : x.val = (e 2).val) (h3 : s.val = (e 3).val) :
    (((cfg0 a).win 7).blk t).view.read (Elt Ideal) X (ix4 0 0 x s) = X e := by
  refine congrArg X (funext fun a' => Fin.ext ?_)
  match a' with
  | ⟨0, _⟩ => exact (show cc0_transform_7 (F := Ideal) k0_off1_inb numel1_S1 a.1 (grid0.coords t) 0 * 1 + 1 * 0 = (e 0).val from (Nat.mul_one _).trans h0)
  | ⟨1, _⟩ => exact (show cc0_transform_7 (F := Ideal) k0_off1_inb numel1_S1 a.1 (grid0.coords t) 1 * 1 + 1 * 0 = (e 1).val from (Nat.mul_one _).trans h1)
  | ⟨2, _⟩ => exact (show 0 * 128 + 1 * x.val = (e 2).val by omega)
  | ⟨3, _⟩ => exact (show 0 * 128 + 1 * s.val = (e 3).val by omega)

theorem tile7 (x s : Fin 128) : B7 m hO c t (ix4 0 0 x s)
    = m ((c : Thread nD τ).loc main_arg0) (ix5 ⟨(page m hO t 0 5).toNat, hp _⟩ s (hd m hO t 0) ⟨x.val / 64, by omega⟩ ⟨x.val % 64, by omega⟩) := by
  have h : BitVec.toNat ((tbl m).at 0 (Rect.unit (s := S3072) _ S1.size _) numel1_S1) = BitVec.toNat (page m hO t 0 5) := congrArg BitVec.toNat (page_at m hO t 0 5 _ (k0_off1_inb (grid0.coords t) 0 5) (place_word m hO t 0 5 0#32 5#32 rfl rfl))
  exact (read7 (adm m hO) (V (F := Ideal) m c main_v7) t x s (ix4 ⟨(page m hO t 0 5).toNat, hp _⟩ (hd m hO t 0) x s) h (hd_word m hO t 0 0#32 rfl) rfl rfl).trans (V_v7 m c _ _ x s)

theorem read8 (a : (pcfg0 (F := Ideal)).Adm) (X : S2560x16x128x128.Idx → EReal) (t : Fin (cfg0 a).N) (x s : Fin 128) (e : S2560x16x128x128.Idx)
    (h0 : cc0_transform_8 (F := Ideal) k0_off1_inb numel1_S1 a.1 (grid0.coords t) 0 = (e 0).val)
    (h1 : cc0_transform_8 (F := Ideal) k0_off1_inb numel1_S1 a.1 (grid0.coords t) 1 = (e 1).val)
    (h2 : x.val = (e 2).val) (h3 : s.val = (e 3).val) :
    (((cfg0 a).win 8).blk t).view.read (Elt Ideal) X (ix4 0 0 x s) = X e := by
  refine congrArg X (funext fun a' => Fin.ext ?_)
  match a' with
  | ⟨0, _⟩ => exact (show cc0_transform_8 (F := Ideal) k0_off1_inb numel1_S1 a.1 (grid0.coords t) 0 * 1 + 1 * 0 = (e 0).val from (Nat.mul_one _).trans h0)
  | ⟨1, _⟩ => exact (show cc0_transform_8 (F := Ideal) k0_off1_inb numel1_S1 a.1 (grid0.coords t) 1 * 1 + 1 * 0 = (e 1).val from (Nat.mul_one _).trans h1)
  | ⟨2, _⟩ => exact (show 0 * 128 + 1 * x.val = (e 2).val by omega)
  | ⟨3, _⟩ => exact (show 0 * 128 + 1 * s.val = (e 3).val by omega)

theorem tile8 (x s : Fin 128) : B8 m hO c t (ix4 0 0 x s)
    = m ((c : Thread nD τ).loc main_arg0) (ix5 ⟨(page m hO t 1 0).toNat, hp _⟩ s (hd m hO t 1) ⟨x.val / 64, by omega⟩ ⟨x.val % 64, by omega⟩) := by
  have h : BitVec.toNat ((tbl m).at 0 (Rect.unit (s := S3072) _ S1.size _) numel1_S1) = BitVec.toNat (page m hO t 1 0) := congrArg BitVec.toNat (page_at m hO t 1 0 _ (k0_off1_inb (grid0.coords t) 1 0) (place_word m hO t 1 0 1#32 0#32 rfl rfl))
  exact (read8 (adm m hO) (V (F := Ideal) m c main_v7) t x s (ix4 ⟨(page m hO t 1 0).toNat, hp _⟩ (hd m hO t 1) x s) h (hd_word m hO t 1 1#32 rfl) rfl rfl).trans (V_v7 m c _ _ x s)

theorem read9 (a : (pcfg0 (F := Ideal)).Adm) (X : S2560x16x128x128.Idx → EReal) (t : Fin (cfg0 a).N) (x s : Fin 128) (e : S2560x16x128x128.Idx)
    (h0 : cc0_transform_9 (F := Ideal) k0_off1_inb numel1_S1 a.1 (grid0.coords t) 0 = (e 0).val)
    (h1 : cc0_transform_9 (F := Ideal) k0_off1_inb numel1_S1 a.1 (grid0.coords t) 1 = (e 1).val)
    (h2 : x.val = (e 2).val) (h3 : s.val = (e 3).val) :
    (((cfg0 a).win 9).blk t).view.read (Elt Ideal) X (ix4 0 0 x s) = X e := by
  refine congrArg X (funext fun a' => Fin.ext ?_)
  match a' with
  | ⟨0, _⟩ => exact (show cc0_transform_9 (F := Ideal) k0_off1_inb numel1_S1 a.1 (grid0.coords t) 0 * 1 + 1 * 0 = (e 0).val from (Nat.mul_one _).trans h0)
  | ⟨1, _⟩ => exact (show cc0_transform_9 (F := Ideal) k0_off1_inb numel1_S1 a.1 (grid0.coords t) 1 * 1 + 1 * 0 = (e 1).val from (Nat.mul_one _).trans h1)
  | ⟨2, _⟩ => exact (show 0 * 128 + 1 * x.val = (e 2).val by omega)
  | ⟨3, _⟩ => exact (show 0 * 128 + 1 * s.val = (e 3).val by omega)

theorem tile9 (x s : Fin 128) : B9 m hO c t (ix4 0 0 x s)
    = m ((c : Thread nD τ).loc main_arg0) (ix5 ⟨(page m hO t 1 1).toNat, hp _⟩ s (hd m hO t 1) ⟨x.val / 64, by omega⟩ ⟨x.val % 64, by omega⟩) := by
  have h : BitVec.toNat ((tbl m).at 0 (Rect.unit (s := S3072) _ S1.size _) numel1_S1) = BitVec.toNat (page m hO t 1 1) := congrArg BitVec.toNat (page_at m hO t 1 1 _ (k0_off1_inb (grid0.coords t) 1 1) (place_word m hO t 1 1 1#32 1#32 rfl rfl))
  exact (read9 (adm m hO) (V (F := Ideal) m c main_v7) t x s (ix4 ⟨(page m hO t 1 1).toNat, hp _⟩ (hd m hO t 1) x s) h (hd_word m hO t 1 1#32 rfl) rfl rfl).trans (V_v7 m c _ _ x s)

theorem read10 (a : (pcfg0 (F := Ideal)).Adm) (X : S2560x16x128x128.Idx → EReal) (t : Fin (cfg0 a).N) (x s : Fin 128) (e : S2560x16x128x128.Idx)
    (h0 : cc0_transform_10 (F := Ideal) k0_off1_inb numel1_S1 a.1 (grid0.coords t) 0 = (e 0).val)
    (h1 : cc0_transform_10 (F := Ideal) k0_off1_inb numel1_S1 a.1 (grid0.coords t) 1 = (e 1).val)
    (h2 : x.val = (e 2).val) (h3 : s.val = (e 3).val) :
    (((cfg0 a).win 10).blk t).view.read (Elt Ideal) X (ix4 0 0 x s) = X e := by
  refine congrArg X (funext fun a' => Fin.ext ?_)
  match a' with
  | ⟨0, _⟩ => exact (show cc0_transform_10 (F := Ideal) k0_off1_inb numel1_S1 a.1 (grid0.coords t) 0 * 1 + 1 * 0 = (e 0).val from (Nat.mul_one _).trans h0)
  | ⟨1, _⟩ => exact (show cc0_transform_10 (F := Ideal) k0_off1_inb numel1_S1 a.1 (grid0.coords t) 1 * 1 + 1 * 0 = (e 1).val from (Nat.mul_one _).trans h1)
  | ⟨2, _⟩ => exact (show 0 * 128 + 1 * x.val = (e 2).val by omega)
  | ⟨3, _⟩ => exact (show 0 * 128 + 1 * s.val = (e 3).val by omega)

theorem tile10 (x s : Fin 128) : B10 m hO c t (ix4 0 0 x s)
    = m ((c : Thread nD τ).loc main_arg0) (ix5 ⟨(page m hO t 1 2).toNat, hp _⟩ s (hd m hO t 1) ⟨x.val / 64, by omega⟩ ⟨x.val % 64, by omega⟩) := by
  have h : BitVec.toNat ((tbl m).at 0 (Rect.unit (s := S3072) _ S1.size _) numel1_S1) = BitVec.toNat (page m hO t 1 2) := congrArg BitVec.toNat (page_at m hO t 1 2 _ (k0_off1_inb (grid0.coords t) 1 2) (place_word m hO t 1 2 1#32 2#32 rfl rfl))
  exact (read10 (adm m hO) (V (F := Ideal) m c main_v7) t x s (ix4 ⟨(page m hO t 1 2).toNat, hp _⟩ (hd m hO t 1) x s) h (hd_word m hO t 1 1#32 rfl) rfl rfl).trans (V_v7 m c _ _ x s)

theorem read11 (a : (pcfg0 (F := Ideal)).Adm) (X : S2560x16x128x128.Idx → EReal) (t : Fin (cfg0 a).N) (x s : Fin 128) (e : S2560x16x128x128.Idx)
    (h0 : cc0_transform_11 (F := Ideal) k0_off1_inb numel1_S1 a.1 (grid0.coords t) 0 = (e 0).val)
    (h1 : cc0_transform_11 (F := Ideal) k0_off1_inb numel1_S1 a.1 (grid0.coords t) 1 = (e 1).val)
    (h2 : x.val = (e 2).val) (h3 : s.val = (e 3).val) :
    (((cfg0 a).win 11).blk t).view.read (Elt Ideal) X (ix4 0 0 x s) = X e := by
  refine congrArg X (funext fun a' => Fin.ext ?_)
  match a' with
  | ⟨0, _⟩ => exact (show cc0_transform_11 (F := Ideal) k0_off1_inb numel1_S1 a.1 (grid0.coords t) 0 * 1 + 1 * 0 = (e 0).val from (Nat.mul_one _).trans h0)
  | ⟨1, _⟩ => exact (show cc0_transform_11 (F := Ideal) k0_off1_inb numel1_S1 a.1 (grid0.coords t) 1 * 1 + 1 * 0 = (e 1).val from (Nat.mul_one _).trans h1)
  | ⟨2, _⟩ => exact (show 0 * 128 + 1 * x.val = (e 2).val by omega)
  | ⟨3, _⟩ => exact (show 0 * 128 + 1 * s.val = (e 3).val by omega)

theorem tile11 (x s : Fin 128) : B11 m hO c t (ix4 0 0 x s)
    = m ((c : Thread nD τ).loc main_arg0) (ix5 ⟨(page m hO t 1 3).toNat, hp _⟩ s (hd m hO t 1) ⟨x.val / 64, by omega⟩ ⟨x.val % 64, by omega⟩) := by
  have h : BitVec.toNat ((tbl m).at 0 (Rect.unit (s := S3072) _ S1.size _) numel1_S1) = BitVec.toNat (page m hO t 1 3) := congrArg BitVec.toNat (page_at m hO t 1 3 _ (k0_off1_inb (grid0.coords t) 1 3) (place_word m hO t 1 3 1#32 3#32 rfl rfl))
  exact (read11 (adm m hO) (V (F := Ideal) m c main_v7) t x s (ix4 ⟨(page m hO t 1 3).toNat, hp _⟩ (hd m hO t 1) x s) h (hd_word m hO t 1 1#32 rfl) rfl rfl).trans (V_v7 m c _ _ x s)

theorem read12 (a : (pcfg0 (F := Ideal)).Adm) (X : S2560x16x128x128.Idx → EReal) (t : Fin (cfg0 a).N) (x s : Fin 128) (e : S2560x16x128x128.Idx)
    (h0 : cc0_transform_12 (F := Ideal) k0_off1_inb numel1_S1 a.1 (grid0.coords t) 0 = (e 0).val)
    (h1 : cc0_transform_12 (F := Ideal) k0_off1_inb numel1_S1 a.1 (grid0.coords t) 1 = (e 1).val)
    (h2 : x.val = (e 2).val) (h3 : s.val = (e 3).val) :
    (((cfg0 a).win 12).blk t).view.read (Elt Ideal) X (ix4 0 0 x s) = X e := by
  refine congrArg X (funext fun a' => Fin.ext ?_)
  match a' with
  | ⟨0, _⟩ => exact (show cc0_transform_12 (F := Ideal) k0_off1_inb numel1_S1 a.1 (grid0.coords t) 0 * 1 + 1 * 0 = (e 0).val from (Nat.mul_one _).trans h0)
  | ⟨1, _⟩ => exact (show cc0_transform_12 (F := Ideal) k0_off1_inb numel1_S1 a.1 (grid0.coords t) 1 * 1 + 1 * 0 = (e 1).val from (Nat.mul_one _).trans h1)
  | ⟨2, _⟩ => exact (show 0 * 128 + 1 * x.val = (e 2).val by omega)
  | ⟨3, _⟩ => exact (show 0 * 128 + 1 * s.val = (e 3).val by omega)

theorem tile12 (x s : Fin 128) : B12 m hO c t (ix4 0 0 x s)
    = m ((c : Thread nD τ).loc main_arg0) (ix5 ⟨(page m hO t 1 4).toNat, hp _⟩ s (hd m hO t 1) ⟨x.val / 64, by omega⟩ ⟨x.val % 64, by omega⟩) := by
  have h : BitVec.toNat ((tbl m).at 0 (Rect.unit (s := S3072) _ S1.size _) numel1_S1) = BitVec.toNat (page m hO t 1 4) := congrArg BitVec.toNat (page_at m hO t 1 4 _ (k0_off1_inb (grid0.coords t) 1 4) (place_word m hO t 1 4 1#32 4#32 rfl rfl))
  exact (read12 (adm m hO) (V (F := Ideal) m c main_v7) t x s (ix4 ⟨(page m hO t 1 4).toNat, hp _⟩ (hd m hO t 1) x s) h (hd_word m hO t 1 1#32 rfl) rfl rfl).trans (V_v7 m c _ _ x s)

theorem read13 (a : (pcfg0 (F := Ideal)).Adm) (X : S2560x16x128x128.Idx → EReal) (t : Fin (cfg0 a).N) (x s : Fin 128) (e : S2560x16x128x128.Idx)
    (h0 : cc0_transform_13 (F := Ideal) k0_off1_inb numel1_S1 a.1 (grid0.coords t) 0 = (e 0).val)
    (h1 : cc0_transform_13 (F := Ideal) k0_off1_inb numel1_S1 a.1 (grid0.coords t) 1 = (e 1).val)
    (h2 : x.val = (e 2).val) (h3 : s.val = (e 3).val) :
    (((cfg0 a).win 13).blk t).view.read (Elt Ideal) X (ix4 0 0 x s) = X e := by
  refine congrArg X (funext fun a' => Fin.ext ?_)
  match a' with
  | ⟨0, _⟩ => exact (show cc0_transform_13 (F := Ideal) k0_off1_inb numel1_S1 a.1 (grid0.coords t) 0 * 1 + 1 * 0 = (e 0).val from (Nat.mul_one _).trans h0)
  | ⟨1, _⟩ => exact (show cc0_transform_13 (F := Ideal) k0_off1_inb numel1_S1 a.1 (grid0.coords t) 1 * 1 + 1 * 0 = (e 1).val from (Nat.mul_one _).trans h1)
  | ⟨2, _⟩ => exact (show 0 * 128 + 1 * x.val = (e 2).val by omega)
  | ⟨3, _⟩ => exact (show 0 * 128 + 1 * s.val = (e 3).val by omega)

theorem tile13 (x s : Fin 128) : B13 m hO c t (ix4 0 0 x s)
    = m ((c : Thread nD τ).loc main_arg0) (ix5 ⟨(page m hO t 1 5).toNat, hp _⟩ s (hd m hO t 1) ⟨x.val / 64, by omega⟩ ⟨x.val % 64, by omega⟩) := by
  have h : BitVec.toNat ((tbl m).at 0 (Rect.unit (s := S3072) _ S1.size _) numel1_S1) = BitVec.toNat (page m hO t 1 5) := congrArg BitVec.toNat (page_at m hO t 1 5 _ (k0_off1_inb (grid0.coords t) 1 5) (place_word m hO t 1 5 1#32 5#32 rfl rfl))
  exact (read13 (adm m hO) (V (F := Ideal) m c main_v7) t x s (ix4 ⟨(page m hO t 1 5).toNat, hp _⟩ (hd m hO t 1) x s) h (hd_word m hO t 1 1#32 rfl) rfl rfl).trans (V_v7 m c _ _ x s)

theorem read14 (a : (pcfg0 (F := Ideal)).Adm) (X : S2560x16x128x128.Idx → EReal) (t : Fin (cfg0 a).N) (x s : Fin 128) (e : S2560x16x128x128.Idx)
    (h0 : cc0_transform_14 (F := Ideal) k0_off1_inb numel1_S1 a.1 (grid0.coords t) 0 = (e 0).val)
    (h1 : cc0_transform_14 (F := Ideal) k0_off1_inb numel1_S1 a.1 (grid0.coords t) 1 = (e 1).val)
    (h2 : x.val = (e 2).val) (h3 : s.val = (e 3).val) :
    (((cfg0 a).win 14).blk t).view.read (Elt Ideal) X (ix4 0 0 x s) = X e := by
  refine congrArg X (funext fun a' => Fin.ext ?_)
  match a' with
  | ⟨0, _⟩ => exact (show cc0_transform_14 (F := Ideal) k0_off1_inb numel1_S1 a.1 (grid0.coords t) 0 * 1 + 1 * 0 = (e 0).val from (Nat.mul_one _).trans h0)
  | ⟨1, _⟩ => exact (show cc0_transform_14 (F := Ideal) k0_off1_inb numel1_S1 a.1 (grid0.coords t) 1 * 1 + 1 * 0 = (e 1).val from (Nat.mul_one _).trans h1)
  | ⟨2, _⟩ => exact (show 0 * 128 + 1 * x.val = (e 2).val by omega)
  | ⟨3, _⟩ => exact (show 0 * 128 + 1 * s.val = (e 3).val by omega)

theorem tile14 (x s : Fin 128) : B14 m hO c t (ix4 0 0 x s)
    = m ((c : Thread nD τ).loc main_arg0) (ix5 ⟨(page m hO t 2 0).toNat, hp _⟩ s (hd m hO t 2) ⟨x.val / 64, by omega⟩ ⟨x.val % 64, by omega⟩) := by
  have h : BitVec.toNat ((tbl m).at 0 (Rect.unit (s := S3072) _ S1.size _) numel1_S1) = BitVec.toNat (page m hO t 2 0) := congrArg BitVec.toNat (page_at m hO t 2 0 _ (k0_off1_inb (grid0.coords t) 2 0) (place_word m hO t 2 0 2#32 0#32 rfl rfl))
  exact (read14 (adm m hO) (V (F := Ideal) m c main_v7) t x s (ix4 ⟨(page m hO t 2 0).toNat, hp _⟩ (hd m hO t 2) x s) h (hd_word m hO t 2 2#32 rfl) rfl rfl).trans (V_v7 m c _ _ x s)

theorem read15 (a : (pcfg0 (F := Ideal)).Adm) (X : S2560x16x128x128.Idx → EReal) (t : Fin (cfg0 a).N) (x s : Fin 128) (e : S2560x16x128x128.Idx)
    (h0 : cc0_transform_15 (F := Ideal) k0_off1_inb numel1_S1 a.1 (grid0.coords t) 0 = (e 0).val)
    (h1 : cc0_transform_15 (F := Ideal) k0_off1_inb numel1_S1 a.1 (grid0.coords t) 1 = (e 1).val)
    (h2 : x.val = (e 2).val) (h3 : s.val = (e 3).val) :
    (((cfg0 a).win 15).blk t).view.read (Elt Ideal) X (ix4 0 0 x s) = X e := by
  refine congrArg X (funext fun a' => Fin.ext ?_)
  match a' with
  | ⟨0, _⟩ => exact (show cc0_transform_15 (F := Ideal) k0_off1_inb numel1_S1 a.1 (grid0.coords t) 0 * 1 + 1 * 0 = (e 0).val from (Nat.mul_one _).trans h0)
  | ⟨1, _⟩ => exact (show cc0_transform_15 (F := Ideal) k0_off1_inb numel1_S1 a.1 (grid0.coords t) 1 * 1 + 1 * 0 = (e 1).val from (Nat.mul_one _).trans h1)
  | ⟨2, _⟩ => exact (show 0 * 128 + 1 * x.val = (e 2).val by omega)
  | ⟨3, _⟩ => exact (show 0 * 128 + 1 * s.val = (e 3).val by omega)

theorem tile15 (x s : Fin 128) : B15 m hO c t (ix4 0 0 x s)
    = m ((c : Thread nD τ).loc main_arg0) (ix5 ⟨(page m hO t 2 1).toNat, hp _⟩ s (hd m hO t 2) ⟨x.val / 64, by omega⟩ ⟨x.val % 64, by omega⟩) := by
  have h : BitVec.toNat ((tbl m).at 0 (Rect.unit (s := S3072) _ S1.size _) numel1_S1) = BitVec.toNat (page m hO t 2 1) := congrArg BitVec.toNat (page_at m hO t 2 1 _ (k0_off1_inb (grid0.coords t) 2 1) (place_word m hO t 2 1 2#32 1#32 rfl rfl))
  exact (read15 (adm m hO) (V (F := Ideal) m c main_v7) t x s (ix4 ⟨(page m hO t 2 1).toNat, hp _⟩ (hd m hO t 2) x s) h (hd_word m hO t 2 2#32 rfl) rfl rfl).trans (V_v7 m c _ _ x s)

theorem read16 (a : (pcfg0 (F := Ideal)).Adm) (X : S2560x16x128x128.Idx → EReal) (t : Fin (cfg0 a).N) (x s : Fin 128) (e : S2560x16x128x128.Idx)
    (h0 : cc0_transform_16 (F := Ideal) k0_off1_inb numel1_S1 a.1 (grid0.coords t) 0 = (e 0).val)
    (h1 : cc0_transform_16 (F := Ideal) k0_off1_inb numel1_S1 a.1 (grid0.coords t) 1 = (e 1).val)
    (h2 : x.val = (e 2).val) (h3 : s.val = (e 3).val) :
    (((cfg0 a).win 16).blk t).view.read (Elt Ideal) X (ix4 0 0 x s) = X e := by
  refine congrArg X (funext fun a' => Fin.ext ?_)
  match a' with
  | ⟨0, _⟩ => exact (show cc0_transform_16 (F := Ideal) k0_off1_inb numel1_S1 a.1 (grid0.coords t) 0 * 1 + 1 * 0 = (e 0).val from (Nat.mul_one _).trans h0)
  | ⟨1, _⟩ => exact (show cc0_transform_16 (F := Ideal) k0_off1_inb numel1_S1 a.1 (grid0.coords t) 1 * 1 + 1 * 0 = (e 1).val from (Nat.mul_one _).trans h1)
  | ⟨2, _⟩ => exact (show 0 * 128 + 1 * x.val = (e 2).val by omega)
  | ⟨3, _⟩ => exact (show 0 * 128 + 1 * s.val = (e 3).val by omega)

theorem tile16 (x s : Fin 128) : B16 m hO c t (ix4 0 0 x s)
    = m ((c : Thread nD τ).loc main_arg0) (ix5 ⟨(page m hO t 2 2).toNat, hp _⟩ s (hd m hO t 2) ⟨x.val / 64, by omega⟩ ⟨x.val % 64, by omega⟩) := by
  have h : BitVec.toNat ((tbl m).at 0 (Rect.unit (s := S3072) _ S1.size _) numel1_S1) = BitVec.toNat (page m hO t 2 2) := congrArg BitVec.toNat (page_at m hO t 2 2 _ (k0_off1_inb (grid0.coords t) 2 2) (place_word m hO t 2 2 2#32 2#32 rfl rfl))
  exact (read16 (adm m hO) (V (F := Ideal) m c main_v7) t x s (ix4 ⟨(page m hO t 2 2).toNat, hp _⟩ (hd m hO t 2) x s) h (hd_word m hO t 2 2#32 rfl) rfl rfl).trans (V_v7 m c _ _ x s)

theorem read17 (a : (pcfg0 (F := Ideal)).Adm) (X : S2560x16x128x128.Idx → EReal) (t : Fin (cfg0 a).N) (x s : Fin 128) (e : S2560x16x128x128.Idx)
    (h0 : cc0_transform_17 (F := Ideal) k0_off1_inb numel1_S1 a.1 (grid0.coords t) 0 = (e 0).val)
    (h1 : cc0_transform_17 (F := Ideal) k0_off1_inb numel1_S1 a.1 (grid0.coords t) 1 = (e 1).val)
    (h2 : x.val = (e 2).val) (h3 : s.val = (e 3).val) :
    (((cfg0 a).win 17).blk t).view.read (Elt Ideal) X (ix4 0 0 x s) = X e := by
  refine congrArg X (funext fun a' => Fin.ext ?_)
  match a' with
  | ⟨0, _⟩ => exact (show cc0_transform_17 (F := Ideal) k0_off1_inb numel1_S1 a.1 (grid0.coords t) 0 * 1 + 1 * 0 = (e 0).val from (Nat.mul_one _).trans h0)
  | ⟨1, _⟩ => exact (show cc0_transform_17 (F := Ideal) k0_off1_inb numel1_S1 a.1 (grid0.coords t) 1 * 1 + 1 * 0 = (e 1).val from (Nat.mul_one _).trans h1)
  | ⟨2, _⟩ => exact (show 0 * 128 + 1 * x.val = (e 2).val by omega)
  | ⟨3, _⟩ => exact (show 0 * 128 + 1 * s.val = (e 3).val by omega)

theorem tile17 (x s : Fin 128) : B17 m hO c t (ix4 0 0 x s)
    = m ((c : Thread nD τ).loc main_arg0) (ix5 ⟨(page m hO t 2 3).toNat, hp _⟩ s (hd m hO t 2) ⟨x.val / 64, by omega⟩ ⟨x.val % 64, by omega⟩) := by
  have h : BitVec.toNat ((tbl m).at 0 (Rect.unit (s := S3072) _ S1.size _) numel1_S1) = BitVec.toNat (page m hO t 2 3) := congrArg BitVec.toNat (page_at m hO t 2 3 _ (k0_off1_inb (grid0.coords t) 2 3) (place_word m hO t 2 3 2#32 3#32 rfl rfl))
  exact (read17 (adm m hO) (V (F := Ideal) m c main_v7) t x s (ix4 ⟨(page m hO t 2 3).toNat, hp _⟩ (hd m hO t 2) x s) h (hd_word m hO t 2 2#32 rfl) rfl rfl).trans (V_v7 m c _ _ x s)

theorem read18 (a : (pcfg0 (F := Ideal)).Adm) (X : S2560x16x128x128.Idx → EReal) (t : Fin (cfg0 a).N) (x s : Fin 128) (e : S2560x16x128x128.Idx)
    (h0 : cc0_transform_18 (F := Ideal) k0_off1_inb numel1_S1 a.1 (grid0.coords t) 0 = (e 0).val)
    (h1 : cc0_transform_18 (F := Ideal) k0_off1_inb numel1_S1 a.1 (grid0.coords t) 1 = (e 1).val)
    (h2 : x.val = (e 2).val) (h3 : s.val = (e 3).val) :
    (((cfg0 a).win 18).blk t).view.read (Elt Ideal) X (ix4 0 0 x s) = X e := by
  refine congrArg X (funext fun a' => Fin.ext ?_)
  match a' with
  | ⟨0, _⟩ => exact (show cc0_transform_18 (F := Ideal) k0_off1_inb numel1_S1 a.1 (grid0.coords t) 0 * 1 + 1 * 0 = (e 0).val from (Nat.mul_one _).trans h0)
  | ⟨1, _⟩ => exact (show cc0_transform_18 (F := Ideal) k0_off1_inb numel1_S1 a.1 (grid0.coords t) 1 * 1 + 1 * 0 = (e 1).val from (Nat.mul_one _).trans h1)
  | ⟨2, _⟩ => exact (show 0 * 128 + 1 * x.val = (e 2).val by omega)
  | ⟨3, _⟩ => exact (show 0 * 128 + 1 * s.val = (e 3).val by omega)

theorem tile18 (x s : Fin 128) : B18 m hO c t (ix4 0 0 x s)
    = m ((c : Thread nD τ).loc main_arg0) (ix5 ⟨(page m hO t 2 4).toNat, hp _⟩ s (hd m hO t 2) ⟨x.val / 64, by omega⟩ ⟨x.val % 64, by omega⟩) := by
  have h : BitVec.toNat ((tbl m).at 0 (Rect.unit (s := S3072) _ S1.size _) numel1_S1) = BitVec.toNat (page m hO t 2 4) := congrArg BitVec.toNat (page_at m hO t 2 4 _ (k0_off1_inb (grid0.coords t) 2 4) (place_word m hO t 2 4 2#32 4#32 rfl rfl))
  exact (read18 (adm m hO) (V (F := Ideal) m c main_v7) t x s (ix4 ⟨(page m hO t 2 4).toNat, hp _⟩ (hd m hO t 2) x s) h (hd_word m hO t 2 2#32 rfl) rfl rfl).trans (V_v7 m c _ _ x s)

theorem read19 (a : (pcfg0 (F := Ideal)).Adm) (X : S2560x16x128x128.Idx → EReal) (t : Fin (cfg0 a).N) (x s : Fin 128) (e : S2560x16x128x128.Idx)
    (h0 : cc0_transform_19 (F := Ideal) k0_off1_inb numel1_S1 a.1 (grid0.coords t) 0 = (e 0).val)
    (h1 : cc0_transform_19 (F := Ideal) k0_off1_inb numel1_S1 a.1 (grid0.coords t) 1 = (e 1).val)
    (h2 : x.val = (e 2).val) (h3 : s.val = (e 3).val) :
    (((cfg0 a).win 19).blk t).view.read (Elt Ideal) X (ix4 0 0 x s) = X e := by
  refine congrArg X (funext fun a' => Fin.ext ?_)
  match a' with
  | ⟨0, _⟩ => exact (show cc0_transform_19 (F := Ideal) k0_off1_inb numel1_S1 a.1 (grid0.coords t) 0 * 1 + 1 * 0 = (e 0).val from (Nat.mul_one _).trans h0)
  | ⟨1, _⟩ => exact (show cc0_transform_19 (F := Ideal) k0_off1_inb numel1_S1 a.1 (grid0.coords t) 1 * 1 + 1 * 0 = (e 1).val from (Nat.mul_one _).trans h1)
  | ⟨2, _⟩ => exact (show 0 * 128 + 1 * x.val = (e 2).val by omega)
  | ⟨3, _⟩ => exact (show 0 * 128 + 1 * s.val = (e 3).val by omega)

theorem tile19 (x s : Fin 128) : B19 m hO c t (ix4 0 0 x s)
    = m ((c : Thread nD τ).loc main_arg0) (ix5 ⟨(page m hO t 2 5).toNat, hp _⟩ s (hd m hO t 2) ⟨x.val / 64, by omega⟩ ⟨x.val % 64, by omega⟩) := by
  have h : BitVec.toNat ((tbl m).at 0 (Rect.unit (s := S3072) _ S1.size _) numel1_S1) = BitVec.toNat (page m hO t 2 5) := congrArg BitVec.toNat (page_at m hO t 2 5 _ (k0_off1_inb (grid0.coords t) 2 5) (place_word m hO t 2 5 2#32 5#32 rfl rfl))
  exact (read19 (adm m hO) (V (F := Ideal) m c main_v7) t x s (ix4 ⟨(page m hO t 2 5).toNat, hp _⟩ (hd m hO t 2) x s) h (hd_word m hO t 2 2#32 rfl) rfl rfl).trans (V_v7 m c _ _ x s)

theorem read20 (a : (pcfg0 (F := Ideal)).Adm) (X : S2560x16x128x128.Idx → EReal) (t : Fin (cfg0 a).N) (x s : Fin 128) (e : S2560x16x128x128.Idx)
    (h0 : cc0_transform_20 (F := Ideal) k0_off1_inb numel1_S1 a.1 (grid0.coords t) 0 = (e 0).val)
    (h1 : cc0_transform_20 (F := Ideal) k0_off1_inb numel1_S1 a.1 (grid0.coords t) 1 = (e 1).val)
    (h2 : x.val = (e 2).val) (h3 : s.val = (e 3).val) :
    (((cfg0 a).win 20).blk t).view.read (Elt Ideal) X (ix4 0 0 x s) = X e := by
  refine congrArg X (funext fun a' => Fin.ext ?_)
  match a' with
  | ⟨0, _⟩ => exact (show cc0_transform_20 (F := Ideal) k0_off1_inb numel1_S1 a.1 (grid0.coords t) 0 * 1 + 1 * 0 = (e 0).val from (Nat.mul_one _).trans h0)
  | ⟨1, _⟩ => exact (show cc0_transform_20 (F := Ideal) k0_off1_inb numel1_S1 a.1 (grid0.coords t) 1 * 1 + 1 * 0 = (e 1).val from (Nat.mul_one _).trans h1)
  | ⟨2, _⟩ => exact (show 0 * 128 + 1 * x.val = (e 2).val by omega)
  | ⟨3, _⟩ => exact (show 0 * 128 + 1 * s.val = (e 3).val by omega)

theorem tile20 (x s : Fin 128) : B20 m hO c t (ix4 0 0 x s)
    = m ((c : Thread nD τ).loc main_arg0) (ix5 ⟨(page m hO t 3 0).toNat, hp _⟩ s (hd m hO t 3) ⟨x.val / 64, by omega⟩ ⟨x.val % 64, by omega⟩) := by
  have h : BitVec.toNat ((tbl m).at 0 (Rect.unit (s := S3072) _ S1.size _) numel1_S1) = BitVec.toNat (page m hO t 3 0) := congrArg BitVec.toNat (page_at m hO t 3 0 _ (k0_off1_inb (grid0.coords t) 3 0) (place_word m hO t 3 0 3#32 0#32 rfl rfl))
  exact (read20 (adm m hO) (V (F := Ideal) m c main_v7) t x s (ix4 ⟨(page m hO t 3 0).toNat, hp _⟩ (hd m hO t 3) x s) h (hd_word m hO t 3 3#32 rfl) rfl rfl).trans (V_v7 m c _ _ x s)

theorem read21 (a : (pcfg0 (F := Ideal)).Adm) (X : S2560x16x128x128.Idx → EReal) (t : Fin (cfg0 a).N) (x s : Fin 128) (e : S2560x16x128x128.Idx)
    (h0 : cc0_transform_21 (F := Ideal) k0_off1_inb numel1_S1 a.1 (grid0.coords t) 0 = (e 0).val)
    (h1 : cc0_transform_21 (F := Ideal) k0_off1_inb numel1_S1 a.1 (grid0.coords t) 1 = (e 1).val)
    (h2 : x.val = (e 2).val) (h3 : s.val = (e 3).val) :
    (((cfg0 a).win 21).blk t).view.read (Elt Ideal) X (ix4 0 0 x s) = X e := by
  refine congrArg X (funext fun a' => Fin.ext ?_)
  match a' with
  | ⟨0, _⟩ => exact (show cc0_transform_21 (F := Ideal) k0_off1_inb numel1_S1 a.1 (grid0.coords t) 0 * 1 + 1 * 0 = (e 0).val from (Nat.mul_one _).trans h0)
  | ⟨1, _⟩ => exact (show cc0_transform_21 (F := Ideal) k0_off1_inb numel1_S1 a.1 (grid0.coords t) 1 * 1 + 1 * 0 = (e 1).val from (Nat.mul_one _).trans h1)
  | ⟨2, _⟩ => exact (show 0 * 128 + 1 * x.val = (e 2).val by omega)
  | ⟨3, _⟩ => exact (show 0 * 128 + 1 * s.val = (e 3).val by omega)

theorem tile21 (x s : Fin 128) : B21 m hO c t (ix4 0 0 x s)
    = m ((c : Thread nD τ).loc main_arg0) (ix5 ⟨(page m hO t 3 1).toNat, hp _⟩ s (hd m hO t 3) ⟨x.val / 64, by omega⟩ ⟨x.val % 64, by omega⟩) := by
  have h : BitVec.toNat ((tbl m).at 0 (Rect.unit (s := S3072) _ S1.size _) numel1_S1) = BitVec.toNat (page m hO t 3 1) := congrArg BitVec.toNat (page_at m hO t 3 1 _ (k0_off1_inb (grid0.coords t) 3 1) (place_word m hO t 3 1 3#32 1#32 rfl rfl))
  exact (read21 (adm m hO) (V (F := Ideal) m c main_v7) t x s (ix4 ⟨(page m hO t 3 1).toNat, hp _⟩ (hd m hO t 3) x s) h (hd_word m hO t 3 3#32 rfl) rfl rfl).trans (V_v7 m c _ _ x s)

theorem read22 (a : (pcfg0 (F := Ideal)).Adm) (X : S2560x16x128x128.Idx → EReal) (t : Fin (cfg0 a).N) (x s : Fin 128) (e : S2560x16x128x128.Idx)
    (h0 : cc0_transform_22 (F := Ideal) k0_off1_inb numel1_S1 a.1 (grid0.coords t) 0 = (e 0).val)
    (h1 : cc0_transform_22 (F := Ideal) k0_off1_inb numel1_S1 a.1 (grid0.coords t) 1 = (e 1).val)
    (h2 : x.val = (e 2).val) (h3 : s.val = (e 3).val) :
    (((cfg0 a).win 22).blk t).view.read (Elt Ideal) X (ix4 0 0 x s) = X e := by
  refine congrArg X (funext fun a' => Fin.ext ?_)
  match a' with
  | ⟨0, _⟩ => exact (show cc0_transform_22 (F := Ideal) k0_off1_inb numel1_S1 a.1 (grid0.coords t) 0 * 1 + 1 * 0 = (e 0).val from (Nat.mul_one _).trans h0)
  | ⟨1, _⟩ => exact (show cc0_transform_22 (F := Ideal) k0_off1_inb numel1_S1 a.1 (grid0.coords t) 1 * 1 + 1 * 0 = (e 1).val from (Nat.mul_one _).trans h1)
  | ⟨2, _⟩ => exact (show 0 * 128 + 1 * x.val = (e 2).val by omega)
  | ⟨3, _⟩ => exact (show 0 * 128 + 1 * s.val = (e 3).val by omega)

theorem tile22 (x s : Fin 128) : B22 m hO c t (ix4 0 0 x s)
    = m ((c : Thread nD τ).loc main_arg0) (ix5 ⟨(page m hO t 3 2).toNat, hp _⟩ s (hd m hO t 3) ⟨x.val / 64, by omega⟩ ⟨x.val % 64, by omega⟩) := by
  have h : BitVec.toNat ((tbl m).at 0 (Rect.unit (s := S3072) _ S1.size _) numel1_S1) = BitVec.toNat (page m hO t 3 2) := congrArg BitVec.toNat (page_at m hO t 3 2 _ (k0_off1_inb (grid0.coords t) 3 2) (place_word m hO t 3 2 3#32 2#32 rfl rfl))
  exact (read22 (adm m hO) (V (F := Ideal) m c main_v7) t x s (ix4 ⟨(page m hO t 3 2).toNat, hp _⟩ (hd m hO t 3) x s) h (hd_word m hO t 3 3#32 rfl) rfl rfl).trans (V_v7 m c _ _ x s)

theorem read23 (a : (pcfg0 (F := Ideal)).Adm) (X : S2560x16x128x128.Idx → EReal) (t : Fin (cfg0 a).N) (x s : Fin 128) (e : S2560x16x128x128.Idx)
    (h0 : cc0_transform_23 (F := Ideal) k0_off1_inb numel1_S1 a.1 (grid0.coords t) 0 = (e 0).val)
    (h1 : cc0_transform_23 (F := Ideal) k0_off1_inb numel1_S1 a.1 (grid0.coords t) 1 = (e 1).val)
    (h2 : x.val = (e 2).val) (h3 : s.val = (e 3).val) :
    (((cfg0 a).win 23).blk t).view.read (Elt Ideal) X (ix4 0 0 x s) = X e := by
  refine congrArg X (funext fun a' => Fin.ext ?_)
  match a' with
  | ⟨0, _⟩ => exact (show cc0_transform_23 (F := Ideal) k0_off1_inb numel1_S1 a.1 (grid0.coords t) 0 * 1 + 1 * 0 = (e 0).val from (Nat.mul_one _).trans h0)
  | ⟨1, _⟩ => exact (show cc0_transform_23 (F := Ideal) k0_off1_inb numel1_S1 a.1 (grid0.coords t) 1 * 1 + 1 * 0 = (e 1).val from (Nat.mul_one _).trans h1)
  | ⟨2, _⟩ => exact (show 0 * 128 + 1 * x.val = (e 2).val by omega)
  | ⟨3, _⟩ => exact (show 0 * 128 + 1 * s.val = (e 3).val by omega)

theorem tile23 (x s : Fin 128) : B23 m hO c t (ix4 0 0 x s)
    = m ((c : Thread nD τ).loc main_arg0) (ix5 ⟨(page m hO t 3 3).toNat, hp _⟩ s (hd m hO t 3) ⟨x.val / 64, by omega⟩ ⟨x.val % 64, by omega⟩) := by
  have h : BitVec.toNat ((tbl m).at 0 (Rect.unit (s := S3072) _ S1.size _) numel1_S1) = BitVec.toNat (page m hO t 3 3) := congrArg BitVec.toNat (page_at m hO t 3 3 _ (k0_off1_inb (grid0.coords t) 3 3) (place_word m hO t 3 3 3#32 3#32 rfl rfl))
  exact (read23 (adm m hO) (V (F := Ideal) m c main_v7) t x s (ix4 ⟨(page m hO t 3 3).toNat, hp _⟩ (hd m hO t 3) x s) h (hd_word m hO t 3 3#32 rfl) rfl rfl).trans (V_v7 m c _ _ x s)

theorem read24 (a : (pcfg0 (F := Ideal)).Adm) (X : S2560x16x128x128.Idx → EReal) (t : Fin (cfg0 a).N) (x s : Fin 128) (e : S2560x16x128x128.Idx)
    (h0 : cc0_transform_24 (F := Ideal) k0_off1_inb numel1_S1 a.1 (grid0.coords t) 0 = (e 0).val)
    (h1 : cc0_transform_24 (F := Ideal) k0_off1_inb numel1_S1 a.1 (grid0.coords t) 1 = (e 1).val)
    (h2 : x.val = (e 2).val) (h3 : s.val = (e 3).val) :
    (((cfg0 a).win 24).blk t).view.read (Elt Ideal) X (ix4 0 0 x s) = X e := by
  refine congrArg X (funext fun a' => Fin.ext ?_)
  match a' with
  | ⟨0, _⟩ => exact (show cc0_transform_24 (F := Ideal) k0_off1_inb numel1_S1 a.1 (grid0.coords t) 0 * 1 + 1 * 0 = (e 0).val from (Nat.mul_one _).trans h0)
  | ⟨1, _⟩ => exact (show cc0_transform_24 (F := Ideal) k0_off1_inb numel1_S1 a.1 (grid0.coords t) 1 * 1 + 1 * 0 = (e 1).val from (Nat.mul_one _).trans h1)
  | ⟨2, _⟩ => exact (show 0 * 128 + 1 * x.val = (e 2).val by omega)
  | ⟨3, _⟩ => exact (show 0 * 128 + 1 * s.val = (e 3).val by omega)

theorem tile24 (x s : Fin 128) : B24 m hO c t (ix4 0 0 x s)
    = m ((c : Thread nD τ).loc main_arg0) (ix5 ⟨(page m hO t 3 4).toNat, hp _⟩ s (hd m hO t 3) ⟨x.val / 64, by omega⟩ ⟨x.val % 64, by omega⟩) := by
  have h : BitVec.toNat ((tbl m).at 0 (Rect.unit (s := S3072) _ S1.size _) numel1_S1) = BitVec.toNat (page m hO t 3 4) := congrArg BitVec.toNat (page_at m hO t 3 4 _ (k0_off1_inb (grid0.coords t) 3 4) (place_word m hO t 3 4 3#32 4#32 rfl rfl))
  exact (read24 (adm m hO) (V (F := Ideal) m c main_v7) t x s (ix4 ⟨(page m hO t 3 4).toNat, hp _⟩ (hd m hO t 3) x s) h (hd_word m hO t 3 3#32 rfl) rfl rfl).trans (V_v7 m c _ _ x s)

theorem read25 (a : (pcfg0 (F := Ideal)).Adm) (X : S2560x16x128x128.Idx → EReal) (t : Fin (cfg0 a).N) (x s : Fin 128) (e : S2560x16x128x128.Idx)
    (h0 : cc0_transform_25 (F := Ideal) k0_off1_inb numel1_S1 a.1 (grid0.coords t) 0 = (e 0).val)
    (h1 : cc0_transform_25 (F := Ideal) k0_off1_inb numel1_S1 a.1 (grid0.coords t) 1 = (e 1).val)
    (h2 : x.val = (e 2).val) (h3 : s.val = (e 3).val) :
    (((cfg0 a).win 25).blk t).view.read (Elt Ideal) X (ix4 0 0 x s) = X e := by
  refine congrArg X (funext fun a' => Fin.ext ?_)
  match a' with
  | ⟨0, _⟩ => exact (show cc0_transform_25 (F := Ideal) k0_off1_inb numel1_S1 a.1 (grid0.coords t) 0 * 1 + 1 * 0 = (e 0).val from (Nat.mul_one _).trans h0)
  | ⟨1, _⟩ => exact (show cc0_transform_25 (F := Ideal) k0_off1_inb numel1_S1 a.1 (grid0.coords t) 1 * 1 + 1 * 0 = (e 1).val from (Nat.mul_one _).trans h1)
  | ⟨2, _⟩ => exact (show 0 * 128 + 1 * x.val = (e 2).val by omega)
  | ⟨3, _⟩ => exact (show 0 * 128 + 1 * s.val = (e 3).val by omega)

theorem tile25 (x s : Fin 128) : B25 m hO c t (ix4 0 0 x s)
    = m ((c : Thread nD τ).loc main_arg0) (ix5 ⟨(page m hO t 3 5).toNat, hp _⟩ s (hd m hO t 3) ⟨x.val / 64, by omega⟩ ⟨x.val % 64, by omega⟩) := by
  have h : BitVec.toNat ((tbl m).at 0 (Rect.unit (s := S3072) _ S1.size _) numel1_S1) = BitVec.toNat (page m hO t 3 5) := congrArg BitVec.toNat (page_at m hO t 3 5 _ (k0_off1_inb (grid0.coords t) 3 5) (place_word m hO t 3 5 3#32 5#32 rfl rfl))
  exact (read25 (adm m hO) (V (F := Ideal) m c main_v7) t x s (ix4 ⟨(page m hO t 3 5).toNat, hp _⟩ (hd m hO t 3) x s) h (hd_word m hO t 3 3#32 rfl) rfl rfl).trans (V_v7 m c _ _ x s)

end Cert.SampleIdeal.Blocks

end
-- ==== Proof.SampleHeads.lean ====
/-
  The sample attention kernel's output block, head by head, as a function of the argument arrays.
-/
module

public import proofs.«01_k».proof.Proof.SampleHead
public import proofs.«01_k».proof.Proof.SamplePages
public import proofs.«01_k».proof.Proof.SampleTiles

@[expose] public section

noncomputable section

namespace Cert.SampleIdeal.Blocks

open Cert.SampleIdeal Cert.SampleIdeal.Gen Idealize.ShloMosaic Idealize.ShloMosaic.TcCoe Idealize.SL.Sem
open Idealize.ShloMosaic.Tactic
open Cert.SampleIdeal.Step Cert.SampleIdeal.Tables
open Cert.SampleIdeal.Pay Cert.Proof.Sample.Soft

/-- One output of the attention: batch row `b`, head `h`, column `d`. -/
def kval (C : S2560x128x16x2x64.Idx → EReal) (P : IVec S32x64 32) (I : IVec S32x16x3 32) (Q : S32x1024.Idx → EReal) (N : S32x2048.Idx → EReal)
    (R : S32x16.Idx → EReal) (b : Fin 32) (h : Fin 16) (d : Fin 64) : EReal :=
  once (fun j => (∑ d : Fin 64, Q (ix2 b ⟨h.val * 64 + d.val, by omega⟩) * Ideal.ofBits .f32 0x3E000000#32
          * C (ix5 ⟨(pageOf P I b h (tileOf j)).toNat % 2560, Nat.mod_lt _ (by omega)⟩ (slotOf j) h 0 d))
        + biasOf (fun s => R (ix2 (bkt 0 s) h)) (fun s => R (ix2 (bkt 1 s) h)) (fun k => I (ix3 b h k)) j)
    ((∑ d : Fin 64, Q (ix2 b ⟨h.val * 64 + d.val, by omega⟩) * Ideal.ofBits .f32 0x3E000000#32 * N (ix2 b ⟨h.val * 128 + d.val, by omega⟩))
        + R (ix2 (bkt 2 0) h))
    (fun j => C (ix5 ⟨(pageOf P I b h (tileOf j)).toNat % 2560, Nat.mod_lt _ (by omega)⟩ (slotOf j) h 1 d))
    (N (ix2 b ⟨h.val * 128 + (64 + d.val), by omega⟩))

/-! Loads read at an entry. -/

theorem ldq (X : Vec Ideal S1x4x8x64 .f32) (r : Fin 4) (inb) (d : Fin 64) :
    View.ld X (Rect.unit (s := S1x4x8x64) ![0, r.val, 0, 0] S1x1x8x64.size inb) (ix4 0 0 0 d) = X (ix4 0 r 0 d) := by
  refine congrArg X (funext fun a => Fin.ext ?_)
  match a with
  | ⟨0, _⟩ => rfl
  | ⟨1, _⟩ => rfl
  | ⟨2, _⟩ => rfl
  | ⟨3, _⟩ => show 0 + 1 * d.val = d.val; omega

theorem ldn (X : Vec Ideal S1x4x1x128 .f32) (r : Fin 4) (inb) (d : Fin 128) :
    View.ld X (Rect.unit (s := S1x4x1x128) ![0, r.val, 0, 0] S1x1x1x128.size inb) (ix4 0 0 0 d) = X (ix4 0 r 0 d) := by
  refine congrArg X (funext fun a => Fin.ext ?_)
  match a with
  | ⟨0, _⟩ => rfl
  | ⟨1, _⟩ => rfl
  | ⟨2, _⟩ => rfl
  | ⟨3, _⟩ => show 0 + 1 * d.val = d.val; omega

theorem ldt (X : Vec Ideal S1x1x128x128 .f32) (inb) (x s : Fin 128) :
    View.ld X (Rect.unit (s := S1x1x128x128) ![0, 0, 0, 0] S1x1x128x128.size inb) (ix4 0 0 x s) = X (ix4 0 0 x s) := by
  refine congrArg X (funext fun a => Fin.ext ?_)
  match a with
  | ⟨0, _⟩ => rfl
  | ⟨1, _⟩ => rfl
  | ⟨2, _⟩ => show 0 + 1 * x.val = x.val; omega
  | ⟨3, _⟩ => show 0 + 1 * s.val = s.val; omega

theorem ldb (X : Vec Ideal S4x3x128 .f32) (r : Fin 4) (y : Fin 3) (inb) (s : Fin 128) :
    View.ld X (Rect.unit (s := S4x3x128) ![r.val, y.val, 0] S1x1x128.size inb) (ix3 0 0 s) = X (ix3 r y s) := by
  refine congrArg X (funext fun a => Fin.ext ?_)
  match a with
  | ⟨0, _⟩ => rfl
  | ⟨1, _⟩ => rfl
  | ⟨2, _⟩ => show 0 + 1 * s.val = s.val; omega

theorem ldb2 (X : Vec Ideal S4x3x128 .f32) (r : Fin 4) (inb) :
    View.ld X (Rect.unit (s := S4x3x128) ![r.val, 2, 0] S1x1x1.size inb) (ix3 0 0 0) = X (ix3 r 2 0) := by
  refine congrArg X (funext fun a => Fin.ext ?_)
  match a with
  | ⟨0, _⟩ => rfl
  | ⟨1, _⟩ => rfl
  | ⟨2, _⟩ => rfl

variable (m : (ℓ : Loc nD τ sig) → Buf (Elt Ideal) ℓ)
variable (hO : Ok m) (t : Fin (cfgM m hO).N)
variable (hp : ∀ y : S3072.Idx, ((tbl m 0 : IVec S3072 32) y).toNat < 2560)
variable (hid : ∀ y, (m (((0 : Dev nD) : Thread nD τ).loc main_arg2) y).toNat < 32)

/-- The launch's result at batch row `b`, head `h`, column `d`. -/
def kres (b : Fin 32) (h : Fin 16) (d : Fin 64) : EReal :=
  kval (m (((0 : Dev nD) : Thread nD τ).loc main_arg0)) (m (((0 : Dev nD) : Thread nD τ).loc main_arg1)) (m (((0 : Dev nD) : Thread nD τ).loc main_arg2))
    (m (((0 : Dev nD) : Thread nD τ).loc main_arg3)) (m (((0 : Dev nD) : Thread nD τ).loc main_arg4)) (m (((0 : Dev nD) : Thread nD τ).loc main_arg5)) b h d

include hid in
theorem head_gen (r : Fin 4) (w : Vec Ideal S1x1x8x64 .f32) (n : Vec Ideal S1x1x1x128 .f32) (T : Fin 6 → Vec Ideal S1x1x128x128 .f32)
    (b0 b1 : Vec Ideal S1x1x128 .f32) (b2 : Vec Ideal S1x1x1 .f32)
    (hw : ∀ d : Fin 64, w (ix4 0 0 0 d) = B0 m hO 0 t (ix4 0 r 0 d)) (hn : ∀ x : Fin 128, n (ix4 0 0 0 x) = B1 m hO 0 t (ix4 0 r 0 x))
    (hT : ∀ (i : Fin 6) (x s : Fin 128), T i (ix4 0 0 x s) = m (((0 : Dev nD) : Thread nD τ).loc main_arg0) (ix5 ⟨(page m hO t r i).toNat, hp _⟩ s (hd m hO t r) ⟨x.val / 64, by omega⟩ ⟨x.val % 64, by omega⟩))
    (h0 : ∀ s : Fin 128, b0 (ix3 0 0 s) = B26 m hO 0 t (ix3 r 0 s)) (h1 : ∀ s : Fin 128, b1 (ix3 0 0 s) = B26 m hO 0 t (ix3 r 1 s))
    (h2 : b2 (ix3 0 0 0) = B26 m hO 0 t (ix3 r 2 0)) (d : Fin 64) :
    head (F := Ideal) w n (T 0) (T 1) (T 2) (T 3) (T 4) (T 5) b0 b1 b2 (sel m hO t r 0) (sel m hO t r 1) (sel m hO t r 2) (ix4 0 0 0 d)
      = kres m (row m hO t) (hd m hO t r) d := by
  have hpg : ∀ i, (⟨(page m hO t r i).toNat, hp _⟩ : Fin 2560)
      = ⟨(pageOf (m (((0 : Dev nD) : Thread nD τ).loc main_arg1)) (m (((0 : Dev nD) : Thread nD τ).loc main_arg2)) (row m hO t) (hd m hO t r) i).toNat % 2560, Nat.mod_lt _ (by omega)⟩ := fun i =>
    Fin.ext (by
      have e := page_eq m hO t r i hid
      have l : (page m hO t r i).toNat < 2560 := hp _
      show (page m hO t r i).toNat = _ % 2560
      rw [← e, Nat.mod_eq_of_lt l])
  have hI : ∀ k, sel m hO t r k = (fun k : Fin 3 => m (((0 : Dev nD) : Thread nD τ).loc main_arg2) (ix3 (row m hO t) (hd m hO t r) k)) k := fun k => sel_eq m hO t r k
  rw [hI 0, hI 1, hI 2]
  have hw' : ∀ d : Fin 64, w (ix4 0 0 0 d) = (fun d : Fin 64 => m (((0 : Dev nD) : Thread nD τ).loc main_arg3) (ix2 (row m hO t) ⟨(hd m hO t r).val * 64 + d.val, by have := (hd m hO t r).isLt; omega⟩)) d := fun d => (hw d).trans (q_eq m 0 hO t r d)
  have hk' : ∀ d : Fin 64, n (ix4 0 0 0 ⟨d.val, by omega⟩) = (fun d : Fin 64 => m (((0 : Dev nD) : Thread nD τ).loc main_arg4) (ix2 (row m hO t) ⟨(hd m hO t r).val * 128 + d.val, by have := (hd m hO t r).isLt; omega⟩)) d := fun d => (hn _).trans (new_eq m 0 hO t r ⟨d.val, by omega⟩)
  have hv' : ∀ d : Fin 64, n (ix4 0 0 0 ⟨64 + d.val, by omega⟩) = (fun d : Fin 64 => m (((0 : Dev nD) : Thread nD τ).loc main_arg4) (ix2 (row m hO t) ⟨(hd m hO t r).val * 128 + (64 + d.val), by have := (hd m hO t r).isLt; omega⟩)) d := fun d => (hn _).trans (new_eq m 0 hO t r ⟨64 + d.val, by omega⟩)
  have h0' : ∀ s : Fin 128, b0 (ix3 0 0 s) = (fun s : Fin 128 => m (((0 : Dev nD) : Thread nD τ).loc main_arg5) (ix2 (bkt 0 s) (hd m hO t r))) s := fun s => (h0 s).trans (tab_eq m 0 hO t r 0 s)
  have h1' : ∀ s : Fin 128, b1 (ix3 0 0 s) = (fun s : Fin 128 => m (((0 : Dev nD) : Thread nD τ).loc main_arg5) (ix2 (bkt 1 s) (hd m hO t r))) s := fun s => (h1 s).trans (tab_eq m 0 hO t r 1 s)
  have h2' : b2 (ix3 0 0 0) = m (((0 : Dev nD) : Thread nD τ).loc main_arg5) (ix2 (bkt 2 0) (hd m hO t r)) := h2.trans (tab_eq m 0 hO t r 2 0)
  have hK' : ∀ (i : Fin 6) (d : Fin 64) (k : Fin 128), T i (ix4 0 0 ⟨d.val, by omega⟩ k) = (fun (i : Fin 6) (d : Fin 64) (k : Fin 128) => m (((0 : Dev nD) : Thread nD τ).loc main_arg0) (ix5 ⟨(pageOf (m (((0 : Dev nD) : Thread nD τ).loc main_arg1)) (m (((0 : Dev nD) : Thread nD τ).loc main_arg2)) (row m hO t) (hd m hO t r) i).toNat % 2560, Nat.mod_lt _ (by omega)⟩ k (hd m hO t r) 0 d)) i d k := fun i d k => by
    refine (hT i _ k).trans ?_
    rw [hpg]
    exact congrArg₂ (fun (y : Fin 2) (z : Fin 64) => m (((0 : Dev nD) : Thread nD τ).loc main_arg0) (ix5 _ k (hd m hO t r) y z)) (Fin.ext (by show d.val / 64 = 0; omega)) (Fin.ext (by show d.val % 64 = d.val; omega))
  have hV' : ∀ (i : Fin 6) (d : Fin 64) (k : Fin 128), T i (ix4 0 0 ⟨64 + d.val, by omega⟩ k) = (fun (i : Fin 6) (d : Fin 64) (k : Fin 128) => m (((0 : Dev nD) : Thread nD τ).loc main_arg0) (ix5 ⟨(pageOf (m (((0 : Dev nD) : Thread nD τ).loc main_arg1)) (m (((0 : Dev nD) : Thread nD τ).loc main_arg2)) (row m hO t) (hd m hO t r) i).toNat % 2560, Nat.mod_lt _ (by omega)⟩ k (hd m hO t r) 1 d)) i d k := fun i d k => by
    refine (hT i _ k).trans ?_
    rw [hpg]
    exact congrArg₂ (fun (y : Fin 2) (z : Fin 64) => m (((0 : Dev nD) : Thread nD τ).loc main_arg0) (ix5 _ k (hd m hO t r) y z)) (Fin.ext (by show (64 + d.val) / 64 = 1; omega)) (Fin.ext (by show (64 + d.val) % 64 = d.val; omega))
  exact head_apply w n T b0 b1 b2 (fun k : Fin 3 => m (((0 : Dev nD) : Thread nD τ).loc main_arg2) (ix3 (row m hO t) (hd m hO t r) k)) (fun d : Fin 64 => m (((0 : Dev nD) : Thread nD τ).loc main_arg3) (ix2 (row m hO t) ⟨(hd m hO t r).val * 64 + d.val, by have := (hd m hO t r).isLt; omega⟩)) (fun d : Fin 64 => m (((0 : Dev nD) : Thread nD τ).loc main_arg4) (ix2 (row m hO t) ⟨(hd m hO t r).val * 128 + d.val, by have := (hd m hO t r).isLt; omega⟩)) (fun d : Fin 64 => m (((0 : Dev nD) : Thread nD τ).loc main_arg4) (ix2 (row m hO t) ⟨(hd m hO t r).val * 128 + (64 + d.val), by have := (hd m hO t r).isLt; omega⟩)) (fun (i : Fin 6) (d : Fin 64) (k : Fin 128) => m (((0 : Dev nD) : Thread nD τ).loc main_arg0) (ix5 ⟨(pageOf (m (((0 : Dev nD) : Thread nD τ).loc main_arg1)) (m (((0 : Dev nD) : Thread nD τ).loc main_arg2)) (row m hO t) (hd m hO t r) i).toNat % 2560, Nat.mod_lt _ (by omega)⟩ k (hd m hO t r) 0 d)) (fun (i : Fin 6) (d : Fin 64) (k : Fin 128) => m (((0 : Dev nD) : Thread nD τ).loc main_arg0) (ix5 ⟨(pageOf (m (((0 : Dev nD) : Thread nD τ).loc main_arg1)) (m (((0 : Dev nD) : Thread nD τ).loc main_arg2)) (row m hO t) (hd m hO t r) i).toNat % 2560, Nat.mod_lt _ (by omega)⟩ k (hd m hO t r) 1 d)) (fun s : Fin 128 => m (((0 : Dev nD) : Thread nD τ).loc main_arg5) (ix2 (bkt 0 s) (hd m hO t r))) (fun s : Fin 128 => m (((0 : Dev nD) : Thread nD τ).loc main_arg5) (ix2 (bkt 1 s) (hd m hO t r))) _ hw' hK' hV' hk' hv' h0' h1' h2' d

include hid in
/-- The same with the six tiles one by one. -/
theorem head_six (r : Fin 4) (w : Vec Ideal S1x1x8x64 .f32) (n : Vec Ideal S1x1x1x128 .f32) (t0 t1 t2 t3 t4 t5 : Vec Ideal S1x1x128x128 .f32)
    (b0 b1 : Vec Ideal S1x1x128 .f32) (b2 : Vec Ideal S1x1x1 .f32)
    (hw : ∀ d : Fin 64, w (ix4 0 0 0 d) = B0 m hO 0 t (ix4 0 r 0 d)) (hn : ∀ x : Fin 128, n (ix4 0 0 0 x) = B1 m hO 0 t (ix4 0 r 0 x))
    (h0 : ∀ x s : Fin 128, t0 (ix4 0 0 x s) = m (((0 : Dev nD) : Thread nD τ).loc main_arg0) (ix5 ⟨(page m hO t r 0).toNat, hp _⟩ s (hd m hO t r) ⟨x.val / 64, by omega⟩ ⟨x.val % 64, by omega⟩))
    (h1 : ∀ x s : Fin 128, t1 (ix4 0 0 x s) = m (((0 : Dev nD) : Thread nD τ).loc main_arg0) (ix5 ⟨(page m hO t r 1).toNat, hp _⟩ s (hd m hO t r) ⟨x.val / 64, by omega⟩ ⟨x.val % 64, by omega⟩))
    (h2 : ∀ x s : Fin 128, t2 (ix4 0 0 x s) = m (((0 : Dev nD) : Thread nD τ).loc main_arg0) (ix5 ⟨(page m hO t r 2).toNat, hp _⟩ s (hd m hO t r) ⟨x.val / 64, by omega⟩ ⟨x.val % 64, by omega⟩))
    (h3 : ∀ x s : Fin 128, t3 (ix4 0 0 x s) = m (((0 : Dev nD) : Thread nD τ).loc main_arg0) (ix5 ⟨(page m hO t r 3).toNat, hp _⟩ s (hd m hO t r) ⟨x.val / 64, by omega⟩ ⟨x.val % 64, by omega⟩))
    (h4 : ∀ x s : Fin 128, t4 (ix4 0 0 x s) = m (((0 : Dev nD) : Thread nD τ).loc main_arg0) (ix5 ⟨(page m hO t r 4).toNat, hp _⟩ s (hd m hO t r) ⟨x.val / 64, by omega⟩ ⟨x.val % 64, by omega⟩))
    (h5 : ∀ x s : Fin 128, t5 (ix4 0 0 x s) = m (((0 : Dev nD) : Thread nD τ).loc main_arg0) (ix5 ⟨(page m hO t r 5).toNat, hp _⟩ s (hd m hO t r) ⟨x.val / 64, by omega⟩ ⟨x.val % 64, by omega⟩))
    (g0 : ∀ s : Fin 128, b0 (ix3 0 0 s) = B26 m hO 0 t (ix3 r 0 s)) (g1 : ∀ s : Fin 128, b1 (ix3 0 0 s) = B26 m hO 0 t (ix3 r 1 s))
    (g2 : b2 (ix3 0 0 0) = B26 m hO 0 t (ix3 r 2 0)) (d : Fin 64) :
    head (F := Ideal) w n t0 t1 t2 t3 t4 t5 b0 b1 b2 (sel m hO t r 0) (sel m hO t r 1) (sel m hO t r 2) (ix4 0 0 0 d)
      = kres m (row m hO t) (hd m hO t r) d :=
  head_gen m hO t hp hid r w n ![t0, t1, t2, t3, t4, t5] b0 b1 b2 hw hn
    (fun i => match i with | 0 => h0 | 1 => h1 | 2 => h2 | 3 => h3 | 4 => h4 | 5 => h5) g0 g1 g2 d

include hp hid in
/-- The first head. -/
theorem out0 (d : Fin 64) : outsAt0 m hO 0 t (ix4 0 0 0 d) = kres m (row m hO t) (hd m hO t 0) d := by
  rw [outs0 m hO 0 t d]
  refine head_six m hO t hp hid 0 _ _ _ _ _ _ _ _ _ _ _ ?_ ?_ ?_ ?_ ?_ ?_ ?_ ?_ ?_ ?_ ?_ d
  · exact fun d => ldq (B0 m hO 0 t) 0 _ d
  · exact fun x => ldn (B1 m hO 0 t) 0 _ x
  · exact fun x s => (ldt (B2 m hO 0 t) _ x s).trans (tile2 m 0 hO t hp x s)
  · exact fun x s => (ldt (B3 m hO 0 t) _ x s).trans (tile3 m 0 hO t hp x s)
  · exact fun x s => (ldt (B4 m hO 0 t) _ x s).trans (tile4 m 0 hO t hp x s)
  · exact fun x s => (ldt (B5 m hO 0 t) _ x s).trans (tile5 m 0 hO t hp x s)
  · exact fun x s => (ldt (B6 m hO 0 t) _ x s).trans (tile6 m 0 hO t hp x s)
  · exact fun x s => (ldt (B7 m hO 0 t) _ x s).trans (tile7 m 0 hO t hp x s)
  · exact fun s => ldb (B26 m hO 0 t) 0 0 _ s
  · exact fun s => ldb (B26 m hO 0 t) 0 1 _ s
  · exact ldb2 (B26 m hO 0 t) 0 _

include hp hid in
/-- The second head. -/
theorem out1 (d : Fin 64) : outsAt0 m hO 0 t (ix4 0 1 0 d) = kres m (row m hO t) (hd m hO t 1) d := by
  rw [outs1 m hO 0 t d]
  refine head_six m hO t hp hid 1 _ _ _ _ _ _ _ _ _ _ _ ?_ ?_ ?_ ?_ ?_ ?_ ?_ ?_ ?_ ?_ ?_ d
  · exact fun d => ldq (B0 m hO 0 t) 1 _ d
  · exact fun x => ldn (B1 m hO 0 t) 1 _ x
  · exact fun x s => (ldt (B8 m hO 0 t) _ x s).trans (tile8 m 0 hO t hp x s)
  · exact fun x s => (ldt (B9 m hO 0 t) _ x s).trans (tile9 m 0 hO t hp x s)
  · exact fun x s => (ldt (B10 m hO 0 t) _ x s).trans (tile10 m 0 hO t hp x s)
  · exact fun x s => (ldt (B11 m hO 0 t) _ x s).trans (tile11 m 0 hO t hp x s)
  · exact fun x s => (ldt (B12 m hO 0 t) _ x s).trans (tile12 m 0 hO t hp x s)
  · exact fun x s => (ldt (B13 m hO 0 t) _ x s).trans (tile13 m 0 hO t hp x s)
  · exact fun s => ldb (B26 m hO 0 t) 1 0 _ s
  · exact fun s => ldb (B26 m hO 0 t) 1 1 _ s
  · exact ldb2 (B26 m hO 0 t) 1 _

include hp hid in
/-- The third head. -/
theorem out2 (d : Fin 64) : outsAt0 m hO 0 t (ix4 0 2 0 d) = kres m (row m hO t) (hd m hO t 2) d := by
  rw [outs2 m hO 0 t d]
  refine head_six m hO t hp hid 2 _ _ _ _ _ _ _ _ _ _ _ ?_ ?_ ?_ ?_ ?_ ?_ ?_ ?_ ?_ ?_ ?_ d
  · exact fun d => ldq (B0 m hO 0 t) 2 _ d
  · exact fun x => ldn (B1 m hO 0 t) 2 _ x
  · exact fun x s => (ldt (B14 m hO 0 t) _ x s).trans (tile14 m 0 hO t hp x s)
  · exact fun x s => (ldt (B15 m hO 0 t) _ x s).trans (tile15 m 0 hO t hp x s)
  · exact fun x s => (ldt (B16 m hO 0 t) _ x s).trans (tile16 m 0 hO t hp x s)
  · exact fun x s => (ldt (B17 m hO 0 t) _ x s).trans (tile17 m 0 hO t hp x s)
  · exact fun x s => (ldt (B18 m hO 0 t) _ x s).trans (tile18 m 0 hO t hp x s)
  · exact fun x s => (ldt (B19 m hO 0 t) _ x s).trans (tile19 m 0 hO t hp x s)
  · exact fun s => ldb (B26 m hO 0 t) 2 0 _ s
  · exact fun s => ldb (B26 m hO 0 t) 2 1 _ s
  · exact ldb2 (B26 m hO 0 t) 2 _

include hp hid in
/-- The fourth head. -/
theorem out3 (d : Fin 64) : outsAt0 m hO 0 t (ix4 0 3 0 d) = kres m (row m hO t) (hd m hO t 3) d := by
  rw [outs3 m hO 0 t d]
  refine head_six m hO t hp hid 3 _ _ _ _ _ _ _ _ _ _ _ ?_ ?_ ?_ ?_ ?_ ?_ ?_ ?_ ?_ ?_ ?_ d
  · exact fun d => ldq (B0 m hO 0 t) 3 _ d
  · exact fun x => ldn (B1 m hO 0 t) 3 _ x
  · exact fun x s => (ldt (B20 m hO 0 t) _ x s).trans (tile20 m 0 hO t hp x s)
  · exact fun x s => (ldt (B21 m hO 0 t) _ x s).trans (tile21 m 0 hO t hp x s)
  · exact fun x s => (ldt (B22 m hO 0 t) _ x s).trans (tile22 m 0 hO t hp x s)
  · exact fun x s => (ldt (B23 m hO 0 t) _ x s).trans (tile23 m 0 hO t hp x s)
  · exact fun x s => (ldt (B24 m hO 0 t) _ x s).trans (tile24 m 0 hO t hp x s)
  · exact fun x s => (ldt (B25 m hO 0 t) _ x s).trans (tile25 m 0 hO t hp x s)
  · exact fun s => ldb (B26 m hO 0 t) 3 0 _ s
  · exact fun s => ldb (B26 m hO 0 t) 3 1 _ s
  · exact ldb2 (B26 m hO 0 t) 3 _

include hp hid in
/-- The output block of grid point `t`, row 0 of each head. -/
theorem out_apply (r : Fin 4) (d : Fin 64) : outsAt0 m hO 0 t (ix4 0 r 0 d) = kres m (row m hO t) (hd m hO t r) d :=
  match r with
  | 0 => out0 m hO t hp hid d
  | 1 => out1 m hO t hp hid d
  | 2 => out2 m hO t hp hid d
  | 3 => out3 m hO t hp hid d

end Cert.SampleIdeal.Blocks

end
-- ==== Proof.SampleValue.lean ====
/-
  The sample attention kernel's result array after the launch: every head's output row, as a function of the arguments.
-/
module

public import proofs.«01_k».proof.Proof.SampleHeads
public import proofs.«01_k».proof.Proof.Gen.SampleIdeal.Points
public import Idealize.ShloMosaic.Lib.Claim

@[expose] public section

noncomputable section

namespace Cert.SampleIdeal.Blocks

open Cert.SampleIdeal Cert.SampleIdeal.Gen Idealize.ShloMosaic Idealize.ShloMosaic.TcCoe Idealize.SL.Sem
open Idealize.ShloMosaic.Tactic
open Cert.SampleIdeal.Step Cert.SampleIdeal.Tables

/-! The output window's geometry, for any contents of the tables. -/

theorem read27 (a : (pcfg0 (F := Ideal)).Adm) (X : S32x16x8x64.Idx → EReal) (t : Fin (cfg0 a).N) (y : S1x4x8x64.Idx) (e : S32x16x8x64.Idx)
    (h0 : (e 0).val = t.val / 4) (h1 : (e 1).val = t.val % 4 * 4 + (y 1).val) (h2 : (e 2).val = (y 2).val) (h3 : (e 3).val = (y 3).val) :
    (((cfg0 a).win 27).blk t).view.read (Elt Ideal) X y = X e := by
  have c0 := (coords_eq t).1
  have c1 := (coords_eq t).2
  have ht : t.val < 128 := lt_of_lt_of_eq t.isLt N_0
  have y0 : (y 0).val = 0 := by have := (y 0).isLt; change (y 0).val < 1 at this; omega
  refine congrArg X (funext fun a' => Fin.ext ?_)
  match a' with
  | ⟨0, _⟩ => show (BitVec.ofNat 32 ((grid0.coords t) 0).val).toNat * 1 + 1 * (y 0).val = (e 0).val; rw [c0, h0, y0, BitVec.toNat_ofNat]; omega
  | ⟨1, _⟩ => show (BitVec.ofNat 32 ((grid0.coords t) 1).val).toNat * 4 + 1 * (y 1).val = (e 1).val; rw [c1, h1, BitVec.toNat_ofNat]; omega
  | ⟨2, _⟩ => show 0 * 8 + 1 * (y 2).val = (e 2).val; omega
  | ⟨3, _⟩ => show 0 * 64 + 1 * (y 3).val = (e 3).val; omega

theorem mem27 (a : (pcfg0 (F := Ideal)).Adm) (t : Fin (cfg0 a).N) (i : S32x16x8x64.Idx) (h0 : (i 0).val = t.val / 4) (h1 : (i 1).val / 4 = t.val % 4) :
    i ∈ (((cfg0 a).win 27).blk t).view.set := by
  have c0 := (coords_eq t).1
  have c1 := (coords_eq t).2
  have ht : t.val < 128 := lt_of_lt_of_eq t.isLt N_0
  refine (congrArg (fun s : Finset S32x16x8x64.Idx => i ∈ s) (View.set_slice_whole (b := main_v23) (r := ((cfg0 a).win 27).rect t))).mpr ?_
  refine Rect.mem_set_unit.mpr fun a' => ?_
  match a' with
  | ⟨0, _⟩ => show (BitVec.ofNat 32 ((grid0.coords t) 0).val).toNat * 1 ≤ (i 0).val ∧ (i 0).val < (BitVec.ofNat 32 ((grid0.coords t) 0).val).toNat * 1 + 1; rw [c0, h0, BitVec.toNat_ofNat]; omega
  | ⟨1, _⟩ => show (BitVec.ofNat 32 ((grid0.coords t) 1).val).toNat * 4 ≤ (i 1).val ∧ (i 1).val < (BitVec.ofNat 32 ((grid0.coords t) 1).val).toNat * 4 + 4; rw [c1, BitVec.toNat_ofNat]; omega
  | ⟨2, _⟩ => have := (i 2).isLt; change (i 2).val < 8 at this; show 0 * 8 ≤ (i 2).val ∧ (i 2).val < 0 * 8 + 8; omega
  | ⟨3, _⟩ => have := (i 3).isLt; change (i 3).val < 64 at this; show 0 * 64 ≤ (i 3).val ∧ (i 3).val < 0 * 64 + 64; omega

theorem cut27 (a : (pcfg0 (F := Ideal)).Adm) (t : Fin (cfg0 a).N) (f : S1x4x8x64.Idx → EReal) :
    ((cfg0 a).win 27).cut (grid0.coords t) f = f := by
  funext y
  exact congrArg f (funext fun a' => rfl)

variable (m : (ℓ : Loc nD τ sig) → Buf (Elt Ideal) ℓ) (ρ : Dev nD → PrngReg) (hO : Ok m) (c : Dev nD)

/-- The grid point that writes batch row `b`, head `h`. -/
def point (b : Fin 32) (h : Fin 16) : Fin (cfgM m hO).N := ⟨b.val * 4 + h.val / 4, lt_of_lt_of_eq (by omega) N_0.symm⟩

/-- The array the launch leaves. -/
def fin (i : S32x16x8x64.Idx) : EReal := outsAt0 m hO c (point m hO (i 0) (i 1)) (ix4 0 ⟨(i 1).val % 4, Nat.mod_lt _ (by omega)⟩ (i 2) (i 3))

theorem flushed27 (t : Fin (cfgM m hO).N) : (dats m hO 0 c).flushed 27 t = (((cfgM m hO).win 27).blk t).view.read (Elt Ideal) (fin m hO c) := by
  have ht := lt_t m hO t
  show ((cfgM m hO).win 27).cut (grid0.coords t) ((dats m hO 0 c).after 27 t) = _
  rw [after0_27]
  refine (cut27 (adm m hO) t _).trans ?_
  funext y
  have y0 : (y 0).val = 0 := by have := (y 0).isLt; change (y 0).val < 1 at this; omega
  have y1 : (y 1).val < 4 := (y 1).isLt
  refine Eq.symm ((read27 (adm m hO) (fin m hO c) t y (ix4 ⟨t.val / 4, by omega⟩ ⟨t.val % 4 * 4 + (y 1).val, by omega⟩ (y 2) (y 3)) rfl rfl rfl rfl).trans ?_)
  have e : point m hO ⟨t.val / 4, by omega⟩ ⟨t.val % 4 * 4 + (y 1).val, by omega⟩ = t := Fin.ext (by show t.val / 4 * 4 + (t.val % 4 * 4 + (y 1).val) / 4 = t.val; omega)
  refine congrArg₂ (fun (p : Fin (cfgM m hO).N) (z : S1x4x8x64.Idx) => outsAt0 m hO c p z) e (funext fun a => Fin.ext ?_)
  match a with
  | ⟨0, _⟩ => exact y0.symm
  | ⟨1, _⟩ => show (t.val % 4 * 4 + (y 1).val) % 4 = (y 1).val; omega
  | ⟨2, _⟩ => rfl
  | ⟨3, _⟩ => rfl

theorem final27 : (dats m hO 0 c).arrAt 27 (cfgM m hO).N = fin m hO c :=
  (dats m hO 0 c).arrAt_eq_of_cover 27 _ (fun t _ => flushed27 m hO c t) fun (i : S32x16x8x64.Idx) =>
    ⟨point m hO (i 0) (i 1), flush0_27 (adm m hO) _, mem27 (adm m hO) _ i
      (by have := (i 1).isLt; change (i 1).val < 16 at this; show (i 0).val = ((i 0).val * 4 + (i 1).val / 4) / 4; omega)
      (by have := (i 1).isLt; change (i 1).val < 16 at this; show (i 1).val / 4 = ((i 0).val * 4 + (i 1).val / 4) % 4; omega)⟩

/-- The kernel's result: the first of the eight rows kept for every head. -/
def res (b : Fin 32) (x : Fin 1024) : EReal := fin m hO c (ix4 b ⟨x.val / 64, by omega⟩ 0 ⟨x.val % 64, by omega⟩)

theorem tail26 : Pipeline.afterTail pcfgs (fun _ => adm m hO) (dats m hO) 0 (V0 m) [hostOps1] c main_v26 = fun i => res m hO c (i 0) (i 1) := by
  have hA : Pipeline.withArrays (Pipeline.pin pcfgs (fun _ => adm m hO) 0).spec c (V0 m c)
      (fun w => (dats m hO 0 c).arrAt w (Pipeline.pin pcfgs (fun _ => adm m hO) 0).N) (Proc.tc.devRef main_v23) = fin m hO c :=
    (Pipeline.withArrays_arr_shared spec0 c (V0 m c) (fun w => (dats m hO 0 c).arrAt w (cfgM m hO).N)
      ((dats m hO 0 c).arrAt_sharedIn sharedIn0 (V0 m c) (A_eq m hO c) _) 27).trans (final27 m hO c)
  unfold Pipeline.afterTail
  simp only [hostOps1, List.flatten_cons, List.flatten_nil, List.append_nil, List.cons_append, List.nil_append]
  after_results
  refine Eq.trans (congrArg (fun X : S32x16x8x64.Idx → EReal => (shapeCast S32x1024 (shapeCast S32x16x64
    (extractStridedSlice S32x16x1x64 ![0, 0, 0, 0] X slices_S32x16x8x64_S32x16x1x64_0_0_0_0) shapeCasts_S32x16x1x64_S32x16x64) shapeCasts_S32x16x64_S32x1024 : S32x1024.Idx → EReal)) hA) ?_
  funext i
  rw [eq_ix2 (n0 := 32) (n1 := 1024) i]
  unfold res
  generalize fin m hO c = X
  pointwise

/-- The kernel's result in the arguments. -/
theorem res_eq (hp : ∀ y : S3072.Idx, ((tbl m 0 : IVec S3072 32) y).toNat < 2560)
    (hid : ∀ y, (m (((0 : Dev nD) : Thread nD τ).loc main_arg2) y).toNat < 32) (b : Fin 32) (x : Fin 1024) :
    res m hO c b x = kres m b ⟨x.val / 64, by omega⟩ ⟨x.val % 64, by omega⟩ := by
  obtain rfl : c = 0 := Subsingleton.elim _ _
  refine (out_apply m hO (point m hO b ⟨x.val / 64, by omega⟩) hp hid ⟨x.val / 64 % 4, Nat.mod_lt _ (by omega)⟩ ⟨x.val % 64, by omega⟩).trans ?_
  have e1 : row m hO (point m hO b ⟨x.val / 64, by omega⟩) = b := Fin.ext (by show (b.val * 4 + x.val / 64 / 4) / 4 = b.val; omega)
  have e2 : hd m hO (point m hO b ⟨x.val / 64, by omega⟩) ⟨x.val / 64 % 4, Nat.mod_lt _ (by omega)⟩ = ⟨x.val / 64, by omega⟩ :=
    Fin.ext (by show (b.val * 4 + x.val / 64 / 4) % 4 * 4 + x.val / 64 % 4 = x.val / 64; omega)
  rw [e1, e2]

include hO in
/-- The run, read: the result array, and the arguments unchanged. -/
theorem run (hp : ∀ y : S3072.Idx, ((tbl m 0 : IVec S3072 32) y).toNat < 2560)
    (hid : ∀ y, (m (((0 : Dev nD) : Thread nD τ).loc main_arg2) y).toNat < 32) :
    θ_run defs (onTc (τ := τ) (main (F := Ideal))) ⟨m, fun _ => 0, ρ⟩ (fun r => ∀ c : Dev nD,
      r.2.mem ((c.tc : Thread nD τ).loc main_v26) = (fun i : S32x1024.Idx => kres m (i 0) ⟨(i 1).val / 64, by have := (i 1).isLt; change (i 1).val < 1024 at this; omega⟩ ⟨(i 1).val % 64, by omega⟩)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨((h.2 c).2 main_v26 (by exact (by decide : main_v26 ∈ Pipeline.restRefs sig spec0))).trans ((tail26 m hO c).trans (funext fun i => res_eq m hO c hp hid (i 0) (i 1))), h.1 c⟩)
    (θ_run_and (unchanged m ρ hO) (run_main m ρ hO))

end Cert.SampleIdeal.Blocks

end
-- ==== Proof.SampleGathers.lean ====
/-
  The four lookups of the sample attention's reference, read at an entry.
-/
module

public import proofs.«01_k».proof.Proof.Gen.SampleRefIdeal.Read
public import Idealize.ShloMosaic.Lib.Pointwise

@[expose] public section

noncomputable section

namespace Cert.SampleRefIdeal.Gathers

open Cert.SampleRefIdeal Cert.SampleRefIdeal.Gen Idealize.ShloMosaic

/-- The lookup of the pages: row `b`'s page `p`, whole, at the page number clamped to the cache. -/
theorem pages (x : FVec Ideal S2560x128x16x2x64 .f32) (idx : IVec S32x64x1 32) (b : Fin 32) (p : Fin 64) (s : Fin 128) (h : Fin 16) (t : Fin 2) (d : Fin 64) :
    Host.gather gather_S2560x128x16x2x64_S32x64x1_S32x64x128x16x2x64_2345_0_n_n_0_2_112816264 x idx (ix6 b p s h t d)
      = x (ix5 ⟨min (idx (ix3 b p 0)).toInt.toNat 2559, by omega⟩ s h t d) := by
  unfold Host.gather
  refine congrArg x (funext fun a => Fin.ext ?_)
  match a with
  | ⟨0, h0⟩ =>
    have hsi : gather_S2560x128x16x2x64_S32x64x1_S32x64x128x16x2x64_2345_0_n_n_0_2_112816264.siIdx (ix6 b p s h t d) ⟨0, by decide⟩ = ix3 b p 0 := by
      funext b; refine Fin.ext ?_
      match b with
      | ⟨0, _⟩ => rfl
      | ⟨1, _⟩ => rfl
      | ⟨2, _⟩ => rfl
    show gather_S2560x128x16x2x64_S32x64x1_S32x64x128x16x2x64_2345_0_n_n_0_2_112816264.start (ix6 b p s h t d) idx 0
      + gather_S2560x128x16x2x64_S32x64x1_S32x64x128x16x2x64_2345_0_n_n_0_2_112816264.batchCoord (ix6 b p s h t d) 0
      + gather_S2560x128x16x2x64_S32x64x1_S32x64x128x16x2x64_2345_0_n_n_0_2_112816264.offCoord (ix6 b p s h t d) 0 = _
    rw [GatherDims.batchCoord_eq_zero _ _ _ (fun h => by simp [gather_S2560x128x16x2x64_S32x64x1_S32x64x128x16x2x64_2345_0_n_n_0_2_112816264] at h),
      GatherDims.offCoord_eq_zero _ _ _ (fun h => ((GatherDims.mem_sKept _ _).mp h).1 (List.mem_singleton.mpr rfl))]
    unfold GatherDims.start
    rw [dif_pos (show (0 : Fin 5) ∈ gather_S2560x128x16x2x64_S32x64x1_S32x64x128x16x2x64_2345_0_n_n_0_2_112816264.startIndexMap from List.mem_singleton.mpr rfl)]
    exact congrArg (fun z => min (idx z).toInt.toNat 2559) hsi
  | ⟨1, h1⟩ =>
    show gather_S2560x128x16x2x64_S32x64x1_S32x64x128x16x2x64_2345_0_n_n_0_2_112816264.start (ix6 b p s h t d) idx 1
      + gather_S2560x128x16x2x64_S32x64x1_S32x64x128x16x2x64_2345_0_n_n_0_2_112816264.batchCoord (ix6 b p s h t d) 1
      + gather_S2560x128x16x2x64_S32x64x1_S32x64x128x16x2x64_2345_0_n_n_0_2_112816264.offCoord (ix6 b p s h t d) 1 = s.val
    rw [GatherDims.batchCoord_eq_zero _ _ _ (fun h => by simp [gather_S2560x128x16x2x64_S32x64x1_S32x64x128x16x2x64_2345_0_n_n_0_2_112816264] at h)]
    unfold GatherDims.start
    rw [dif_neg (show ¬ (1 : Fin 5) ∈ gather_S2560x128x16x2x64_S32x64x1_S32x64x128x16x2x64_2345_0_n_n_0_2_112816264.startIndexMap from by decide), Nat.zero_add]
    rfl
  | ⟨2, h2⟩ =>
    show gather_S2560x128x16x2x64_S32x64x1_S32x64x128x16x2x64_2345_0_n_n_0_2_112816264.start (ix6 b p s h t d) idx 2
      + gather_S2560x128x16x2x64_S32x64x1_S32x64x128x16x2x64_2345_0_n_n_0_2_112816264.batchCoord (ix6 b p s h t d) 2
      + gather_S2560x128x16x2x64_S32x64x1_S32x64x128x16x2x64_2345_0_n_n_0_2_112816264.offCoord (ix6 b p s h t d) 2 = h.val
    rw [GatherDims.batchCoord_eq_zero _ _ _ (fun h => by simp [gather_S2560x128x16x2x64_S32x64x1_S32x64x128x16x2x64_2345_0_n_n_0_2_112816264] at h)]
    unfold GatherDims.start
    rw [dif_neg (show ¬ (2 : Fin 5) ∈ gather_S2560x128x16x2x64_S32x64x1_S32x64x128x16x2x64_2345_0_n_n_0_2_112816264.startIndexMap from by decide), Nat.zero_add]
    rfl
  | ⟨3, h3⟩ =>
    show gather_S2560x128x16x2x64_S32x64x1_S32x64x128x16x2x64_2345_0_n_n_0_2_112816264.start (ix6 b p s h t d) idx 3
      + gather_S2560x128x16x2x64_S32x64x1_S32x64x128x16x2x64_2345_0_n_n_0_2_112816264.batchCoord (ix6 b p s h t d) 3
      + gather_S2560x128x16x2x64_S32x64x1_S32x64x128x16x2x64_2345_0_n_n_0_2_112816264.offCoord (ix6 b p s h t d) 3 = t.val
    rw [GatherDims.batchCoord_eq_zero _ _ _ (fun h => by simp [gather_S2560x128x16x2x64_S32x64x1_S32x64x128x16x2x64_2345_0_n_n_0_2_112816264] at h)]
    unfold GatherDims.start
    rw [dif_neg (show ¬ (3 : Fin 5) ∈ gather_S2560x128x16x2x64_S32x64x1_S32x64x128x16x2x64_2345_0_n_n_0_2_112816264.startIndexMap from by decide), Nat.zero_add]
    rfl
  | ⟨4, h4⟩ =>
    show gather_S2560x128x16x2x64_S32x64x1_S32x64x128x16x2x64_2345_0_n_n_0_2_112816264.start (ix6 b p s h t d) idx 4
      + gather_S2560x128x16x2x64_S32x64x1_S32x64x128x16x2x64_2345_0_n_n_0_2_112816264.batchCoord (ix6 b p s h t d) 4
      + gather_S2560x128x16x2x64_S32x64x1_S32x64x128x16x2x64_2345_0_n_n_0_2_112816264.offCoord (ix6 b p s h t d) 4 = d.val
    rw [GatherDims.batchCoord_eq_zero _ _ _ (fun h => by simp [gather_S2560x128x16x2x64_S32x64x1_S32x64x128x16x2x64_2345_0_n_n_0_2_112816264] at h)]
    unfold GatherDims.start
    rw [dif_neg (show ¬ (4 : Fin 5) ∈ gather_S2560x128x16x2x64_S32x64x1_S32x64x128x16x2x64_2345_0_n_n_0_2_112816264.startIndexMap from by decide), Nat.zero_add]
    rfl

/-- The lookup of the selected keys and values: at the batch row, the position and the head clamped to the rows. -/
theorem keys (x : FVec Ideal S32x8449x16x2x64 .f32) (idx : IVec S32x16x3x256x3 32) (b : Fin 32) (h : Fin 16) (k : Fin 3) (cc : Fin 256) (t : Fin 2) (d : Fin 64) :
    Host.gather gather_S32x8449x16x2x64_S32x16x3x256x3_S32x16x3x256x2x64_45_012_n_n_012_4_111264 x idx (ix6 b h k cc t d)
      = x (ix5 ⟨min (idx (ix5 b h k cc 0)).toInt.toNat 31, by omega⟩ ⟨min (idx (ix5 b h k cc 1)).toInt.toNat 8448, by omega⟩
          ⟨min (idx (ix5 b h k cc 2)).toInt.toNat 15, by omega⟩ t d) := by
  unfold Host.gather
  refine congrArg x (funext fun a => Fin.ext ?_)
  match a with
  | ⟨0, h0⟩ =>
    have hsi : gather_S32x8449x16x2x64_S32x16x3x256x3_S32x16x3x256x2x64_45_012_n_n_012_4_111264.siIdx (ix6 b h k cc t d) ⟨0, by decide⟩ = ix5 b h k cc 0 := by
      funext b; refine Fin.ext ?_
      match b with
      | ⟨0, _⟩ => rfl
      | ⟨1, _⟩ => rfl
      | ⟨2, _⟩ => rfl
      | ⟨3, _⟩ => rfl
      | ⟨4, _⟩ => rfl
    show gather_S32x8449x16x2x64_S32x16x3x256x3_S32x16x3x256x2x64_45_012_n_n_012_4_111264.start (ix6 b h k cc t d) idx 0
      + gather_S32x8449x16x2x64_S32x16x3x256x3_S32x16x3x256x2x64_45_012_n_n_012_4_111264.batchCoord (ix6 b h k cc t d) 0
      + gather_S32x8449x16x2x64_S32x16x3x256x3_S32x16x3x256x2x64_45_012_n_n_012_4_111264.offCoord (ix6 b h k cc t d) 0 = _
    rw [GatherDims.batchCoord_eq_zero _ _ _ (fun h => by simp [gather_S32x8449x16x2x64_S32x16x3x256x3_S32x16x3x256x2x64_45_012_n_n_012_4_111264] at h),
      GatherDims.offCoord_eq_zero _ _ _ (fun h => ((GatherDims.mem_sKept _ _).mp h).1 (by decide))]
    unfold GatherDims.start
    rw [dif_pos (show (0 : Fin 5) ∈ gather_S32x8449x16x2x64_S32x16x3x256x3_S32x16x3x256x2x64_45_012_n_n_012_4_111264.startIndexMap from by decide)]
    exact congrArg (fun z => min (idx z).toInt.toNat 31) hsi
  | ⟨1, h1⟩ =>
    have hsi : gather_S32x8449x16x2x64_S32x16x3x256x3_S32x16x3x256x2x64_45_012_n_n_012_4_111264.siIdx (ix6 b h k cc t d) ⟨1, by decide⟩ = ix5 b h k cc 1 := by
      funext b; refine Fin.ext ?_
      match b with
      | ⟨0, _⟩ => rfl
      | ⟨1, _⟩ => rfl
      | ⟨2, _⟩ => rfl
      | ⟨3, _⟩ => rfl
      | ⟨4, _⟩ => rfl
    show gather_S32x8449x16x2x64_S32x16x3x256x3_S32x16x3x256x2x64_45_012_n_n_012_4_111264.start (ix6 b h k cc t d) idx 1
      + gather_S32x8449x16x2x64_S32x16x3x256x3_S32x16x3x256x2x64_45_012_n_n_012_4_111264.batchCoord (ix6 b h k cc t d) 1
      + gather_S32x8449x16x2x64_S32x16x3x256x3_S32x16x3x256x2x64_45_012_n_n_012_4_111264.offCoord (ix6 b h k cc t d) 1 = _
    rw [GatherDims.batchCoord_eq_zero _ _ _ (fun h => by simp [gather_S32x8449x16x2x64_S32x16x3x256x3_S32x16x3x256x2x64_45_012_n_n_012_4_111264] at h),
      GatherDims.offCoord_eq_zero _ _ _ (fun h => ((GatherDims.mem_sKept _ _).mp h).1 (by decide))]
    unfold GatherDims.start
    rw [dif_pos (show (1 : Fin 5) ∈ gather_S32x8449x16x2x64_S32x16x3x256x3_S32x16x3x256x2x64_45_012_n_n_012_4_111264.startIndexMap from by decide)]
    exact congrArg (fun z => min (idx z).toInt.toNat 8448) hsi
  | ⟨2, h2⟩ =>
    have hsi : gather_S32x8449x16x2x64_S32x16x3x256x3_S32x16x3x256x2x64_45_012_n_n_012_4_111264.siIdx (ix6 b h k cc t d) ⟨2, by decide⟩ = ix5 b h k cc 2 := by
      funext b; refine Fin.ext ?_
      match b with
      | ⟨0, _⟩ => rfl
      | ⟨1, _⟩ => rfl
      | ⟨2, _⟩ => rfl
      | ⟨3, _⟩ => rfl
      | ⟨4, _⟩ => rfl
    show gather_S32x8449x16x2x64_S32x16x3x256x3_S32x16x3x256x2x64_45_012_n_n_012_4_111264.start (ix6 b h k cc t d) idx 2
      + gather_S32x8449x16x2x64_S32x16x3x256x3_S32x16x3x256x2x64_45_012_n_n_012_4_111264.batchCoord (ix6 b h k cc t d) 2
      + gather_S32x8449x16x2x64_S32x16x3x256x3_S32x16x3x256x2x64_45_012_n_n_012_4_111264.offCoord (ix6 b h k cc t d) 2 = _
    rw [GatherDims.batchCoord_eq_zero _ _ _ (fun h => by simp [gather_S32x8449x16x2x64_S32x16x3x256x3_S32x16x3x256x2x64_45_012_n_n_012_4_111264] at h),
      GatherDims.offCoord_eq_zero _ _ _ (fun h => ((GatherDims.mem_sKept _ _).mp h).1 (by decide))]
    unfold GatherDims.start
    rw [dif_pos (show (2 : Fin 5) ∈ gather_S32x8449x16x2x64_S32x16x3x256x3_S32x16x3x256x2x64_45_012_n_n_012_4_111264.startIndexMap from by decide)]
    exact congrArg (fun z => min (idx z).toInt.toNat 15) hsi
  | ⟨3, h3⟩ =>
    show gather_S32x8449x16x2x64_S32x16x3x256x3_S32x16x3x256x2x64_45_012_n_n_012_4_111264.start (ix6 b h k cc t d) idx 3
      + gather_S32x8449x16x2x64_S32x16x3x256x3_S32x16x3x256x2x64_45_012_n_n_012_4_111264.batchCoord (ix6 b h k cc t d) 3
      + gather_S32x8449x16x2x64_S32x16x3x256x3_S32x16x3x256x2x64_45_012_n_n_012_4_111264.offCoord (ix6 b h k cc t d) 3 = t.val
    rw [GatherDims.batchCoord_eq_zero _ _ _ (fun h => by simp [gather_S32x8449x16x2x64_S32x16x3x256x3_S32x16x3x256x2x64_45_012_n_n_012_4_111264] at h)]
    unfold GatherDims.start
    rw [dif_neg (show ¬ (3 : Fin 5) ∈ gather_S32x8449x16x2x64_S32x16x3x256x3_S32x16x3x256x2x64_45_012_n_n_012_4_111264.startIndexMap from by decide), Nat.zero_add]
    rfl
  | ⟨4, h4⟩ =>
    show gather_S32x8449x16x2x64_S32x16x3x256x3_S32x16x3x256x2x64_45_012_n_n_012_4_111264.start (ix6 b h k cc t d) idx 4
      + gather_S32x8449x16x2x64_S32x16x3x256x3_S32x16x3x256x2x64_45_012_n_n_012_4_111264.batchCoord (ix6 b h k cc t d) 4
      + gather_S32x8449x16x2x64_S32x16x3x256x3_S32x16x3x256x2x64_45_012_n_n_012_4_111264.offCoord (ix6 b h k cc t d) 4 = d.val
    rw [GatherDims.batchCoord_eq_zero _ _ _ (fun h => by simp [gather_S32x8449x16x2x64_S32x16x3x256x3_S32x16x3x256x2x64_45_012_n_n_012_4_111264] at h)]
    unfold GatherDims.start
    rw [dif_neg (show ¬ (4 : Fin 5) ∈ gather_S32x8449x16x2x64_S32x16x3x256x3_S32x16x3x256x2x64_45_012_n_n_012_4_111264.startIndexMap from by decide), Nat.zero_add]
    rfl

/-- The lookup of the selected keys' bias. -/
theorem bias (x : FVec Ideal S16x32 .f32) (idx : IVec S32x16x3x256x2 32) (b : Fin 32) (h : Fin 16) (k : Fin 3) (cc : Fin 256) :
    Host.gather gather_S16x32_S32x16x3x256x2_S32x16x3x256_n_01_n_n_01_4_11 x idx (ix4 b h k cc)
      = x (ix2 ⟨min (idx (ix5 b h k cc 0)).toInt.toNat 15, by omega⟩ ⟨min (idx (ix5 b h k cc 1)).toInt.toNat 31, by omega⟩) := by
  unfold Host.gather
  refine congrArg x (funext fun a => Fin.ext ?_)
  match a with
  | ⟨0, h0⟩ =>
    have hsi : gather_S16x32_S32x16x3x256x2_S32x16x3x256_n_01_n_n_01_4_11.siIdx (ix4 b h k cc) ⟨0, by decide⟩ = ix5 b h k cc 0 := by
      funext b; refine Fin.ext ?_
      match b with
      | ⟨0, _⟩ => rfl
      | ⟨1, _⟩ => rfl
      | ⟨2, _⟩ => rfl
      | ⟨3, _⟩ => rfl
      | ⟨4, _⟩ => rfl
    show gather_S16x32_S32x16x3x256x2_S32x16x3x256_n_01_n_n_01_4_11.start (ix4 b h k cc) idx 0
      + gather_S16x32_S32x16x3x256x2_S32x16x3x256_n_01_n_n_01_4_11.batchCoord (ix4 b h k cc) 0
      + gather_S16x32_S32x16x3x256x2_S32x16x3x256_n_01_n_n_01_4_11.offCoord (ix4 b h k cc) 0 = _
    rw [GatherDims.batchCoord_eq_zero _ _ _ (fun h => by simp [gather_S16x32_S32x16x3x256x2_S32x16x3x256_n_01_n_n_01_4_11] at h),
      GatherDims.offCoord_eq_zero _ _ _ (fun h => ((GatherDims.mem_sKept _ _).mp h).1 (by decide))]
    unfold GatherDims.start
    rw [dif_pos (show (0 : Fin 2) ∈ gather_S16x32_S32x16x3x256x2_S32x16x3x256_n_01_n_n_01_4_11.startIndexMap from by decide)]
    exact congrArg (fun z => min (idx z).toInt.toNat 15) hsi
  | ⟨1, h1⟩ =>
    have hsi : gather_S16x32_S32x16x3x256x2_S32x16x3x256_n_01_n_n_01_4_11.siIdx (ix4 b h k cc) ⟨1, by decide⟩ = ix5 b h k cc 1 := by
      funext b; refine Fin.ext ?_
      match b with
      | ⟨0, _⟩ => rfl
      | ⟨1, _⟩ => rfl
      | ⟨2, _⟩ => rfl
      | ⟨3, _⟩ => rfl
      | ⟨4, _⟩ => rfl
    show gather_S16x32_S32x16x3x256x2_S32x16x3x256_n_01_n_n_01_4_11.start (ix4 b h k cc) idx 1
      + gather_S16x32_S32x16x3x256x2_S32x16x3x256_n_01_n_n_01_4_11.batchCoord (ix4 b h k cc) 1
      + gather_S16x32_S32x16x3x256x2_S32x16x3x256_n_01_n_n_01_4_11.offCoord (ix4 b h k cc) 1 = _
    rw [GatherDims.batchCoord_eq_zero _ _ _ (fun h => by simp [gather_S16x32_S32x16x3x256x2_S32x16x3x256_n_01_n_n_01_4_11] at h),
      GatherDims.offCoord_eq_zero _ _ _ (fun h => ((GatherDims.mem_sKept _ _).mp h).1 (by decide))]
    unfold GatherDims.start
    rw [dif_pos (show (1 : Fin 2) ∈ gather_S16x32_S32x16x3x256x2_S32x16x3x256_n_01_n_n_01_4_11.startIndexMap from by decide)]
    exact congrArg (fun z => min (idx z).toInt.toNat 31) hsi

/-- The lookup of the local keys' bias. -/
theorem near (x : FVec Ideal S32x16 .f32) (idx : IVec S257x1 32) (l : Fin 257) (h : Fin 16) :
    Host.gather gather_S32x16_S257x1_S257x16_1_0_n_n_0_1_116 x idx (ix2 l h)
      = x (ix2 ⟨min (idx (ix2 l 0)).toInt.toNat 31, by omega⟩ h) := by
  unfold Host.gather
  refine congrArg x (funext fun a => Fin.ext ?_)
  match a with
  | ⟨0, h0⟩ =>
    have hsi : gather_S32x16_S257x1_S257x16_1_0_n_n_0_1_116.siIdx (ix2 l h) ⟨0, by decide⟩ = ix2 l 0 := by
      funext b; refine Fin.ext ?_
      match b with
      | ⟨0, _⟩ => rfl
      | ⟨1, _⟩ => rfl
    show gather_S32x16_S257x1_S257x16_1_0_n_n_0_1_116.start (ix2 l h) idx 0
      + gather_S32x16_S257x1_S257x16_1_0_n_n_0_1_116.batchCoord (ix2 l h) 0
      + gather_S32x16_S257x1_S257x16_1_0_n_n_0_1_116.offCoord (ix2 l h) 0 = _
    rw [GatherDims.batchCoord_eq_zero _ _ _ (fun h => by simp [gather_S32x16_S257x1_S257x16_1_0_n_n_0_1_116] at h),
      GatherDims.offCoord_eq_zero _ _ _ (fun h => ((GatherDims.mem_sKept _ _).mp h).1 (by decide))]
    unfold GatherDims.start
    rw [dif_pos (show (0 : Fin 2) ∈ gather_S32x16_S257x1_S257x16_1_0_n_n_0_1_116.startIndexMap from by decide)]
    exact congrArg (fun z => min (idx z).toInt.toNat 31) hsi
  | ⟨1, h1⟩ =>
    show gather_S32x16_S257x1_S257x16_1_0_n_n_0_1_116.start (ix2 l h) idx 1
      + gather_S32x16_S257x1_S257x16_1_0_n_n_0_1_116.batchCoord (ix2 l h) 1
      + gather_S32x16_S257x1_S257x16_1_0_n_n_0_1_116.offCoord (ix2 l h) 1 = h.val
    rw [GatherDims.batchCoord_eq_zero _ _ _ (fun h => by simp [gather_S32x16_S257x1_S257x16_1_0_n_n_0_1_116] at h)]
    unfold GatherDims.start
    rw [dif_neg (show ¬ (1 : Fin 2) ∈ gather_S32x16_S257x1_S257x16_1_0_n_n_0_1_116.startIndexMap from by decide), Nat.zero_add]
    rfl

end Cert.SampleRefIdeal.Gathers
-- ==== Proof.SampleKeys.lean ====
/-
  The keys and values of the sample attention's reference, read at an entry.
-/
module

public import proofs.«01_k».proof.Proof.SampleGathers

@[expose] public section

noncomputable section

namespace Cert.SampleRefIdeal.Keys

open Cert.SampleRefIdeal Cert.SampleRefIdeal.Gen Cert.SampleRefIdeal.Read Idealize.ShloMosaic

variable (C : FVec Ideal S2560x128x16x2x64 .f32) (P : IVec S32x64 32) (I : IVec S32x16x3 32) (N : FVec Ideal S32x2048 .f32)

/-- A word that is not negative is not wrapped. -/
theorem sel_nonneg (w k : BitVec 32) (h : w.toNat < 2147483648) : Scalar.select (IntOp.cmpi .slt w 0#32) k w = w := by
  have e : BitVec.slt w 0#32 = false := by
    simp only [BitVec.slt, BitVec.toInt, BitVec.toNat_ofNat, decide_eq_false_iff_not]; omega
  unfold Scalar.select IntOp.cmpi
  simp [e]

theorem toInt_toNat (w : BitVec 32) (h : w.toNat < 2147483648) : w.toInt.toNat = w.toNat := by
  simp only [BitVec.toInt]; omega

theorem v5 (hP : ∀ y, (P y).toNat < 2560) (b : Fin 32) (p : Fin 64) : val_main_v5 (F := Ideal) P (ix3 b p 0) = P (ix2 b p) := by
  pointwise [val_main_v5, val_main_v4, val_main_v3, val_main_v2, val_main_v1, val_main_v0, val_main_c, val_main_c_0]
  exact sel_nonneg _ _ (lt_trans (hP _) (by norm_num))

theorem v6 (hP : ∀ y, (P y).toNat < 2560) (b : Fin 32) (p : Fin 64) (s : Fin 128) (h : Fin 16) (t : Fin 2) (d : Fin 64) :
    val_main_v6 (F := Ideal) C P (ix6 b p s h t d) = C (ix5 ⟨(P (ix2 b p)).toNat % 2560, Nat.mod_lt _ (by norm_num)⟩ s h t d) := by
  unfold val_main_v6
  rw [Gathers.pages]
  refine congrArg (fun z => C (ix5 z s h t d)) (Fin.ext ?_)
  show min (val_main_v5 (F := Ideal) P (ix3 b p 0)).toInt.toNat 2559 = _ % 2560
  have := hP (ix2 b p)
  rw [v5 P hP, toInt_toNat _ (by omega)]
  omega

theorem v7 (b : Fin 32) (p : Fin 8192) (h : Fin 16) (t : Fin 2) (d : Fin 64) :
    val_main_v7 (F := Ideal) C P (ix5 b p h t d) = val_main_v6 (F := Ideal) C P (ix6 b ⟨p.val / 128, by omega⟩ ⟨p.val % 128, by omega⟩ h t d) := by
  pointwise [val_main_v7]

theorem v10_past (b : Fin 32) (p : Fin 8449) (hp : p.val < 8192) (h : Fin 16) (t : Fin 2) (d : Fin 64) :
    val_main_v10 (F := Ideal) C P N (ix5 b p h t d) = val_main_v7 (F := Ideal) C P (ix5 b ⟨p.val, hp⟩ h t d) := by
  pointwise [val_main_v10]
  exact dif_pos hp

theorem v10_new (b : Fin 32) (h : Fin 16) (t : Fin 2) (d : Fin 64) :
    val_main_v10 (F := Ideal) C P N (ix5 b ⟨8192, by omega⟩ h t d) = N (ix2 b ⟨h.val * 128 + (t.val * 64 + d.val), by omega⟩) := by
  pointwise [val_main_v10, val_main_v8]
  exact congrArg (fun z => N (ix2 b z)) (Fin.ext (Nat.add_assoc _ _ _))

theorem v27 (b : Fin 32) (h : Fin 16) (k : Fin 3) (c : Fin 256) :
    val_main_v27 (F := Ideal) I (ix4 b h k c) = I (ix3 b h k) * 256#32 + BitVec.ofNat 32 c.val := by
  pointwise [val_main_v27, val_main_v26, val_main_v25, val_main_v24, val_main_v23, val_main_v22, val_main_v21, val_main_v20, val_main_c_2]
  rfl

theorem v27_toNat (hI : ∀ y, (I y).toNat < 32) (b : Fin 32) (h : Fin 16) (k : Fin 3) (c : Fin 256) :
    (val_main_v27 (F := Ideal) I (ix4 b h k c)).toNat = (I (ix3 b h k)).toNat * 256 + c.val := by
  rw [v27, BitVec.toNat_add, BitVec.toNat_mul, BitVec.toNat_ofNat, BitVec.toNat_ofNat]
  have := hI (ix3 b h k)
  omega

theorem v48_0 (b : Fin 32) (h : Fin 16) (k : Fin 3) (c : Fin 256) : val_main_v48 (F := Ideal) I (ix5 b h k c 0) = BitVec.ofNat 32 b.val := by
  pointwise [val_main_v48, val_main_v45, val_main_v43, val_main_v32, val_main_v31, val_main_v30, val_main_v29, val_main_v28, val_main_v17, val_main_v16, val_main_c_3, val_main_c_4]
  exact sel_nonneg _ _ (by rw [BitVec.toNat_ofNat]; omega)

theorem v48_1 (hI : ∀ y, (I y).toNat < 32) (b : Fin 32) (h : Fin 16) (k : Fin 3) (c : Fin 256) : val_main_v48 (F := Ideal) I (ix5 b h k c 1) = val_main_v27 (F := Ideal) I (ix4 b h k c) := by
  pointwise [val_main_v48, val_main_v46, val_main_v37, val_main_v36, val_main_v35, val_main_v34, val_main_v33, val_main_c_5, val_main_c_6]
  exact sel_nonneg _ _ (by rw [v27_toNat I hI]; have := hI (ix3 b h k); omega)

theorem v48_2 (b : Fin 32) (h : Fin 16) (k : Fin 3) (c : Fin 256) : val_main_v48 (F := Ideal) I (ix5 b h k c 2) = BitVec.ofNat 32 h.val := by
  pointwise [val_main_v48, val_main_v47, val_main_v44, val_main_v42, val_main_v41, val_main_v40, val_main_v39, val_main_v38, val_main_v19, val_main_v18, val_main_c_7, val_main_c_8]
  exact sel_nonneg _ _ (by rw [BitVec.toNat_ofNat]; omega)

theorem v51 (b : Fin 32) (h : Fin 16) (k : Fin 3) (c : Fin 256) (d : Fin 64) :
    val_main_v51 (F := Ideal) C P I N (ix5 b h k c d) = val_main_v49 (F := Ideal) C P I N (ix6 b h k c 0 d) := by
  pointwise [val_main_v51, val_main_v50]

theorem v160 (b : Fin 32) (h : Fin 16) (j : Fin 768) (d : Fin 64) :
    val_main_v160 (F := Ideal) C P I N (ix4 b h j d) = val_main_v49 (F := Ideal) C P I N (ix6 b h ⟨j.val / 256, by omega⟩ ⟨j.val % 256, by omega⟩ 1 d) := by
  pointwise [val_main_v160, val_main_v159, val_main_v158]

theorem v164 (b : Fin 32) (l : Fin 257) (h : Fin 16) (d : Fin 64) :
    val_main_v164 (F := Ideal) C P N (ix4 b l h d) = val_main_v10 (F := Ideal) C P N (ix5 b ⟨8192 + l.val, by omega⟩ h 1 d) := by
  pointwise [val_main_v164, val_main_v163, val_main_v11]

theorem v95 (b : Fin 32) (l : Fin 257) (h : Fin 16) (d : Fin 64) :
    val_main_v95 (F := Ideal) C P N (ix4 b l h d) = val_main_v10 (F := Ideal) C P N (ix5 b ⟨8192 + l.val, by omega⟩ h 0 d) := by
  pointwise [val_main_v95, val_main_v94, val_main_v11]

/-- A selected key or value is the cache's, at the page of the table and the slot of the position. -/
theorem v49 (hP : ∀ y, (P y).toNat < 2560) (hI : ∀ y, (I y).toNat < 32) (b : Fin 32) (h : Fin 16) (k : Fin 3) (c : Fin 256) (t : Fin 2) (d : Fin 64) :
    val_main_v49 (F := Ideal) C P I N (ix6 b h k c t d)
      = C (ix5 ⟨(P (ix2 b ⟨((I (ix3 b h k)).toNat * 2 + c.val / 128) % 64, Nat.mod_lt _ (by norm_num)⟩)).toNat % 2560, Nat.mod_lt _ (by norm_num)⟩
          ⟨c.val % 128, Nat.mod_lt _ (by norm_num)⟩ h t d) := by
  have hk := hI (ix3 b h k)
  have h27 := v27_toNat I hI b h k c
  unfold val_main_v49
  rw [Gathers.keys]
  have e : (ix5 (n0 := 32) (n1 := 8449) (n2 := 16) (n3 := 2) (n4 := 64)
        ⟨min (val_main_v48 (F := Ideal) I (ix5 b h k c 0)).toInt.toNat 31, by omega⟩ ⟨min (val_main_v48 (F := Ideal) I (ix5 b h k c 1)).toInt.toNat 8448, by omega⟩
          ⟨min (val_main_v48 (F := Ideal) I (ix5 b h k c 2)).toInt.toNat 15, by omega⟩ t d)
      = ix5 b ⟨(I (ix3 b h k)).toNat * 256 + c.val, by omega⟩ h t d := by
    have e0 : min (val_main_v48 (F := Ideal) I (ix5 b h k c 0)).toInt.toNat 31 = b.val := by
      rw [v48_0, toInt_toNat _ (by rw [BitVec.toNat_ofNat]; omega), BitVec.toNat_ofNat]; omega
    have e1 : min (val_main_v48 (F := Ideal) I (ix5 b h k c 1)).toInt.toNat 8448 = (I (ix3 b h k)).toNat * 256 + c.val := by
      rw [v48_1 I hI, toInt_toNat _ (by omega), h27]; omega
    have e2 : min (val_main_v48 (F := Ideal) I (ix5 b h k c 2)).toInt.toNat 15 = h.val := by
      rw [v48_2, toInt_toNat _ (by rw [BitVec.toNat_ofNat]; omega), BitVec.toNat_ofNat]; omega
    simp only [e0, e1, e2]
  refine (congrArg (val_main_v10 (F := Ideal) C P N) e).trans ?_
  rw [v10_past C P N b _ (by show (I (ix3 b h k)).toNat * 256 + c.val < 8192; omega), v7, v6 C P hP]
  have ea : ((I (ix3 b h k)).toNat * 256 + c.val) / 128 = ((I (ix3 b h k)).toNat * 2 + c.val / 128) % 64 := by omega
  have eb : ((I (ix3 b h k)).toNat * 256 + c.val) % 128 = c.val % 128 := by omega
  simp only [ea, eb]

end Cert.SampleRefIdeal.Keys
-- ==== Proof.SampleBucket.lean ====
/-
  The reference's bucket of a distance: the distance itself below sixteen, and above it a logarithm's integer part, which
  the sixteenth powers of the distances decide.
-/
module

public import Idealize.ShloMosaic.PureOps.Ideal

@[expose] public section

noncomputable section

namespace Cert.Proof.Sample.Bucket

open Idealize.ShloMosaic

/-- The bucket of a distance, by its thresholds. -/
def ofDist (n : ℕ) : ℕ :=
  if n < 16 then n else if n < 19 then 16 else if n < 21 then 17 else if n < 24 then 18 else if n < 27 then 19
  else if n < 31 then 20 else if n < 35 then 21 else if n < 40 then 22 else if n < 46 then 23 else if n < 52 then 24
  else if n < 59 then 25 else if n < 67 then 26 else if n < 77 then 27 else if n < 87 then 28 else if n < 99 then 29
  else if n < 113 then 30 else 31

theorem far (n : ℕ) (h : 113 ≤ n) : ofDist n = 31 := by
  unfold ofDist
  simp only [if_neg (show ¬ n < 16 by omega), if_neg (show ¬ n < 19 by omega), if_neg (show ¬ n < 21 by omega), if_neg (show ¬ n < 24 by omega),
    if_neg (show ¬ n < 27 by omega), if_neg (show ¬ n < 31 by omega), if_neg (show ¬ n < 35 by omega), if_neg (show ¬ n < 40 by omega),
    if_neg (show ¬ n < 46 by omega), if_neg (show ¬ n < 52 by omega), if_neg (show ¬ n < 59 by omega), if_neg (show ¬ n < 67 by omega),
    if_neg (show ¬ n < 77 by omega), if_neg (show ¬ n < 87 by omega), if_neg (show ¬ n < 99 by omega), if_neg (show ¬ n < 113 by omega)]

/-- The printed logarithm of eight. -/
def c8 : ℝ := 8721810 / 4194304

theorem ofBits_c8 : Ideal.ofBits .f32 0x40051592#32 = ((c8 : ℝ) : EReal) := by
  unfold c8
  simp [Ideal.ofBits, Ideal.ieee]
  rw [← EReal.coe_mul]
  exact congrArg Real.toEReal (by norm_num)

theorem ofBits_16 : Ideal.ofBits .f32 0x41800000#32 = ((16 : ℝ) : EReal) := by
  simp [Ideal.ofBits, Ideal.ieee]
  rw [← EReal.coe_mul]
  exact congrArg Real.toEReal (by norm_num)

theorem log_two_gt : (0.6931 : ℝ) < Real.log 2 := by
  rw [Real.lt_log_iff_exp_lt (by norm_num)]
  refine lt_of_le_of_lt (Real.exp_bound' (x := 0.6931) (by norm_num) (by norm_num) (n := 10) (by norm_num)) ?_
  norm_num [Finset.sum_range_succ, Nat.factorial]

theorem log_two_lt : Real.log 2 < (0.6932 : ℝ) := by
  rw [Real.log_lt_iff_lt_exp (by norm_num)]
  refine lt_of_lt_of_le ?_ (Real.sum_le_exp_of_nonneg (x := 0.6932) (by norm_num) 10)
  norm_num [Finset.sum_range_succ, Nat.factorial]

/-- Where the scaled logarithm of a distance lies, from the sixteenth powers. -/
theorem log_mem (n k : ℕ) (hn : 0 < n) (hlo : k = 0 ∧ 16 ≤ n ∨ 2 ^ (64 + 3 * k) * 101 ≤ n ^ 16 * 100) (hhi : n ^ 16 * 101 ≤ 2 ^ (64 + 3 * (k + 1)) * 100) (hk : k ≤ 14) :
    (k : ℝ) ≤ Real.log ((n : ℝ) / 16) / c8 * 16 ∧ Real.log ((n : ℝ) / 16) / c8 * 16 < k + 1 := by
  have hc : (0 : ℝ) < c8 := by unfold c8; norm_num
  have h1 := log_two_gt
  have h2 := log_two_lt
  have hn' : (0 : ℝ) < n := by exact_mod_cast hn
  have hL : Real.log ((n : ℝ) / 16) * 16 = Real.log ((n : ℝ) ^ 16) - 64 * Real.log 2 := by
    rw [Real.log_div hn'.ne' (by norm_num), Real.log_pow, show (16 : ℝ) = 2 ^ 4 by norm_num, Real.log_pow]
    push_cast; ring
  have hk' : (k : ℝ) ≤ 14 := by exact_mod_cast hk
  have hk0 : (0 : ℝ) ≤ k := Nat.cast_nonneg k
  rw [div_mul_eq_mul_div, le_div_iff₀ hc, div_lt_iff₀ hc, hL]
  constructor
  · rcases hlo with ⟨rfl, hlo⟩ | hlo
    · have : Real.log ((2 : ℝ) ^ 64) ≤ Real.log ((n : ℝ) ^ 16) := by
        refine Real.log_le_log (by positivity) ?_
        have : (16 : ℝ) ≤ n := by exact_mod_cast hlo
        calc (2 : ℝ) ^ 64 = 16 ^ 16 := by norm_num
          _ ≤ _ := pow_le_pow_left₀ (by norm_num) this 16
      rw [Real.log_pow] at this
      push_cast at this ⊢
      linarith
    · have hx : (2 : ℝ) ^ (64 + 3 * k) * (101 / 100) ≤ (n : ℝ) ^ 16 := by
        have : (2 : ℝ) ^ (64 + 3 * k) * 101 ≤ (n : ℝ) ^ 16 * 100 := by exact_mod_cast hlo
        linarith
      have h3 := Real.log_le_log (by positivity) hx
      rw [Real.log_mul (by positivity) (by norm_num), Real.log_pow] at h3
      have h4 := Real.one_sub_inv_le_log_of_pos (show (0 : ℝ) < 101 / 100 by norm_num)
      have h5 : (k : ℝ) * c8 ≤ k * (3 * Real.log 2) + 14 * (2 / 10000) := by
        have : c8 ≤ 3 * Real.log 2 + 2 / 10000 := by unfold c8; linarith
        nlinarith
      push_cast at h3
      norm_num at h4
      nlinarith
  · have hx : (n : ℝ) ^ 16 * (101 / 100) ≤ (2 : ℝ) ^ (64 + 3 * (k + 1)) := by
      have : (n : ℝ) ^ 16 * 101 ≤ (2 : ℝ) ^ (64 + 3 * (k + 1)) * 100 := by exact_mod_cast hhi
      linarith
    have h3 := Real.log_le_log (by positivity) hx
    rw [Real.log_mul (by positivity) (by norm_num), Real.log_pow 2 (64 + 3 * (k + 1))] at h3
    have h4 := Real.one_sub_inv_le_log_of_pos (show (0 : ℝ) < 101 / 100 by norm_num)
    have h5 : ((k : ℝ) + 1) * (3 * Real.log 2) ≤ (k + 1) * c8 + 15 * (2 / 10000) := by
      have : 3 * Real.log 2 ≤ c8 + 2 / 10000 := by unfold c8; linarith
      nlinarith
    push_cast at h3
    norm_num at h4
    nlinarith

/-- Sixteen logarithms above the last threshold. -/
theorem log_far (n : ℕ) (h : 113 ≤ n) : (15 : ℝ) ≤ Real.log ((n : ℝ) / 16) / c8 * 16 := by
  have hc : (0 : ℝ) < c8 := by unfold c8; norm_num
  have h1 := log_two_gt
  have h2 := log_two_lt
  have hn : (113 : ℝ) ≤ n := by exact_mod_cast h
  have hL : Real.log ((n : ℝ) / 16) * 16 = Real.log ((n : ℝ) ^ 16) - 64 * Real.log 2 := by
    rw [Real.log_div (by linarith) (by norm_num), Real.log_pow, show (16 : ℝ) = 2 ^ 4 by norm_num, Real.log_pow]
    push_cast; ring
  rw [div_mul_eq_mul_div, le_div_iff₀ hc, hL]
  have hx : (2 : ℝ) ^ 109 * (101 / 100) ≤ (n : ℝ) ^ 16 :=
    le_trans (by norm_num) (pow_le_pow_left₀ (by norm_num) hn 16)
  have h3 := Real.log_le_log (by positivity) hx
  rw [Real.log_mul (by positivity) (by norm_num), Real.log_pow] at h3
  have h4 := Real.one_sub_inv_le_log_of_pos (show (0 : ℝ) < 101 / 100 by norm_num)
  push_cast at h3
  norm_num at h4
  unfold c8
  linarith

/-- The reference's bucket of a distance. -/
def large (x : EReal) : BitVec 32 :=
  Ideal.fptosi 32 (Ideal.div (Ideal.log (Ideal.div x (Ideal.ofBits .f32 0x41800000#32))) (Ideal.ofBits .f32 0x40051592#32) * Ideal.ofBits .f32 0x41800000#32)

theorem large_eq (n : ℕ) (hn : 0 < n) : large (((n : ℝ)) : EReal)
    = BitVec.ofInt 32 (max (-(2147483648 : ℤ)) (min 2147483647 (if (0 : ℝ) ≤ Real.log ((n : ℝ) / 16) / c8 * 16 then ⌊Real.log ((n : ℝ) / 16) / c8 * 16⌋ else ⌈Real.log ((n : ℝ) / 16) / c8 * 16⌉))) := by
  have hc : c8 ≠ 0 := by unfold c8; norm_num
  unfold large
  rw [ofBits_c8, ofBits_16, Ideal.div_coe (by norm_num : (16 : ℝ) ≠ 0), ← EReal.coe_mul, Ideal.log_coe, if_neg, Ideal.div_coe hc, ← EReal.coe_mul, ← EReal.coe_mul,
    Ideal.fptosi, Ideal.toIntClamped_coe]
  · rw [show (n : ℝ) * (1 / 16) = (n : ℝ) / 16 by ring, show Real.log ((n : ℝ) / 16) * (1 / c8) = Real.log ((n : ℝ) / 16) / c8 by ring]
    rfl
  · have : (0 : ℝ) < n := by exact_mod_cast hn
    push Not
    positivity

theorem large_of_mem (n k : ℕ) (hn : 0 < n) (hk : k ≤ 15) (h : (k : ℝ) ≤ Real.log ((n : ℝ) / 16) / c8 * 16 ∧ Real.log ((n : ℝ) / 16) / c8 * 16 < k + 1) :
    large (((n : ℝ)) : EReal) = BitVec.ofNat 32 k := by
  have hk0 : (0 : ℝ) ≤ k := Nat.cast_nonneg k
  rw [large_eq n hn, if_pos (hk0.trans h.1), Int.floor_eq_iff (z := (k : ℤ)) |>.mpr (by exact_mod_cast h)]
  have : max (-(2147483648 : ℤ)) (min 2147483647 (k : ℤ)) = (k : ℤ) := by omega
  rw [this]
  rfl

theorem ofDist_le (n : ℕ) : ofDist n ≤ 31 := by
  by_cases h : n < 113
  · have key : ∀ n : Fin 113, ofDist n.val ≤ 31 := by decide +kernel
    exact key ⟨n, h⟩
  · rw [far n (by omega)]

/-- From sixteen on the word is sixteen less than the bucket, as far as the largest bucket. -/
theorem large_small (n : ℕ) (h1 : 16 ≤ n) (h2 : n < 113) : large (((n : ℝ)) : EReal) = BitVec.ofNat 32 (ofDist n - 16) := by
  have key : ∀ n : Fin 113, 16 ≤ n.val → ofDist n.val - 16 ≤ 14 ∧ (ofDist n.val - 16 = 0 ∧ 16 ≤ n.val ∨ 2 ^ (64 + 3 * (ofDist n.val - 16)) * 101 ≤ n.val ^ 16 * 100) ∧ n.val ^ 16 * 101 ≤ 2 ^ (64 + 3 * ((ofDist n.val - 16) + 1)) * 100 := by
    decide +kernel
  obtain ⟨a, b, c⟩ := key ⟨n, h2⟩ h1
  exact large_of_mem n _ (by omega) (a.trans (by norm_num)) (log_mem n _ (by omega) b c a)

theorem large_far (n : ℕ) (h1 : 113 ≤ n) (h2 : n ≤ 8192) : ∃ k : ℕ, 15 ≤ k ∧ k ≤ 1000000 ∧ large (((n : ℝ)) : EReal) = BitVec.ofNat 32 k := by
  have hc : (0 : ℝ) < c8 := by unfold c8; norm_num
  have hn : (113 : ℝ) ≤ n := by exact_mod_cast h1
  have hn2 : (n : ℝ) ≤ 8192 := by exact_mod_cast h2
  have hge := log_far n h1
  have hle : Real.log ((n : ℝ) / 16) / c8 * 16 ≤ 100000 := by
    have h3 := Real.log_le_sub_one_of_pos (show (0 : ℝ) < (n : ℝ) / 16 by linarith)
    rw [div_mul_eq_mul_div, div_le_iff₀ hc]
    unfold c8
    linarith
  have h15 : (15 : ℤ) ≤ ⌊Real.log ((n : ℝ) / 16) / c8 * 16⌋ := Int.le_floor.mpr (by exact_mod_cast hge)
  have hup : ⌊Real.log ((n : ℝ) / 16) / c8 * 16⌋ ≤ 100000 := by
    have := (Int.floor_le (Real.log ((n : ℝ) / 16) / c8 * 16)).trans hle
    exact_mod_cast this
  refine ⟨⌊Real.log ((n : ℝ) / 16) / c8 * 16⌋.toNat, by omega, by omega, ?_⟩
  rw [large_eq n (by omega), if_pos (by linarith)]
  generalize ⌊Real.log ((n : ℝ) / 16) / c8 * 16⌋ = f at *
  have : max (-(2147483648 : ℤ)) (min 2147483647 f) = ((f.toNat : ℕ) : ℤ) := by omega
  rw [this]
  rfl

/-- The bucket of a word's distance, as the reference computes it. -/
def ofWord (w : BitVec 32) : BitVec 32 :=
  if BitVec.slt (IntOp.maxsi w 0#32) 16#32 then IntOp.maxsi w 0#32
  else IntOp.minsi (16#32 + large ((((IntOp.maxsi (IntOp.maxsi w 0#32) 1#32).toInt : ℝ)) : EReal)) 31#32

theorem maxsi_nat (n k : ℕ) (h : n ≤ 8192) (hk : k ≤ 8192) : IntOp.maxsi (BitVec.ofNat 32 n) (BitVec.ofNat 32 k) = BitVec.ofNat 32 (max n k) := by
  unfold IntOp.maxsi
  have e : (BitVec.ofNat 32 n).slt (BitVec.ofNat 32 k) = decide (n < k) := by
    simp only [BitVec.slt, BitVec.toInt, BitVec.toNat_ofNat]
    congr 1
    rw [eq_iff_iff]
    omega
  rw [Nat.max_def]
  simp only [BitVec.sle, BitVec.slt, BitVec.toInt, BitVec.toNat_ofNat]
  split_ifs <;> first | rfl | (exfalso; simp only [decide_eq_true_eq] at *; omega) | (congr 1; simp only [decide_eq_true_eq] at *; omega)

theorem ofWord_eq (n : ℕ) (h : n ≤ 8192) : ofWord (BitVec.ofNat 32 n) = BitVec.ofNat 32 (ofDist n) := by
  unfold ofWord
  rw [maxsi_nat n 0 h (by omega), Nat.max_eq_left (Nat.zero_le n)]
  have hs : (BitVec.ofNat 32 n).slt 16#32 = decide (n < 16) := by
    simp only [BitVec.slt, BitVec.toInt, BitVec.toNat_ofNat]
    congr 1
    rw [eq_iff_iff]
    omega
  rw [hs]
  by_cases hn : n < 16
  · rw [if_pos (by simpa using hn)]; unfold ofDist; rw [if_pos hn]
  rw [if_neg (by simpa using hn), show (1#32 : BitVec 32) = BitVec.ofNat 32 1 from rfl, maxsi_nat n 1 h (by omega), Nat.max_eq_left (by omega)]
  have hi : (((BitVec.ofNat 32 n).toInt : ℤ) : ℝ) = (n : ℝ) := by
    have : (BitVec.ofNat 32 n).toInt = (n : ℤ) := by
      simp only [BitVec.toInt, BitVec.toNat_ofNat]; omega
    rw [this]; exact_mod_cast rfl
  rw [hi]
  have hmin : ∀ k : ℕ, k ≤ 1000000 → IntOp.minsi (16#32 + BitVec.ofNat 32 k) 31#32 = BitVec.ofNat 32 (min (16 + k) 31) := by
    intro k hk
    have e : 16#32 + BitVec.ofNat 32 k = BitVec.ofNat 32 (16 + k) := by rw [BitVec.ofNat_add]
    rw [e, Nat.min_def]
    unfold IntOp.minsi
    simp only [BitVec.sle, BitVec.slt, BitVec.toInt, BitVec.toNat_ofNat]
    split_ifs <;> first | rfl | (exfalso; simp only [decide_eq_true_eq] at *; omega) | (congr 1; simp only [decide_eq_true_eq] at *; omega)
  by_cases h113 : n < 113
  · rw [large_small n (by omega) h113]
    have : ∀ n : Fin 113, 16 ≤ n.val → 16 ≤ ofDist n.val ∧ ofDist n.val ≤ 31 := by decide +kernel
    obtain ⟨a, b⟩ := this ⟨n, h113⟩ (by show 16 ≤ n; omega)
    rw [hmin _ (by simp only at b; omega)]
    simp only at a b
    congr 1; omega
  · obtain ⟨k, h1, h2, h3⟩ := large_far n (by omega) h
    rw [h3, hmin k h2]
    rw [far n (by omega), Nat.min_eq_right (by omega)]

end Cert.Proof.Sample.Bucket
-- ==== Proof.SampleWhole.lean ====
/-
  The softmax of the reference over the 768 selected keys and the 257 local ones, of which only the first is not masked.
-/
module

public import proofs.«01_k».proof.Proof.SampleSoft

@[expose] public section

noncomputable section

namespace Cert.Proof.Sample.Soft

open Idealize.ShloMosaic

/-- A sum over the 1025 keys whose terms vanish at the masked ones. -/
theorem sum_whole (f : Fin 1025 → EReal) (hf : ∀ l : Fin 257, l.val ≠ 0 → f ⟨768 + l.val, by omega⟩ = 0) :
    (∑ j, f j) = (∑ j : Fin 768, f ⟨j.val, by omega⟩) + f ⟨768, by omega⟩ := by
  have h := Fin.sum_univ_add (a := 768) (b := 257) f
  have h2 : (∑ l : Fin 257, f (Fin.natAdd 768 l)) = f ⟨768, by omega⟩ := by
    exact Finset.sum_eq_single (f := fun l : Fin 257 => f (Fin.natAdd 768 l)) (0 : Fin 257) (fun l _ hl => hf l (fun e => hl (Fin.ext e))) (fun h => absurd (Finset.mem_univ _) h)
  rw [h2] at h
  exact h

theorem sum_local (f : Fin 257 → EReal) (hf : ∀ l : Fin 257, l.val ≠ 0 → f l = 0) : (∑ l, f l) = f 0 :=
  Finset.sum_eq_single (0 : Fin 257) (fun l _ hl => hf l (fun e => hl (Fin.ext e))) (fun h => absurd (Finset.mem_univ _) h)

/-- The largest of the 1025 scores is the largest of those that count. -/
theorem fold_whole (s : Fin 1025 → EReal) (hs : ∀ l : Fin 257, l.val ≠ 0 → s ⟨768 + l.val, by omega⟩ = ⊥) :
    Finset.univ.fold max (Ideal.ofBits .f32 0xFF800000#32) s = most (fun j => s ⟨j.val, by omega⟩) (s ⟨768, by omega⟩) := by
  unfold most
  rw [ofBits_bot]
  apply le_antisymm
  · refine (Finset.fold_max_le _).mpr ⟨bot_le, fun j _ => ?_⟩
    by_cases h1 : j.val < 768
    · exact le_max_of_le_left (fold_le (fun j : Fin 768 => s ⟨j.val, by omega⟩) ⟨j.val, h1⟩)
    · by_cases h2 : j.val = 768
      · exact le_max_of_le_right (le_of_eq (congrArg s (Fin.ext h2)))
      · have h3 := hs ⟨j.val - 768, by omega⟩ (by show j.val - 768 ≠ 0; omega)
        have h4 : s j = ⊥ := (congrArg s (Fin.ext (by show j.val = 768 + (j.val - 768); omega))).trans h3
        rw [h4]; exact bot_le
  · refine max_le ((Finset.fold_max_le _).mpr ⟨bot_le, fun j _ => ?_⟩) ?_
    · exact (Finset.le_fold_max _).mpr (Or.inr ⟨⟨j.val, by omega⟩, Finset.mem_univ _, le_rfl⟩)
    · exact (Finset.le_fold_max _).mpr (Or.inr ⟨⟨768, by omega⟩, Finset.mem_univ _, le_rfl⟩)

/-- What the scores are lowered by. -/
def low (M : EReal) : EReal := if max M (-M) < ⊤ then M else 0

theorem low_ne_top (M : EReal) : low M ≠ ⊤ := by
  unfold low
  split_ifs with h
  · exact fun e => by rw [e] at h; simp at h
  · exact EReal.zero_ne_top

theorem low_ne_bot (M : EReal) : low M ≠ ⊥ := by
  unfold low
  split_ifs with h
  · exact fun e => by rw [e] at h; simp at h
  · exact EReal.zero_ne_bot

/-- The reference's weighted sum is the sum divided once. -/
theorem whole (s : Fin 1025 → EReal) (v : Fin 768 → EReal) (v' : Fin 257 → EReal)
    (hs : ∀ l : Fin 257, l.val ≠ 0 → s ⟨768 + l.val, by omega⟩ = ⊥) (z : EReal)
    (hz : z = low (Finset.univ.fold max (Ideal.ofBits .f32 0xFF800000#32) s)) :
    (∑ j : Fin 768, Ideal.div (Ideal.exp (s ⟨j.val, by omega⟩ - z)) (max (∑ k, Ideal.exp (s k - z)) (Ideal.ofBits .f32 0x0DA24260#32)) * v j)
      + ∑ l : Fin 257, Ideal.div (Ideal.exp (s ⟨768 + l.val, by omega⟩ - z)) (max (∑ k, Ideal.exp (s k - z)) (Ideal.ofBits .f32 0x0DA24260#32)) * v' l
    = once (fun j => s ⟨j.val, by omega⟩) (s ⟨768, by omega⟩) v (v' 0) := by
  have hM := fold_whole s hs
  rw [hM] at hz
  have e0 : ∀ l : Fin 257, l.val ≠ 0 → Ideal.exp (s ⟨768 + l.val, by omega⟩ - z) = 0 := fun l hl => by
    rw [hs l hl, EReal.bot_sub, Ideal.exp_bot]
  rw [sum_whole (fun k => Ideal.exp (s k - z)) e0, sum_local]
  · have ho := once_eq_each (fun j => s ⟨j.val, by omega⟩) (s ⟨768, by omega⟩) v (v' 0) z ?_ ?_ ?_
    · rw [ho]; rfl
    · intro h1 h2
      rw [hz]; unfold low
      generalize most _ _ = M at *
      induction M using EReal.rec with
      | bot => exact absurd rfl h2
      | top => exact absurd rfl h1
      | coe x => exact if_pos (max_lt (EReal.coe_lt_top x) (by rw [← EReal.coe_neg]; exact EReal.coe_lt_top _))
    · intro h; rw [hz, h]; unfold low; simp
    · intro h; rw [hz, h]; unfold low; simp
  · intro l hl
    obtain ⟨ε, hε, he⟩ := ofBits_tiny
    rw [e0 l hl]
    have : ∀ y : EReal, 0 < y → Ideal.div 0 y = 0 := fun y hy => by
      unfold Ideal.div; rw [if_neg hy.ne', zero_mul]
    rw [this _ (lt_of_lt_of_le (by rw [he]; exact_mod_cast hε) (le_max_right _ _)), zero_mul]

end Cert.Proof.Sample.Soft
-- ==== Proof.SampleScores.lean ====
/-
  The scores of the sample attention's reference, read at an entry.
-/
module

public import proofs.«01_k».proof.Proof.SampleKeys
public import proofs.«01_k».proof.Proof.SampleBucket
public import proofs.«01_k».proof.Proof.SampleWhole

@[expose] public section

noncomputable section

namespace Cert.SampleRefIdeal.Scores

open Cert.SampleRefIdeal Cert.SampleRefIdeal.Gen Cert.SampleRefIdeal.Read Idealize.ShloMosaic
open Cert.Proof.Sample

variable (C : FVec Ideal S2560x128x16x2x64 .f32) (P : IVec S32x64 32) (I : IVec S32x16x3 32) (Q : FVec Ideal S32x1024 .f32) (N : FVec Ideal S32x2048 .f32)
  (R : FVec Ideal S32x16 .f32)

theorem select_slt (x y z w : BitVec 32) : Scalar.select (IntOp.cmpi .slt x y) z w = if BitVec.slt x y then z else w := by
  show (if BitVec.ofBool (BitVec.slt x y) = 1#1 then z else w) = _
  cases BitVec.slt x y <;> rfl

/-- The printed bucket of a distance. -/
theorem word (w : BitVec 32) :
    Scalar.select (IntOp.cmpi .slt (IntOp.maxsi w 0#32) 16#32) (IntOp.maxsi w 0#32)
      (IntOp.minsi (IntOp.addi 16#32 (FloatOps.fptosi (F := Ideal) (φ := .f32) 32
        (Ideal.div (Ideal.log (Ideal.div (FloatOps.sitofp (F := Ideal) .f32 (IntOp.maxsi (IntOp.maxsi w 0#32) 1#32)) (Ideal.ofBits .f32 0x41800000#32)))
          (Ideal.ofBits .f32 0x40051592#32) * Ideal.ofBits .f32 0x41800000#32))) 31#32)
    = Bucket.ofWord w := by
  rw [select_slt]
  unfold Bucket.ofWord Bucket.large
  generalize IntOp.maxsi w 0#32 = x
  generalize IntOp.maxsi x 1#32 = y
  rfl

theorem v54 (b : Fin 32) (h : Fin 16) (k : Fin 3) (c : Fin 256) :
    val_main_v54 (F := Ideal) C P I Q N (ix4 b h k c)
      = (∑ d : Fin 64, Q (ix2 b ⟨h.val * 64 + d.val, by omega⟩) * val_main_v51 (F := Ideal) C P I N (ix5 b h k c d)) * Ideal.ofBits .f32 0x3E000000#32 := by
  pointwise [val_main_v54, val_main_v52, val_main_v53, val_main_cst_9, val_main_v15]

theorem v77 (b : Fin 32) (h : Fin 16) (k : Fin 3) (c : Fin 256) :
    val_main_v77 (F := Ideal) I (ix4 b h k c) = Bucket.ofWord (8192#32 - val_main_v27 (F := Ideal) I (ix4 b h k c)) := by
  pointwise [val_main_v77, val_main_v76, val_main_v75, val_main_v74, val_main_v73, val_main_v72, val_main_v71, val_main_v70, val_main_v69, val_main_v68, val_main_v67,
    val_main_v66, val_main_v65, val_main_v64, val_main_v63, val_main_v62, val_main_v61, val_main_v60, val_main_v59, val_main_v58, val_main_v57, val_main_v56,
    val_main_c_10, val_main_c_11, val_main_c_12, val_main_cst_13, val_main_cst_14, val_main_cst_15, val_main_c_16, val_main_c_17, val_main_c_18]
  exact word _

theorem v91_0 (b : Fin 32) (h : Fin 16) (k : Fin 3) (c : Fin 256) : val_main_v91 (F := Ideal) I (ix5 b h k c 0) = BitVec.ofNat 32 h.val := by
  pointwise [val_main_v91, val_main_v89, val_main_v88, val_main_v82, val_main_v81, val_main_v80, val_main_v79, val_main_v78, val_main_v19, val_main_v18, val_main_c_19, val_main_c_20]
  exact Keys.sel_nonneg _ _ (by rw [BitVec.toNat_ofNat]; omega)

theorem v91_1 (b : Fin 32) (h : Fin 16) (k : Fin 3) (c : Fin 256) (hs : (val_main_v77 (F := Ideal) I (ix4 b h k c)).toNat < 2147483648) : val_main_v91 (F := Ideal) I (ix5 b h k c 1) = val_main_v77 (F := Ideal) I (ix4 b h k c) := by
  pointwise [val_main_v91, val_main_v90, val_main_v87, val_main_v86, val_main_v85, val_main_v84, val_main_v83, val_main_c_21, val_main_c_22]
  exact Keys.sel_nonneg _ _ hs

theorem v120 (l : Fin 257) : val_main_v120 (F := Ideal) (ix1 l) = Bucket.ofWord (8192#32 - (8192#32 + BitVec.ofNat 32 l.val)) := by
  pointwise [val_main_v120, val_main_v119, val_main_v118, val_main_v117, val_main_v116, val_main_v115, val_main_v114, val_main_v113, val_main_v112, val_main_v111, val_main_v110, val_main_v109,
    val_main_v108, val_main_v107, val_main_v106, val_main_v105, val_main_v104, val_main_v103, val_main_v102, val_main_v101, val_main_v100, val_main_v99, val_main_v14, val_main_v13, val_main_v12,
    val_main_c_1, val_main_c_24, val_main_c_25, val_main_c_26, val_main_cst_27, val_main_cst_28, val_main_cst_29, val_main_c_30, val_main_c_31, val_main_c_32]
  exact word _

theorem v126 (l : Fin 257) (hs : (val_main_v120 (F := Ideal) (ix1 l)).toNat < 2147483648) : val_main_v126 (F := Ideal) (ix2 l 0) = val_main_v120 (F := Ideal) (ix1 l) := by
  pointwise [val_main_v126, val_main_v125, val_main_v124, val_main_v123, val_main_v122, val_main_v121, val_main_c_33, val_main_c_34]
  exact Keys.sel_nonneg _ _ hs

theorem v131 (b : Fin 32) (h : Fin 16) (l : Fin 257) :
    val_main_v131 (F := Ideal) C P Q N R (ix3 b h l)
      = (∑ d : Fin 64, Q (ix2 b ⟨h.val * 64 + d.val, by omega⟩) * val_main_v95 (F := Ideal) C P N (ix4 b l h d)) * Ideal.ofBits .f32 0x3E000000#32
        + val_main_v127 (F := Ideal) R (ix2 l h) := by
  pointwise [val_main_v131, val_main_v130, val_main_v129, val_main_v128, val_main_v98, val_main_v97, val_main_v96, val_main_cst_23, val_main_v15]

theorem v137 : ∀ l : Fin 257, val_main_v137 (F := Ideal) (ix1 l) = if l.val = 0 then 1#1 else 0#1 := by
  decide +kernel

theorem v140 (b : Fin 32) (h : Fin 16) (l : Fin 257) :
    val_main_v140 (F := Ideal) C P Q N R (ix3 b h l) = if l.val = 0 then val_main_v131 (F := Ideal) C P Q N R (ix3 b h l) else ⊥ := by
  pointwise [val_main_v140, val_main_call3_v2, val_main_call3_v1, val_main_call3_v0, val_main_cst_38, val_main_v139]
  show Scalar.select (val_main_v137 (F := Ideal) (ix1 l)) _ (Ideal.ofBits .f32 0xFF800000#32) = _
  rw [v137, Soft.ofBits_bot]
  unfold Scalar.select
  by_cases hl : l.val = 0
  · rw [if_pos hl, if_pos hl]; rfl
  · rw [if_neg hl, if_neg hl]; rfl

theorem v141_sel (b : Fin 32) (h : Fin 16) (j : Fin 768) :
    val_main_v141 (F := Ideal) C P I Q N R (ix3 b h ⟨j.val, by omega⟩) = val_main_v93 (F := Ideal) C P I Q N R (ix4 b h ⟨j.val / 256, by omega⟩ ⟨j.val % 256, by omega⟩) := by
  pointwise [val_main_v141, val_main_v138]

theorem v141_loc (b : Fin 32) (h : Fin 16) (l : Fin 257) :
    val_main_v141 (F := Ideal) C P I Q N R (ix3 b h ⟨768 + l.val, by omega⟩) = val_main_v140 (F := Ideal) C P Q N R (ix3 b h l) := by
  pointwise [val_main_v141]

theorem v147 (b : Fin 32) (h : Fin 16) :
    val_main_v147 (F := Ideal) C P I Q N R (ix3 b h 0)
      = Soft.low (Finset.univ.fold max (Ideal.ofBits .f32 0xFF800000#32) (fun j : Fin 1025 => val_main_v141 (F := Ideal) C P I Q N R (ix3 b h j))) := by
  pointwise [val_main_v147, val_main_v146, val_main_v145, val_main_v144, val_main_v143, val_main_v142, val_main_cst_39, val_main_cst_40, val_main_cst_41, val_main_call4_v0, val_main_call4_v1]
  unfold Soft.low
  rw [Soft.ofBits_top]
  have e0 : (id (constant (F := Ideal) S_ .f32 0#32) ix0 : EReal) = 0 := by
    show Ideal.ofBits .f32 0#32 = 0
    simp [Ideal.ofBits, Ideal.ieee]
  rw [e0]
  rfl

theorem v156 (b : Fin 32) (h : Fin 16) (j : Fin 1025) :
    val_main_v156 (F := Ideal) C P I Q N R (ix3 b h j)
      = Ideal.div (Ideal.exp (val_main_v141 (F := Ideal) C P I Q N R (ix3 b h j) - val_main_v147 (F := Ideal) C P I Q N R (ix3 b h 0)))
          (max (∑ k : Fin 1025, Ideal.exp (val_main_v141 (F := Ideal) C P I Q N R (ix3 b h k) - val_main_v147 (F := Ideal) C P I Q N R (ix3 b h 0))) (Ideal.ofBits .f32 0x0DA24260#32)) := by
  pointwise [val_main_v156, val_main_v155, val_main_v154, val_main_v153, val_main_v152, val_main_v151, val_main_v150, val_main_v149, val_main_v148, val_main_cst_42, val_main_cst_43]

theorem v167 (b : Fin 32) (h : Fin 16) (d : Fin 64) :
    val_main_v167 (F := Ideal) C P I Q N R (ix2 b ⟨h.val * 64 + d.val, by omega⟩)
      = (∑ j : Fin 768, val_main_v156 (F := Ideal) C P I Q N R (ix3 b h ⟨j.val, by omega⟩) * val_main_v160 (F := Ideal) C P I N (ix4 b h j d))
        + ∑ l : Fin 257, val_main_v156 (F := Ideal) C P I Q N R (ix3 b h ⟨768 + l.val, by omega⟩) * val_main_v164 (F := Ideal) C P N (ix4 b l h d) := by
  pointwise [val_main_v167, val_main_v166, val_main_v165, val_main_v162, val_main_v161, val_main_v157]

end Cert.SampleRefIdeal.Scores
-- ==== Proof.SampleRefOut.lean ====
/-
  What the sample attention's reference computes: the same sum, weighted and divided once, that the kernel computes.
-/
module

public import proofs.«01_k».proof.Proof.SampleScores
public import proofs.«01_k».proof.Proof.SampleHeads

@[expose] public section

noncomputable section

namespace Cert.SampleRefIdeal.Out

open Cert.SampleRefIdeal Cert.SampleRefIdeal.Gen Cert.SampleRefIdeal.Read Idealize.ShloMosaic
open Cert.Proof.Sample
open Cert.SampleIdeal.Blocks (bkt pageOf)
open Cert.SampleIdeal.Pay (tileOf slotOf biasOf)
open Cert.SampleIdeal.Blocks (kval)

variable (C : FVec Ideal S2560x128x16x2x64 .f32) (P : IVec S32x64 32) (I : IVec S32x16x3 32) (Q : FVec Ideal S32x1024 .f32) (N : FVec Ideal S32x2048 .f32)
  (R : FVec Ideal S32x16 .f32)

/-! The kernel's table of buckets, against the thresholds. -/

theorem bkt_near : ∀ s : Fin 128, (bkt 0 s).val = Bucket.ofDist (128 - s.val) := by decide +kernel
theorem bkt_far : ∀ s : Fin 128, (bkt 1 s).val = 31 := by decide +kernel
theorem bkt_self : (bkt 2 0).val = 0 := by decide +kernel

theorem ofBits_scale : Ideal.ofBits .f32 0x3E000000#32 = ((1 / 8 : ℝ) : EReal) := by
  simp [Ideal.ofBits, Ideal.ieee]
  rw [← EReal.coe_mul]
  exact congrArg Real.toEReal (by norm_num)

/-- Scaling the score is scaling the query. -/
theorem scale_sum (q k : Fin 64 → EReal) : (∑ d, q d * k d) * Ideal.ofBits .f32 0x3E000000#32 = ∑ d, q d * Ideal.ofBits .f32 0x3E000000#32 * k d := by
  rw [ofBits_scale, Soft.sum_mul _ _ (by norm_num)]
  exact Finset.sum_congr rfl fun d _ => mul_right_comm _ _ _

theorem v77_eq (hI : ∀ y, (I y).toNat < 32) (b : Fin 32) (h : Fin 16) (k : Fin 3) (c : Fin 256) :
    val_main_v77 (F := Ideal) I (ix4 b h k c) = BitVec.ofNat 32 (Bucket.ofDist (8192 - ((I (ix3 b h k)).toNat * 256 + c.val))) := by
  have hk := hI (ix3 b h k)
  have h27 := Keys.v27_toNat I hI b h k c
  rw [Scores.v77, ← Bucket.ofWord_eq _ (Nat.sub_le _ _)]
  refine congrArg Bucket.ofWord (BitVec.eq_of_toNat_eq ?_)
  rw [BitVec.toNat_sub, h27, BitVec.toNat_ofNat, BitVec.toNat_ofNat]
  omega

theorem clamp (n : ℕ) (h : n ≤ 31) : min (BitVec.ofNat 32 n).toInt.toNat 31 = n := by
  rw [Keys.toInt_toNat _ (by rw [BitVec.toNat_ofNat]; omega), BitVec.toNat_ofNat]; omega

/-- The bias of a selected key. -/
theorem v92 (hI : ∀ y, (I y).toNat < 32) (b : Fin 32) (h : Fin 16) (k : Fin 3) (c : Fin 256) :
    val_main_v92 (F := Ideal) I R (ix4 b h k c)
      = R (ix2 ⟨Bucket.ofDist (8192 - ((I (ix3 b h k)).toNat * 256 + c.val)), Nat.lt_succ_of_le (Bucket.ofDist_le _)⟩ h) := by
  have e77 := v77_eq I hI b h k c
  have hle := Bucket.ofDist_le (8192 - ((I (ix3 b h k)).toNat * 256 + c.val))
  unfold val_main_v92
  rw [Gathers.bias]
  have e0 : min (val_main_v91 (F := Ideal) I (ix5 b h k c 0)).toInt.toNat 15 = h.val := by
    rw [Scores.v91_0, Keys.toInt_toNat _ (by rw [BitVec.toNat_ofNat]; omega), BitVec.toNat_ofNat]; omega
  have e1 : min (val_main_v91 (F := Ideal) I (ix5 b h k c 1)).toInt.toNat 31 = Bucket.ofDist (8192 - ((I (ix3 b h k)).toNat * 256 + c.val)) := by
    rw [Scores.v91_1 I b h k c (by rw [e77, BitVec.toNat_ofNat]; omega), e77, clamp _ hle]
  have e55 : ∀ (x : Fin 16) (y : Fin 32), val_main_v55 (F := Ideal) R (ix2 x y) = R (ix2 y x) := by
    intro x y; pointwise [val_main_v55]
  rw [e55]
  simp only [e0, e1]

/-- The bias by the kernel's table. -/
theorem bias_eq (hI : ∀ y, (I y).toNat < 32) (b : Fin 32) (h : Fin 16) (j : Fin 768) :
    R (ix2 ⟨Bucket.ofDist (8192 - ((I (ix3 b h ⟨j.val / 256, by omega⟩)).toNat * 256 + j.val % 256)), Nat.lt_succ_of_le (Bucket.ofDist_le _)⟩ h)
      = biasOf (fun s => R (ix2 (bkt 0 s) h)) (fun s => R (ix2 (bkt 1 s) h)) (fun k => I (ix3 b h k)) j := by
  have hk := hI (ix3 b h ⟨j.val / 256, by omega⟩)
  unfold biasOf
  by_cases hc : (I (ix3 b h ⟨j.val / 256, by omega⟩)).toNat = 31 ∧ j.val / 128 % 2 = 1
  · rw [if_pos hc]
    refine congrArg (fun z => R (ix2 z h)) (Fin.ext ?_)
    rw [bkt_near]
    refine congrArg Bucket.ofDist ?_
    show _ = 128 - j.val % 128
    obtain ⟨h1, h2⟩ := hc
    rw [h1]; omega
  · rw [if_neg hc]
    refine congrArg (fun z => R (ix2 z h)) (Fin.ext ?_)
    rw [bkt_far]
    refine Bucket.far _ ?_
    generalize (I (ix3 b h ⟨j.val / 256, by omega⟩)).toNat = n at *
    omega

/-- The page and slot of key `j`, by its block and place or by its tile and slot. -/
theorem key_at (b : Fin 32) (h : Fin 16) (j : Fin 768) (t : Fin 2) (d : Fin 64) :
    C (ix5 ⟨(P (ix2 b ⟨((I (ix3 b h ⟨j.val / 256, by omega⟩)).toNat * 2 + j.val % 256 / 128) % 64, Nat.mod_lt _ (by norm_num)⟩)).toNat % 2560, Nat.mod_lt _ (by norm_num)⟩
          ⟨j.val % 256 % 128, Nat.mod_lt _ (by norm_num)⟩ h t d)
      = C (ix5 ⟨(pageOf P I b h (tileOf j)).toNat % 2560, Nat.mod_lt _ (by omega)⟩ (slotOf j) h t d) := by
  have e1 : (⟨j.val / 256, by omega⟩ : Fin 3) = ⟨j.val / 128 / 2, by omega⟩ := Fin.ext (by show j.val / 256 = j.val / 128 / 2; omega)
  have e2 : j.val % 256 / 128 = j.val / 128 % 2 := by omega
  have e3 : (⟨j.val % 256 % 128, Nat.mod_lt _ (by norm_num)⟩ : Fin 128) = slotOf j := Fin.ext (by show j.val % 256 % 128 = j.val % 128; omega)
  rw [e3]
  refine congrArg (fun z => C (ix5 z (slotOf j) h t d)) (Fin.ext ?_)
  refine congrArg (fun z => (P (ix2 b z)).toNat % 2560) (Fin.ext ?_)
  show ((I (ix3 b h ⟨j.val / 256, by omega⟩)).toNat * 2 + j.val % 256 / 128) % 64 = ((I (ix3 b h ⟨j.val / 128 / 2, by omega⟩)).toNat * 2 + j.val / 128 % 2) % 64
  rw [e1, e2]

/-- The reference's score of a selected key. -/
theorem sel (hP : ∀ y, (P y).toNat < 2560) (hI : ∀ y, (I y).toNat < 32) (b : Fin 32) (h : Fin 16) (j : Fin 768) :
    val_main_v141 (F := Ideal) C P I Q N R (ix3 b h ⟨j.val, by omega⟩)
      = (∑ d : Fin 64, Q (ix2 b ⟨h.val * 64 + d.val, by omega⟩) * Ideal.ofBits .f32 0x3E000000#32
          * C (ix5 ⟨(pageOf P I b h (tileOf j)).toNat % 2560, Nat.mod_lt _ (by omega)⟩ (slotOf j) h 0 d))
        + biasOf (fun s => R (ix2 (bkt 0 s) h)) (fun s => R (ix2 (bkt 1 s) h)) (fun k => I (ix3 b h k)) j := by
  rw [Scores.v141_sel, ← bias_eq I R hI b h j, ← v92 I R hI b h ⟨j.val / 256, by omega⟩ ⟨j.val % 256, by omega⟩, val_main_v93_apply]
  have e : val_main_v54 (F := Ideal) C P I Q N (ix4 b h ⟨j.val / 256, by omega⟩ ⟨j.val % 256, by omega⟩)
      = ∑ d : Fin 64, Q (ix2 b ⟨h.val * 64 + d.val, by omega⟩) * Ideal.ofBits .f32 0x3E000000#32
          * C (ix5 ⟨(pageOf P I b h (tileOf j)).toNat % 2560, Nat.mod_lt _ (by omega)⟩ (slotOf j) h 0 d) := by
    rw [Scores.v54, scale_sum]
    refine Finset.sum_congr rfl fun d _ => ?_
    rw [Keys.v51, Keys.v49 C P I N hP hI, ← key_at C P I b h j 0 d]
  rw [e]
  rfl

/-- The value of a selected key. -/
theorem selv (hP : ∀ y, (P y).toNat < 2560) (hI : ∀ y, (I y).toNat < 32) (b : Fin 32) (h : Fin 16) (j : Fin 768) (d : Fin 64) :
    val_main_v160 (F := Ideal) C P I N (ix4 b h j d)
      = C (ix5 ⟨(pageOf P I b h (tileOf j)).toNat % 2560, Nat.mod_lt _ (by omega)⟩ (slotOf j) h 1 d) := by
  rw [Keys.v160, Keys.v49 C P I N hP hI]
  exact key_at C P I b h j 1 d

/-- The reference's score of the new token's own key. -/
theorem self (b : Fin 32) (h : Fin 16) :
    val_main_v141 (F := Ideal) C P I Q N R (ix3 b h ⟨768, by omega⟩)
      = (∑ d : Fin 64, Q (ix2 b ⟨h.val * 64 + d.val, by omega⟩) * Ideal.ofBits .f32 0x3E000000#32 * N (ix2 b ⟨h.val * 128 + d.val, by omega⟩))
        + R (ix2 (bkt 2 0) h) := by
  refine (Scores.v141_loc C P I Q N R b h 0).trans ?_
  rw [Scores.v140, if_pos (show ((0 : Fin 257).val) = 0 from rfl), Scores.v131, scale_sum]
  have e120 : val_main_v120 (F := Ideal) (ix1 0) = BitVec.ofNat 32 0 := by
    rw [Scores.v120]
    exact Bucket.ofWord_eq 0 (by omega)
  refine congrArg₂ (· + ·) (Finset.sum_congr rfl fun d _ => congrArg (fun z => Q (ix2 b ⟨h.val * 64 + d.val, by omega⟩) * Ideal.ofBits .f32 0x3E000000#32 * z) ?_) ?_
  · rw [Keys.v95]
    refine (Keys.v10_new C P N b h 0 d).trans (congrArg (fun z => N (ix2 b z)) (Fin.ext ?_))
    show h.val * 128 + (0 * 64 + d.val) = h.val * 128 + d.val
    omega
  · unfold val_main_v127
    rw [Gathers.near]
    refine congrArg (fun z => R (ix2 z h)) (Fin.ext ?_)
    rw [bkt_self]
    show min (val_main_v126 (F := Ideal) (ix2 0 0)).toInt.toNat 31 = 0
    rw [Scores.v126 0 (by rw [e120]; decide), e120]
    decide

theorem out (hP : ∀ y, (P y).toNat < 2560) (hI : ∀ y, (I y).toNat < 32) (b : Fin 32) (h : Fin 16) (d : Fin 64) :
    val_main_v167 (F := Ideal) C P I Q N R (ix2 b ⟨h.val * 64 + d.val, by omega⟩) = kval C P I Q N R b h d := by
  rw [Scores.v167]
  simp only [Scores.v156]
  have hm : ∀ l : Fin 257, l.val ≠ 0 → val_main_v141 (F := Ideal) C P I Q N R (ix3 b h ⟨768 + l.val, by omega⟩) = ⊥ := fun l hl => by
    rw [Scores.v141_loc, Scores.v140, if_neg hl]
  refine (Soft.whole (fun j => val_main_v141 (F := Ideal) C P I Q N R (ix3 b h j)) (fun j => val_main_v160 (F := Ideal) C P I N (ix4 b h j d))
    (fun l => val_main_v164 (F := Ideal) C P N (ix4 b l h d)) hm _ (Scores.v147 C P I Q N R b h)).trans ?_
  have h1 := fun j => sel C P I Q N R hP hI b h j
  have h2 := fun j => selv C P I N hP hI b h j d
  have h3 := self C P I Q N R b h
  have h4 : val_main_v164 (F := Ideal) C P N (ix4 b 0 h d) = N (ix2 b ⟨h.val * 128 + (64 + d.val), by omega⟩) := by
    rw [Keys.v164]
    refine (Keys.v10_new C P N b h 1 d).trans (congrArg (fun z => N (ix2 b z)) (Fin.ext ?_))
    show h.val * 128 + (1 * 64 + d.val) = h.val * 128 + (64 + d.val)
    omega
  unfold kval
  rw [show (fun j : Fin 768 => val_main_v141 (F := Ideal) C P I Q N R (ix3 b h ⟨j.val, by omega⟩)) = _ from funext h1,
    show (fun j : Fin 768 => val_main_v160 (F := Ideal) C P I N (ix4 b h j d)) = _ from funext h2, h3, h4]

/-- The whole result array. -/
theorem out_all (hP : ∀ y, (P y).toNat < 2560) (hI : ∀ y, (I y).toNat < 32) :
    val_main_v167 (F := Ideal) C P I Q N R = fun i : S32x1024.Idx => kval C P I Q N R (i 0)
      ⟨(i 1).val / 64, by have := (i 1).isLt; change (i 1).val < 1024 at this; omega⟩ ⟨(i 1).val % 64, by omega⟩ := by
  funext i
  have hi : (i 1).val < 1024 := (i 1).isLt
  have hx : i = ix2 (n0 := 32) (n1 := 1024) (i 0) ⟨(i 1).val / 64 * 64 + (i 1).val % 64, by omega⟩ :=
    (eq_ix2 (n0 := 32) (n1 := 1024) i).trans (congrArg (ix2 (n0 := 32) (n1 := 1024) (i 0)) (Fin.ext (by show (i 1).val = (i 1).val / 64 * 64 + (i 1).val % 64; omega)))
  exact (congrArg (val_main_v167 (F := Ideal) C P I Q N R) hx).trans (out C P I Q N R hP hI (i 0)
    ⟨(i 1).val / 64, by omega⟩ ⟨(i 1).val % 64, by omega⟩)

/-- The result at arguments equal to others in range. -/
theorem out_of_eq {C' : FVec Ideal S2560x128x16x2x64 .f32} {P' : IVec S32x64 32} {I' : IVec S32x16x3 32} {Q' : FVec Ideal S32x1024 .f32}
    {N' : FVec Ideal S32x2048 .f32} {R' : FVec Ideal S32x16 .f32} (e0 : C' = C) (e1 : P' = P) (e2 : I' = I) (e3 : Q' = Q) (e4 : N' = N) (e5 : R' = R)
    (hP : ∀ y, (P y).toNat < 2560) (hI : ∀ y, (I y).toNat < 32) :
    val_main_v167 (F := Ideal) C' P' I' Q' N' R' = fun i : S32x1024.Idx => kval C P I Q N R (i 0)
      ⟨(i 1).val / 64, by have := (i 1).isLt; change (i 1).val < 1024 at this; omega⟩ ⟨(i 1).val % 64, by omega⟩ := by
  subst e0 e1 e2 e3 e4 e5
  exact out_all _ _ _ _ _ _ hP hI

end Cert.SampleRefIdeal.Out
-- ==== Proof.SampleAlgebraic.lean ====
/-
  The value claim of the sample attention: at every page table and every selection in range, the kernel's result is the
  reference's.
-/
module

public import proofs.«01_k».proof.Proof.SampleClaims
public import proofs.«01_k».proof.Proof.SampleValue
public import proofs.«01_k».proof.Proof.SampleRefOut

@[expose] public section

noncomputable section

namespace Cert.Proof.Sample

open Idealize.ShloMosaic Idealize.SL.Sem

/-- The precondition bounds the page numbers. -/
theorem pages_lt (m) (h : Cert.Pre_SampleIdeal (hPre_in_range := Cert.Pre_in_range.Gen.facts) m) :
    ∀ y, (m (((0 : Dev Cert.SampleIdeal.nD).tc : Thread Cert.SampleIdeal.nD Cert.SampleIdeal.τ).loc Cert.SampleIdeal.main_arg1) y).toNat < 2560 :=
  letI := Cert.Pre_in_range.Gen.facts
  fun y => InRange.page_lt _ _ _ _ _ _ (h 0).1 y

/-- And the block numbers. -/
theorem ids_lt (m) (h : Cert.Pre_SampleIdeal (hPre_in_range := Cert.Pre_in_range.Gen.facts) m) :
    ∀ y, (m (((0 : Dev Cert.SampleIdeal.nD).tc : Thread Cert.SampleIdeal.nD Cert.SampleIdeal.τ).loc Cert.SampleIdeal.main_arg2) y).toNat < 32 :=
  letI := Cert.Pre_in_range.Gen.facts
  fun y => InRange.id_lt _ _ _ _ _ _ (h 0).2 y

/-- The kernel's result array and the reference's are the same function of the arguments. -/
theorem algebraic : Cert.algebraic_SampleIdeal_SampleRefIdeal (hSampleIdeal := Cert.SampleIdeal.Gen.facts)
    (hSampleRefIdeal := Cert.SampleRefIdeal.Gen.facts) (hPre_in_range := Cert.Pre_in_range.Gen.facts) := by
  intro m g m' g' hpre hagree
  have hp : ∀ y : Cert.SampleIdeal.S3072.Idx, ((Cert.SampleIdeal.Gen.tbl m 0 : IVec Cert.SampleIdeal.S3072 32) y).toNat < 2560 := fun y => by
    obtain ⟨z, hz⟩ := Cert.SampleIdeal.Tables.page_mem m 0 y
    exact lt_of_eq_of_lt (congrArg BitVec.toNat hz) (pages_lt m hpre z)
  refine ⟨fun _ => fun i : Cert.SampleIdeal.S32x1024.Idx => Cert.SampleIdeal.Blocks.kres m (i 0)
      ⟨(i 1).val / 64, by have := (i 1).isLt; change (i 1).val < 1024 at this; omega⟩ ⟨(i 1).val % 64, by omega⟩,
    Cert.SampleIdeal.Blocks.run m g (ok_ideal m hpre) hp (ids_lt m hpre), ?_⟩
  refine (θ_run Cert.SampleRefIdeal.defs _ _).mono (fun r h c => ⟨(h c).1.trans ?_, (h c).2⟩)
    (Cert.SampleRefIdeal.Value.run (F := Ideal) m' g')
  have hc : c = 0 := Subsingleton.elim _ _
  subst hc
  obtain ⟨e0, e1, e2, e3, e4, e5⟩ := hagree 0
  rw [Cert.SampleRefIdeal.Read.val_main_v167_eq]
  exact Cert.SampleRefIdeal.Out.out_of_eq _ _ _ _ _ _ e0 e1 e2 e3 e4 e5 (pages_lt m hpre) (ids_lt m hpre)

end Cert.Proof.Sample

end
-- ==== Proof.MlpStep.lean ====
/-
  What one grid point of the fused output-projection and MLP kernel leaves behind: the block of the result and the
  carried block of normalised rows, as the kernel's own arithmetic on the blocks it was handed.
-/
module

public import proofs.«01_k».proof.Proof.Gen.MlpIdeal.Value
public import Idealize.ShloMosaic.Lib.Pointwise

@[expose] public section

noncomputable section

namespace Cert.MlpIdeal.Step

open Cert.MlpIdeal Cert.MlpIdeal.Gen Idealize.ShloMosaic Idealize.ShloMosaic.TcCoe Idealize.SL.Sem
open Idealize.ShloMosaic.Tactic

variable {F : FTy → Type} [FloatOps F]

theorem hz : (![0, 0] : Fin 2 → ℕ) = fun _ => 0 := funext fun a => by fin_cases a <;> rfl

/-- At the first step over the hidden columns the result block is the residual row plus the first part of the MLP. -/
theorem out0_A_6_eq (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .bf16) (harg9 : arg9.IsWhole) (hc0 : cond0_0 i)
    (x0 : Vec F S1024x1024 .f32) (x1 : Vec F S1024x1024 .bf16) (x2 : Vec F S1024x1024 .bf16) (x3 : Vec F S1x1024 .f32) (x4 : Vec F S1024x1024 .bf16) (x5 : Vec F S1024x1024 .bf16) :
    out0_A_6 c i arg2 harg2 arg3 harg3 arg4 harg4 arg5 harg5 arg6 harg6 arg7 harg7 arg8 harg8 arg9 harg9 hc0 x0 x1 x2 x3 x4 x5 = k0_pay3 (k0_pay2 x0 x1 x2 x3) x4 (k0_pay1 x0 x1 x2) x5 := by
  unfold out0_A_6
  rw [View.read_writes_eq_canon _ _ _ (cover0_A_6 c i arg2 harg2 arg3 harg3 arg4 harg4 arg5 harg5 arg6 harg6 arg7 harg7 arg8 harg8 arg9 harg9 hc0 x0 x1 x2 x3 x4 x5)]
  unfold kernelRun0_A
  dsimp only
  sl_unfold_words
  rw [View.canon_cons_unit_zero (S := S1024x1024) hz, View.readCov_unit_zero (S := S1024x1024) _ hz,
    View.readCov_unit_zero (S := S1024x1024) _ hz]
  simp only [View.readAt_eq_ld, harg2.read_unread, harg3.read_unread, harg4.read_unread, harg5.read_unread, harg6.read_unread,
    harg7.read_unread, harg8.read_unread, harg9.read_unread, View.ld_unit_zero (S := S1024x1024) hz, View.ld_unit_zero (S := S1x1024) hz, shapeCast_self]

/-- There the carried block becomes the normalised rows. -/
theorem sout0_A_0_eq (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .bf16) (harg9 : arg9.IsWhole) (hc0 : cond0_0 i)
    (x0 : Vec F S1024x1024 .f32) (x1 : Vec F S1024x1024 .bf16) (x2 : Vec F S1024x1024 .bf16) (x3 : Vec F S1x1024 .f32) (x4 : Vec F S1024x1024 .bf16) (x5 : Vec F S1024x1024 .bf16) :
    sout0_A_0 c i arg2 harg2 arg3 harg3 arg4 harg4 arg5 harg5 arg6 harg6 arg7 harg7 arg8 harg8 arg9 harg9 hc0 x0 x1 x2 x3 x4 x5 = k0_pay2 x0 x1 x2 x3 := by
  unfold sout0_A_0
  rw [View.read_writes_eq_canon _ _ _ (scover0_A_0 c i arg2 harg2 arg3 harg3 arg4 harg4 arg5 harg5 arg6 harg6 arg7 harg7 arg8 harg8 arg9 harg9 hc0 x0 x1 x2 x3 x4 x5)]
  unfold kernelRun0_A
  dsimp only
  sl_unfold_words
  rw [View.canon_unit_zero (S := S1024x1024) hz]
  simp only [View.readAt_eq_ld, harg2.read_unread, harg3.read_unread, harg4.read_unread, harg5.read_unread, harg6.read_unread,
    harg7.read_unread, harg8.read_unread, harg9.read_unread, View.ld_unit_zero (S := S1024x1024) hz, View.ld_unit_zero (S := S1x1024) hz, shapeCast_self]

/-- At a later step the result block gains the next part of the MLP. -/
theorem out0_B_6_eq (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .bf16) (harg9 : arg9.IsWhole) (hc0 : ¬cond0_0 i)
    (x0 : Vec F S1024x1024 .f32) (x1 : Vec F S1024x1024 .bf16) (x2 : Vec F S1024x1024 .bf16) (x3 : Vec F S1x1024 .f32) (x4 : Vec F S1024x1024 .bf16) (x5 : Vec F S1024x1024 .bf16) (xo6 : Vec F S1024x1024 .f32) (xs0 : Vec F S1024x1024 .bf16) :
    out0_B_6 c i arg2 harg2 arg3 harg3 arg4 harg4 arg5 harg5 arg6 harg6 arg7 harg7 arg8 harg8 arg9 harg9 hc0 x0 x1 x2 x3 x4 x5 xo6 xs0 = k0_pay3 xs0 x4 xo6 x5 := by
  unfold out0_B_6
  rw [View.read_writes_eq_canon _ _ _ (cover0_B_6 c i arg2 harg2 arg3 harg3 arg4 harg4 arg5 harg5 arg6 harg6 arg7 harg7 arg8 harg8 arg9 harg9 hc0 x0 x1 x2 x3 x4 x5 xo6 xs0)]
  unfold kernelRun0_B
  dsimp only
  rw [View.canon_unit_zero (S := S1024x1024) hz]
  simp only [View.readAt_eq_ld, harg2.read_unread, harg3.read_unread, harg4.read_unread, harg5.read_unread, harg6.read_unread,
    harg7.read_unread, harg8.read_unread, harg9.read_unread, View.ld_unit_zero (S := S1024x1024) hz, View.ld_unit_zero (S := S1x1024) hz, shapeCast_self]

/-- There the carried block stays. -/
theorem sout0_B_0_eq (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .bf16) (harg9 : arg9.IsWhole) (hc0 : ¬cond0_0 i)
    (x0 : Vec F S1024x1024 .f32) (x1 : Vec F S1024x1024 .bf16) (x2 : Vec F S1024x1024 .bf16) (x3 : Vec F S1x1024 .f32) (x4 : Vec F S1024x1024 .bf16) (x5 : Vec F S1024x1024 .bf16) (xo6 : Vec F S1024x1024 .f32) (xs0 : Vec F S1024x1024 .bf16) :
    sout0_B_0 c i arg2 harg2 arg3 harg3 arg4 harg4 arg5 harg5 arg6 harg6 arg7 harg7 arg8 harg8 arg9 harg9 hc0 x0 x1 x2 x3 x4 x5 xo6 xs0 = xs0 := by
  rfl

end Cert.MlpIdeal.Step

end
-- ==== Proof.MlpPay.lean ====
/-
  The output-projection and MLP kernel's arithmetic on its blocks, read at a row and a column over the extended reals.
-/
module

public import proofs.«01_k».proof.Proof.Gen.MlpIdeal.Skeleton
public import Idealize.ShloMosaic.Lib.Pointwise

@[expose] public section

noncomputable section

namespace Cert.MlpIdeal.Pay

open Cert.MlpIdeal Cert.MlpIdeal.Gen Idealize.ShloMosaic

/-- The residual row: the input plus the projected attention output. -/
theorem pay1_apply (h : FVec Ideal S1024x1024 .f32) (o w : FVec Ideal S1024x1024 .bf16) (r j : Fin 1024) :
    k0_pay1 (F := Ideal) h o w (ix2 r j) = h (ix2 r j) + ∑ k : Fin 1024, o (ix2 r k) * w (ix2 k j) := by
  pointwise [k0_pay1]

/-- The row divided by its root mean square, times the gain. -/
theorem pay2_apply (h : FVec Ideal S1024x1024 .f32) (o w : FVec Ideal S1024x1024 .bf16) (g : FVec Ideal S1x1024 .f32) (r j : Fin 1024) :
    k0_pay2 (F := Ideal) h o w g (ix2 r j)
      = k0_pay1 (F := Ideal) h o w (ix2 r j)
          * Ideal.rsqrt (Ideal.div (∑ k : Fin 1024, k0_pay1 (F := Ideal) h o w (ix2 r k) * k0_pay1 (F := Ideal) h o w (ix2 r k))
              (Ideal.ofBits .f32 0x44800000#32) + Ideal.ofBits .f32 0x358637BD#32)
          * g (ix2 0 j) := by
  pointwise [k0_pay2]

/-- One part of the MLP: the hidden columns' squared positive parts through the second product, added to what was there. -/
theorem pay3_apply (xn u : FVec Ideal S1024x1024 .bf16) (acc : FVec Ideal S1024x1024 .f32) (d : FVec Ideal S1024x1024 .bf16) (r j : Fin 1024) :
    k0_pay3 (F := Ideal) xn u acc d (ix2 r j)
      = acc (ix2 r j) + ∑ k : Fin 1024,
          (max (∑ l : Fin 1024, xn (ix2 r l) * u (ix2 l k)) 0 * max (∑ l : Fin 1024, xn (ix2 r l) * u (ix2 l k)) 0)
            * d (ix2 k j) := by
  pointwise [k0_pay3]

end Cert.MlpIdeal.Pay

end
-- ==== Proof.MlpBlocks.lean ====
/-
  The blocks one grid point of the output-projection and MLP kernel is handed, as entries of the argument arrays.
-/
module

public import proofs.«01_k».proof.Proof.Gen.MlpIdeal.Value
public import Idealize.ShloMosaic.Lib.Pointwise

@[expose] public section

noncomputable section

namespace Cert.MlpIdeal.Blocks

open Cert.MlpIdeal Cert.MlpIdeal.Gen Idealize.ShloMosaic Idealize.ShloMosaic.TcCoe Idealize.SL.Sem
open Idealize.ShloMosaic.Tactic

variable (m : (ℓ : Loc nD τ sig) → Buf (Elt Ideal) ℓ) (c : Dev nD)

theorem V_v0 : V (F := Ideal) m c main_v0 = m ((c : Thread nD τ).loc main_arg1) := by
  unfold_abbrev_sides; after_results; rfl
theorem V_v1 : V (F := Ideal) m c main_v1 = m ((c : Thread nD τ).loc main_arg2) := by
  unfold_abbrev_sides; after_results; rfl
theorem V_v3 : V (F := Ideal) m c main_v3 = m ((c : Thread nD τ).loc main_arg4) := by
  unfold_abbrev_sides; after_results; rfl
theorem V_v4 : V (F := Ideal) m c main_v4 = m ((c : Thread nD τ).loc main_arg5) := by
  unfold_abbrev_sides; after_results; rfl
theorem V_v2 (j : Fin 1024) : V (F := Ideal) m c main_v2 (ix2 0 j) = m ((c : Thread nD τ).loc main_arg3) (ix1 j) := by
  unfold_abbrev_sides; after_results; pointwise

theorem idx : ∀ t : Fin cfg0.N,
    (win0_0.index t (0 : Fin 2) = t.val / 4 ∧ win0_0.index t (1 : Fin 2) = 0)
    ∧ (win0_1.index t (0 : Fin 2) = t.val / 4 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = t.val % 4)
    ∧ (win0_5.index t (0 : Fin 2) = t.val % 4 ∧ win0_5.index t (1 : Fin 2) = 0) := by
  decide +kernel

theorem lt (t : Fin cfg0.N) : t.val < 64 := lt_of_lt_of_eq t.isLt N_0

/-- The array row of row `r` of the block of grid point `t`. -/
def row (t : Fin cfg0.N) (r : Fin 1024) : Fin 16384 := ⟨t.val / 4 * 1024 + r.val, by have := lt t; omega⟩

/-- The hidden column of column `k` of the block of grid point `t`. -/
def col (t : Fin cfg0.N) (k : Fin 1024) : Fin 4096 := ⟨t.val % 4 * 1024 + k.val, by have := lt t; omega⟩

theorem blk0 (t : Fin cfg0.N) (r j : Fin 1024) :
    iblk (F := Ideal) m c 0 t (ix2 r j) = m ((c : Thread nD τ).loc main_arg0) (ix2 (row t r) j) := by
  have h := (idx t).1
  rw [show m ((c : Thread nD τ).loc main_arg0) = V (F := Ideal) m c main_arg0 from (V_main_arg0 m c).symm]
  refine congrArg (V (F := Ideal) m c main_arg0) (funext fun a => Fin.ext ?_)
  match a with
  | ⟨0, _⟩ => show win0_0.index t (0 : Fin 2) * 1024 + 1 * r.val = t.val / 4 * 1024 + r.val; omega
  | ⟨1, _⟩ => show win0_0.index t (1 : Fin 2) * 1024 + 1 * j.val = j.val; omega

theorem blk1 (t : Fin cfg0.N) (r j : Fin 1024) :
    iblk (F := Ideal) m c 1 t (ix2 r j) = m ((c : Thread nD τ).loc main_arg1) (ix2 (row t r) j) := by
  have h := (idx t).2.1
  rw [← V_v0 m c]
  refine congrArg (V (F := Ideal) m c main_v0) (funext fun a => Fin.ext ?_)
  match a with
  | ⟨0, _⟩ => show win0_1.index t (0 : Fin 2) * 1024 + 1 * r.val = t.val / 4 * 1024 + r.val; omega
  | ⟨1, _⟩ => show win0_1.index t (1 : Fin 2) * 1024 + 1 * j.val = j.val; omega

theorem blk2 (t : Fin cfg0.N) (r j : Fin 1024) :
    iblk (F := Ideal) m c 2 t (ix2 r j) = m ((c : Thread nD τ).loc main_arg2) (ix2 r j) := by
  have h := (idx t).2.2.1
  rw [← V_v1 m c]
  refine congrArg (V (F := Ideal) m c main_v1) (funext fun a => Fin.ext ?_)
  match a with
  | ⟨0, _⟩ => show win0_2.index t (0 : Fin 2) * 1024 + 1 * r.val = r.val; omega
  | ⟨1, _⟩ => show win0_2.index t (1 : Fin 2) * 1024 + 1 * j.val = j.val; omega

theorem blk3 (t : Fin cfg0.N) (j : Fin 1024) :
    iblk (F := Ideal) m c 3 t (ix2 0 j) = m ((c : Thread nD τ).loc main_arg3) (ix1 j) := by
  have h := (idx t).2.2.2.1
  rw [← V_v2 m c]
  refine congrArg (V (F := Ideal) m c main_v2) (funext fun a => Fin.ext ?_)
  match a with
  | ⟨0, _⟩ => show win0_3.index t (0 : Fin 2) * 1 + 1 * 0 = 0; omega
  | ⟨1, _⟩ => show win0_3.index t (1 : Fin 2) * 1024 + 1 * j.val = j.val; omega

theorem blk4 (t : Fin cfg0.N) (l k : Fin 1024) :
    iblk (F := Ideal) m c 4 t (ix2 l k) = m ((c : Thread nD τ).loc main_arg4) (ix2 l (col t k)) := by
  have h := (idx t).2.2.2.2.1
  rw [← V_v3 m c]
  refine congrArg (V (F := Ideal) m c main_v3) (funext fun a => Fin.ext ?_)
  match a with
  | ⟨0, _⟩ => show win0_4.index t (0 : Fin 2) * 1024 + 1 * l.val = l.val; omega
  | ⟨1, _⟩ => show win0_4.index t (1 : Fin 2) * 1024 + 1 * k.val = t.val % 4 * 1024 + k.val; omega

theorem blk5 (t : Fin cfg0.N) (k j : Fin 1024) :
    iblk (F := Ideal) m c 5 t (ix2 k j) = m ((c : Thread nD τ).loc main_arg5) (ix2 (col t k) j) := by
  have h := (idx t).2.2.2.2.2
  rw [← V_v4 m c]
  refine congrArg (V (F := Ideal) m c main_v4) (funext fun a => Fin.ext ?_)
  match a with
  | ⟨0, _⟩ => show win0_5.index t (0 : Fin 2) * 1024 + 1 * k.val = t.val % 4 * 1024 + k.val; omega
  | ⟨1, _⟩ => show win0_5.index t (1 : Fin 2) * 1024 + 1 * j.val = j.val; omega

end Cert.MlpIdeal.Blocks

end
-- ==== Proof.MlpSpec.lean ====
/-
  The layer's second half, plainly: the attention output projected onto the residual, the root-mean-square norm, and the
  squared-relu MLP, entry by entry over the extended reals. The reference's result is this function of its arguments.
-/
module

public import proofs.«01_k».proof.Proof.Gen.MlpRefIdeal.Read
public import Idealize.ShloMosaic.Lib.Pointwise

@[expose] public section

noncomputable section

namespace Cert.MlpSpec

open Cert.MlpRefIdeal Cert.MlpRefIdeal.Gen Cert.MlpRefIdeal.Read Idealize.ShloMosaic

variable (h o : FVec Ideal S16384x1024 .f32) (w : FVec Ideal S1024x1024 .f32) (g : FVec Ideal S1024 .f32)
  (u : FVec Ideal S1024x4096 .f32) (d : FVec Ideal S4096x1024 .f32)

/-- The residual with the projected attention output added. -/
def res (r : Fin 16384) (j : Fin 1024) : EReal := h (ix2 r j) + ∑ k : Fin 1024, o (ix2 r k) * w (ix2 k j)

/-- The residual divided by its root mean square, times the gain. -/
def nrm (r : Fin 16384) (j : Fin 1024) : EReal :=
  res h o w r j * Ideal.rsqrt (Ideal.div (∑ k : Fin 1024, res h o w r k * res h o w r k) (Ideal.ofBits .f32 0x44800000#32)
    + Ideal.ofBits .f32 0x358637BD#32) * g (ix1 j)

/-- One hidden unit, before the square. -/
def hid (r : Fin 16384) (k : Fin 4096) : EReal := max (∑ l : Fin 1024, nrm h o w g r l * u (ix2 l k)) 0

/-- One entry of the result. -/
def out (r : Fin 16384) (j : Fin 1024) : EReal :=
  res h o w r j + ∑ k : Fin 4096, hid h o w g u r k * hid h o w g u r k * d (ix2 k j)

theorem ref_res (r : Fin 16384) (j : Fin 1024) : val_main_v1 (F := Ideal) h o w (ix2 r j) = res h o w r j := by
  pointwise [val_main_v1, val_main_v0, res]

theorem ref_nrm (r : Fin 16384) (j : Fin 1024) : val_main_v14 (F := Ideal) h o w g (ix2 r j) = nrm h o w g r j := by
  simp only [nrm, ← ref_res]
  pointwise [val_main_v14, val_main_v13, val_main_v12, val_main_v11, val_main_v10, val_main_v9, val_main_v8, val_main_v7,
    val_main_v6, val_main_v5, val_main_v4, val_main_v3, val_main_v2, val_main_cst, val_main_cst_0, val_main_cst_1]

theorem ref_hid (r : Fin 16384) (k : Fin 4096) : val_main_v16 (F := Ideal) h o w g u (ix2 r k) = hid h o w g u r k := by
  simp only [hid, ← ref_nrm]
  pointwise [val_main_v16, val_main_v15, val_main_call0_v0, val_main_call0_cst]

/-- The reference's result, entry by entry. -/
theorem ref_out (r : Fin 16384) (j : Fin 1024) : val_main_v19 (F := Ideal) h o w g u d (ix2 r j) = out h o w g u d r j := by
  simp only [out, ← ref_hid, ← ref_res]
  pointwise [val_main_v19, val_main_v18, val_main_v17]

end Cert.MlpSpec

end
-- ==== Proof.MlpValue.lean ====
/-
  The output-projection and MLP kernel's result, entry by entry: each block of rows is swept over the hidden columns, and what
  the last step leaves is the plain formula's entry, its sum over the hidden units taken in four parts.
-/
module

public import proofs.«01_k».proof.Proof.MlpStep
public import proofs.«01_k».proof.Proof.MlpPay
public import proofs.«01_k».proof.Proof.MlpBlocks
public import proofs.«01_k».proof.Proof.MlpSpec

@[expose] public section

noncomputable section

namespace Cert.MlpIdeal.Final

open Cert.MlpIdeal Cert.MlpIdeal.Gen Idealize.ShloMosaic Idealize.ShloMosaic.TcCoe Idealize.SL.Sem
open Cert.MlpIdeal.Step Cert.MlpIdeal.Pay Cert.MlpIdeal.Blocks

variable (m : (ℓ : Loc nD τ sig) → Buf (Elt Ideal) ℓ) (c : Dev nD)

/-- The six argument arrays at launch. -/
abbrev a0 : FVec Ideal S16384x1024 .f32 := m ((c : Thread nD τ).loc main_arg0)
abbrev a1 : FVec Ideal S16384x1024 .f32 := m ((c : Thread nD τ).loc main_arg1)
abbrev a2 : FVec Ideal S1024x1024 .f32 := m ((c : Thread nD τ).loc main_arg2)
abbrev a3 : FVec Ideal S1024 .f32 := m ((c : Thread nD τ).loc main_arg3)
abbrev a4 : FVec Ideal S1024x4096 .f32 := m ((c : Thread nD τ).loc main_arg4)
abbrev a5 : FVec Ideal S4096x1024 .f32 := m ((c : Thread nD τ).loc main_arg5)

/-- The block's residual rows are the formula's. -/
theorem res_blk (t : Fin cfg0.N) (r j : Fin 1024) :
    k0_pay1 (F := Ideal) (iblk m c 0 t) (iblk m c 1 t) (iblk m c 2 t) (ix2 r j)
      = MlpSpec.res (a0 m c) (a1 m c) (a2 m c) (row t r) j := by
  refine (pay1_apply _ _ _ r j).trans ?_
  simp only [blk0, blk1, blk2]
  rfl

/-- The block's normalised rows are the formula's. -/
theorem nrm_blk (t : Fin cfg0.N) (r j : Fin 1024) :
    k0_pay2 (F := Ideal) (iblk m c 0 t) (iblk m c 1 t) (iblk m c 2 t) (iblk m c 3 t) (ix2 r j)
      = MlpSpec.nrm (a0 m c) (a1 m c) (a2 m c) (a3 m c) (row t r) j := by
  refine (pay2_apply _ _ _ _ r j).trans ?_
  simp only [res_blk, blk3]
  rfl

/-- The part of the second product's sum that the hidden columns `T*1024 …` contribute. -/
def part (r : Fin 16384) (j : Fin 1024) (T : Fin 4) : EReal :=
  ∑ k : Fin 1024, MlpSpec.hid (a0 m c) (a1 m c) (a2 m c) (a3 m c) (a4 m c) r ⟨T.val * 1024 + k.val, by omega⟩
    * MlpSpec.hid (a0 m c) (a1 m c) (a2 m c) (a3 m c) (a4 m c) r ⟨T.val * 1024 + k.val, by omega⟩
    * a5 m c (ix2 ⟨T.val * 1024 + k.val, by omega⟩ j)

/-- One step adds its part to what the block held, when the carried rows are the normalised ones. -/
theorem step_apply (t : Fin cfg0.N) (xn : FVec Ideal S1024x1024 .bf16) (acc : FVec Ideal S1024x1024 .f32)
    (hx : ∀ r l : Fin 1024, xn (ix2 r l) = MlpSpec.nrm (a0 m c) (a1 m c) (a2 m c) (a3 m c) (row t r) l) (r j : Fin 1024) :
    k0_pay3 (F := Ideal) xn (iblk m c 4 t) acc (iblk m c 5 t) (ix2 r j)
      = acc (ix2 r j) + part m c (row t r) j ⟨t.val % 4, Nat.mod_lt _ (by decide)⟩ := by
  refine (pay3_apply _ _ _ _ r j).trans ?_
  simp only [blk4, blk5, hx]
  rfl

/-- What the result block and the carried rows hold after `s + 1` steps of the sweep of row block `q`. -/
theorem sweep (q : ℕ) (hq : q < 16) : ∀ (s : ℕ) (hs : s < 4) (h : 4 * q + s < cfg0.N) (r j : Fin 1024),
    (outsAt0 (F := Ideal) m c (4 * q + s) h).1 (ix2 r j)
      = MlpSpec.res (a0 m c) (a1 m c) (a2 m c) ⟨q * 1024 + r.val, by omega⟩ j
        + ∑ T : Fin (s + 1), part m c ⟨q * 1024 + r.val, by omega⟩ j ⟨T.val, by omega⟩
    ∧ (outsAt0 (F := Ideal) m c (4 * q + s) h).2 (ix2 r j)
      = MlpSpec.nrm (a0 m c) (a1 m c) (a2 m c) (a3 m c) ⟨q * 1024 + r.val, by omega⟩ j := by
  intro s
  induction s with
  | zero =>
    intro hs h r j
    have hr : ∀ r : Fin 1024, row ⟨4 * q + 0, h⟩ r = ⟨q * 1024 + r.val, by omega⟩ := fun r => Fin.ext (by
      show (4 * q + 0) / 4 * 1024 + r.val = q * 1024 + r.val; omega)
    have e := outsAt0_A (F := Ideal) m c ⟨4 * q + 0, h⟩ (by show (4 * q + 0) % 4 = 0; omega)
    rw [out0_A_6_eq, sout0_A_0_eq] at e
    refine ⟨(congrArg (fun p => p.1 (ix2 r j)) e).trans ?_, (congrArg (fun p => p.2 (ix2 r j)) e).trans ?_⟩
    · refine (step_apply m c ⟨4 * q + 0, h⟩ _ _ (fun r l => nrm_blk m c _ r l) r j).trans ?_
      rw [res_blk, hr, Fin.sum_univ_one]
      congr 2
      exact Fin.ext (by show (4 * q + 0) % 4 = 0; omega)
    · refine (nrm_blk m c _ r j).trans ?_
      rw [hr]
  | succ s ih =>
    intro hs h r j
    have hr : ∀ r : Fin 1024, row ⟨4 * q + (s + 1), h⟩ r = ⟨q * 1024 + r.val, by omega⟩ := fun r => Fin.ext (by
      show (4 * q + (s + 1)) / 4 * 1024 + r.val = q * 1024 + r.val; omega)
    have p := ih (by omega) (by omega)
    have e := outsAt0_B (F := Ideal) m c ⟨4 * q + (s + 1), h⟩ (by show ¬(4 * q + (s + 1)) % 4 = 0; omega)
    rw [out0_B_6_eq, sout0_B_0_eq] at e
    refine ⟨(congrArg (fun p => p.1 (ix2 r j)) e).trans ?_, (congrArg (fun p => p.2 (ix2 r j)) e).trans ?_⟩
    · refine (step_apply m c ⟨4 * q + (s + 1), h⟩ _ _ (fun r l => ((p r l).2).trans (by rw [hr])) r j).trans ?_
      rw [hr, Fin.sum_univ_castSucc]
      refine Eq.trans (congrArg₂ (· + ·) (p r j).1 ?_) (add_assoc _ _ _)
      congr 1
      exact Fin.ext (by show (4 * q + (s + 1)) % 4 = s + 1; omega)
    · exact (p r j).2

/-- The result array after the run is the plain formula of the arguments, at every entry. -/
theorem G6_eq (r : Fin 16384) (j : Fin 1024) :
    Value.G6 (F := Ideal) m c (ix2 r j) = MlpSpec.out (a0 m c) (a1 m c) (a2 m c) (a3 m c) (a4 m c) (a5 m c) r j := by
  have hp : Value.pt6Of (ix2 r j) = 4 * (r.val / 1024) + 3 := by
    show 4 * (1 * (r.val / 1024 - 0) + 1 * (j.val / 1024 - 0)) + 3 = _
    omega
  have hN : cfg0.N = 64 := N_0
  have hlt : 4 * (r.val / 1024) + 3 < cfg0.N := by omega
  have hl : Value.loc6Of (ix2 r j) = ix2 ⟨r.val % 1024, Nat.mod_lt _ (by decide)⟩ j := by
    funext a
    match a with
    | ⟨0, _⟩ => rfl
    | ⟨1, _⟩ => exact Fin.ext (Nat.mod_eq_of_lt j.isLt)
  unfold Value.G6
  rw [dif_pos (by rw [hp]; exact hlt), hl, ← Value.outsAt0_sweep m c _ (by rw [hp]; exact hlt)]
  simp only [hp]
  rw [(sweep m c (r.val / 1024) (by omega) 3 (by decide) hlt _ j).1]
  have hr : (⟨r.val / 1024 * 1024 + r.val % 1024, by omega⟩ : Fin 16384) = r := Fin.ext (by
    show r.val / 1024 * 1024 + r.val % 1024 = r.val; omega)
  rw [hr]
  unfold MlpSpec.out
  rw [Fin.sum_univ_tiles (N := 4096) 4 1024 (by decide)]
  rfl

end Cert.MlpIdeal.Final

end
-- ==== Proof.MlpClaims.lean ====
/-
  The claims about the fused output projection and MLP: the two frames that are read off generated runs, and the value claim.
-/
module

public import proofs.«01_k».proof.Defs
public import proofs.«01_k».proof.Proof.MlpValue
public import proofs.«01_k».proof.Proof.Gen.MlpRefIdeal.Run

@[expose] public section

noncomputable section

namespace Cert.Proof.Mlp

open Idealize.ShloMosaic Idealize.SL.Sem

/-- The reference leaves its arguments and has no semaphore. -/
theorem frame_ref : Cert.quiescent_MlpRefIdeal (hMlpRefIdeal := Cert.MlpRefIdeal.Gen.facts) := fun m g _ =>
  (θ_run Cert.MlpRefIdeal.defs _ _).mono (fun r h => ⟨fun c => (h c).2, sem_eq_zero_of_no_sems (by decide) r.2⟩)
    (Cert.MlpRefIdeal.Value.run (F := Ideal) m g)

/-- The kernel's result array and the reference's are the same function of the arguments. -/
theorem algebraic : Cert.algebraic_MlpIdeal_MlpRefIdeal (hMlpIdeal := Cert.MlpIdeal.Gen.facts)
    (hMlpRefIdeal := Cert.MlpRefIdeal.Gen.facts) := by
  intro m g m' g' _ hagree
  refine ⟨fun c => Cert.MlpIdeal.Value.G6 (F := Ideal) m c, Cert.MlpIdeal.Value.run (F := Ideal) m g, ?_⟩
  refine (θ_run Cert.MlpRefIdeal.defs _ _).mono (fun r h c => ⟨(h c).1.trans ?_, (h c).2⟩)
    (Cert.MlpRefIdeal.Value.run (F := Ideal) m' g')
  obtain ⟨e0, e1, e2, e3, e4, e5⟩ := hagree c
  rw [e0, e1, e2, e3, e4, e5, Cert.MlpRefIdeal.Read.val_main_v19_eq]
  funext i
  rw [eq_ix2 (n0 := 16384) (n1 := 1024) i]
  exact (Cert.MlpSpec.ref_out _ _ _ _ _ _ (i 0) (i 1)).trans (Cert.MlpIdeal.Final.G6_eq m c (i 0) (i 1)).symm

end Cert.Proof.Mlp

end
-- ==== Proof.ProjTile.lean ====
/-
  One block of the QKV projection kernel, read at a row and a lane over the extended reals: the normalised row through the
  weights, and the norm of each head's lanes taken through a matrix of zeros and ones, 256 lanes at a time.
-/
module

public import proofs.«01_k».proof.Proof.Gen.ProjIdeal.Frame
public import Idealize.ShloMosaic.Lib.Pointwise
public import Idealize.ShloMosaic.Lib.Pipeline.ValueKit.Tiles

@[expose] public section

noncomputable section

namespace Cert.ProjIdeal.Tile

open Cert.ProjIdeal Cert.ProjIdeal.Gen Idealize.ShloMosaic Idealize.ShloMosaic.TcCoe Idealize.SL.Sem

/-- The row divided by its root mean square, times the gain. -/
theorem pay4_apply (x : FVec Ideal S512x1024 .f32) (g : FVec Ideal S1x1024 .f32) (r : Fin 512) (k : Fin 1024) :
    k0_pay4 (F := Ideal) x g (ix2 r k)
      = x (ix2 r k) * Ideal.rsqrt (Ideal.div (∑ k : Fin 1024, x (ix2 r k) * x (ix2 r k)) (Ideal.ofBits .f32 0x44800000#32)
          + Ideal.ofBits .f32 0x358637BD#32) * g (ix2 0 k) := by
  pointwise [k0_pay4]

/-- The sum of squares of the lanes a column of the matrix marks, the square split into its leading part and the rest. -/
def marked (h : Fin 256 → EReal) (gm : FVec Ideal S256x256 .bf16) (j : Fin 256) : EReal :=
  (∑ k : Fin 256, h k * h k * gm (ix2 k j)) + ∑ k : Fin 256, (h k * h k - h k * h k) * gm (ix2 k j)

/-- A lane divided by the root mean square of its marked lanes, times the gain. -/
def normed (h : Fin 256 → EReal) (gm : FVec Ideal S256x256 .bf16) (g : EReal) (j : Fin 256) : EReal :=
  h j * Ideal.rsqrt (marked h gm j * Ideal.ofBits .f32 0x3C800000#32 + Ideal.ofBits .f32 0x358637BD#32) * g

/-- 256 lanes of the product of the normalised row and the weights. -/
def lanes (xn : FVec Ideal S512x1024 .bf16) (w : FVec Ideal S1024x256 .bf16) (r : Fin 512) (j : Fin 256) : EReal :=
  ∑ k : Fin 1024, xn (ix2 r k) * w (ix2 k j)

theorem mask : ∀ j : Fin 256, IntOp.cmpi .slt (IntOp.andi (BitVec.ofNat 32 j.val) 127#32) 64#32
    = if j.val % 128 < 64 then 1#1 else 0#1 := by decide +kernel

theorem pay15_apply (xn : FVec Ideal S512x1024 .bf16) (w : FVec Ideal S1024x256 .bf16) (g : FVec Ideal S1x256 .f32)
    (gm : FVec Ideal S256x256 .bf16) (r : Fin 512) (j : Fin 256) :
    k0_pay15 (F := Ideal) xn w g gm (ix2 r j)
      = if j.val % 128 < 64 then normed (lanes xn w r) gm (g (ix2 0 j)) j else lanes xn w r j := by
  have e : k0_pay15 (F := Ideal) xn w g gm (ix2 r j)
      = Scalar.select (IntOp.cmpi .slt (IntOp.andi (BitVec.ofNat 32 j.val) 127#32) 64#32)
          (normed (lanes xn w r) gm (g (ix2 0 j)) j) (lanes xn w r j) := by
    pointwise [k0_pay15, normed, marked, lanes]
  rw [e, mask]
  by_cases h : j.val % 128 < 64
  · rw [if_pos h, if_pos h]; rfl
  · rw [if_neg h, if_neg h]; rfl

/-- A block of queries before the store: as the keys, every lane normed. -/
theorem pay5_apply (x : FVec Ideal S512x1024 .f32) (an : FVec Ideal S1x1024 .f32) (w : FVec Ideal S1024x256 .bf16)
    (g : FVec Ideal S1x256 .f32) (gm : FVec Ideal S256x256 .bf16) (r : Fin 512) (j : Fin 256) :
    k0_pay6 (F := Ideal) (k0_pay5 x an w g gm) (ix3 0 j r) = normed (lanes (k0_pay4 x an) w r) gm (g (ix2 0 j)) j := by
  pointwise [k0_pay6, k0_pay5, normed, marked, lanes]

/-- The rows stored as columns. -/
theorem pay17_apply (kv : FVec Ideal S512x256 .f32) (r : Fin 512) (j : Fin 256) :
    k0_pay17 (F := Ideal) (transpose S256x512 [1, 0] kv transposes_S512x256_p1_0_S256x512) (ix3 0 j r) = kv (ix2 r j) := by
  pointwise [k0_pay17]

theorem pay19_apply (kv : FVec Ideal S512x256 .f32) (r : Fin 512) (j : Fin 256) :
    k0_pay19 (F := Ideal) kv (ix3 0 j r) = kv (ix2 r j) := by
  pointwise [k0_pay19]

theorem pay18_apply (kv : FVec Ideal S512x256 .f32) (r : Fin 512) (j : Fin 256) :
    k0_pay18 (F := Ideal) kv (ix2 r j) = kv (ix2 r j) := by
  pointwise [k0_pay18]

/-- The mean of each half of the rows. -/
theorem pay20_apply (kv : FVec Ideal S512x256 .f32) (j : Fin 256) :
    k0_pay20 (F := Ideal) kv (ix3 0 0 j)
      = Ideal.div (∑ t : Fin 256, kv (ix2 ⟨t.val, by omega⟩ j)) (Ideal.ofBits .f32 0x43800000#32) := by
  pointwise [k0_pay20]

theorem pay21_apply (kv : FVec Ideal S512x256 .f32) (j : Fin 256) :
    k0_pay21 (F := Ideal) kv (ix3 0 0 j)
      = Ideal.div (∑ t : Fin 256, kv (ix2 ⟨256 + t.val, by omega⟩ j)) (Ideal.ofBits .f32 0x43800000#32) := by
  pointwise [k0_pay21]

end Cert.ProjIdeal.Tile

end
-- ==== Proof.ProjOut.lean ====
/-
  What one grid point of the QKV projection kernel leaves in its five output blocks, read at an entry: the stores are
  chunks of 256 lanes, each the block's rows through that chunk's weights.
-/
module

public import proofs.«01_k».proof.Proof.ProjTile

@[expose] public section

noncomputable section

namespace Cert.ProjIdeal.Tile

open Cert.ProjIdeal Cert.ProjIdeal.Gen Idealize.ShloMosaic Idealize.ShloMosaic.TcCoe Idealize.SL.Sem

variable (x0 : Vec Ideal S512x1024 .f32) (x1 : Vec Ideal S1x1024 .f32) (x2 : Vec Ideal S1024x1024 .bf16)
  (x3 : Vec Ideal S1024x2048 .bf16) (x4 : Vec Ideal S1x1024 .f32) (x5 : Vec Ideal S1x2048 .f32)
  (x6 : Vec Ideal S256x256 .bf16) (x7 : Vec Ideal S256x256 .bf16)

/-- A lane of the queries before the norm. -/
def qLane (r : Fin 512) (l : Fin 1024) : EReal := ∑ k : Fin 1024, k0_pay4 (F := Ideal) x0 x1 (ix2 r k) * x2 (ix2 k l)

/-- A lane of the queries. -/
def qT (r : Fin 512) (l : Fin 1024) : EReal :=
  normed (fun j => qLane x0 x1 x2 r ⟨l.val / 256 * 256 + j.val, by omega⟩) x6 (x4 (ix2 0 l)) ⟨l.val % 256, by omega⟩

/-- A lane of the keys and values before the norm. -/
def kvLane (r : Fin 512) (l : Fin 2048) : EReal := ∑ k : Fin 1024, k0_pay4 (F := Ideal) x0 x1 (ix2 r k) * x3 (ix2 k l)

/-- A lane of the keys and values: the first 64 of each 128 are a key's and normed, the others a value's and kept. -/
def kvT (r : Fin 512) (l : Fin 2048) : EReal :=
  if l.val % 128 < 64 then
    normed (fun j => kvLane x0 x1 x3 r ⟨l.val / 256 * 256 + j.val, by omega⟩) x7 (x5 (ix2 0 l)) ⟨l.val % 256, by omega⟩
  else kvLane x0 x1 x3 r l

/-- The mean of a lane over one half of the rows. -/
def kmT (h : Fin 2) (l : Fin 2048) : EReal :=
  Ideal.div (∑ t : Fin 256, kvT x0 x1 x3 x5 x7 ⟨256 * h.val + t.val, by omega⟩ l) (Ideal.ofBits .f32 0x43800000#32)

theorem xn_eq : k0_pay76 (F := Ideal) x0 x1 x2 x3 x4 x5 x6 x7 = k0_pay4 (F := Ideal) x0 x1 := by
  unfold k0_pay76
  rw [View.ld_unit_lit _ x0 (by decide), View.ld_unit_lit _ x1 (by decide)]

theorem ld_w (o : ℕ) (h : o + 256 ≤ 2048) (inb) (k : Fin 1024) (j : Fin 256) :
    View.ld x3 (Rect.unit (s := S1024x2048) ![0, o] S1024x256.size inb) (ix2 k j) = x3 (ix2 k ⟨o + j.val, by omega⟩) := by
  refine congrArg x3 (funext fun a => Fin.ext ?_)
  match a with
  | ⟨0, _⟩ => show 0 + 1 * k.val = k.val; omega
  | ⟨1, _⟩ => show o + 1 * j.val = o + j.val; omega

theorem ld_g (o : ℕ) (h : o + 256 ≤ 2048) (inb) (j : Fin 256) :
    View.ld x5 (Rect.unit (s := S1x2048) ![0, o] S1x256.size inb) (ix2 0 j) = x5 (ix2 0 ⟨o + j.val, by omega⟩) := by
  refine congrArg x5 (funext fun a => Fin.ext ?_)
  match a with
  | ⟨0, _⟩ => rfl
  | ⟨1, _⟩ => show o + 1 * j.val = o + j.val; omega

theorem ld_wq (o : ℕ) (h : o + 256 ≤ 1024) (inb) (k : Fin 1024) (j : Fin 256) :
    View.ld x2 (Rect.unit (s := S1024x1024) ![0, o] S1024x256.size inb) (ix2 k j) = x2 (ix2 k ⟨o + j.val, by omega⟩) := by
  refine congrArg x2 (funext fun a => Fin.ext ?_)
  match a with
  | ⟨0, _⟩ => show 0 + 1 * k.val = k.val; omega
  | ⟨1, _⟩ => show o + 1 * j.val = o + j.val; omega

theorem ld_gq (o : ℕ) (h : o + 256 ≤ 1024) (inb) (j : Fin 256) :
    View.ld x4 (Rect.unit (s := S1x1024) ![0, o] S1x256.size inb) (ix2 0 j) = x4 (ix2 0 ⟨o + j.val, by omega⟩) := by
  refine congrArg x4 (funext fun a => Fin.ext ?_)
  match a with
  | ⟨0, _⟩ => rfl
  | ⟨1, _⟩ => show o + 1 * j.val = o + j.val; omega

theorem ld_m (x : Vec Ideal S256x256 .bf16) : View.ld x r0_4 = x := View.ld_unit_lit _ x (by decide)

/-- A chunk of the keys and values at an entry. -/
theorem chunk (o : ℕ) (ho : o % 256 = 0) (h : o + 256 ≤ 2048) (inb inb') (r : Fin 512) (j : Fin 256) :
    k0_pay15 (F := Ideal) (k0_pay4 x0 x1) (View.ld x3 (Rect.unit (s := S1024x2048) ![0, o] S1024x256.size inb))
        (View.ld x5 (Rect.unit (s := S1x2048) ![0, o] S1x256.size inb')) x7 (ix2 r j)
      = kvT x0 x1 x3 x5 x7 r ⟨o + j.val, by omega⟩ := by
  have e1 : ∀ i : Fin 256, lanes (k0_pay4 x0 x1) (View.ld x3 (Rect.unit (s := S1024x2048) ![0, o] S1024x256.size inb)) r i
      = kvLane x0 x1 x3 r ⟨o + i.val, by omega⟩ := fun i =>
    Finset.sum_congr rfl fun k _ => congrArg (_ * ·) (ld_w x3 o h inb k i)
  have e2 : lanes (k0_pay4 x0 x1) (View.ld x3 (Rect.unit (s := S1024x2048) ![0, o] S1024x256.size inb)) r
      = fun i => kvLane x0 x1 x3 r ⟨(o + j.val) / 256 * 256 + i.val, by omega⟩ := funext fun i => by
    rw [e1]; congr 1; exact Fin.ext (by show o + i.val = (o + j.val) / 256 * 256 + i.val; omega)
  have e3 : (⟨(o + j.val) % 256, by omega⟩ : Fin 256) = j := Fin.ext (by show (o + j.val) % 256 = j.val; omega)
  have e4 : (o + j.val) % 128 = j.val % 128 := by omega
  rw [pay15_apply, e1 j, e2, ld_g x5 o h inb' j]
  unfold kvT
  simp only [e3, e4]

/-- A chunk of the queries at an entry. -/
theorem chunkQ (o : ℕ) (ho : o % 256 = 0) (h : o + 256 ≤ 1024) (inb inb') (r : Fin 512) (j : Fin 256) :
    normed (lanes (k0_pay4 (F := Ideal) x0 x1) (View.ld x2 (Rect.unit (s := S1024x1024) ![0, o] S1024x256.size inb)) r) x6
        (View.ld x4 (Rect.unit (s := S1x1024) ![0, o] S1x256.size inb') (ix2 0 j)) j
      = qT x0 x1 x2 x4 x6 r ⟨o + j.val, by omega⟩ := by
  have e2 : lanes (k0_pay4 x0 x1) (View.ld x2 (Rect.unit (s := S1024x1024) ![0, o] S1024x256.size inb)) r
      = fun i => qLane x0 x1 x2 r ⟨(o + j.val) / 256 * 256 + i.val, by omega⟩ := funext fun i => by
    refine (Finset.sum_congr rfl fun k _ => congrArg (_ * ·) (ld_wq x2 o h inb k i)).trans ?_
    unfold qLane
    have : (⟨o + i.val, by omega⟩ : Fin 1024) = ⟨(o + j.val) / 256 * 256 + i.val, by omega⟩ :=
      Fin.ext (by show o + i.val = (o + j.val) / 256 * 256 + i.val; omega)
    rw [this]
  have e3 : (⟨(o + j.val) % 256, by omega⟩ : Fin 256) = j := Fin.ext (by show (o + j.val) % 256 = j.val; omega)
  rw [e2, ld_gq x4 o h inb' j]
  unfold qT
  simp only [e3]

/-- A chunk of lanes stored as columns, where it holds a lane. -/
theorem tileT (f : S1x256x512.Idx → EReal) (o : ℕ) (h : o + 256 ≤ 2048) (F : Fin 512 → Fin 2048 → EReal)
    (hf : ∀ (r : Fin 512) (j : Fin 256), f (ix3 0 j r) = F r ⟨o + j.val, by omega⟩) (r : Fin 512) (l : Fin 2048) :
    ∀ x : S1x256x512.Idx, (∀ a, ((ix3 0 l r : S1x2048x512.Idx) a : ℕ) = (![0, o, 0] : Fin 3 → ℕ) a + x a) → f x = F r l := by
  intro x hx
  have h1 : l.val = o + (x (1 : Fin 3)).val := hx 1
  have h2 : r.val = 0 + (x (2 : Fin 3)).val := hx 2
  obtain ⟨a, b, c, rfl⟩ : ∃ (a : Fin 1) (b : Fin 256) (c : Fin 512), x = ix3 a b c := ⟨x 0, x 1, x 2, eq_ix3 x⟩
  obtain rfl : a = 0 := Subsingleton.elim _ _
  have hr : c = r := Fin.ext (by show c.val = r.val; exact (h2.trans (Nat.zero_add _)).symm)
  have hl : (⟨o + b.val, by omega⟩ : Fin 2048) = l := Fin.ext h1.symm
  refine (hf c b).trans ?_
  rw [hr, hl]

theorem tileQ (f : S1x256x512.Idx → EReal) (o : ℕ) (h : o + 256 ≤ 1024) (F : Fin 512 → Fin 1024 → EReal)
    (hf : ∀ (r : Fin 512) (j : Fin 256), f (ix3 0 j r) = F r ⟨o + j.val, by omega⟩) (r : Fin 512) (l : Fin 1024) :
    ∀ x : S1x256x512.Idx, (∀ a, ((ix3 0 l r : S1x1024x512.Idx) a : ℕ) = (![0, o, 0] : Fin 3 → ℕ) a + x a) → f x = F r l := by
  intro x hx
  have h1 : l.val = o + (x (1 : Fin 3)).val := hx 1
  have h2 : r.val = 0 + (x (2 : Fin 3)).val := hx 2
  obtain ⟨a, b, c, rfl⟩ : ∃ (a : Fin 1) (b : Fin 256) (c : Fin 512), x = ix3 a b c := ⟨x 0, x 1, x 2, eq_ix3 x⟩
  obtain rfl : a = 0 := Subsingleton.elim _ _
  have hr : c = r := Fin.ext (by show c.val = r.val; exact (h2.trans (Nat.zero_add _)).symm)
  have hl : (⟨o + b.val, by omega⟩ : Fin 1024) = l := Fin.ext h1.symm
  refine (hf c b).trans ?_
  rw [hr, hl]

/-- A chunk of lanes stored as rows, where it holds a lane. -/
theorem tileR (f : S512x256.Idx → EReal) (o : ℕ) (h : o + 256 ≤ 2048) (F : Fin 512 → Fin 2048 → EReal)
    (hf : ∀ (r : Fin 512) (j : Fin 256), f (ix2 r j) = F r ⟨o + j.val, by omega⟩) (r : Fin 512) (l : Fin 2048) :
    ∀ x : S512x256.Idx, (∀ a, ((ix2 r l : S512x2048.Idx) a : ℕ) = (![0, o] : Fin 2 → ℕ) a + x a) → f x = F r l := by
  intro x hx
  have h1 : l.val = o + (x (1 : Fin 2)).val := hx 1
  have h2 : r.val = 0 + (x (0 : Fin 2)).val := hx 0
  obtain ⟨c, b, rfl⟩ : ∃ (c : Fin 512) (b : Fin 256), x = ix2 c b := ⟨x 0, x 1, eq_ix2 x⟩
  have hr : c = r := Fin.ext (by show c.val = r.val; exact (h2.trans (Nat.zero_add _)).symm)
  have hl : (⟨o + b.val, by omega⟩ : Fin 2048) = l := Fin.ext h1.symm
  refine (hf c b).trans ?_
  rw [hr, hl]

/-- A chunk of one half's means, where it holds a lane. -/
theorem tileM (f : Vec Ideal S1x1x256 .f32) (i : ℕ) (o : ℕ) (h : o + 256 ≤ 2048) (F : ℕ → Fin 2048 → EReal)
    (hf : ∀ (j : Fin 256), f (ix3 0 0 j) = F i ⟨o + j.val, by omega⟩) (s : Fin 2) (l : Fin 2048) :
    View.TileAt (Val := Elt Ideal) (e := .f32) (S := S1x2x2048) (ix3 0 s l) ![0, i, o] S1x1x256.size f (F s.val l) := by
  intro x hx
  have h1 : l.val = o + (x (2 : Fin 3)).val := hx 2
  have h2 : s.val = i + (x (1 : Fin 3)).val := hx 1
  obtain ⟨a, c, b, rfl⟩ : ∃ (a : Fin 1) (c : Fin 1) (b : Fin 256), x = ix3 a c b := ⟨x 0, x 1, x 2, eq_ix3 x⟩
  obtain rfl : a = 0 := Subsingleton.elim _ _
  obtain rfl : c = 0 := Subsingleton.elim _ _
  have hs : i = s.val := h2.symm
  have hl : (⟨o + b.val, by omega⟩ : Fin 2048) = l := Fin.ext h1.symm
  refine (hf b).trans ?_
  rw [hs, hl]

theorem out8_eq : out0_8 (F := Ideal) x0 x1 x2 x3 x4 x5 x6 x7 = View.canon [⟨r0_14, k0_pay6 (F := Ideal) (k0_pay5 (F := Ideal) (View.ld x0 r0_0) (View.ld x1 r0_1) (View.ld x2 r0_12) (View.ld x4 r0_13) (View.ld x6 r0_4))⟩,
      ⟨r0_11, k0_pay6 (F := Ideal) (k0_pay5 (F := Ideal) (View.ld x0 r0_0) (View.ld x1 r0_1) (View.ld x2 r0_9) (View.ld x4 r0_10) (View.ld x6 r0_4))⟩,
      ⟨r0_8, k0_pay6 (F := Ideal) (k0_pay5 (F := Ideal) (View.ld x0 r0_0) (View.ld x1 r0_1) (View.ld x2 r0_6) (View.ld x4 r0_7) (View.ld x6 r0_4))⟩,
      ⟨r0_5, k0_pay6 (F := Ideal) (k0_pay5 (F := Ideal) (View.ld x0 r0_0) (View.ld x1 r0_1) (View.ld x2 r0_2) (View.ld x4 r0_3) (View.ld x6 r0_4))⟩] := rfl

/-- The block of queries at a lane and a row. -/
theorem out8_apply (r : Fin 512) (l : Fin 1024) : out0_8 (F := Ideal) x0 x1 x2 x3 x4 x5 x6 x7 (ix3 0 l r) = qT x0 x1 x2 x4 x6 r l := by
  rw [out8_eq, View.ld_unit_lit _ x0 (by decide), View.ld_unit_lit _ x1 (by decide), ld_m]
  refine View.canon_eq_of_allAt _ _ _ (cover0_8 _ _ _ _ _) ?_
  refine View.allAt_cons_unit _ _ _ _ _ (tileQ _ 768 (by omega) (qT x0 x1 x2 x4 x6) (fun r j => (pay5_apply _ _ _ _ _ r j).trans (chunkQ x0 x1 x2 x4 x6 768 (by omega) (by omega) _ _ r j)) r l) ?_
  refine View.allAt_cons_unit _ _ _ _ _ (tileQ _ 512 (by omega) (qT x0 x1 x2 x4 x6) (fun r j => (pay5_apply _ _ _ _ _ r j).trans (chunkQ x0 x1 x2 x4 x6 512 (by omega) (by omega) _ _ r j)) r l) ?_
  refine View.allAt_cons_unit _ _ _ _ _ (tileQ _ 256 (by omega) (qT x0 x1 x2 x4 x6) (fun r j => (pay5_apply _ _ _ _ _ r j).trans (chunkQ x0 x1 x2 x4 x6 256 (by omega) (by omega) _ _ r j)) r l) ?_
  refine View.allAt_cons_unit _ _ _ _ _ (tileQ _ 0 (by omega) (qT x0 x1 x2 x4 x6) (fun r j => (pay5_apply _ _ _ _ _ r j).trans (chunkQ x0 x1 x2 x4 x6 0 (by omega) (by omega) _ _ r j)) r l) ?_
  exact View.allAt_nil _ _

theorem out9_eq : out0_9 (F := Ideal) x0 x1 x2 x3 x4 x5 x6 x7 = View.canon [⟨r0_59, k0_pay17 (F := Ideal) (transpose S256x512 [1, 0] (k0_pay15 (F := Ideal) (k0_pay76 (F := Ideal) x0 x1 x2 x3 x4 x5 x6 x7) (View.ld x3 r0_57) (View.ld x5 r0_58) (View.ld x7 r0_4)) transposes_S512x256_p1_0_S256x512)⟩,
      ⟨r0_53, k0_pay17 (F := Ideal) (transpose S256x512 [1, 0] (k0_pay15 (F := Ideal) (k0_pay76 (F := Ideal) x0 x1 x2 x3 x4 x5 x6 x7) (View.ld x3 r0_51) (View.ld x5 r0_52) (View.ld x7 r0_4)) transposes_S512x256_p1_0_S256x512)⟩,
      ⟨r0_47, k0_pay17 (F := Ideal) (transpose S256x512 [1, 0] (k0_pay15 (F := Ideal) (k0_pay76 (F := Ideal) x0 x1 x2 x3 x4 x5 x6 x7) (View.ld x3 r0_45) (View.ld x5 r0_46) (View.ld x7 r0_4)) transposes_S512x256_p1_0_S256x512)⟩,
      ⟨r0_41, k0_pay17 (F := Ideal) (transpose S256x512 [1, 0] (k0_pay15 (F := Ideal) (k0_pay76 (F := Ideal) x0 x1 x2 x3 x4 x5 x6 x7) (View.ld x3 r0_39) (View.ld x5 r0_40) (View.ld x7 r0_4)) transposes_S512x256_p1_0_S256x512)⟩,
      ⟨r0_35, k0_pay17 (F := Ideal) (transpose S256x512 [1, 0] (k0_pay15 (F := Ideal) (k0_pay76 (F := Ideal) x0 x1 x2 x3 x4 x5 x6 x7) (View.ld x3 r0_33) (View.ld x5 r0_34) (View.ld x7 r0_4)) transposes_S512x256_p1_0_S256x512)⟩,
      ⟨r0_29, k0_pay17 (F := Ideal) (transpose S256x512 [1, 0] (k0_pay15 (F := Ideal) (k0_pay76 (F := Ideal) x0 x1 x2 x3 x4 x5 x6 x7) (View.ld x3 r0_27) (View.ld x5 r0_28) (View.ld x7 r0_4)) transposes_S512x256_p1_0_S256x512)⟩,
      ⟨r0_23, k0_pay17 (F := Ideal) (transpose S256x512 [1, 0] (k0_pay15 (F := Ideal) (k0_pay76 (F := Ideal) x0 x1 x2 x3 x4 x5 x6 x7) (View.ld x3 r0_21) (View.ld x5 r0_22) (View.ld x7 r0_4)) transposes_S512x256_p1_0_S256x512)⟩,
      ⟨r0_17, k0_pay17 (F := Ideal) (transpose S256x512 [1, 0] (k0_pay15 (F := Ideal) (k0_pay76 (F := Ideal) x0 x1 x2 x3 x4 x5 x6 x7) (View.ld x3 r0_15) (View.ld x5 r0_16) (View.ld x7 r0_4)) transposes_S512x256_p1_0_S256x512)⟩] := rfl

/-- The block of keys and values at a lane and a row. -/
theorem out9_apply (r : Fin 512) (l : Fin 2048) : out0_9 (F := Ideal) x0 x1 x2 x3 x4 x5 x6 x7 (ix3 0 l r) = kvT x0 x1 x3 x5 x7 r l := by
  rw [out9_eq, xn_eq, ld_m]
  refine View.canon_eq_of_allAt _ _ _ (cover0_9 _ _ _ _ _ _ _ _ _) ?_
  refine View.allAt_cons_unit _ _ _ _ _ (tileT _ 1792 (by omega) (kvT x0 x1 x3 x5 x7) (fun r j => (pay17_apply _ r j).trans (chunk x0 x1 x3 x5 x7 1792 (by omega) (by omega) _ _ r j)) r l) ?_
  refine View.allAt_cons_unit _ _ _ _ _ (tileT _ 1536 (by omega) (kvT x0 x1 x3 x5 x7) (fun r j => (pay17_apply _ r j).trans (chunk x0 x1 x3 x5 x7 1536 (by omega) (by omega) _ _ r j)) r l) ?_
  refine View.allAt_cons_unit _ _ _ _ _ (tileT _ 1280 (by omega) (kvT x0 x1 x3 x5 x7) (fun r j => (pay17_apply _ r j).trans (chunk x0 x1 x3 x5 x7 1280 (by omega) (by omega) _ _ r j)) r l) ?_
  refine View.allAt_cons_unit _ _ _ _ _ (tileT _ 1024 (by omega) (kvT x0 x1 x3 x5 x7) (fun r j => (pay17_apply _ r j).trans (chunk x0 x1 x3 x5 x7 1024 (by omega) (by omega) _ _ r j)) r l) ?_
  refine View.allAt_cons_unit _ _ _ _ _ (tileT _ 768 (by omega) (kvT x0 x1 x3 x5 x7) (fun r j => (pay17_apply _ r j).trans (chunk x0 x1 x3 x5 x7 768 (by omega) (by omega) _ _ r j)) r l) ?_
  refine View.allAt_cons_unit _ _ _ _ _ (tileT _ 512 (by omega) (kvT x0 x1 x3 x5 x7) (fun r j => (pay17_apply _ r j).trans (chunk x0 x1 x3 x5 x7 512 (by omega) (by omega) _ _ r j)) r l) ?_
  refine View.allAt_cons_unit _ _ _ _ _ (tileT _ 256 (by omega) (kvT x0 x1 x3 x5 x7) (fun r j => (pay17_apply _ r j).trans (chunk x0 x1 x3 x5 x7 256 (by omega) (by omega) _ _ r j)) r l) ?_
  refine View.allAt_cons_unit _ _ _ _ _ (tileT _ 0 (by omega) (kvT x0 x1 x3 x5 x7) (fun r j => (pay17_apply _ r j).trans (chunk x0 x1 x3 x5 x7 0 (by omega) (by omega) _ _ r j)) r l) ?_
  exact View.allAt_nil _ _

theorem out10_eq : out0_10 (F := Ideal) x0 x1 x2 x3 x4 x5 x6 x7 = View.canon [⟨r0_60, k0_pay18 (F := Ideal) (k0_pay15 (F := Ideal) (k0_pay76 (F := Ideal) x0 x1 x2 x3 x4 x5 x6 x7) (View.ld x3 r0_57) (View.ld x5 r0_58) (View.ld x7 r0_4))⟩,
      ⟨r0_54, k0_pay18 (F := Ideal) (k0_pay15 (F := Ideal) (k0_pay76 (F := Ideal) x0 x1 x2 x3 x4 x5 x6 x7) (View.ld x3 r0_51) (View.ld x5 r0_52) (View.ld x7 r0_4))⟩,
      ⟨r0_48, k0_pay18 (F := Ideal) (k0_pay15 (F := Ideal) (k0_pay76 (F := Ideal) x0 x1 x2 x3 x4 x5 x6 x7) (View.ld x3 r0_45) (View.ld x5 r0_46) (View.ld x7 r0_4))⟩,
      ⟨r0_42, k0_pay18 (F := Ideal) (k0_pay15 (F := Ideal) (k0_pay76 (F := Ideal) x0 x1 x2 x3 x4 x5 x6 x7) (View.ld x3 r0_39) (View.ld x5 r0_40) (View.ld x7 r0_4))⟩,
      ⟨r0_36, k0_pay18 (F := Ideal) (k0_pay15 (F := Ideal) (k0_pay76 (F := Ideal) x0 x1 x2 x3 x4 x5 x6 x7) (View.ld x3 r0_33) (View.ld x5 r0_34) (View.ld x7 r0_4))⟩,
      ⟨r0_30, k0_pay18 (F := Ideal) (k0_pay15 (F := Ideal) (k0_pay76 (F := Ideal) x0 x1 x2 x3 x4 x5 x6 x7) (View.ld x3 r0_27) (View.ld x5 r0_28) (View.ld x7 r0_4))⟩,
      ⟨r0_24, k0_pay18 (F := Ideal) (k0_pay15 (F := Ideal) (k0_pay76 (F := Ideal) x0 x1 x2 x3 x4 x5 x6 x7) (View.ld x3 r0_21) (View.ld x5 r0_22) (View.ld x7 r0_4))⟩,
      ⟨r0_18, k0_pay18 (F := Ideal) (k0_pay15 (F := Ideal) (k0_pay76 (F := Ideal) x0 x1 x2 x3 x4 x5 x6 x7) (View.ld x3 r0_15) (View.ld x5 r0_16) (View.ld x7 r0_4))⟩] := rfl

/-- The same block by rows. -/
theorem out10_apply (r : Fin 512) (l : Fin 2048) : out0_10 (F := Ideal) x0 x1 x2 x3 x4 x5 x6 x7 (ix2 r l) = kvT x0 x1 x3 x5 x7 r l := by
  rw [out10_eq, xn_eq, ld_m]
  refine View.canon_eq_of_allAt _ _ _ (cover0_10 _ _ _ _ _ _ _ _ _) ?_
  refine View.allAt_cons_unit _ _ _ _ _ (tileR _ 1792 (by omega) (kvT x0 x1 x3 x5 x7) (fun r j => (pay18_apply _ r j).trans (chunk x0 x1 x3 x5 x7 1792 (by omega) (by omega) _ _ r j)) r l) ?_
  refine View.allAt_cons_unit _ _ _ _ _ (tileR _ 1536 (by omega) (kvT x0 x1 x3 x5 x7) (fun r j => (pay18_apply _ r j).trans (chunk x0 x1 x3 x5 x7 1536 (by omega) (by omega) _ _ r j)) r l) ?_
  refine View.allAt_cons_unit _ _ _ _ _ (tileR _ 1280 (by omega) (kvT x0 x1 x3 x5 x7) (fun r j => (pay18_apply _ r j).trans (chunk x0 x1 x3 x5 x7 1280 (by omega) (by omega) _ _ r j)) r l) ?_
  refine View.allAt_cons_unit _ _ _ _ _ (tileR _ 1024 (by omega) (kvT x0 x1 x3 x5 x7) (fun r j => (pay18_apply _ r j).trans (chunk x0 x1 x3 x5 x7 1024 (by omega) (by omega) _ _ r j)) r l) ?_
  refine View.allAt_cons_unit _ _ _ _ _ (tileR _ 768 (by omega) (kvT x0 x1 x3 x5 x7) (fun r j => (pay18_apply _ r j).trans (chunk x0 x1 x3 x5 x7 768 (by omega) (by omega) _ _ r j)) r l) ?_
  refine View.allAt_cons_unit _ _ _ _ _ (tileR _ 512 (by omega) (kvT x0 x1 x3 x5 x7) (fun r j => (pay18_apply _ r j).trans (chunk x0 x1 x3 x5 x7 512 (by omega) (by omega) _ _ r j)) r l) ?_
  refine View.allAt_cons_unit _ _ _ _ _ (tileR _ 256 (by omega) (kvT x0 x1 x3 x5 x7) (fun r j => (pay18_apply _ r j).trans (chunk x0 x1 x3 x5 x7 256 (by omega) (by omega) _ _ r j)) r l) ?_
  refine View.allAt_cons_unit _ _ _ _ _ (tileR _ 0 (by omega) (kvT x0 x1 x3 x5 x7) (fun r j => (pay18_apply _ r j).trans (chunk x0 x1 x3 x5 x7 0 (by omega) (by omega) _ _ r j)) r l) ?_
  exact View.allAt_nil _ _

theorem out12_eq : out0_12 (F := Ideal) x0 x1 x2 x3 x4 x5 x6 x7 = View.canon [⟨r0_59, k0_pay19 (F := Ideal) (k0_pay15 (F := Ideal) (k0_pay76 (F := Ideal) x0 x1 x2 x3 x4 x5 x6 x7) (View.ld x3 r0_57) (View.ld x5 r0_58) (View.ld x7 r0_4))⟩,
      ⟨r0_53, k0_pay19 (F := Ideal) (k0_pay15 (F := Ideal) (k0_pay76 (F := Ideal) x0 x1 x2 x3 x4 x5 x6 x7) (View.ld x3 r0_51) (View.ld x5 r0_52) (View.ld x7 r0_4))⟩,
      ⟨r0_47, k0_pay19 (F := Ideal) (k0_pay15 (F := Ideal) (k0_pay76 (F := Ideal) x0 x1 x2 x3 x4 x5 x6 x7) (View.ld x3 r0_45) (View.ld x5 r0_46) (View.ld x7 r0_4))⟩,
      ⟨r0_41, k0_pay19 (F := Ideal) (k0_pay15 (F := Ideal) (k0_pay76 (F := Ideal) x0 x1 x2 x3 x4 x5 x6 x7) (View.ld x3 r0_39) (View.ld x5 r0_40) (View.ld x7 r0_4))⟩,
      ⟨r0_35, k0_pay19 (F := Ideal) (k0_pay15 (F := Ideal) (k0_pay76 (F := Ideal) x0 x1 x2 x3 x4 x5 x6 x7) (View.ld x3 r0_33) (View.ld x5 r0_34) (View.ld x7 r0_4))⟩,
      ⟨r0_29, k0_pay19 (F := Ideal) (k0_pay15 (F := Ideal) (k0_pay76 (F := Ideal) x0 x1 x2 x3 x4 x5 x6 x7) (View.ld x3 r0_27) (View.ld x5 r0_28) (View.ld x7 r0_4))⟩,
      ⟨r0_23, k0_pay19 (F := Ideal) (k0_pay15 (F := Ideal) (k0_pay76 (F := Ideal) x0 x1 x2 x3 x4 x5 x6 x7) (View.ld x3 r0_21) (View.ld x5 r0_22) (View.ld x7 r0_4))⟩,
      ⟨r0_17, k0_pay19 (F := Ideal) (k0_pay15 (F := Ideal) (k0_pay76 (F := Ideal) x0 x1 x2 x3 x4 x5 x6 x7) (View.ld x3 r0_15) (View.ld x5 r0_16) (View.ld x7 r0_4))⟩] := rfl

/-- The same block by lanes again. -/
theorem out12_apply (r : Fin 512) (l : Fin 2048) : out0_12 (F := Ideal) x0 x1 x2 x3 x4 x5 x6 x7 (ix3 0 l r) = kvT x0 x1 x3 x5 x7 r l := by
  rw [out12_eq, xn_eq, ld_m]
  refine View.canon_eq_of_allAt _ _ _ (cover0_12 _ _ _ _ _ _ _ _ _) ?_
  refine View.allAt_cons_unit _ _ _ _ _ (tileT _ 1792 (by omega) (kvT x0 x1 x3 x5 x7) (fun r j => (pay19_apply _ r j).trans (chunk x0 x1 x3 x5 x7 1792 (by omega) (by omega) _ _ r j)) r l) ?_
  refine View.allAt_cons_unit _ _ _ _ _ (tileT _ 1536 (by omega) (kvT x0 x1 x3 x5 x7) (fun r j => (pay19_apply _ r j).trans (chunk x0 x1 x3 x5 x7 1536 (by omega) (by omega) _ _ r j)) r l) ?_
  refine View.allAt_cons_unit _ _ _ _ _ (tileT _ 1280 (by omega) (kvT x0 x1 x3 x5 x7) (fun r j => (pay19_apply _ r j).trans (chunk x0 x1 x3 x5 x7 1280 (by omega) (by omega) _ _ r j)) r l) ?_
  refine View.allAt_cons_unit _ _ _ _ _ (tileT _ 1024 (by omega) (kvT x0 x1 x3 x5 x7) (fun r j => (pay19_apply _ r j).trans (chunk x0 x1 x3 x5 x7 1024 (by omega) (by omega) _ _ r j)) r l) ?_
  refine View.allAt_cons_unit _ _ _ _ _ (tileT _ 768 (by omega) (kvT x0 x1 x3 x5 x7) (fun r j => (pay19_apply _ r j).trans (chunk x0 x1 x3 x5 x7 768 (by omega) (by omega) _ _ r j)) r l) ?_
  refine View.allAt_cons_unit _ _ _ _ _ (tileT _ 512 (by omega) (kvT x0 x1 x3 x5 x7) (fun r j => (pay19_apply _ r j).trans (chunk x0 x1 x3 x5 x7 512 (by omega) (by omega) _ _ r j)) r l) ?_
  refine View.allAt_cons_unit _ _ _ _ _ (tileT _ 256 (by omega) (kvT x0 x1 x3 x5 x7) (fun r j => (pay19_apply _ r j).trans (chunk x0 x1 x3 x5 x7 256 (by omega) (by omega) _ _ r j)) r l) ?_
  refine View.allAt_cons_unit _ _ _ _ _ (tileT _ 0 (by omega) (kvT x0 x1 x3 x5 x7) (fun r j => (pay19_apply _ r j).trans (chunk x0 x1 x3 x5 x7 0 (by omega) (by omega) _ _ r j)) r l) ?_
  exact View.allAt_nil _ _

theorem out11_eq : out0_11 (F := Ideal) x0 x1 x2 x3 x4 x5 x6 x7 = View.canon [⟨r0_62, k0_pay21 (F := Ideal) (k0_pay15 (F := Ideal) (k0_pay76 (F := Ideal) x0 x1 x2 x3 x4 x5 x6 x7) (View.ld x3 r0_57) (View.ld x5 r0_58) (View.ld x7 r0_4))⟩,
      ⟨r0_61, k0_pay20 (F := Ideal) (k0_pay15 (F := Ideal) (k0_pay76 (F := Ideal) x0 x1 x2 x3 x4 x5 x6 x7) (View.ld x3 r0_57) (View.ld x5 r0_58) (View.ld x7 r0_4))⟩,
      ⟨r0_56, k0_pay21 (F := Ideal) (k0_pay15 (F := Ideal) (k0_pay76 (F := Ideal) x0 x1 x2 x3 x4 x5 x6 x7) (View.ld x3 r0_51) (View.ld x5 r0_52) (View.ld x7 r0_4))⟩,
      ⟨r0_55, k0_pay20 (F := Ideal) (k0_pay15 (F := Ideal) (k0_pay76 (F := Ideal) x0 x1 x2 x3 x4 x5 x6 x7) (View.ld x3 r0_51) (View.ld x5 r0_52) (View.ld x7 r0_4))⟩,
      ⟨r0_50, k0_pay21 (F := Ideal) (k0_pay15 (F := Ideal) (k0_pay76 (F := Ideal) x0 x1 x2 x3 x4 x5 x6 x7) (View.ld x3 r0_45) (View.ld x5 r0_46) (View.ld x7 r0_4))⟩,
      ⟨r0_49, k0_pay20 (F := Ideal) (k0_pay15 (F := Ideal) (k0_pay76 (F := Ideal) x0 x1 x2 x3 x4 x5 x6 x7) (View.ld x3 r0_45) (View.ld x5 r0_46) (View.ld x7 r0_4))⟩,
      ⟨r0_44, k0_pay21 (F := Ideal) (k0_pay15 (F := Ideal) (k0_pay76 (F := Ideal) x0 x1 x2 x3 x4 x5 x6 x7) (View.ld x3 r0_39) (View.ld x5 r0_40) (View.ld x7 r0_4))⟩,
      ⟨r0_43, k0_pay20 (F := Ideal) (k0_pay15 (F := Ideal) (k0_pay76 (F := Ideal) x0 x1 x2 x3 x4 x5 x6 x7) (View.ld x3 r0_39) (View.ld x5 r0_40) (View.ld x7 r0_4))⟩,
      ⟨r0_38, k0_pay21 (F := Ideal) (k0_pay15 (F := Ideal) (k0_pay76 (F := Ideal) x0 x1 x2 x3 x4 x5 x6 x7) (View.ld x3 r0_33) (View.ld x5 r0_34) (View.ld x7 r0_4))⟩,
      ⟨r0_37, k0_pay20 (F := Ideal) (k0_pay15 (F := Ideal) (k0_pay76 (F := Ideal) x0 x1 x2 x3 x4 x5 x6 x7) (View.ld x3 r0_33) (View.ld x5 r0_34) (View.ld x7 r0_4))⟩,
      ⟨r0_32, k0_pay21 (F := Ideal) (k0_pay15 (F := Ideal) (k0_pay76 (F := Ideal) x0 x1 x2 x3 x4 x5 x6 x7) (View.ld x3 r0_27) (View.ld x5 r0_28) (View.ld x7 r0_4))⟩,
      ⟨r0_31, k0_pay20 (F := Ideal) (k0_pay15 (F := Ideal) (k0_pay76 (F := Ideal) x0 x1 x2 x3 x4 x5 x6 x7) (View.ld x3 r0_27) (View.ld x5 r0_28) (View.ld x7 r0_4))⟩,
      ⟨r0_26, k0_pay21 (F := Ideal) (k0_pay15 (F := Ideal) (k0_pay76 (F := Ideal) x0 x1 x2 x3 x4 x5 x6 x7) (View.ld x3 r0_21) (View.ld x5 r0_22) (View.ld x7 r0_4))⟩,
      ⟨r0_25, k0_pay20 (F := Ideal) (k0_pay15 (F := Ideal) (k0_pay76 (F := Ideal) x0 x1 x2 x3 x4 x5 x6 x7) (View.ld x3 r0_21) (View.ld x5 r0_22) (View.ld x7 r0_4))⟩,
      ⟨r0_20, k0_pay21 (F := Ideal) (k0_pay15 (F := Ideal) (k0_pay76 (F := Ideal) x0 x1 x2 x3 x4 x5 x6 x7) (View.ld x3 r0_15) (View.ld x5 r0_16) (View.ld x7 r0_4))⟩,
      ⟨r0_19, k0_pay20 (F := Ideal) (k0_pay15 (F := Ideal) (k0_pay76 (F := Ideal) x0 x1 x2 x3 x4 x5 x6 x7) (View.ld x3 r0_15) (View.ld x5 r0_16) (View.ld x7 r0_4))⟩] := rfl

/-- The means with the half a number. -/
def kmN (i : ℕ) (l : Fin 2048) : EReal :=
  Ideal.div (∑ t : Fin 256, kvT x0 x1 x3 x5 x7 ⟨(256 * i + t.val) % 512, Nat.mod_lt _ (by decide)⟩ l) (Ideal.ofBits .f32 0x43800000#32)

theorem mean0 (o : ℕ) (ho : o % 256 = 0) (h : o + 256 ≤ 2048) (inb inb') (j : Fin 256) :
    k0_pay20 (F := Ideal) (k0_pay15 (F := Ideal) (k0_pay4 x0 x1) (View.ld x3 (Rect.unit (s := S1024x2048) ![0, o] S1024x256.size inb))
        (View.ld x5 (Rect.unit (s := S1x2048) ![0, o] S1x256.size inb')) x7) (ix3 0 0 j)
      = kmN x0 x1 x3 x5 x7 0 ⟨o + j.val, by omega⟩ := by
  refine (pay20_apply _ j).trans (congrArg (fun s => Ideal.div s _) (Finset.sum_congr rfl fun t _ => ?_))
  rw [chunk x0 x1 x3 x5 x7 o ho h inb inb']
  congr 1
  exact Fin.ext (by show t.val = (256 * 0 + t.val) % 512; omega)

theorem mean1 (o : ℕ) (ho : o % 256 = 0) (h : o + 256 ≤ 2048) (inb inb') (j : Fin 256) :
    k0_pay21 (F := Ideal) (k0_pay15 (F := Ideal) (k0_pay4 x0 x1) (View.ld x3 (Rect.unit (s := S1024x2048) ![0, o] S1024x256.size inb))
        (View.ld x5 (Rect.unit (s := S1x2048) ![0, o] S1x256.size inb')) x7) (ix3 0 0 j)
      = kmN x0 x1 x3 x5 x7 1 ⟨o + j.val, by omega⟩ := by
  refine (pay21_apply _ j).trans (congrArg (fun s => Ideal.div s _) (Finset.sum_congr rfl fun t _ => ?_))
  rw [chunk x0 x1 x3 x5 x7 o ho h inb inb']
  congr 1
  exact Fin.ext (by show 256 + t.val = (256 * 1 + t.val) % 512; omega)

/-- The block of means at a half and a lane. -/
theorem out11_apply (s : Fin 2) (l : Fin 2048) : out0_11 (F := Ideal) x0 x1 x2 x3 x4 x5 x6 x7 (ix3 0 s l) = kmT x0 x1 x3 x5 x7 s l := by
  have e : kmT x0 x1 x3 x5 x7 s l = kmN x0 x1 x3 x5 x7 s.val l :=
    congrArg (fun s => Ideal.div s _) (Finset.sum_congr rfl fun t _ => by
      congr 1
      exact Fin.ext (by show 256 * s.val + t.val = (256 * s.val + t.val) % 512; omega))
  rw [e, out11_eq, xn_eq, ld_m]
  refine View.canon_eq_of_allAt _ _ _ (cover0_11 _ _ _ _ _ _ _ _ _ _ _ _ _ _ _ _ _) ?_
  refine View.allAt_cons_unit _ _ _ _ _ (tileM _ 1 1792 (by omega) (kmN x0 x1 x3 x5 x7) (fun j => mean1 x0 x1 x3 x5 x7 1792 (by omega) (by omega) _ _ j) s l) ?_
  refine View.allAt_cons_unit _ _ _ _ _ (tileM _ 0 1792 (by omega) (kmN x0 x1 x3 x5 x7) (fun j => mean0 x0 x1 x3 x5 x7 1792 (by omega) (by omega) _ _ j) s l) ?_
  refine View.allAt_cons_unit _ _ _ _ _ (tileM _ 1 1536 (by omega) (kmN x0 x1 x3 x5 x7) (fun j => mean1 x0 x1 x3 x5 x7 1536 (by omega) (by omega) _ _ j) s l) ?_
  refine View.allAt_cons_unit _ _ _ _ _ (tileM _ 0 1536 (by omega) (kmN x0 x1 x3 x5 x7) (fun j => mean0 x0 x1 x3 x5 x7 1536 (by omega) (by omega) _ _ j) s l) ?_
  refine View.allAt_cons_unit _ _ _ _ _ (tileM _ 1 1280 (by omega) (kmN x0 x1 x3 x5 x7) (fun j => mean1 x0 x1 x3 x5 x7 1280 (by omega) (by omega) _ _ j) s l) ?_
  refine View.allAt_cons_unit _ _ _ _ _ (tileM _ 0 1280 (by omega) (kmN x0 x1 x3 x5 x7) (fun j => mean0 x0 x1 x3 x5 x7 1280 (by omega) (by omega) _ _ j) s l) ?_
  refine View.allAt_cons_unit _ _ _ _ _ (tileM _ 1 1024 (by omega) (kmN x0 x1 x3 x5 x7) (fun j => mean1 x0 x1 x3 x5 x7 1024 (by omega) (by omega) _ _ j) s l) ?_
  refine View.allAt_cons_unit _ _ _ _ _ (tileM _ 0 1024 (by omega) (kmN x0 x1 x3 x5 x7) (fun j => mean0 x0 x1 x3 x5 x7 1024 (by omega) (by omega) _ _ j) s l) ?_
  refine View.allAt_cons_unit _ _ _ _ _ (tileM _ 1 768 (by omega) (kmN x0 x1 x3 x5 x7) (fun j => mean1 x0 x1 x3 x5 x7 768 (by omega) (by omega) _ _ j) s l) ?_
  refine View.allAt_cons_unit _ _ _ _ _ (tileM _ 0 768 (by omega) (kmN x0 x1 x3 x5 x7) (fun j => mean0 x0 x1 x3 x5 x7 768 (by omega) (by omega) _ _ j) s l) ?_
  refine View.allAt_cons_unit _ _ _ _ _ (tileM _ 1 512 (by omega) (kmN x0 x1 x3 x5 x7) (fun j => mean1 x0 x1 x3 x5 x7 512 (by omega) (by omega) _ _ j) s l) ?_
  refine View.allAt_cons_unit _ _ _ _ _ (tileM _ 0 512 (by omega) (kmN x0 x1 x3 x5 x7) (fun j => mean0 x0 x1 x3 x5 x7 512 (by omega) (by omega) _ _ j) s l) ?_
  refine View.allAt_cons_unit _ _ _ _ _ (tileM _ 1 256 (by omega) (kmN x0 x1 x3 x5 x7) (fun j => mean1 x0 x1 x3 x5 x7 256 (by omega) (by omega) _ _ j) s l) ?_
  refine View.allAt_cons_unit _ _ _ _ _ (tileM _ 0 256 (by omega) (kmN x0 x1 x3 x5 x7) (fun j => mean0 x0 x1 x3 x5 x7 256 (by omega) (by omega) _ _ j) s l) ?_
  refine View.allAt_cons_unit _ _ _ _ _ (tileM _ 1 0 (by omega) (kmN x0 x1 x3 x5 x7) (fun j => mean1 x0 x1 x3 x5 x7 0 (by omega) (by omega) _ _ j) s l) ?_
  refine View.allAt_cons_unit _ _ _ _ _ (tileM _ 0 0 (by omega) (kmN x0 x1 x3 x5 x7) (fun j => mean0 x0 x1 x3 x5 x7 0 (by omega) (by omega) _ _ j) s l) ?_
  exact View.allAt_nil _ _

end Cert.ProjIdeal.Tile

end
-- ==== Proof.ProjMath.lean ====
/-
  The two ways of taking a head's mean square: through a matrix of zeros and ones with the square split in two parts, and
  plainly over the head's 64 lanes. They agree where every lane is a real number: the part left over is then zero.
-/
module

public import Idealize.ShloMosaic.Lib.Pointwise

@[expose] public section

noncomputable section

namespace Cert.ProjMath

open Idealize.ShloMosaic

/-- A value that is a real number. -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sum {ι : Type} [DecidableEq ι] (s : Finset ι) (f : ι → EReal) (h : ∀ i, IsReal (f i)) : IsReal (∑ i ∈ s, f i) := by
  induction s using Finset.induction_on with
  | empty => exact ⟨0, by simp⟩
  | insert a s ha ih => rw [Finset.sum_insert ha]; exact (h a).add ih

theorem IsReal.sub_self {x : EReal} (hx : IsReal x) : x - x = 0 := by
  obtain ⟨a, rfl⟩ := hx; rw [← EReal.coe_sub, _root_.sub_self]; rfl

/-- The sum of the squares of real numbers is a real number that is not negative. -/
theorem sum_sq {n : ℕ} (f : Fin n → EReal) (h : ∀ i, IsReal (f i)) : ∃ r : ℝ, 0 ≤ r ∧ ∑ i, f i * f i = (r : EReal) := by
  choose g hg using h
  refine ⟨∑ i, g i * g i, Finset.sum_nonneg fun i _ => mul_self_nonneg _, ?_⟩
  have e : ∀ s : Finset (Fin n), ∑ i ∈ s, f i * f i = ((∑ i ∈ s, g i * g i : ℝ) : EReal) := fun s => by
    induction s using Finset.induction_on with
    | empty => simp
    | insert a s ha ih => rw [Finset.sum_insert ha, Finset.sum_insert ha, ih, hg, ← EReal.coe_mul, ← EReal.coe_add]
  exact e _

theorem ofBits_eps : ∃ e : ℝ, 0 < e ∧ Ideal.ofBits .f32 0x358637BD#32 = (e : EReal) := by
  refine ⟨_, ?_, by simp [Ideal.ofBits, Ideal.ieee]; rfl⟩
  positivity

theorem ofBits_1024 : Ideal.ofBits .f32 0x44800000#32 = ((1024 : ℝ) : EReal) := by
  simp [Ideal.ofBits, Ideal.ieee]
  rw [← EReal.coe_mul]
  exact congrArg Real.toEReal (by norm_num)

theorem ofBits_64 : Ideal.ofBits .f32 0x42800000#32 = ((64 : ℝ) : EReal) := by
  simp [Ideal.ofBits, Ideal.ieee]
  rw [← EReal.coe_mul]
  exact congrArg Real.toEReal (by norm_num)

theorem ofBits_inv64 : Ideal.ofBits .f32 0x3C800000#32 = ((1 / 64 : ℝ) : EReal) := by
  simp [Ideal.ofBits, Ideal.ieee]
  rw [← EReal.coe_mul]
  exact congrArg Real.toEReal (by norm_num)

/-- Multiplying by a 64th is dividing by 64. -/
theorem mul_inv64 (x : EReal) : x * Ideal.ofBits .f32 0x3C800000#32 = Ideal.div x (Ideal.ofBits .f32 0x42800000#32) := by
  rw [ofBits_64, ofBits_inv64, Ideal.div_coe (by norm_num)]

/-- The reciprocal root of a mean square with the small constant added is a real number. -/
theorem rsqrt_real {n : ℕ} (f : Fin n → EReal) (h : ∀ i, IsReal (f i)) :
    IsReal (Ideal.rsqrt (Ideal.div (∑ i, f i * f i) (Ideal.ofBits .f32 0x44800000#32) + Ideal.ofBits .f32 0x358637BD#32)) := by
  obtain ⟨s, hs, e⟩ := sum_sq f h
  obtain ⟨c, hc, ec⟩ := ofBits_eps
  rw [e, ec, ofBits_1024, Ideal.div_coe (by norm_num), ← EReal.coe_mul, ← EReal.coe_add, Ideal.rsqrt_coe]
  have hp : 0 < s * (1 / 1024) + c := by positivity
  rw [if_neg (not_lt.mpr hp.le), if_neg hp.ne']
  exact ⟨_, rfl⟩

theorem sq_nonneg (x : EReal) : 0 ≤ x * x := by
  induction x using EReal.rec with
  | bot => rw [EReal.bot_mul_bot]; exact le_top
  | top => rw [EReal.top_mul_top]; exact le_top
  | coe r => rw [← EReal.coe_mul]; exact EReal.coe_nonneg.mpr (mul_self_nonneg r)

theorem sq_top (x : EReal) (h : ¬ IsReal x) : x * x = ⊤ := by
  induction x using EReal.rec with
  | bot => exact EReal.bot_mul_bot
  | top => exact EReal.top_mul_top
  | coe r => exact absurd ⟨r, rfl⟩ h

/-- A value over its row's root mean square is a real number: beside an infinity in the row the reciprocal root is zero. -/
theorem mul_rsqrt_real {n : ℕ} (f : Fin n → EReal) (k : Fin n) :
    IsReal (f k * Ideal.rsqrt (Ideal.div (∑ i, f i * f i) (Ideal.ofBits .f32 0x44800000#32) + Ideal.ofBits .f32 0x358637BD#32)) := by
  by_cases h : ∀ i, IsReal (f i)
  · exact (h k).mul (rsqrt_real f h)
  · obtain ⟨i, hi⟩ := not_forall.mp h
    obtain ⟨c, _, ec⟩ := ofBits_eps
    have e : ∑ j, f j * f j = ⊤ := by
      rw [← Finset.add_sum_erase _ _ (Finset.mem_univ i), sq_top _ hi]
      exact EReal.top_add_of_ne_bot
        (ne_of_gt (lt_of_lt_of_le EReal.bot_lt_zero (Finset.sum_nonneg fun j _ => sq_nonneg (f j))))
    rw [e, ec, ofBits_1024, Ideal.div_coe (by norm_num), EReal.top_mul_coe_of_pos (by norm_num), EReal.top_add_coe]
    exact ⟨0, mul_zero _⟩

/-- The lanes of a sum over 256 that lie in one block of 64. -/
theorem sum_block (b : Fin 4) (f : Fin 256 → EReal) (p : Fin 256 → Prop) [DecidablePred p]
    (hp : ∀ k, p k ↔ k.val / 64 = b.val) :
    ∑ k : Fin 256, f k * (if p k then 1 else 0) = ∑ d : Fin 64, f ⟨b.val * 64 + d.val, by omega⟩ := by
  rw [← Equiv.sum_comp (finProdFinEquiv : Fin 4 × Fin 64 ≃ Fin 256), Fintype.sum_prod_type, Finset.sum_eq_single b]
  · refine Finset.sum_congr rfl fun d _ => ?_
    have hv : ((finProdFinEquiv : Fin 4 × Fin 64 ≃ Fin 256) (b, d)).val = d.val + 64 * b.val := rfl
    rw [if_pos ((hp _).mpr (by rw [hv]; omega)), mul_one]
    exact congrArg f (Fin.ext (by rw [hv]; show d.val + 64 * b.val = b.val * 64 + d.val; omega))
  · intro b' _ hb
    refine Finset.sum_eq_zero fun d _ => ?_
    have hv : ((finProdFinEquiv : Fin 4 × Fin 64 ≃ Fin 256) (b', d)).val = d.val + 64 * b'.val := rfl
    rw [if_neg fun h => hb (Fin.ext (by have := (hp _).mp h; rw [hv] at this; omega)), mul_zero]
  · exact fun h => absurd (Finset.mem_univ b) h

/-- The split sum of squares through a matrix marking a block of 64 lanes is the block's sum of squares. -/
theorem split_sum (h : Fin 256 → EReal) (hr : ∀ k, IsReal (h k)) (b : Fin 4) (q : Fin 256 → EReal) (p : Fin 256 → Prop)
    [DecidablePred p] (hp : ∀ k, p k ↔ k.val / 64 = b.val) (hq : ∀ k, q k = if p k then 1 else 0) :
    (∑ k : Fin 256, h k * h k * q k) + ∑ k : Fin 256, (h k * h k - h k * h k) * q k
      = ∑ d : Fin 64, h ⟨b.val * 64 + d.val, by omega⟩ * h ⟨b.val * 64 + d.val, by omega⟩ := by
  have e0 : ∑ k : Fin 256, (h k * h k - h k * h k) * q k = 0 :=
    Finset.sum_eq_zero fun k _ => by rw [((hr k).mul (hr k)).sub_self, zero_mul]
  rw [e0, add_zero, ← sum_block b (fun k => h k * h k) p hp]
  exact Finset.sum_congr rfl fun k _ => by rw [hq]

end Cert.ProjMath

end
-- ==== Proof.ProjSpec.lean ====
/-
  The layer's input projection, plainly: the input row normalised, its product with the weights, and the norm of each head's
  64 lanes of the queries and the keys, entry by entry over the extended reals. The reference's results are these functions.
-/
module

public import proofs.«01_k».proof.Proof.Gen.ProjRefIdeal.Read
public import Idealize.ShloMosaic.Lib.Pointwise

@[expose] public section

noncomputable section

namespace Cert.ProjSpec

open Cert.ProjRefIdeal Cert.ProjRefIdeal.Gen Cert.ProjRefIdeal.Read Idealize.ShloMosaic

variable (x : FVec Ideal S4x4096x1024 .f32) (an : FVec Ideal S1024 .f32) (w : FVec Ideal S1024x3072 .f32)
  (qg kg : FVec Ideal S64 .f32)

/-- The input row divided by its root mean square, times the gain. -/
def nx (b : Fin 4) (s : Fin 4096) (k : Fin 1024) : EReal :=
  x (ix3 b s k) * Ideal.rsqrt (Ideal.div (∑ k : Fin 1024, x (ix3 b s k) * x (ix3 b s k)) (Ideal.ofBits .f32 0x44800000#32)
    + Ideal.ofBits .f32 0x358637BD#32) * an (ix1 k)

/-- One lane of the product with the weights. -/
def lane (b : Fin 4) (s : Fin 4096) (n : Fin 3072) : EReal := ∑ k : Fin 1024, nx x an b s k * w (ix2 k n)

/-- Lane `d` of head `hd` of part `p`: the queries, the keys and the values are parts 0, 1 and 2. -/
def part (b : Fin 4) (s : Fin 4096) (p : Fin 3) (hd : Fin 16) (d : Fin 64) : EReal :=
  lane x an w b s ⟨p.val * 1024 + hd.val * 64 + d.val, by omega⟩

/-- A lane divided by the root mean square of its head, times the gain. -/
def headNorm (g : FVec Ideal S64 .f32) (h : Fin 64 → EReal) (d : Fin 64) : EReal :=
  h d * Ideal.rsqrt (Ideal.div (∑ e : Fin 64, h e * h e) (Ideal.ofBits .f32 0x42800000#32) + Ideal.ofBits .f32 0x358637BD#32)
    * g (ix1 d)

/-- A lane of the queries. -/
def q (b : Fin 4) (s : Fin 4096) (l : Fin 1024) : EReal :=
  headNorm qg (part x an w b s 0 ⟨l.val / 64, by omega⟩) ⟨l.val % 64, by omega⟩

/-- A lane of the keys and values: each head's 64 lanes of the key, then its 64 of the value. -/
def kv (b : Fin 4) (s : Fin 4096) (l : Fin 2048) : EReal :=
  if l.val % 128 < 64 then headNorm kg (part x an w b s 1 ⟨l.val / 128, by omega⟩) ⟨l.val % 64, by omega⟩
  else part x an w b s 2 ⟨l.val / 128, by omega⟩ ⟨l.val % 64, by omega⟩

theorem ref_nx (b : Fin 4) (s : Fin 4096) (k : Fin 1024) : val_main_v12 (F := Ideal) x an (ix3 b s k) = nx x an b s k := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1, nx]

theorem ref_lane (b : Fin 4) (s : Fin 4096) (n : Fin 3072) : val_main_v13 (F := Ideal) x an w (ix3 b s n) = lane x an w b s n := by
  simp only [lane, ← ref_nx]
  unfold val_main_v13
  generalize val_main_v12 (F := Ideal) x an = y
  pointwise

theorem ref_part0 (b : Fin 4) (s : Fin 4096) (hd : Fin 16) (d : Fin 64) :
    val_main_v16 (F := Ideal) x an w (ix4 b s hd d) = part x an w b s 0 hd d := by
  simp only [part, ← ref_lane]
  unfold val_main_v16 val_main_v15 val_main_v14
  generalize val_main_v13 (F := Ideal) x an w = y
  pointwise

theorem ref_part1 (b : Fin 4) (s : Fin 4096) (hd : Fin 16) (d : Fin 64) :
    val_main_v31 (F := Ideal) x an w (ix4 b s hd d) = part x an w b s 1 hd d := by
  simp only [part, ← ref_lane]
  unfold val_main_v31 val_main_v30 val_main_v14
  generalize val_main_v13 (F := Ideal) x an w = y
  pointwise

theorem ref_part2 (b : Fin 4) (s : Fin 4096) (hd : Fin 16) (d : Fin 64) :
    val_main_v46 (F := Ideal) x an w (ix4 b s hd d) = part x an w b s 2 hd d := by
  simp only [part, ← ref_lane]
  unfold val_main_v46 val_main_v45 val_main_v14
  generalize val_main_v13 (F := Ideal) x an w = y
  pointwise

theorem ref_q (b : Fin 4) (s : Fin 4096) (hd : Fin 16) (d : Fin 64) :
    val_main_v29 (F := Ideal) x an w qg (ix4 b s hd d) = headNorm qg (part x an w b s 0 hd) d := by
  simp only [headNorm, ← ref_part0]
  unfold val_main_v29 val_main_v28 val_main_v27 val_main_v26 val_main_v25 val_main_v24 val_main_v23 val_main_v22 val_main_v21 val_main_v20 val_main_v19 val_main_v18 val_main_v17 val_main_cst_2 val_main_cst_3 val_main_cst_4
  generalize val_main_v16 (F := Ideal) x an w = y
  pointwise

theorem ref_k (b : Fin 4) (s : Fin 4096) (hd : Fin 16) (d : Fin 64) :
    val_main_v44 (F := Ideal) x an w kg (ix4 b s hd d) = headNorm kg (part x an w b s 1 hd) d := by
  simp only [headNorm, ← ref_part1]
  unfold val_main_v44 val_main_v43 val_main_v42 val_main_v41 val_main_v40 val_main_v39 val_main_v38 val_main_v37 val_main_v36 val_main_v35 val_main_v34 val_main_v33 val_main_v32 val_main_cst_5 val_main_cst_6 val_main_cst_7
  generalize val_main_v31 (F := Ideal) x an w = y
  pointwise

/-- The first result: the queries as columns. -/
theorem ref_out0 (b : Fin 4) (l : Fin 1024) (s : Fin 4096) :
    val_main_v52 (F := Ideal) x an w qg (ix3 b l s) = q x an w qg b s l := by
  simp only [q, ← ref_q]
  unfold val_main_v52 val_main_v51 val_main_v50
  generalize val_main_v29 (F := Ideal) x an w qg = y
  pointwise

theorem ref_kv (b : Fin 4) (s : Fin 4096) (l : Fin 2048) :
    val_main_v53 (F := Ideal) x an w kg (ix3 b s l) = kv x an w kg b s l := by
  simp only [kv, ← ref_k, ← ref_part2]
  unfold val_main_v53 val_main_v49 val_main_v48 val_main_v47
  generalize val_main_v44 (F := Ideal) x an w kg = y
  generalize val_main_v46 (F := Ideal) x an w = z
  pointwise
  by_cases h : l.val % 128 < 64
  · rw [dif_pos (by omega), if_pos h]
  · rw [dif_neg (by omega), if_neg h]

/-- The second and the last: the keys and values as columns. -/
theorem ref_out1 (b : Fin 4) (l : Fin 2048) (s : Fin 4096) :
    val_main_v58 (F := Ideal) x an w kg (ix3 b l s) = kv x an w kg b s l := by
  have e : idx_main_v58 (ix3 b l s) = ix3 b s l := funext fun a => Fin.ext (match a with
    | ⟨0, _⟩ => rfl
    | ⟨1, _⟩ => rfl
    | ⟨2, _⟩ => rfl)
  rewrite [val_main_v58_apply, e]
  exact ref_kv x an w kg b s l

theorem ref_out4 (b : Fin 4) (l : Fin 2048) (s : Fin 4096) :
    val_main_v61 (F := Ideal) x an w kg (ix3 b l s) = kv x an w kg b s l := by
  rewrite [val_main_v61_apply, ref_out1]
  rfl

/-- The third: the keys and values as rows. -/
theorem ref_out2 (n : Fin 16384) (l : Fin 2048) :
    val_main_v60 (F := Ideal) x an w kg (ix2 n l) = kv x an w kg ⟨n.val / 4096, by omega⟩ ⟨n.val % 4096, by omega⟩ l := by
  have e : idx_main_v59 (ix2 n l) = ix3 ⟨n.val / 4096, by omega⟩ ⟨n.val % 4096, by omega⟩ l :=
    funext fun a => Fin.ext (by
      match a with
      | ⟨0, _⟩ => show (n.val * 2048 + l.val) / 8388608 = n.val / 4096; omega
      | ⟨1, _⟩ => show (n.val * 2048 + l.val) / 2048 % 4096 = n.val % 4096; omega
      | ⟨2, _⟩ => show (n.val * 2048 + l.val) % 2048 = l.val; omega)
  rewrite [val_main_v60_apply, val_main_v59_apply, e, ref_kv]
  rfl

/-- The fourth: the means over blocks of 256 rows. -/
theorem ref_out3 (t : Fin 32) (a : Fin 2) (l : Fin 2048) :
    val_main_v57 (F := Ideal) x an w kg (ix3 t a l)
      = Ideal.div (∑ r : Fin 256, kv x an w kg ⟨t.val / 8, by omega⟩ ⟨t.val % 8 * 512 + a.val * 256 + r.val, by omega⟩ l)
          (Ideal.ofBits .f32 0x43800000#32) := by
  simp only [← ref_kv]
  unfold val_main_v57 val_main_v56 val_main_v55 val_main_v54 val_main_cst_8 val_main_cst_9
  generalize val_main_v53 (F := Ideal) x an w kg = y
  pointwise

end Cert.ProjSpec

end
-- ==== Proof.ProjBlocks.lean ====
/-
  The blocks one grid point of the QKV projection kernel is handed, as entries of the argument arrays: the rows of the
  input, and the weights and gains in the layout the call's host lines give them.
-/
module

public import proofs.«01_k».proof.Proof.Gen.ProjIdeal.Value
public import Idealize.ShloMosaic.Lib.Pointwise

@[expose] public section

noncomputable section

namespace Cert.ProjIdeal.Blocks

open Cert.ProjIdeal Cert.ProjIdeal.Gen Idealize.ShloMosaic Idealize.ShloMosaic.TcCoe Idealize.SL.Sem
open Idealize.ShloMosaic.Tactic

variable (m : (ℓ : Loc nD τ sig) → Buf (Elt Ideal) ℓ) (c : Dev nD)

theorem V_v0 (n : Fin 16384) (k : Fin 1024) : V (F := Ideal) m c main_v0 (ix2 n k)
    = m ((c : Thread nD τ).loc main_arg0) (ix3 ⟨n.val / 4096, by omega⟩ ⟨n.val % 4096, by omega⟩ k) := by
  unfold_abbrev_sides
  simp only [hostOps0, hostOps0_1, hostOps0_2, hostOps0_3, hostOps0_4, List.flatten_cons, List.flatten_nil, List.append_nil,
    List.cons_append, List.nil_append]
  after_results
  pointwise

theorem V_v46 (j : Fin 1024) : V (F := Ideal) m c main_v46 (ix2 0 j) = m ((c : Thread nD τ).loc main_arg1) (ix1 j) := by
  unfold_abbrev_sides
  simp only [hostOps0, hostOps0_1, hostOps0_2, hostOps0_3, hostOps0_4, List.flatten_cons, List.flatten_nil, List.append_nil,
    List.cons_append, List.nil_append]
  after_results
  pointwise

theorem V_v35 (k l : Fin 1024) : V (F := Ideal) m c main_v35 (ix2 k l)
    = m ((c : Thread nD τ).loc main_arg2) (ix2 k ⟨l.val, by omega⟩) := by
  unfold_abbrev_sides
  simp only [hostOps0, hostOps0_1, hostOps0_2, hostOps0_3, hostOps0_4, List.flatten_cons, List.flatten_nil, List.append_nil,
    List.cons_append, List.nil_append]
  after_results
  pointwise
  exact congrArg (m ((c : Thread nD τ).loc main_arg2)) (congrArg (ix2 k)
    (Fin.ext (by show l.val / 64 * 64 + l.val % 64 = l.val; omega)))

theorem V_v39 (l : Fin 1024) : V (F := Ideal) m c main_v39 (ix2 0 l)
    = m ((c : Thread nD τ).loc main_arg3) (ix1 ⟨l.val % 64, by omega⟩) := by
  unfold_abbrev_sides
  simp only [hostOps0, hostOps0_1, hostOps0_2, hostOps0_3, hostOps0_4, List.flatten_cons, List.flatten_nil, List.append_nil,
    List.cons_append, List.nil_append]
  after_results
  pointwise

theorem V_v31 (k : Fin 1024) (l : Fin 2048) : V (F := Ideal) m c main_v31 (ix2 k l)
    = if l.val % 128 < 64 then m ((c : Thread nD τ).loc main_arg2) (ix2 k ⟨1024 + l.val / 128 * 64 + l.val % 64, by omega⟩)
      else m ((c : Thread nD τ).loc main_arg2) (ix2 k ⟨2048 + l.val / 128 * 64 + l.val % 64, by omega⟩) := by
  unfold_abbrev_sides
  simp only [hostOps0, hostOps0_1, hostOps0_2, hostOps0_3, hostOps0_4, List.flatten_cons, List.flatten_nil, List.append_nil,
    List.cons_append, List.nil_append]
  after_results
  pointwise
  have e : l.val / 64 % 2 < 1 ↔ l.val % 128 < 64 := by omega
  by_cases h : l.val % 128 < 64
  · exact (dif_pos (e.mpr h)).trans (if_pos h).symm
  · exact (dif_neg (fun hh => h (e.mp hh))).trans (if_neg h).symm

theorem V_v45 (l : Fin 2048) (h : l.val % 128 < 64) : V (F := Ideal) m c main_v45 (ix2 0 l)
    = m ((c : Thread nD τ).loc main_arg4) (ix1 ⟨l.val % 64, by omega⟩) := by
  unfold_abbrev_sides
  simp only [hostOps0, hostOps0_1, hostOps0_2, hostOps0_3, hostOps0_4, List.flatten_cons, List.flatten_nil, List.append_nil,
    List.cons_append, List.nil_append]
  after_results
  pointwise
  rw [dif_pos h]
  exact congrArg (m ((c : Thread nD τ).loc main_arg4)) (congrArg ix1 (Fin.ext (by show l.val % 128 = l.val % 64; omega)))

theorem shr6 : ∀ k : Fin 256, IntOp.shrsi .host (BitVec.ofNat 32 k.val) 6#32 = BitVec.ofNat 32 (k.val / 64) := by decide +kernel
theorem shr7 : ∀ k : Fin 256, IntOp.shrsi .host (BitVec.ofNat 32 k.val) 7#32 = BitVec.ofNat 32 (k.val / 128) := by decide +kernel

theorem low : ∀ k : Fin 256, IntOp.cmpi .slt (IntOp.andi (BitVec.ofNat 32 k.val) 127#32) 64#32
    = if k.val % 128 < 64 then 1#1 else 0#1 := by decide +kernel

theorem same : ∀ a b : Fin 4, IntOp.cmpi .eq (BitVec.ofNat 32 a.val) (BitVec.ofNat 32 b.val)
    = if a.val = b.val then 1#1 else 0#1 := by decide +kernel

theorem both (p q : Prop) [Decidable p] [Decidable q] :
    IntOp.andi (if p then 1#1 else 0#1) (if q then 1#1 else 0#1) = if p ∧ q then 1#1 else 0#1 := by
  by_cases hp : p <;> by_cases hq : q <;> simp only [hp, hq, if_true, if_false, and_self, and_true, and_false] <;> decide

theorem choose_bit (p : Prop) [Decidable p] (a b : EReal) :
    Scalar.select (if p then 1#1 else 0#1) a b = if p then a else b := by
  by_cases h : p
  · rw [if_pos h, if_pos h]; rfl
  · rw [if_neg h, if_neg h]; rfl

/-- The matrix marking the lanes of a column's own 64. -/
theorem V_v19 (k j : Fin 256) : V (F := Ideal) m c main_v19 (ix2 k j)
    = if k.val / 64 = j.val / 64 then (1 : EReal) else 0 := by
  unfold_abbrev_sides
  simp only [hostOps0, hostOps0_1, hostOps0_2, hostOps0_3, hostOps0_4, List.flatten_cons, List.flatten_nil, List.append_nil,
    List.cons_append, List.nil_append]
  after_results
  change Scalar.select (IntOp.cmpi .eq (IntOp.shrsi .host (BitVec.ofNat 32 k.val) 6#32)
    (IntOp.shrsi .host (BitVec.ofNat 32 j.val) 6#32)) (Ideal.ofBits .f32 0x3F800000#32) (Ideal.ofBits .f32 0x00000000#32) = _
  rw [shr6, shr6, same ⟨k.val / 64, by omega⟩ ⟨j.val / 64, by omega⟩, choose_bit, Ideal.ofBits_one_f32, Ideal.ofBits_zero_f32]

/-- The matrix marking the first 64 lanes of a column's own 128. -/
theorem V_v21 (k j : Fin 256) : V (F := Ideal) m c main_v21 (ix2 k j)
    = if k.val / 128 = j.val / 128 ∧ k.val % 128 < 64 then (1 : EReal) else 0 := by
  unfold_abbrev_sides
  simp only [hostOps0, hostOps0_1, hostOps0_2, hostOps0_3, hostOps0_4, List.flatten_cons, List.flatten_nil, List.append_nil,
    List.cons_append, List.nil_append]
  after_results
  change Scalar.select (IntOp.andi (IntOp.cmpi .eq (IntOp.shrsi .host (BitVec.ofNat 32 k.val) 7#32)
    (IntOp.shrsi .host (BitVec.ofNat 32 j.val) 7#32)) (IntOp.cmpi .slt (IntOp.andi (BitVec.ofNat 32 k.val) 127#32) 64#32))
    (Ideal.ofBits .f32 0x3F800000#32) (Ideal.ofBits .f32 0x00000000#32) = _
  rw [shr7, shr7, low, same ⟨k.val / 128, by omega⟩ ⟨j.val / 128, by omega⟩, both, choose_bit, Ideal.ofBits_one_f32,
    Ideal.ofBits_zero_f32]

theorem idx : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0) := by
  decide +kernel

theorem lt (t : Fin cfg0.N) : t.val < 32 := lt_of_lt_of_eq t.isLt N_0

/-- The sequence of grid point `t`, and the place in it of row `r` of its block. -/
def bat (t : Fin cfg0.N) : Fin 4 := ⟨t.val / 8, by have := lt t; omega⟩
def pos (t : Fin cfg0.N) (r : Fin 512) : Fin 4096 := ⟨t.val % 8 * 512 + r.val, by omega⟩

theorem blk0 (t : Fin cfg0.N) (r : Fin 512) (k : Fin 1024) :
    iblk (F := Ideal) m c 0 t (ix2 r k) = m ((c : Thread nD τ).loc main_arg0) (ix3 (bat t) (pos t r) k) := by
  have h := (idx t).1
  have hl := lt t
  have e : iblk (F := Ideal) m c 0 t (ix2 r k) = V (F := Ideal) m c main_v0 (ix2 ⟨t.val * 512 + r.val, by omega⟩ k) := by
    refine congrArg (V (F := Ideal) m c main_v0) (funext fun a => Fin.ext ?_)
    match a with
    | ⟨0, _⟩ => show win0_0.index t (0 : Fin 2) * 512 + 1 * r.val = t.val * 512 + r.val; omega
    | ⟨1, _⟩ => show win0_0.index t (1 : Fin 2) * 1024 + 1 * k.val = k.val; omega
  rw [e, V_v0]
  refine congrArg (m ((c : Thread nD τ).loc main_arg0)) ?_
  have e1 : (⟨(t.val * 512 + r.val) / 4096, by omega⟩ : Fin 4) = bat t :=
    Fin.ext (by show (t.val * 512 + r.val) / 4096 = t.val / 8; omega)
  have e2 : (⟨(t.val * 512 + r.val) % 4096, by omega⟩ : Fin 4096) = pos t r :=
    Fin.ext (by show (t.val * 512 + r.val) % 4096 = t.val % 8 * 512 + r.val; omega)
  exact congrArg₂ (fun a b => ix3 a b k) e1 e2

theorem blk1 (t : Fin cfg0.N) (k : Fin 1) (l : Fin 1024) :
    iblk (F := Ideal) m c 1 t (ix2 k l) = V (F := Ideal) m c main_v46 (ix2 k l) := by
  have h := (idx t).2.1
  refine congrArg (V (F := Ideal) m c main_v46) (funext fun a => Fin.ext ?_)
  match a with
  | ⟨0, _⟩ => show win0_1.index t (0 : Fin 2) * 1 + 1 * k.val = k.val; omega
  | ⟨1, _⟩ => show win0_1.index t (1 : Fin 2) * 1024 + 1 * l.val = l.val; omega

theorem blk2 (t : Fin cfg0.N) (k : Fin 1024) (l : Fin 1024) :
    iblk (F := Ideal) m c 2 t (ix2 k l) = V (F := Ideal) m c main_v35 (ix2 k l) := by
  have h := (idx t).2.2.1
  refine congrArg (V (F := Ideal) m c main_v35) (funext fun a => Fin.ext ?_)
  match a with
  | ⟨0, _⟩ => show win0_2.index t (0 : Fin 2) * 1024 + 1 * k.val = k.val; omega
  | ⟨1, _⟩ => show win0_2.index t (1 : Fin 2) * 1024 + 1 * l.val = l.val; omega

theorem blk3 (t : Fin cfg0.N) (k : Fin 1024) (l : Fin 2048) :
    iblk (F := Ideal) m c 3 t (ix2 k l) = V (F := Ideal) m c main_v31 (ix2 k l) := by
  have h := (idx t).2.2.2.1
  refine congrArg (V (F := Ideal) m c main_v31) (funext fun a => Fin.ext ?_)
  match a with
  | ⟨0, _⟩ => show win0_3.index t (0 : Fin 2) * 1024 + 1 * k.val = k.val; omega
  | ⟨1, _⟩ => show win0_3.index t (1 : Fin 2) * 2048 + 1 * l.val = l.val; omega

theorem blk4 (t : Fin cfg0.N) (k : Fin 1) (l : Fin 1024) :
    iblk (F := Ideal) m c 4 t (ix2 k l) = V (F := Ideal) m c main_v39 (ix2 k l) := by
  have h := (idx t).2.2.2.2.1
  refine congrArg (V (F := Ideal) m c main_v39) (funext fun a => Fin.ext ?_)
  match a with
  | ⟨0, _⟩ => show win0_4.index t (0 : Fin 2) * 1 + 1 * k.val = k.val; omega
  | ⟨1, _⟩ => show win0_4.index t (1 : Fin 2) * 1024 + 1 * l.val = l.val; omega

theorem blk5 (t : Fin cfg0.N) (k : Fin 1) (l : Fin 2048) :
    iblk (F := Ideal) m c 5 t (ix2 k l) = V (F := Ideal) m c main_v45 (ix2 k l) := by
  have h := (idx t).2.2.2.2.2.1
  refine congrArg (V (F := Ideal) m c main_v45) (funext fun a => Fin.ext ?_)
  match a with
  | ⟨0, _⟩ => show win0_5.index t (0 : Fin 2) * 1 + 1 * k.val = k.val; omega
  | ⟨1, _⟩ => show win0_5.index t (1 : Fin 2) * 2048 + 1 * l.val = l.val; omega

theorem blk6 (t : Fin cfg0.N) (k : Fin 256) (l : Fin 256) :
    iblk (F := Ideal) m c 6 t (ix2 k l) = V (F := Ideal) m c main_v19 (ix2 k l) := by
  have h := (idx t).2.2.2.2.2.2.1
  refine congrArg (V (F := Ideal) m c main_v19) (funext fun a => Fin.ext ?_)
  match a with
  | ⟨0, _⟩ => show win0_6.index t (0 : Fin 2) * 256 + 1 * k.val = k.val; omega
  | ⟨1, _⟩ => show win0_6.index t (1 : Fin 2) * 256 + 1 * l.val = l.val; omega

theorem blk7 (t : Fin cfg0.N) (k : Fin 256) (l : Fin 256) :
    iblk (F := Ideal) m c 7 t (ix2 k l) = V (F := Ideal) m c main_v21 (ix2 k l) := by
  have h := (idx t).2.2.2.2.2.2.2
  refine congrArg (V (F := Ideal) m c main_v21) (funext fun a => Fin.ext ?_)
  match a with
  | ⟨0, _⟩ => show win0_7.index t (0 : Fin 2) * 256 + 1 * k.val = k.val; omega
  | ⟨1, _⟩ => show win0_7.index t (1 : Fin 2) * 256 + 1 * l.val = l.val; omega

end Cert.ProjIdeal.Blocks

end
-- ==== Proof.ProjValue.lean ====
/-
  The QKV projection kernel's five results, entry by entry: where the norm's gain and the weights are finite, each is
  the plain formula's entry.
-/
module

public import proofs.«01_k».proof.Proof.ProjOut
public import proofs.«01_k».proof.Proof.ProjMath
public import proofs.«01_k».proof.Proof.ProjSpec
public import proofs.«01_k».proof.Proof.ProjBlocks

@[expose] public section

noncomputable section

namespace Cert.ProjIdeal.Final

open Cert.ProjIdeal Cert.ProjIdeal.Gen Idealize.ShloMosaic Idealize.ShloMosaic.TcCoe Idealize.SL.Sem
open Cert.ProjIdeal.Tile Cert.ProjIdeal.Blocks Cert.ProjMath

variable (m : (ℓ : Loc nD τ sig) → Buf (Elt Ideal) ℓ) (c : Dev nD)

/-- The five argument arrays at launch. -/
abbrev a0 : FVec Ideal S4x4096x1024 .f32 := m ((c : Thread nD τ).loc main_arg0)
abbrev a1 : FVec Ideal S1024 .f32 := m ((c : Thread nD τ).loc main_arg1)
abbrev a2 : FVec Ideal S1024x3072 .f32 := m ((c : Thread nD τ).loc main_arg2)
abbrev a3 : FVec Ideal S64 .f32 := m ((c : Thread nD τ).loc main_arg3)
abbrev a4 : FVec Ideal S64 .f32 := m ((c : Thread nD τ).loc main_arg4)

theorem in1 (t : Fin cfg0.N) (k : Fin 1024) : iblk (F := Ideal) m c 1 t (ix2 0 k) = a1 m c (ix1 k) :=
  (blk1 m c t 0 k).trans (V_v46 m c k)
theorem in2 (t : Fin cfg0.N) (k l : Fin 1024) : iblk (F := Ideal) m c 2 t (ix2 k l) = a2 m c (ix2 k ⟨l.val, by omega⟩) :=
  (blk2 m c t k l).trans (V_v35 m c k l)
theorem in3 (t : Fin cfg0.N) (k : Fin 1024) (l : Fin 2048) : iblk (F := Ideal) m c 3 t (ix2 k l)
    = a2 m c (ix2 k ⟨(if l.val % 128 < 64 then 1024 else 2048) + l.val / 128 * 64 + l.val % 64, by split <;> omega⟩) := by
  refine ((blk3 m c t k l).trans (V_v31 m c k l)).trans ?_
  by_cases h : l.val % 128 < 64
  · simp only [if_pos h]
  · simp only [if_neg h]
theorem in4 (t : Fin cfg0.N) (l : Fin 1024) : iblk (F := Ideal) m c 4 t (ix2 0 l) = a3 m c (ix1 ⟨l.val % 64, by omega⟩) :=
  (blk4 m c t 0 l).trans (V_v39 m c l)
theorem in5 (t : Fin cfg0.N) (l : Fin 2048) (h : l.val % 128 < 64) :
    iblk (F := Ideal) m c 5 t (ix2 0 l) = a4 m c (ix1 ⟨l.val % 64, by omega⟩) :=
  (blk5 m c t 0 l).trans (V_v45 m c l h)
theorem in6 (t : Fin cfg0.N) (k j : Fin 256) :
    iblk (F := Ideal) m c 6 t (ix2 k j) = if k.val / 64 = j.val / 64 then (1 : EReal) else 0 :=
  (blk6 m c t k j).trans (V_v19 m c k j)
theorem in7 (t : Fin cfg0.N) (k j : Fin 256) :
    iblk (F := Ideal) m c 7 t (ix2 k j) = if k.val / 128 = j.val / 128 ∧ k.val % 128 < 64 then (1 : EReal) else 0 :=
  (blk7 m c t k j).trans (V_v21 m c k j)

/-- The block's normalised rows are the formula's. -/
theorem nx_blk (t : Fin cfg0.N) (r : Fin 512) (k : Fin 1024) :
    k0_pay4 (F := Ideal) (iblk m c 0 t) (iblk m c 1 t) (ix2 r k) = ProjSpec.nx (a0 m c) (a1 m c) (bat t) (pos t r) k := by
  refine (pay4_apply _ _ r k).trans ?_
  simp only [blk0, in1]
  rfl

theorem qLane_blk (t : Fin cfg0.N) (r : Fin 512) (l : Fin 1024) :
    qLane (iblk m c 0 t) (iblk m c 1 t) (iblk m c 2 t) r l
      = ProjSpec.lane (a0 m c) (a1 m c) (a2 m c) (bat t) (pos t r) ⟨l.val, by omega⟩ := by
  unfold qLane ProjSpec.lane
  exact Finset.sum_congr rfl fun k _ => by rw [nx_blk, in2]

theorem kvLane_blk (t : Fin cfg0.N) (r : Fin 512) (l : Fin 2048) :
    kvLane (iblk m c 0 t) (iblk m c 1 t) (iblk m c 3 t) r l
      = ProjSpec.lane (a0 m c) (a1 m c) (a2 m c) (bat t) (pos t r)
          ⟨(if l.val % 128 < 64 then 1024 else 2048) + l.val / 128 * 64 + l.val % 64, by split <;> omega⟩ := by
  unfold kvLane ProjSpec.lane
  exact Finset.sum_congr rfl fun k _ => by rw [nx_blk, in3]

theorem lane_congr (b : Fin 4) (s : Fin 4096) (n n' : Fin 3072) (h : n.val = n'.val) :
    ProjSpec.lane (a0 m c) (a1 m c) (a2 m c) b s n = ProjSpec.lane (a0 m c) (a1 m c) (a2 m c) b s n' :=
  congrArg (ProjSpec.lane (a0 m c) (a1 m c) (a2 m c) b s) (Fin.ext h)

variable (h1 : ∀ i, IsReal (a1 m c i)) (h2 : ∀ i, IsReal (a2 m c i))

include h1 h2 in
/-- Every lane of the product is a real number. -/
theorem lane_real (b : Fin 4) (s : Fin 4096) (n : Fin 3072) : IsReal (ProjSpec.lane (a0 m c) (a1 m c) (a2 m c) b s n) := by
  refine IsReal.sum _ _ fun k => IsReal.mul (IsReal.mul ?_ (h1 _)) (h2 _)
  exact mul_rsqrt_real (fun k => a0 m c (ix3 b s k)) k

/-- The norm through a matrix marking a block of 64 lanes is the norm of that block's head. -/
theorem normed_eq (h : Fin 256 → EReal) (hr : ∀ k, IsReal (h k)) (gm : FVec Ideal S256x256 .bf16) (g : EReal) (j : Fin 256)
    (b : Fin 4) (p : Fin 256 → Prop) [DecidablePred p] (hp : ∀ k, p k ↔ k.val / 64 = b.val)
    (hq : ∀ k, gm (ix2 k j) = if p k then 1 else 0) (H : Fin 64 → EReal) (hH : ∀ d : Fin 64, h ⟨b.val * 64 + d.val, by omega⟩ = H d)
    (d0 : Fin 64) (hd : h j = H d0) (G : FVec Ideal S64 .f32) (hg : g = G (ix1 d0)) :
    normed h gm g j = ProjSpec.headNorm G H d0 := by
  unfold normed marked ProjSpec.headNorm
  rw [split_sum h hr b (fun k => gm (ix2 k j)) p hp hq, mul_inv64, hd, hg]
  simp only [hH]

include h1 h2 in
/-- The block's queries are the formula's. -/
theorem q_blk (t : Fin cfg0.N) (r : Fin 512) (l : Fin 1024) :
    qT (iblk m c 0 t) (iblk m c 1 t) (iblk m c 2 t) (iblk m c 4 t) (iblk m c 6 t) r l
      = ProjSpec.q (a0 m c) (a1 m c) (a2 m c) (a3 m c) (bat t) (pos t r) l := by
  unfold qT ProjSpec.q
  refine normed_eq _ (fun k => ?_) _ _ _ ⟨l.val % 256 / 64, by omega⟩ (fun k => k.val / 64 = l.val % 256 / 64)
    (fun k => Iff.rfl) (fun k => ?_) _ (fun d => ?_) _ ?_ _ ?_
  · exact (qLane_blk m c t r _).symm ▸ lane_real m c h1 h2 _ _ _
  · exact in6 m c t k _
  · refine (qLane_blk m c t r _).trans (lane_congr m c _ _ _ _ ?_)
    show l.val / 256 * 256 + (l.val % 256 / 64 * 64 + d.val) = 0 * 1024 + l.val / 64 * 64 + d.val
    omega
  · refine (qLane_blk m c t r _).trans (lane_congr m c _ _ _ _ ?_)
    show l.val / 256 * 256 + l.val % 256 = 0 * 1024 + l.val / 64 * 64 + l.val % 64
    omega
  · exact in4 m c t l

include h1 h2 in
/-- The block's keys and values are the formula's. -/
theorem kv_blk (t : Fin cfg0.N) (r : Fin 512) (l : Fin 2048) :
    kvT (iblk m c 0 t) (iblk m c 1 t) (iblk m c 3 t) (iblk m c 5 t) (iblk m c 7 t) r l
      = ProjSpec.kv (a0 m c) (a1 m c) (a2 m c) (a4 m c) (bat t) (pos t r) l := by
  unfold kvT ProjSpec.kv
  by_cases h : l.val % 128 < 64
  · rw [if_pos h, if_pos h]
    refine normed_eq _ (fun k => ?_) _ _ _ ⟨l.val % 256 / 64, by omega⟩
      (fun k => k.val / 128 = l.val % 256 / 128 ∧ k.val % 128 < 64)
      (fun k => ?_) (fun k => ?_) _ (fun d => ?_) _ ?_ _ ?_
    · exact (kvLane_blk m c t r _).symm ▸ lane_real m c h1 h2 _ _ _
    · show _ ↔ k.val / 64 = l.val % 256 / 64
      omega
    · exact in7 m c t k _
    · refine (kvLane_blk m c t r _).trans (lane_congr m c _ _ _ _ ?_)
      show (if (l.val / 256 * 256 + (l.val % 256 / 64 * 64 + d.val)) % 128 < 64 then 1024 else 2048)
        + (l.val / 256 * 256 + (l.val % 256 / 64 * 64 + d.val)) / 128 * 64
        + (l.val / 256 * 256 + (l.val % 256 / 64 * 64 + d.val)) % 64 = 1 * 1024 + l.val / 128 * 64 + d.val
      rw [if_pos (by omega)]
      omega
    · refine (kvLane_blk m c t r _).trans (lane_congr m c _ _ _ _ ?_)
      show (if (l.val / 256 * 256 + l.val % 256) % 128 < 64 then 1024 else 2048)
        + (l.val / 256 * 256 + l.val % 256) / 128 * 64 + (l.val / 256 * 256 + l.val % 256) % 64
        = 1 * 1024 + l.val / 128 * 64 + l.val % 64
      rw [if_pos (by omega)]
      omega
    · exact in5 m c t l h
  · rw [if_neg h, if_neg h]
    refine (kvLane_blk m c t r l).trans (lane_congr m c _ _ _ _ ?_)
    show (if l.val % 128 < 64 then 1024 else 2048) + l.val / 128 * 64 + l.val % 64
      = 2 * 1024 + l.val / 128 * 64 + l.val % 64
    rw [if_neg h]

/-- The grid point that writes row `s` of sequence `b`. -/
def point (b : Fin 4) (s : Fin 4096) : Fin cfg0.N := ⟨b.val * 8 + s.val / 512, lt_of_lt_of_eq (by omega) N_0.symm⟩

theorem bat_point (b : Fin 4) (s : Fin 4096) : bat (point b s) = b :=
  Fin.ext (by show (b.val * 8 + s.val / 512) / 8 = b.val; omega)

theorem pos_point (b : Fin 4) (s : Fin 4096) : pos (point b s) ⟨s.val % 512, by omega⟩ = s :=
  Fin.ext (by show (b.val * 8 + s.val / 512) % 8 * 512 + s.val % 512 = s.val; omega)

theorem odx : ∀ t : Fin cfg0.N,
    (win0_8.index t (0 : Fin 3) = t.val / 8 ∧ win0_8.index t (1 : Fin 3) = 0 ∧ win0_8.index t (2 : Fin 3) = t.val % 8)
    ∧ (win0_9.index t (0 : Fin 3) = t.val / 8 ∧ win0_9.index t (1 : Fin 3) = 0 ∧ win0_9.index t (2 : Fin 3) = t.val % 8)
    ∧ (win0_10.index t (0 : Fin 2) = t.val ∧ win0_10.index t (1 : Fin 2) = 0)
    ∧ (win0_11.index t (0 : Fin 3) = t.val ∧ win0_11.index t (1 : Fin 3) = 0 ∧ win0_11.index t (2 : Fin 3) = 0)
    ∧ (win0_12.index t (0 : Fin 3) = t.val / 8 ∧ win0_12.index t (1 : Fin 3) = 0 ∧ win0_12.index t (2 : Fin 3) = t.val % 8) := by
  decide +kernel

theorem fl : ∀ t : Fin cfg0.N, (cfg0.win 8).flush t = true ∧ (cfg0.win 9).flush t = true ∧ (cfg0.win 10).flush t = true
    ∧ (cfg0.win 11).flush t = true ∧ (cfg0.win 12).flush t = true := by
  decide +kernel

include h1 h2 in
/-- The first result: the queries as columns. -/
theorem out8 (b : Fin 4) (l : Fin 1024) (s : Fin 4096) :
    (dats m 0 c).arrAt 8 cfg0.N (ix3 b l s) = ProjSpec.q (a0 m c) (a1 m c) (a2 m c) (a3 m c) b s l := by
  have o := (odx (point b s)).1
  have hv : (point b s).val = b.val * 8 + s.val / 512 := rfl
  have e := congrFun (Value.blocks8 (F := Ideal) m c (point b s) (fl _).1) (ix3 0 l ⟨s.val % 512, by omega⟩)
  rw [Value.flushed8] at e
  have e1 : ((cfg0.win 8).blk (point b s)).view.read (Elt Ideal) ((dats m 0 c).arrAt 8 cfg0.N) (ix3 0 l ⟨s.val % 512, by omega⟩)
      = (dats m 0 c).arrAt 8 cfg0.N (ix3 b l s) := by
    refine congrArg ((dats m 0 c).arrAt 8 cfg0.N) (funext fun a => Fin.ext ?_)
    match a with
    | ⟨0, _⟩ => show win0_8.index (point b s) (0 : Fin 3) * 1 + 1 * 0 = b.val; omega
    | ⟨1, _⟩ => show win0_8.index (point b s) (1 : Fin 3) * 1024 + 1 * l.val = l.val; omega
    | ⟨2, _⟩ => show win0_8.index (point b s) (2 : Fin 3) * 512 + 1 * (s.val % 512) = s.val; omega
  refine e1.symm.trans (e.trans ?_)
  refine (out8_apply _ _ _ _ _ _ _ _ ⟨s.val % 512, by omega⟩ l).trans ?_
  rw [q_blk m c h1 h2, bat_point, pos_point]

include h1 h2 in
/-- The second result: the keys and values as columns. -/
theorem out9 (b : Fin 4) (l : Fin 2048) (s : Fin 4096) :
    (dats m 0 c).arrAt 9 cfg0.N (ix3 b l s) = ProjSpec.kv (a0 m c) (a1 m c) (a2 m c) (a4 m c) b s l := by
  have o := (odx (point b s)).2.1
  have hv : (point b s).val = b.val * 8 + s.val / 512 := rfl
  have e := congrFun (Value.blocks9 (F := Ideal) m c (point b s) (fl _).2.1) (ix3 0 l ⟨s.val % 512, by omega⟩)
  rw [Value.flushed9] at e
  have e1 : ((cfg0.win 9).blk (point b s)).view.read (Elt Ideal) ((dats m 0 c).arrAt 9 cfg0.N) (ix3 0 l ⟨s.val % 512, by omega⟩)
      = (dats m 0 c).arrAt 9 cfg0.N (ix3 b l s) := by
    refine congrArg ((dats m 0 c).arrAt 9 cfg0.N) (funext fun a => Fin.ext ?_)
    match a with
    | ⟨0, _⟩ => show win0_9.index (point b s) (0 : Fin 3) * 1 + 1 * 0 = b.val; omega
    | ⟨1, _⟩ => show win0_9.index (point b s) (1 : Fin 3) * 2048 + 1 * l.val = l.val; omega
    | ⟨2, _⟩ => show win0_9.index (point b s) (2 : Fin 3) * 512 + 1 * (s.val % 512) = s.val; omega
  refine e1.symm.trans (e.trans ?_)
  refine (out9_apply _ _ _ _ _ _ _ _ ⟨s.val % 512, by omega⟩ l).trans ?_
  rw [kv_blk m c h1 h2, bat_point, pos_point]

include h1 h2 in
/-- The last result: the keys and values as columns again. -/
theorem out12 (b : Fin 4) (l : Fin 2048) (s : Fin 4096) :
    (dats m 0 c).arrAt 12 cfg0.N (ix3 b l s) = ProjSpec.kv (a0 m c) (a1 m c) (a2 m c) (a4 m c) b s l := by
  have o := (odx (point b s)).2.2.2.2
  have hv : (point b s).val = b.val * 8 + s.val / 512 := rfl
  have e := congrFun (Value.blocks12 (F := Ideal) m c (point b s) (fl _).2.2.2.2) (ix3 0 l ⟨s.val % 512, by omega⟩)
  rw [Value.flushed12] at e
  have e1 : ((cfg0.win 12).blk (point b s)).view.read (Elt Ideal) ((dats m 0 c).arrAt 12 cfg0.N) (ix3 0 l ⟨s.val % 512, by omega⟩)
      = (dats m 0 c).arrAt 12 cfg0.N (ix3 b l s) := by
    refine congrArg ((dats m 0 c).arrAt 12 cfg0.N) (funext fun a => Fin.ext ?_)
    match a with
    | ⟨0, _⟩ => show win0_12.index (point b s) (0 : Fin 3) * 1 + 1 * 0 = b.val; omega
    | ⟨1, _⟩ => show win0_12.index (point b s) (1 : Fin 3) * 2048 + 1 * l.val = l.val; omega
    | ⟨2, _⟩ => show win0_12.index (point b s) (2 : Fin 3) * 512 + 1 * (s.val % 512) = s.val; omega
  refine e1.symm.trans (e.trans ?_)
  refine (out12_apply _ _ _ _ _ _ _ _ ⟨s.val % 512, by omega⟩ l).trans ?_
  rw [kv_blk m c h1 h2, bat_point, pos_point]

/-- The grid point that writes row `n` of the keys and values kept as rows. -/
def pointR (n : Fin 16384) : Fin cfg0.N := ⟨n.val / 512, lt_of_lt_of_eq (by omega) N_0.symm⟩

include h1 h2 in
/-- The third result: the keys and values as rows. -/
theorem out10 (n : Fin 16384) (l : Fin 2048) :
    (dats m 0 c).arrAt 10 cfg0.N (ix2 n l) = ProjSpec.kv (a0 m c) (a1 m c) (a2 m c) (a4 m c) ⟨n.val / 4096, by omega⟩ ⟨n.val % 4096, by omega⟩ l := by
  have o := (odx (pointR n)).2.2.1
  have hv : (pointR n).val = n.val / 512 := rfl
  have e := congrFun (Value.blocks10 (F := Ideal) m c (pointR n) (fl _).2.2.1) (ix2 ⟨n.val % 512, by omega⟩ l)
  rw [Value.flushed10] at e
  have e1 : ((cfg0.win 10).blk (pointR n)).view.read (Elt Ideal) ((dats m 0 c).arrAt 10 cfg0.N) (ix2 ⟨n.val % 512, by omega⟩ l)
      = (dats m 0 c).arrAt 10 cfg0.N (ix2 n l) := by
    refine congrArg ((dats m 0 c).arrAt 10 cfg0.N) (funext fun a => Fin.ext ?_)
    match a with
    | ⟨0, _⟩ => show win0_10.index (pointR n) (0 : Fin 2) * 512 + 1 * (n.val % 512) = n.val; omega
    | ⟨1, _⟩ => show win0_10.index (pointR n) (1 : Fin 2) * 2048 + 1 * l.val = l.val; omega
  have eb : bat (pointR n) = ⟨n.val / 4096, by omega⟩ := Fin.ext (by show n.val / 512 / 8 = n.val / 4096; omega)
  have ep : pos (pointR n) ⟨n.val % 512, by omega⟩ = ⟨n.val % 4096, by omega⟩ :=
    Fin.ext (by show n.val / 512 % 8 * 512 + n.val % 512 = n.val % 4096; omega)
  refine e1.symm.trans (e.trans ?_)
  refine (out10_apply _ _ _ _ _ _ _ _ ⟨n.val % 512, by omega⟩ l).trans ?_
  rw [kv_blk m c h1 h2, eb, ep]

include h1 h2 in
/-- The fourth result: the means of the keys and values over blocks of 256 rows. -/
theorem out11 (t : Fin 32) (a : Fin 2) (l : Fin 2048) :
    (dats m 0 c).arrAt 11 cfg0.N (ix3 t a l)
      = Ideal.div (∑ r : Fin 256, ProjSpec.kv (a0 m c) (a1 m c) (a2 m c) (a4 m c) ⟨t.val / 8, by omega⟩
          ⟨t.val % 8 * 512 + a.val * 256 + r.val, by omega⟩ l) (Ideal.ofBits .f32 0x43800000#32) := by
  have ⟨u, hu⟩ : ∃ u : Fin cfg0.N, u.val = t.val := ⟨⟨t.val, lt_of_lt_of_eq t.isLt N_0.symm⟩, rfl⟩
  have o := (odx u).2.2.2.1
  have e := congrFun (Value.blocks11 (F := Ideal) m c u (fl _).2.2.2.1) (ix3 0 a l)
  rw [Value.flushed11] at e
  have e1 : ((cfg0.win 11).blk u).view.read (Elt Ideal) ((dats m 0 c).arrAt 11 cfg0.N) (ix3 0 a l)
      = (dats m 0 c).arrAt 11 cfg0.N (ix3 t a l) := by
    refine congrArg ((dats m 0 c).arrAt 11 cfg0.N) (funext fun b => Fin.ext ?_)
    match b with
    | ⟨0, _⟩ => show win0_11.index u (0 : Fin 3) * 1 + 1 * 0 = t.val; omega
    | ⟨1, _⟩ => show win0_11.index u (1 : Fin 3) * 2 + 1 * a.val = a.val; omega
    | ⟨2, _⟩ => show win0_11.index u (2 : Fin 3) * 2048 + 1 * l.val = l.val; omega
  have eb : bat u = ⟨t.val / 8, by omega⟩ := Fin.ext (by show u.val / 8 = t.val / 8; omega)
  have ep (r : Fin 256) : pos u ⟨256 * a.val + r.val, by omega⟩ = ⟨t.val % 8 * 512 + a.val * 256 + r.val, by omega⟩ :=
    Fin.ext (by show u.val % 8 * 512 + (256 * a.val + r.val) = t.val % 8 * 512 + a.val * 256 + r.val; omega)
  refine e1.symm.trans (e.trans ?_)
  refine (out11_apply _ _ _ _ _ _ _ _ a l).trans ?_
  unfold kmT
  refine congrArg (fun s => Ideal.div s (Ideal.ofBits .f32 0x43800000#32)) (Finset.sum_congr rfl fun r _ => ?_)
  rw [kv_blk m c h1 h2, eb, ep]

end Cert.ProjIdeal.Final

end
-- ==== Proof.ProjClaims.lean ====
/-
  The claims about the QKV projection: the reference's frame, and the value claim where the norm's gain and the weights are
  finite.
-/
module

public import proofs.«01_k».proof.Defs
public import proofs.«01_k».proof.Proof.ProjValue
public import proofs.«01_k».proof.Proof.Gen.ProjRefIdeal.Run
public import proofs.«01_k».proof.Proof.Gen.Pre_finite

@[expose] public section

noncomputable section

namespace Cert.Proof.Proj

open Idealize.ShloMosaic Idealize.SL.Sem Cert.ProjMath

/-- The reference leaves its arguments and has no semaphore. -/
theorem frame_ref : Cert.quiescent_ProjRefIdeal (hProjRefIdeal := Cert.ProjRefIdeal.Gen.facts) := fun m g _ =>
  (θ_run Cert.ProjRefIdeal.defs _ _).mono (fun r h => ⟨fun c => (h c).2.2.2.2.2, sem_eq_zero_of_no_sems (by decide) r.2⟩)
    (Cert.ProjRefIdeal.Value.run (F := Ideal) m g)

theorem ofBits_inf : Ideal.ofBits .f32 0x7F800000#32 = ⊤ := by simp [Ideal.ofBits, Ideal.ieee]

/-- A value whose magnitude compares below infinity is a real number. -/
theorem real_of_lt (x : EReal) (h : FloatOps.cmpf (F := Ideal) (φ := .f32) .olt (FloatOps.hostAbsf (F := Ideal) (φ := .f32) x)
    (FloatOps.ofBits (F := Ideal) .f32 0x7F800000#32) = 1#1) : IsReal x := by
  have e : max x (-x) < (⊤ : EReal) := by
    rw [← ofBits_inf]
    by_contra hn
    have : FloatOps.cmpf (F := Ideal) (φ := .f32) .olt (FloatOps.hostAbsf (F := Ideal) (φ := .f32) x)
        (FloatOps.ofBits (F := Ideal) .f32 0x7F800000#32) = BitVec.ofBool (decide (max x (-x) < Ideal.ofBits .f32 0x7F800000#32)) := rfl
    rw [this, decide_eq_false hn] at h
    exact absurd h (by decide)
  induction x using EReal.rec with
  | bot => exact absurd e (by simp)
  | top => exact absurd e (by simp)
  | coe r => exact ⟨r, rfl⟩

section
variable (x0 : FVec Ideal Pre_finite.S4x4096x1024 .f32) (x1 : FVec Ideal Pre_finite.S1024 .f32)
  (x2 : FVec Ideal Pre_finite.S1024x3072 .f32) (x3 x4 : FVec Ideal Pre_finite.S64 .f32)

theorem real1 [Pre_finite.Facts] (h : (Pre_finite.fn (F := Ideal) x0 x1 x2 x3 x4).1 = fun _ => 1#1) (i) : IsReal (x1 i) :=
  real_of_lt _ (congrFun h i)
theorem real2 [Pre_finite.Facts] (h : (Pre_finite.fn (F := Ideal) x0 x1 x2 x3 x4).2 = fun _ => 1#1) (i) : IsReal (x2 i) :=
  real_of_lt _ (congrFun h i)
end

section
variable (m : (ℓ : Loc Cert.ProjIdeal.nD Cert.ProjIdeal.τ Cert.ProjIdeal.sig) → Buf (Elt Ideal) ℓ) (c : Dev Cert.ProjIdeal.nD)
  (h1 : ∀ i, IsReal (Cert.ProjIdeal.Final.a1 m c i)) (h2 : ∀ i, IsReal (Cert.ProjIdeal.Final.a2 m c i))

include h1 h2 in
theorem eq8 : Cert.ProjRefIdeal.Read.val_main_v52 (F := Ideal) (Cert.ProjIdeal.Final.a0 m c) (Cert.ProjIdeal.Final.a1 m c)
    (Cert.ProjIdeal.Final.a2 m c) (Cert.ProjIdeal.Final.a3 m c) = (Cert.ProjIdeal.Gen.dats m 0 c).arrAt 8 Cert.ProjIdeal.cfg0.N := by
  funext i
  obtain ⟨x, y, z, rfl⟩ : ∃ (x : Fin 4) (y : Fin 1024) (z : Fin 4096), i = ix3 x y z := ⟨i 0, i 1, i 2, eq_ix3 (n0 := 4) (n1 := 1024) (n2 := 4096) i⟩
  exact (Cert.ProjSpec.ref_out0 _ _ _ _ x y z).trans (Cert.ProjIdeal.Final.out8 m c h1 h2 x y z).symm

include h1 h2 in
theorem eq9 : Cert.ProjRefIdeal.Read.val_main_v58 (F := Ideal) (Cert.ProjIdeal.Final.a0 m c) (Cert.ProjIdeal.Final.a1 m c)
    (Cert.ProjIdeal.Final.a2 m c) (Cert.ProjIdeal.Final.a4 m c) = (Cert.ProjIdeal.Gen.dats m 0 c).arrAt 9 Cert.ProjIdeal.cfg0.N := by
  funext i
  obtain ⟨x, y, z, rfl⟩ : ∃ (x : Fin 4) (y : Fin 2048) (z : Fin 4096), i = ix3 x y z := ⟨i 0, i 1, i 2, eq_ix3 (n0 := 4) (n1 := 2048) (n2 := 4096) i⟩
  exact (Cert.ProjSpec.ref_out1 _ _ _ _ x y z).trans (Cert.ProjIdeal.Final.out9 m c h1 h2 x y z).symm

include h1 h2 in
theorem eq10 : Cert.ProjRefIdeal.Read.val_main_v60 (F := Ideal) (Cert.ProjIdeal.Final.a0 m c) (Cert.ProjIdeal.Final.a1 m c)
    (Cert.ProjIdeal.Final.a2 m c) (Cert.ProjIdeal.Final.a4 m c) = (Cert.ProjIdeal.Gen.dats m 0 c).arrAt 10 Cert.ProjIdeal.cfg0.N := by
  funext i
  obtain ⟨x, y, rfl⟩ : ∃ (x : Fin 16384) (y : Fin 2048), i = ix2 x y := ⟨i 0, i 1, eq_ix2 (n0 := 16384) (n1 := 2048) i⟩
  exact (Cert.ProjSpec.ref_out2 _ _ _ _ x y).trans (Cert.ProjIdeal.Final.out10 m c h1 h2 x y).symm

include h1 h2 in
theorem eq11 : Cert.ProjRefIdeal.Read.val_main_v57 (F := Ideal) (Cert.ProjIdeal.Final.a0 m c) (Cert.ProjIdeal.Final.a1 m c)
    (Cert.ProjIdeal.Final.a2 m c) (Cert.ProjIdeal.Final.a4 m c) = (Cert.ProjIdeal.Gen.dats m 0 c).arrAt 11 Cert.ProjIdeal.cfg0.N := by
  funext i
  obtain ⟨x, y, z, rfl⟩ : ∃ (x : Fin 32) (y : Fin 2) (z : Fin 2048), i = ix3 x y z := ⟨i 0, i 1, i 2, eq_ix3 (n0 := 32) (n1 := 2) (n2 := 2048) i⟩
  exact (Cert.ProjSpec.ref_out3 _ _ _ _ x y z).trans (Cert.ProjIdeal.Final.out11 m c h1 h2 x y z).symm

include h1 h2 in
theorem eq12 : Cert.ProjRefIdeal.Read.val_main_v61 (F := Ideal) (Cert.ProjIdeal.Final.a0 m c) (Cert.ProjIdeal.Final.a1 m c)
    (Cert.ProjIdeal.Final.a2 m c) (Cert.ProjIdeal.Final.a4 m c) = (Cert.ProjIdeal.Gen.dats m 0 c).arrAt 12 Cert.ProjIdeal.cfg0.N := by
  funext i
  obtain ⟨x, y, z, rfl⟩ : ∃ (x : Fin 4) (y : Fin 2048) (z : Fin 4096), i = ix3 x y z := ⟨i 0, i 1, i 2, eq_ix3 (n0 := 4) (n1 := 2048) (n2 := 4096) i⟩
  exact (Cert.ProjSpec.ref_out4 _ _ _ _ x y z).trans (Cert.ProjIdeal.Final.out12 m c h1 h2 x y z).symm

variable (m' : (ℓ : Loc Cert.ProjRefIdeal.nD Cert.ProjRefIdeal.τ Cert.ProjRefIdeal.sig) → Buf (Elt Ideal) ℓ)
  (e0 : m' ((c.tc : Thread Cert.ProjRefIdeal.nD Cert.ProjRefIdeal.τ).loc Cert.ProjRefIdeal.main_arg0)
    = m ((c.tc : Thread Cert.ProjIdeal.nD Cert.ProjIdeal.τ).loc Cert.ProjIdeal.main_arg0))
  (e1 : m' ((c.tc : Thread Cert.ProjRefIdeal.nD Cert.ProjRefIdeal.τ).loc Cert.ProjRefIdeal.main_arg1)
    = m ((c.tc : Thread Cert.ProjIdeal.nD Cert.ProjIdeal.τ).loc Cert.ProjIdeal.main_arg1))
  (e2 : m' ((c.tc : Thread Cert.ProjRefIdeal.nD Cert.ProjRefIdeal.τ).loc Cert.ProjRefIdeal.main_arg2)
    = m ((c.tc : Thread Cert.ProjIdeal.nD Cert.ProjIdeal.τ).loc Cert.ProjIdeal.main_arg2))
  (e3 : m' ((c.tc : Thread Cert.ProjRefIdeal.nD Cert.ProjRefIdeal.τ).loc Cert.ProjRefIdeal.main_arg3)
    = m ((c.tc : Thread Cert.ProjIdeal.nD Cert.ProjIdeal.τ).loc Cert.ProjIdeal.main_arg3))
  (e4 : m' ((c.tc : Thread Cert.ProjRefIdeal.nD Cert.ProjRefIdeal.τ).loc Cert.ProjRefIdeal.main_arg4)
    = m ((c.tc : Thread Cert.ProjIdeal.nD Cert.ProjIdeal.τ).loc Cert.ProjIdeal.main_arg4))

include h1 h2 e0 e1 e2 e3 in
theorem res8 : Cert.ProjRefIdeal.Value.res_main_v52 m' c = (Cert.ProjIdeal.Gen.dats m 0 c).arrAt 8 Cert.ProjIdeal.cfg0.N := by
  refine (Cert.ProjRefIdeal.Read.val_main_v52_eq m' c).trans (Eq.trans ?_ (eq8 m c h1 h2))
  exact congr (congr (congr (congrArg _ e0) e1) e2) e3

include h1 h2 e0 e1 e2 e4 in
theorem res9 : Cert.ProjRefIdeal.Value.res_main_v58 m' c = (Cert.ProjIdeal.Gen.dats m 0 c).arrAt 9 Cert.ProjIdeal.cfg0.N := by
  refine (Cert.ProjRefIdeal.Read.val_main_v58_eq m' c).trans (Eq.trans ?_ (eq9 m c h1 h2))
  exact congr (congr (congr (congrArg _ e0) e1) e2) e4

include h1 h2 e0 e1 e2 e4 in
theorem res10 : Cert.ProjRefIdeal.Value.res_main_v60 m' c = (Cert.ProjIdeal.Gen.dats m 0 c).arrAt 10 Cert.ProjIdeal.cfg0.N := by
  refine (Cert.ProjRefIdeal.Read.val_main_v60_eq m' c).trans (Eq.trans ?_ (eq10 m c h1 h2))
  exact congr (congr (congr (congrArg _ e0) e1) e2) e4

include h1 h2 e0 e1 e2 e4 in
theorem res11 : Cert.ProjRefIdeal.Value.res_main_v57 m' c = (Cert.ProjIdeal.Gen.dats m 0 c).arrAt 11 Cert.ProjIdeal.cfg0.N := by
  refine (Cert.ProjRefIdeal.Read.val_main_v57_eq m' c).trans (Eq.trans ?_ (eq11 m c h1 h2))
  exact congr (congr (congr (congrArg _ e0) e1) e2) e4

include h1 h2 e0 e1 e2 e4 in
theorem res12 : Cert.ProjRefIdeal.Value.res_main_v61 m' c = (Cert.ProjIdeal.Gen.dats m 0 c).arrAt 12 Cert.ProjIdeal.cfg0.N := by
  refine (Cert.ProjRefIdeal.Read.val_main_v61_eq m' c).trans (Eq.trans ?_ (eq12 m c h1 h2))
  exact congr (congr (congr (congrArg _ e0) e1) e2) e4

end

/-- The kernel's five result arrays and the reference's are the same functions of the arguments. -/
theorem algebraic : Cert.algebraic_ProjIdeal_ProjRefIdeal_pre_finite (hProjIdeal := Cert.ProjIdeal.Gen.facts)
    (hProjRefIdeal := Cert.ProjRefIdeal.Gen.facts) (hPre_finite := Cert.Pre_finite.Gen.facts) := by
  intro m g m' g' hpre hagree
  refine ⟨fun c => (Cert.ProjIdeal.Gen.dats m 0 c).arrAt 8 Cert.ProjIdeal.cfg0.N,
    fun c => (Cert.ProjIdeal.Gen.dats m 0 c).arrAt 9 Cert.ProjIdeal.cfg0.N,
    fun c => (Cert.ProjIdeal.Gen.dats m 0 c).arrAt 10 Cert.ProjIdeal.cfg0.N,
    fun c => (Cert.ProjIdeal.Gen.dats m 0 c).arrAt 11 Cert.ProjIdeal.cfg0.N,
    fun c => (Cert.ProjIdeal.Gen.dats m 0 c).arrAt 12 Cert.ProjIdeal.cfg0.N,
    Cert.ProjIdeal.Value.run_blocks (F := Ideal) m g, ?_⟩
  refine (θ_run Cert.ProjRefIdeal.defs _ _).mono (fun r h c => ?_) (Cert.ProjRefIdeal.Value.run (F := Ideal) m' g')
  obtain ⟨e0, e1, e2, e3, e4⟩ := hagree c
  obtain ⟨p1, p2⟩ := hpre c
  have r1 := real1 _ _ _ _ _ p1
  have r2 := real2 _ _ _ _ _ p2
  obtain ⟨q0, q1, q2, q3, q4, q⟩ := h c
  exact ⟨q0.trans (res8 m c r1 r2 m' e0 e1 e2 e3),
    q1.trans (res9 m c r1 r2 m' e0 e1 e2 e4),
    q2.trans (res10 m c r1 r2 m' e0 e1 e2 e4),
    q3.trans (res11 m c r1 r2 m' e0 e1 e2 e4),
    q4.trans (res12 m c r1 r2 m' e0 e1 e2 e4), q⟩

end Cert.Proof.Proj

end
-- ==== Proof.lean ====
/-
  The proof of `Cert.Claim`: the paged sample attention, the fused output projection and MLP and the QKV projection run, leave
  their arguments and compute the plain formulas of their references.
-/
module

public import proofs.«01_k».proof.Defs
public import proofs.«01_k».proof.Proof.Gen.SampleRefIdeal.Run
public import proofs.«01_k».proof.Proof.Gen.SampleRefIdeal.Read
public import proofs.«01_k».proof.Proof.Gen.Pre_in_range
public import proofs.«01_k».proof.Proof.Gen.Mlp.Frame
public import proofs.«01_k».proof.Proof.Gen.MlpIdeal.Frame
public import proofs.«01_k».proof.Proof.Gen.MlpIdeal.Value
public import proofs.«01_k».proof.Proof.Gen.MlpRefIdeal.Run
public import proofs.«01_k».proof.Proof.Gen.MlpRefIdeal.Read
public import proofs.«01_k».proof.Proof.Gen.Proj.Frame
public import proofs.«01_k».proof.Proof.Gen.ProjIdeal.Frame
public import proofs.«01_k».proof.Proof.Gen.ProjIdeal.Value
public import proofs.«01_k».proof.Proof.Gen.ProjRefIdeal.Run
public import proofs.«01_k».proof.Proof.Gen.ProjRefIdeal.Read
public import proofs.«01_k».proof.Proof.Gen.Pre_finite
public import proofs.«01_k».proof.Proof.SampleClaims
public import proofs.«01_k».proof.Proof.SampleAlgebraic
public import proofs.«01_k».proof.Proof.MlpClaims
public import proofs.«01_k».proof.Proof.ProjClaims
public import Idealize.ShloMosaic.Adequacy
public import Idealize.ShloMosaic.Init

@[expose] public section

noncomputable section

namespace Cert.Proof

open Idealize.ShloMosaic Idealize.SL.Sem

theorem claim : Cert.Claim := ⟨Cert.Sample.Gen.facts, Cert.SampleIdeal.Gen.facts, Cert.SampleRefIdeal.Gen.facts,
  Cert.Mlp.Gen.facts, Cert.MlpIdeal.Gen.facts, Cert.MlpRefIdeal.Gen.facts, Cert.Proj.Gen.facts, Cert.ProjIdeal.Gen.facts,
  Cert.ProjRefIdeal.Gen.facts, Cert.Pre_in_range.Gen.facts, Cert.Pre_finite.Gen.facts,
  Sample.frame, Sample.frame_ideal, Sample.frame_ref,
  fun m g _ => Cert.Mlp.Gen.frame m g, fun m g _ => Cert.MlpIdeal.Gen.frame m g, Mlp.frame_ref,
  fun m g _ => Cert.Proj.Gen.frame m g, fun m g _ => Cert.ProjIdeal.Gen.frame m g, fun m g _ => Cert.ProjIdeal.Gen.frame m g,
  Proj.frame_ref, fun m g _ => Proj.frame_ref m g trivial, trivial, Sample.algebraic, trivial, Mlp.algebraic,
  trivial, Proj.algebraic⟩

end Cert.Proof

end
